-- ==== Defs.lean ====
def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Moe [hPre_tables_route : Cert.Pre_tables_route.Facts] (m : (ℓ : Loc Cert.Moe.nD Cert.Moe.τ Cert.Moe.sig) → Buf (Elt Bits) ℓ) : Prop :=
  ∀ c : Dev Cert.Moe.nD,
    (Cert.Pre_tables_route.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))) = (fun _ => 1#1)

def Pre_MoeIdeal [hPre_tables_route : Cert.Pre_tables_route.Facts] (m : (ℓ : Loc Cert.MoeIdeal.nD Cert.MoeIdeal.τ Cert.MoeIdeal.sig) → Buf (Elt Ideal) ℓ) : Prop :=
  ∀ c : Dev Cert.MoeIdeal.nD,
    (Cert.Pre_tables_route.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables_route [hPre_tables_route : Cert.Pre_tables_route.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_route.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfRefIdeal (m : (ℓ : Loc Cert.ConfRefIdeal.nD Cert.ConfRefIdeal.τ Cert.ConfRefIdeal.sig) → Buf (Elt Ideal) ℓ) : Prop :=
  True

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Moe [hMoe : Cert.Moe.Facts] [hPre_tables_route : Cert.Pre_tables_route.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] [hPre_tables_route : Cert.Pre_tables_route.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_MoeRefIdeal_pre_tables_route [hMoeRefIdeal : Cert.MoeRefIdeal.Facts] [hPre_tables_route : Cert.Pre_tables_route.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables_route m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4))
      ∧ r.2.sem = fun _ => 0)

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v39) = v0 c
          ∧ r.2.mem ((c.tc : Thread Cert.OutprojRefIdeal.nD Cert.OutprojRefIdeal.τ).loc Cert.OutprojRefIdeal.main_v59) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v37) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Moe_MoeIdeal : Prop :=
  True

def algebraic_MoeIdeal_MoeRefIdeal [hMoeIdeal : Cert.MoeIdeal.Facts] [hMoeRefIdeal : Cert.MoeRefIdeal.Facts] [hPre_tables_route : Cert.Pre_tables_route.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v46) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v30) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v0)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v0) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v5) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2))

def preserves_Conf_ConfIdeal : Prop :=
  True

def algebraic_ConfIdeal_ConfRefIdeal [hConfIdeal : Cert.ConfIdeal.Facts] [hConfRefIdeal : Cert.ConfRefIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)) →
    ∃ (v0 : (c : Dev Cert.ConfIdeal.nD) → Buf (Elt Ideal) ((c.tc : Thread Cert.ConfIdeal.nD Cert.ConfIdeal.τ).loc Cert.ConfIdeal.main_v0)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v0) = v0 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v483) = v0 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4))

def Claim : Prop :=
  ∃ (hOutproj : Cert.Outproj.Facts) (hOutprojIdeal : Cert.OutprojIdeal.Facts) (hOutprojRefIdeal : Cert.OutprojRefIdeal.Facts) (hFinal : Cert.Final.Facts) (hFinalIdeal : Cert.FinalIdeal.Facts) (hFinalRefIdeal : Cert.FinalRefIdeal.Facts) (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hAda : Cert.Ada.Facts) (hAdaIdeal : Cert.AdaIdeal.Facts) (hAdaRefIdeal : Cert.AdaRefIdeal.Facts) (hEmbed : Cert.Embed.Facts) (hEmbedIdeal : Cert.EmbedIdeal.Facts) (hEmbedRefIdeal : Cert.EmbedRefIdeal.Facts) (hConf : Cert.Conf.Facts) (hConfIdeal : Cert.ConfIdeal.Facts) (hConfRefIdeal : Cert.ConfRefIdeal.Facts) (hPre_tables_route : Cert.Pre_tables_route.Facts),
    quiescent_Outproj (hOutproj := hOutproj)
    ∧ quiescent_OutprojIdeal (hOutprojIdeal := hOutprojIdeal)
    ∧ quiescent_OutprojRefIdeal (hOutprojRefIdeal := hOutprojRefIdeal)
    ∧ quiescent_Final (hFinal := hFinal)
    ∧ quiescent_FinalIdeal (hFinalIdeal := hFinalIdeal)
    ∧ quiescent_FinalRefIdeal (hFinalRefIdeal := hFinalRefIdeal)
    ∧ quiescent_Moe (hMoe := hMoe) (hPre_tables_route := hPre_tables_route)
    ∧ quiescent_MoeIdeal (hMoeIdeal := hMoeIdeal) (hPre_tables_route := hPre_tables_route)
    ∧ quiescent_MoeRefIdeal (hMoeRefIdeal := hMoeRefIdeal)
    ∧ quiescent_MoeRefIdeal_pre_tables_route (hMoeRefIdeal := hMoeRefIdeal) (hPre_tables_route := hPre_tables_route)
    ∧ quiescent_Inproj (hInproj := hInproj)
    ∧ quiescent_InprojIdeal (hInprojIdeal := hInprojIdeal)
    ∧ quiescent_InprojRefIdeal (hInprojRefIdeal := hInprojRefIdeal)
    ∧ quiescent_Ada (hAda := hAda)
    ∧ quiescent_AdaIdeal (hAdaIdeal := hAdaIdeal)
    ∧ quiescent_AdaRefIdeal (hAdaRefIdeal := hAdaRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Conf (hConf := hConf)
    ∧ quiescent_ConfIdeal (hConfIdeal := hConfIdeal)
    ∧ quiescent_ConfRefIdeal (hConfRefIdeal := hConfRefIdeal)
    ∧ preserves_Outproj_OutprojIdeal
    ∧ algebraic_OutprojIdeal_OutprojRefIdeal (hOutprojIdeal := hOutprojIdeal) (hOutprojRefIdeal := hOutprojRefIdeal)
    ∧ preserves_Final_FinalIdeal
    ∧ algebraic_FinalIdeal_FinalRefIdeal (hFinalIdeal := hFinalIdeal) (hFinalRefIdeal := hFinalRefIdeal)
    ∧ preserves_Moe_MoeIdeal
    ∧ algebraic_MoeIdeal_MoeRefIdeal (hMoeIdeal := hMoeIdeal) (hMoeRefIdeal := hMoeRefIdeal) (hPre_tables_route := hPre_tables_route)
    ∧ preserves_Inproj_InprojIdeal
    ∧ algebraic_InprojIdeal_InprojRefIdeal (hInprojIdeal := hInprojIdeal) (hInprojRefIdeal := hInprojRefIdeal)
    ∧ preserves_Ada_AdaIdeal
    ∧ algebraic_AdaIdeal_AdaRefIdeal (hAdaIdeal := hAdaIdeal) (hAdaRefIdeal := hAdaRefIdeal)
    ∧ preserves_Embed_EmbedIdeal
    ∧ algebraic_EmbedIdeal_EmbedRefIdeal (hEmbedIdeal := hEmbedIdeal) (hEmbedRefIdeal := hEmbedRefIdeal)
    ∧ preserves_Conf_ConfIdeal
    ∧ algebraic_ConfIdeal_ConfRefIdeal (hConfIdeal := hConfIdeal) (hConfRefIdeal := hConfRefIdeal)
-- ==== Pre_tables_route.lean ====
abbrev S24576 : Shape := ⟨1, ![24576]⟩
abbrev S96 : Shape := ⟨1, ![96]⟩
abbrev S1 : Shape := ⟨1, ![1]⟩
abbrev S10240x1024 : Shape := ⟨2, ![10240, 1024]⟩
abbrev S24576x1 : Shape := ⟨2, ![24576, 1]⟩
abbrev S16x1024x512 : Shape := ⟨3, ![16, 1024, 512]⟩
abbrev S16x512x1024 : Shape := ⟨3, ![16, 512, 1024]⟩
abbrev S96x1 : Shape := ⟨2, ![96, 1]⟩
abbrev S_ : Shape := ⟨0, ![]⟩
abbrev S256 : Shape := ⟨1, ![256]⟩
abbrev S1x256 : Shape := ⟨2, ![1, 256]⟩
abbrev S96x256 : Shape := ⟨2, ![96, 256]⟩
abbrev S1x24576 : Shape := ⟨2, ![1, 24576]⟩
abbrev S20480 : Shape := ⟨1, ![20480]⟩
abbrev S20480x1 : Shape := ⟨2, ![20480, 1]⟩
abbrev S20480x24576 : Shape := ⟨2, ![20480, 24576]⟩

class Facts : Prop where
  bcast_S96_S96x1_0 : S96.BroadcastsInDim S96x1 (![0] : Fin 1 → Fin S96x1.rank)
  shapeCasts_S1_S_ : S1.ShapeCasts S_
  bcast_S_S96x1 : S_.BroadcastsInDim S96x1 (![] : Fin 0 → Fin S96x1.rank)
  bcast_S256_S1x256_1 : S256.BroadcastsInDim S1x256 (![1] : Fin 1 → Fin S1x256.rank)
  bcast_S1x256_S96x256_0_1 : S1x256.BroadcastsInDim S96x256 (![0, 1] : Fin 2 → Fin S96x256.rank)
  bcast_S96x1_S96x256_0_1 : S96x1.BroadcastsInDim S96x256 (![0, 1] : Fin 2 → Fin S96x256.rank)
  bcast_S24576_S1x24576_1 : S24576.BroadcastsInDim S1x24576 (![1] : Fin 1 → Fin S1x24576.rank)
  bcast_S20480_S20480x1_0 : S20480.BroadcastsInDim S20480x1 (![0] : Fin 1 → Fin S20480x1.rank)
  bcast_S1x24576_S20480x24576_0_1 : S1x24576.BroadcastsInDim S20480x24576 (![0, 1] : Fin 2 → Fin S20480x24576.rank)
  bcast_S20480x1_S20480x24576_0_1 : S20480x1.BroadcastsInDim S20480x24576 (![0, 1] : Fin 2 → Fin S20480x24576.rank)
  shapeCasts_S96x256_S1x24576 : S96x256.ShapeCasts S1x24576
  natLt_1_32 : 1 < 32
  reducesTo_S20480x24576_S20480_d1 : S20480x24576.ReducesTo [1] S20480
  h_S_ : 0 < S_.numel
  bcast_S_S20480 : S_.BroadcastsInDim S20480 (![] : Fin 0 → Fin S20480.rank)
  bcast_S_S24576 : S_.BroadcastsInDim S24576 (![] : Fin 0 → Fin S24576.rank)
  reducesTo_S24576_S_d0 : S24576.ReducesTo [0] S_
  bcast_S_S96 : S_.BroadcastsInDim S96 (![] : Fin 0 → Fin S96.rank)
  reducesTo_S96_S_d0 : S96.ReducesTo [0] S_
  bcast_S_S1 : S_.BroadcastsInDim S1 (![] : Fin 0 → Fin S1.rank)
  reducesTo_S1_S_d0 : S1.ReducesTo [0] S_
  reducesTo_S20480_S_d0 : S20480.ReducesTo [0] S_

variable [Facts]

def fn_part3 {F : FTy → Type} [FloatOps F] (main_arg4 : IVec S1 32) (main_v25 : IVec S20480 1) (main_v52 : IVec S_ 1) (main_v54 : IVec S1 1) (main_v55 : IVec S1 32) : IVec S_ 1 :=
  let main_v56 : IVec S1 1 := cmpi .sle main_arg4 main_v55
  let main_v57 : IVec S1 1 := andi main_v54 main_v56
  let main_c_15 : IVec S_ 1 := constantI S_ 1 1#1
  let main_v58 : IVec S_ 1 := (fun x v => Host.reduce IntOp.andi x v reducesTo_S1_S_d0 h_S_) main_v57 main_c_15
  let main_v59 : IVec S_ 1 := andi main_v52 main_v58
  let main_c_16 : IVec S_ 1 := constantI S_ 1 1#1
  let main_v60 : IVec S_ 1 := (fun x v => Host.reduce IntOp.andi x v reducesTo_S20480_S_d0 h_S_) main_v25 main_c_16
  let main_v61 : IVec S_ 1 := andi main_v59 main_v60
  main_v61

def fn_part2 {F : FTy → Type} [FloatOps F] (main_arg2 : IVec S96 32) (main_arg3 : IVec S96 32) (main_arg4 : IVec S1 32) (main_v25 : IVec S20480 1) (main_v38 : IVec S_ 1) (main_c_7 : IVec S_ 32) : IVec S_ 1 :=
  let main_v39 : IVec S96 32 := broadcastInDim S96 ![] bcast_S_S96 main_c_7
  let main_v40 : IVec S96 1 := cmpi .sge main_arg2 main_v39
  let main_c_8 : IVec S_ 32 := constantI S_ 32 16#32
  let main_v41 : IVec S96 32 := broadcastInDim S96 ![] bcast_S_S96 main_c_8
  let main_v42 : IVec S96 1 := cmpi .slt main_arg2 main_v41
  let main_v43 : IVec S96 1 := andi main_v40 main_v42
  let main_c_9 : IVec S_ 1 := constantI S_ 1 1#1
  let main_v44 : IVec S_ 1 := (fun x v => Host.reduce IntOp.andi x v reducesTo_S96_S_d0 h_S_) main_v43 main_c_9
  let main_v45 : IVec S_ 1 := andi main_v38 main_v44
  let main_c_10 : IVec S_ 32 := constantI S_ 32 0#32
  let main_v46 : IVec S96 32 := broadcastInDim S96 ![] bcast_S_S96 main_c_10
  let main_v47 : IVec S96 1 := cmpi .sge main_arg3 main_v46
  let main_c_11 : IVec S_ 32 := constantI S_ 32 256#32
  let main_v48 : IVec S96 32 := broadcastInDim S96 ![] bcast_S_S96 main_c_11
  let main_v49 : IVec S96 1 := cmpi .sle main_arg3 main_v48
  let main_v50 : IVec S96 1 := andi main_v47 main_v49
  let main_c_12 : IVec S_ 1 := constantI S_ 1 1#1
  let main_v51 : IVec S_ 1 := (fun x v => Host.reduce IntOp.andi x v reducesTo_S96_S_d0 h_S_) main_v50 main_c_12
  let main_v52 : IVec S_ 1 := andi main_v45 main_v51
  let main_c_13 : IVec S_ 32 := constantI S_ 32 0#32
  let main_v53 : IVec S1 32 := broadcastInDim S1 ![] bcast_S_S1 main_c_13
  let main_v54 : IVec S1 1 := cmpi .sge main_arg4 main_v53
  let main_c_14 : IVec S_ 32 := constantI S_ 32 96#32
  let main_v55 : IVec S1 32 := broadcastInDim S1 ![] bcast_S_S1 main_c_14
  fn_part3 (F := F) main_arg4 main_v25 main_v52 main_v54 main_v55

def fn_part1 {F : FTy → Type} [FloatOps F] (main_arg0 : IVec S24576 32) (main_arg1 : IVec S24576 32) (main_arg2 : IVec S96 32) (main_arg3 : IVec S96 32) (main_arg4 : IVec S1 32) (main_v22 : IVec S20480x24576 32) (main_c : IVec S_ 32) : IVec S_ 1 :=
  let main_v23 : IVec S20480 32 := (fun x v => Host.reduce IntOp.addi x v reducesTo_S20480x24576_S20480_d1 h_S_) main_v22 main_c
  let main_c_0 : IVec S_ 32 := constantI S_ 32 1#32
  let main_v24 : IVec S20480 32 := broadcastInDim S20480 ![] bcast_S_S20480 main_c_0
  let main_v25 : IVec S20480 1 := cmpi .eq main_v23 main_v24
  let main_c_1 : IVec S_ 32 := constantI S_ 32 0#32
  let main_v26 : IVec S24576 32 := broadcastInDim S24576 ![] bcast_S_S24576 main_c_1
  let main_v27 : IVec S24576 1 := cmpi .sge main_arg0 main_v26
  let main_c_2 : IVec S_ 32 := constantI S_ 32 10240#32
  let main_v28 : IVec S24576 32 := broadcastInDim S24576 ![] bcast_S_S24576 main_c_2
  let main_v29 : IVec S24576 1 := cmpi .slt main_arg0 main_v28
  let main_v30 : IVec S24576 1 := andi main_v27 main_v29
  let main_c_3 : IVec S_ 1 := constantI S_ 1 1#1
  let main_v31 : IVec S_ 1 := (fun x v => Host.reduce IntOp.andi x v reducesTo_S24576_S_d0 h_S_) main_v30 main_c_3
  let main_c_4 : IVec S_ 32 := constantI S_ 32 0#32
  let main_v32 : IVec S24576 32 := broadcastInDim S24576 ![] bcast_S_S24576 main_c_4
  let main_v33 : IVec S24576 1 := cmpi .sge main_arg1 main_v32
  let main_c_5 : IVec S_ 32 := constantI S_ 32 20480#32
  let main_v34 : IVec S24576 32 := broadcastInDim S24576 ![] bcast_S_S24576 main_c_5
  let main_v35 : IVec S24576 1 := cmpi .slt main_arg1 main_v34
  let main_v36 : IVec S24576 1 := andi main_v33 main_v35
  let main_c_6 : IVec S_ 1 := constantI S_ 1 1#1
  let main_v37 : IVec S_ 1 := (fun x v => Host.reduce IntOp.andi x v reducesTo_S24576_S_d0 h_S_) main_v36 main_c_6
  let main_v38 : IVec S_ 1 := andi main_v31 main_v37
  let main_c_7 : IVec S_ 32 := constantI S_ 32 0#32
  fn_part2 (F := F) main_arg2 main_arg3 main_arg4 main_v25 main_v38 main_c_7

def fn {F : FTy → Type} [FloatOps F] (main_arg0 : IVec S24576 32) (main_arg1 : IVec S24576 32) (main_arg2 : IVec S96 32) (main_arg3 : IVec S96 32) (main_arg4 : IVec S1 32) (main_arg5 : FVec F S10240x1024 .f32) (main_arg6 : FVec F S24576x1 .f32) (main_arg7 : FVec F S16x1024x512 .bf16) (main_arg8 : FVec F S16x1024x512 .bf16) (main_arg9 : FVec F S16x512x1024 .bf16) : IVec S_ 1 :=
  let main_v0 : IVec S96 32 := iotaInDim S96 32 0
  let main_v1 : IVec S96x1 32 := broadcastInDim S96x1 ![0] bcast_S96_S96x1_0 main_v0
  let main_v2 : IVec S_ 32 := shapeCast S_ main_arg4 shapeCasts_S1_S_
  let main_v3 : IVec S96x1 32 := broadcastInDim S96x1 ![] bcast_S_S96x1 main_v2
  let main_v4 : IVec S96x1 1 := cmpi .slt main_v1 main_v3
  let main_v5 : IVec S256 32 := iotaInDim S256 32 0
  let main_v6 : IVec S1x256 32 := broadcastInDim S1x256 ![1] bcast_S256_S1x256_1 main_v5
  let main_v7 : IVec S96x1 32 := broadcastInDim S96x1 ![0] bcast_S96_S96x1_0 main_arg3
  let main_v8 : IVec S96x256 32 := broadcastInDim S96x256 ![0, 1] bcast_S1x256_S96x256_0_1 main_v6
  let main_v9 : IVec S96x256 32 := broadcastInDim S96x256 ![0, 1] bcast_S96x1_S96x256_0_1 main_v7
  let main_v10 : IVec S96x256 1 := cmpi .slt main_v8 main_v9
  let main_v11 : IVec S96x256 1 := broadcastInDim S96x256 ![0, 1] bcast_S96x1_S96x256_0_1 main_v4
  let main_v12 : IVec S96x256 1 := andi main_v11 main_v10
  let main_v13 : IVec S1x24576 32 := broadcastInDim S1x24576 ![1] bcast_S24576_S1x24576_1 main_arg1
  let main_v14 : IVec S20480 32 := iotaInDim S20480 32 0
  let main_v15 : IVec S20480x1 32 := broadcastInDim S20480x1 ![0] bcast_S20480_S20480x1_0 main_v14
  let main_v16 : IVec S20480x24576 32 := broadcastInDim S20480x24576 ![0, 1] bcast_S1x24576_S20480x24576_0_1 main_v13
  let main_v17 : IVec S20480x24576 32 := broadcastInDim S20480x24576 ![0, 1] bcast_S20480x1_S20480x24576_0_1 main_v15
  let main_v18 : IVec S20480x24576 1 := cmpi .eq main_v16 main_v17
  let main_v19 : IVec S1x24576 1 := shapeCast S1x24576 main_v12 shapeCasts_S96x256_S1x24576
  let main_v20 : IVec S20480x24576 1 := broadcastInDim S20480x24576 ![0, 1] bcast_S1x24576_S20480x24576_0_1 main_v19
  let main_v21 : IVec S20480x24576 1 := andi main_v18 main_v20
  let main_v22 : IVec S20480x24576 32 := (extui 32 · natLt_1_32) main_v21
  let main_c : IVec S_ 32 := constantI S_ 32 0#32
  fn_part1 (F := F) main_arg0 main_arg1 main_arg2 main_arg3 main_arg4 main_v22 main_c
-- ==== Outproj.lean ====
abbrev S10240x512 : Shape := ⟨2, ![10240, 512]⟩
abbrev S10240x1024 : Shape := ⟨2, ![10240, 1024]⟩
abbrev S8x6144 : Shape := ⟨2, ![8, 6144]⟩
abbrev S1536x1024 : Shape := ⟨2, ![1536, 1024]⟩
abbrev S1x1024 : Shape := ⟨2, ![1, 1024]⟩
abbrev S16x1024 : Shape := ⟨2, ![16, 1024]⟩
abbrev S16x1 : Shape := ⟨2, ![16, 1]⟩
abbrev S8x10240 : Shape := ⟨2, ![8, 10240]⟩
abbrev S512x512 : Shape := ⟨2, ![512, 512]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 13
  | .vmem => 20
  | .smem => 0
  | _ => 0

abbrev bufTy : (tb : Table) → Fin (tcTables nBuf tb) → BufTy
  | .hbm, ⟨0, _⟩ => ⟨S10240x512, .bf16⟩
  | .hbm, ⟨1, _⟩ => ⟨S10240x512, .bf16⟩
  | .hbm, ⟨2, _⟩ => ⟨S10240x512, .bf16⟩
  | .hbm, ⟨3, _⟩ => ⟨S10240x1024, .f32⟩
  | .hbm, ⟨4, _⟩ => ⟨S8x6144, .f32⟩
  | .hbm, ⟨5, _⟩ => ⟨S1536x1024, .bf16⟩
  | .hbm, ⟨6, _⟩ => ⟨S1x1024, .f32⟩
  | .hbm, ⟨7, _⟩ => ⟨S1x1024, .f32⟩
  | .hbm, ⟨8, _⟩ => ⟨S16x1024, .f32⟩
  | .hbm, ⟨9, _⟩ => ⟨S16x1, .f32⟩
  | .hbm, ⟨10, _⟩ => ⟨S10240x1024, .f32⟩
  | .hbm, ⟨11, _⟩ => ⟨S10240x1024, .f32⟩
  | .hbm, ⟨12, _⟩ => ⟨S8x10240, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S8x6144, .f32⟩
  | .local _ .vmem, ⟨9, _⟩ => ⟨S1536x1024, .bf16⟩
  | .local _ .vmem, ⟨10, _⟩ => ⟨S1x1024, .f32⟩
  | .local _ .vmem, ⟨11, _⟩ => ⟨S1x1024, .f32⟩
  | .local _ .vmem, ⟨12, _⟩ => ⟨S16x1024, .f32⟩
  | .local _ .vmem, ⟨13, _⟩ => ⟨S16x1, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x512, .f32⟩
  | .local _ .vmem, ⟨19, _⟩ => ⟨S8x512, .f32⟩
  | _, _ => ⟨S10240x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c0_i32_6 : BitVec 32 := 0#32
  let c1_i32_5 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c2048 : Index := 2048#32
  ![v22.toNat, 2048]
def k0_off2 (i : grid0.Coords) : Fin 2 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c0_i32_6 : BitVec 32 := 0#32
  let c1_i32_5 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v24 : Index := Scalar.indexCast v21
  let c3072 : Index := 3072#32
  ![v24.toNat, 3072]
def k0_off3 (i : grid0.Coords) : Fin 2 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c0_i32_6 : BitVec 32 := 0#32
  let c1_i32_5 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v26 : Index := Scalar.indexCast v21
  let c4096 : Index := 4096#32
  ![v26.toNat, 4096]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojRefIdeal.lean ====
abbrev S10240x512 : Shape := ⟨2, ![10240, 512]⟩
abbrev S10240x1024 : Shape := ⟨2, ![10240, 1024]⟩
abbrev S8x6144 : Shape := ⟨2, ![8, 6144]⟩
abbrev S1536x1024 : Shape := ⟨2, ![1536, 1024]⟩
abbrev S1x1024 : Shape := ⟨2, ![1, 1024]⟩
abbrev S16x1024 : Shape := ⟨2, ![16, 1024]⟩
abbrev S16x1 : Shape := ⟨2, ![16, 1]⟩
abbrev S1x6144 : Shape := ⟨2, ![1, 6144]⟩
abbrev S8192x6144 : Shape := ⟨2, ![8192, 6144]⟩
abbrev S1024x6144 : Shape := ⟨2, ![1024, 6144]⟩
abbrev S10240x6144 : Shape := ⟨2, ![10240, 6144]⟩
abbrev S10240x1536 : Shape := ⟨2, ![10240, 1536]⟩
abbrev S_ : Shape := ⟨0, ![]⟩
abbrev S10240 : Shape := ⟨1, ![10240]⟩
abbrev S10240x1 : Shape := ⟨2, ![10240, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S10240x512, .bf16⟩
  | .hbm, ⟨1, _⟩ => ⟨S10240x512, .bf16⟩
  | .hbm, ⟨2, _⟩ => ⟨S10240x512, .bf16⟩
  | .hbm, ⟨3, _⟩ => ⟨S10240x1024, .f32⟩
  | .hbm, ⟨4, _⟩ => ⟨S8x6144, .f32⟩
  | .hbm, ⟨5, _⟩ => ⟨S1536x1024, .bf16⟩
  | .hbm, ⟨6, _⟩ => ⟨S1x1024, .f32⟩
  | .hbm, ⟨7, _⟩ => ⟨S1x1024, .f32⟩
  | .hbm, ⟨8, _⟩ => ⟨S16x1024, .f32⟩
  | .hbm, ⟨9, _⟩ => ⟨S16x1, .f32⟩
  | .hbm, ⟨10, _⟩ => ⟨S1x6144, .f32⟩
  | .hbm, ⟨11, _⟩ => ⟨S8192x6144, .f32⟩
  | .hbm, ⟨12, _⟩ => ⟨S1x6144, .f32⟩
  | .hbm, ⟨13, _⟩ => ⟨S1024x6144, .f32⟩
  | .hbm, ⟨14, _⟩ => ⟨S1x6144, .f32⟩
  | .hbm, ⟨15, _⟩ => ⟨S1024x6144, .f32⟩
  | .hbm, ⟨16, _⟩ => ⟨S10240x6144, .f32⟩
  | .hbm, ⟨17, _⟩ => ⟨S10240x1024, .f32⟩
  | .hbm, ⟨18, _⟩ => ⟨S10240x1024, .f32⟩
  | .hbm, ⟨19, _⟩ => ⟨S10240x1024, .f32⟩
  | .hbm, ⟨20, _⟩ => ⟨S10240x1536, .bf16⟩
  | .hbm, ⟨21, _⟩ => ⟨S10240x1024, .f32⟩
  | .hbm, ⟨22, _⟩ => ⟨S_, .f32⟩
  | .hbm, ⟨23, _⟩ => ⟨S10240x1024, .f32⟩
  | .hbm, ⟨24, _⟩ => ⟨S10240x1024, .f32⟩
  | .hbm, ⟨25, _⟩ => ⟨S10240x1024, .f32⟩
  | .hbm, ⟨26, _⟩ => ⟨S10240x1024, .f32⟩
  | .hbm, ⟨27, _⟩ => ⟨S_, .f32⟩
  | .hbm, ⟨28, _⟩ => ⟨S10240, .f32⟩
  | .hbm, ⟨29, _⟩ => ⟨S10240x1, .f32⟩
  | .hbm, ⟨30, _⟩ => ⟨S_, .f32⟩
  | .hbm, ⟨31, _⟩ => ⟨S10240x1, .f32⟩
  | .hbm, ⟨32, _⟩ => ⟨S10240x1, .f32⟩
  | .hbm, ⟨33, _⟩ => ⟨S10240x1024, .f32⟩
  | .hbm, ⟨34, _⟩ => ⟨S10240x1024, .f32⟩
  | .hbm, ⟨35, _⟩ => ⟨S10240x1024, .f32⟩
  | .hbm, ⟨36, _⟩ => ⟨S_, .f32⟩
  | .hbm, ⟨37, _⟩ => ⟨S10240, .f32⟩
  | .hbm, ⟨38, _⟩ => ⟨S10240x1, .f32⟩
  | .hbm, ⟨39, _⟩ => ⟨S_, .f32⟩
  | .hbm, ⟨40, _⟩ => ⟨S10240x1, .f32⟩
  | .hbm, ⟨41, _⟩ => ⟨S10240x1, .f32⟩
  | .hbm, ⟨42, _⟩ => ⟨S_, .f32⟩
  | .hbm, ⟨43, _⟩ => ⟨S10240x1, .f32⟩
  | .hbm, ⟨44, _⟩ => ⟨S10240x1, .f32⟩
  | .hbm, ⟨45, _⟩ => ⟨S10240x1, .f32⟩
  | .hbm, ⟨46, _⟩ => ⟨S10240x1024, .f32⟩
  | .hbm, ⟨47, _⟩ => ⟨S10240x1024, .f32⟩
  | .hbm, ⟨48, _⟩ => ⟨S1024, .f32⟩
  | .hbm, ⟨49, _⟩ => ⟨S1x1024, .f32⟩
  | .hbm, ⟨50, _⟩ => ⟨S10240x1024, .f32⟩
  | .hbm, ⟨51, _⟩ => ⟨S10240x1024, .f32⟩
  | .hbm, ⟨52, _⟩ => ⟨S1024, .f32⟩
  | .hbm, ⟨53, _⟩ => ⟨S1x1024, .f32⟩
  | .hbm, ⟨54, _⟩ => ⟨S10240x1024, .f32⟩
  | .hbm, ⟨55, _⟩ => ⟨S10240x1024, .f32⟩
  | .hbm, ⟨56, _⟩ => ⟨S_, .f32⟩
  | .hbm, ⟨57, _⟩ => ⟨S10240, .f32⟩
  | .hbm, ⟨58, _⟩ => ⟨S10240x1, .f32⟩
  | .hbm, ⟨59, _⟩ => ⟨S_, .f32⟩
  | .hbm, ⟨60, _⟩ => ⟨S10240x1, .f32⟩
  | .hbm, ⟨61, _⟩ => ⟨S10240x1, .f32⟩
  | .hbm, ⟨62, _⟩ => ⟨S10240x1024, .f32⟩
  | .hbm, ⟨63, _⟩ => ⟨S10240x1024, .f32⟩
  | .hbm, ⟨64, _⟩ => ⟨S10240x1024, .f32⟩
  | .hbm, ⟨65, _⟩ => ⟨S_, .f32⟩
  | .hbm, ⟨66, _⟩ => ⟨S10240, .f32⟩
  | .hbm, ⟨67, _⟩ => ⟨S10240x1, .f32⟩
  | .hbm, ⟨68, _⟩ => ⟨S_, .f32⟩
  | .hbm, ⟨69, _⟩ => ⟨S10240x1, .f32⟩
  | .hbm, ⟨70, _⟩ => ⟨S10240x1, .f32⟩
  | .hbm, ⟨71, _⟩ => ⟨S_, .f32⟩
  | .hbm, ⟨72, _⟩ => ⟨S10240x1, .f32⟩
  | .hbm, ⟨73, _⟩ => ⟨S10240x1, .f32⟩
  | .hbm, ⟨74, _⟩ => ⟨S10240x1, .f32⟩
  | .hbm, ⟨75, _⟩ => ⟨S10240x1024, .f32⟩
  | .hbm, ⟨76, _⟩ => ⟨S10240x1024, .f32⟩
  | .hbm, ⟨77, _⟩ => ⟨S_, .f32⟩
  | .hbm, ⟨78, _⟩ => ⟨S10240x1024, .f32⟩
  | .hbm, ⟨79, _⟩ => ⟨S10240x1024, .f32⟩
  | .hbm, ⟨80, _⟩ => ⟨S10240x1024, .f32⟩
  | .hbm, ⟨81, _⟩ => ⟨S10240x1024, .f32⟩
  | _, _ => ⟨S10240x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Final.lean ====
abbrev S10240x1024 : Shape := ⟨2, ![10240, 1024]⟩
abbrev S20480x1024 : Shape := ⟨2, ![20480, 1024]⟩
abbrev S8x6144 : Shape := ⟨2, ![8, 6144]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S10240x1024, .f32⟩
  | .hbm, ⟨1, _⟩ => ⟨S20480x1024, .f32⟩
  | .hbm, ⟨2, _⟩ => ⟨S8x6144, .f32⟩
  | .hbm, ⟨3, _⟩ => ⟨S1x1024, .f32⟩
  | .hbm, ⟨4, _⟩ => ⟨S1x1024, .f32⟩
  | .hbm, ⟨5, _⟩ => ⟨S10240x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x6144, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c0_i32_6 : BitVec 32 := 0#32
  let c1_i32_5 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c5120 : Index := 5120#32
  ![v22.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinalRefIdeal.lean ====
abbrev S10240x1024 : Shape := ⟨2, ![10240, 1024]⟩
abbrev S20480x1024 : Shape := ⟨2, ![20480, 1024]⟩
abbrev S8x6144 : Shape := ⟨2, ![8, 6144]⟩
abbrev S1x1024 : Shape := ⟨2, ![1, 1024]⟩
abbrev S8x1024 : Shape := ⟨2, ![8, 1024]⟩
abbrev S8192x1024 : Shape := ⟨2, ![8192, 1024]⟩
abbrev S1024x1024 : Shape := ⟨2, ![1024, 1024]⟩
abbrev S2x10240x1024 : Shape := ⟨3, ![2, 10240, 1024]⟩
abbrev S_ : Shape := ⟨0, ![]⟩
abbrev S10240 : Shape := ⟨1, ![10240]⟩
abbrev S10240x1 : Shape := ⟨2, ![10240, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S20480x1024, .f32⟩
  | .hbm, ⟨2, _⟩ => ⟨S8x6144, .f32⟩
  | .hbm, ⟨3, _⟩ => ⟨S1x1024, .f32⟩
  | .hbm, ⟨4, _⟩ => ⟨S1x1024, .f32⟩
  | .hbm, ⟨5, _⟩ => ⟨S8x1024, .f32⟩
  | .hbm, ⟨6, _⟩ => ⟨S1x1024, .f32⟩
  | .hbm, ⟨7, _⟩ => ⟨S8192x1024, .f32⟩
  | .hbm, ⟨8, _⟩ => ⟨S1x1024, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S10240x1024, .f32⟩
  | .hbm, ⟨13, _⟩ => ⟨S2x10240x1024, .f32⟩
  | .hbm, ⟨14, _⟩ => ⟨S_, .f32⟩
  | .hbm, ⟨15, _⟩ => ⟨S10240x1024, .f32⟩
  | .hbm, ⟨16, _⟩ => ⟨S_, .f32⟩
  | .hbm, ⟨17, _⟩ => ⟨S10240x1024, .f32⟩
  | .hbm, ⟨18, _⟩ => ⟨S10240x1024, .f32⟩
  | .hbm, ⟨19, _⟩ => ⟨S10240x1024, .f32⟩
  | .hbm, ⟨20, _⟩ => ⟨S10240x1024, .f32⟩
  | .hbm, ⟨21, _⟩ => ⟨S_, .f32⟩
  | .hbm, ⟨22, _⟩ => ⟨S10240, .f32⟩
  | .hbm, ⟨23, _⟩ => ⟨S10240x1, .f32⟩
  | .hbm, ⟨24, _⟩ => ⟨S_, .f32⟩
  | .hbm, ⟨25, _⟩ => ⟨S10240x1, .f32⟩
  | .hbm, ⟨26, _⟩ => ⟨S10240x1, .f32⟩
  | .hbm, ⟨27, _⟩ => ⟨S10240x1024, .f32⟩
  | .hbm, ⟨28, _⟩ => ⟨S10240x1024, .f32⟩
  | .hbm, ⟨29, _⟩ => ⟨S10240x1024, .f32⟩
  | .hbm, ⟨30, _⟩ => ⟨S_, .f32⟩
  | .hbm, ⟨31, _⟩ => ⟨S10240, .f32⟩
  | .hbm, ⟨32, _⟩ => ⟨S10240x1, .f32⟩
  | .hbm, ⟨33, _⟩ => ⟨S_, .f32⟩
  | .hbm, ⟨34, _⟩ => ⟨S10240x1, .f32⟩
  | .hbm, ⟨35, _⟩ => ⟨S10240x1, .f32⟩
  | .hbm, ⟨36, _⟩ => ⟨S_, .f32⟩
  | .hbm, ⟨37, _⟩ => ⟨S10240x1, .f32⟩
  | .hbm, ⟨38, _⟩ => ⟨S10240x1, .f32⟩
  | .hbm, ⟨39, _⟩ => ⟨S10240x1, .f32⟩
  | .hbm, ⟨40, _⟩ => ⟨S10240x1024, .f32⟩
  | .hbm, ⟨41, _⟩ => ⟨S10240x1024, .f32⟩
  | .hbm, ⟨42, _⟩ => ⟨S1024, .f32⟩
  | .hbm, ⟨43, _⟩ => ⟨S1x1024, .f32⟩
  | .hbm, ⟨44, _⟩ => ⟨S10240x1024, .f32⟩
  | .hbm, ⟨45, _⟩ => ⟨S10240x1024, .f32⟩
  | .hbm, ⟨46, _⟩ => ⟨S1024, .f32⟩
  | .hbm, ⟨47, _⟩ => ⟨S1x1024, .f32⟩
  | .hbm, ⟨48, _⟩ => ⟨S10240x1024, .f32⟩
  | .hbm, ⟨49, _⟩ => ⟨S10240x1024, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Moe.lean ====
abbrev S24576 : Shape := ⟨1, ![24576]⟩
abbrev S96 : Shape := ⟨1, ![96]⟩
abbrev S1 : Shape := ⟨1, ![1]⟩
abbrev S10240x1024 : Shape := ⟨2, ![10240, 1024]⟩
abbrev S24576x1 : Shape := ⟨2, ![24576, 1]⟩
abbrev S16x1024x512 : Shape := ⟨3, ![16, 1024, 512]⟩
abbrev S16x512x1024 : Shape := ⟨3, ![16, 512, 1024]⟩
abbrev S20480x1024 : Shape := ⟨2, ![20480, 1024]⟩
abbrev S256x1 : Shape := ⟨2, ![256, 1]⟩
abbrev S1x1024x512 : Shape := ⟨3, ![1, 1024, 512]⟩
abbrev S1x512x1024 : Shape := ⟨3, ![1, 512, 1024]⟩
abbrev S256x1024 : Shape := ⟨2, ![256, 1024]⟩
abbrev S_ : Shape := ⟨0, ![]⟩
abbrev S1x1024 : Shape := ⟨2, ![1, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 6
  | .vmem => 10
  | .smem => 5
  | _ => 0

abbrev bufTy : (tb : Table) → Fin (tcTables nBuf tb) → BufTy
  | .hbm, ⟨0, _⟩ => ⟨S10240x1024, .f32⟩
  | .hbm, ⟨1, _⟩ => ⟨S24576x1, .f32⟩
  | .hbm, ⟨2, _⟩ => ⟨S16x1024x512, .bf16⟩
  | .hbm, ⟨3, _⟩ => ⟨S16x1024x512, .bf16⟩
  | .hbm, ⟨4, _⟩ => ⟨S16x512x1024, .bf16⟩
  | .hbm, ⟨5, _⟩ => ⟨S20480x1024, .f32⟩
  | .local _ .vmem, ⟨0, _⟩ => ⟨S256x1, .f32⟩
  | .local _ .vmem, ⟨1, _⟩ => ⟨S256x1, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S24576, .i32⟩
  | .local _ .smem, ⟨1, _⟩ => ⟨S24576, .i32⟩
  | .local _ .smem, ⟨2, _⟩ => ⟨S96, .i32⟩
  | .local _ .smem, ⟨3, _⟩ => ⟨S96, .i32⟩
  | .local _ .smem, ⟨4, _⟩ => ⟨S1, .i32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_0 : BitVec 32 := 0#32
  let c256_i32_1 : BitVec 32 := 256#32
  let v5 : BitVec 32 := Scalar.addi c0_i32_0 c256_i32_1
  let c1_i32 : BitVec 32 := 1#32
  ⟨c0_i32_0, v5, c1_i32⟩
def k0_off2 (i : grid0.Coords) (k0_t1 : Fin k0_t1_loop.trips) : Fin 1 → Nat :=
  let arg0 : BitVec 32 := BitVec.ofNat 32 (i 0).val
  let c256_i32 : BitVec 32 := 256#32
  let v4 : BitVec 32 := Scalar.muli arg0 c256_i32
  let c0_i32_0 : BitVec 32 := 0#32
  let c1_i32 : BitVec 32 := 1#32
  let arg16 : BitVec 32 := Scf.iv c0_i32_0 c1_i32 k0_t1
  let v46 : BitVec 32 := Scalar.addi v4 arg16
  let v47 : Index := Scalar.indexCast v46
  ![v47.toNat]
def k0_off3 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c0_i32_37 : BitVec 32 := 0#32
  ![arg16.toNat, 0]
def k0_off4 (v48 : BitVec 32) : Fin 2 → Nat :=
  let c0_i32_38 : BitVec 32 := 0#32
  ![v48.toNat, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v48 : BitVec 32) : Prop :=
  (∀ (k0_h1 : k0_cond1 i v0 = 1#1), ∀ a, (k0_off4 v48) a + S1x1024.size a ≤ S10240x1024.size a)
theorem k0_off4_inb : ∀ (i : grid0.Coords) (v0 : BitVec 32) (v48 : BitVec 32) (k0_hw1 : k0_chk1 i v0 v48), ∀ (k0_h1 : k0_cond1 i v0 = 1#1), ∀ a, (k0_off4 v48) a + S1x1024.size a ≤ S10240x1024.size a := fun i v0 v48 k0_hw1 k0_h1 => k0_hw1 k0_h1

@[reducible] def k0_t2_loop : Scf.Loop 32 :=
  let c0_i32_3 : BitVec 32 := 0#32
  let c256_i32_4 : BitVec 32 := 256#32
  let v6 : BitVec 32 := Scalar.addi c0_i32_3 c256_i32_4
  let c1_i32_5 : BitVec 32 := 1#32
  ⟨c0_i32_3, v6, c1_i32_5⟩
def k0_off5 (k0_t2 : Fin k0_t2_loop.trips) : Fin 2 → Nat :=
  let c0_i32_3 : BitVec 32 := 0#32
  let c1_i32_5 : BitVec 32 := 1#32
  let arg16 : BitVec 32 := Scf.iv c0_i32_3 c1_i32_5 k0_t2
  let c0_i32_37 : BitVec 32 := 0#32
  ![arg16.toNat, 0]
def k0_off6 (i : grid0.Coords) : Fin 1 → Nat :=
  let arg0 : BitVec 32 := BitVec.ofNat 32 (i 0).val
  let v34 : Index := Scalar.indexCast arg0
  ![v34.toNat]
@[reducible] def k0_t3_loop (v35 : BitVec 32) : Scf.Loop 32 :=
  let c0_i32_28 : BitVec 32 := 0#32
  let v36 : BitVec 32 := Scalar.subi v35 c0_i32_28
  let c1_i32_29 : BitVec 32 := 1#32
  let v38 : BitVec 32 := Scalar.divsi v36 c1_i32_29
  let v39 : BitVec 32 := Scalar.muli v38 c1_i32_29
  let v40 : BitVec 32 := Scalar.addi c0_i32_28 v39
  let c1_i32_30 : BitVec 32 := 1#32
  ⟨c0_i32_28, v40, c1_i32_30⟩

def k0_off7 (i : grid0.Coords) (v35 : BitVec 32) (k0_t3 : Fin (k0_t3_loop v35).trips) : Fin 1 → Nat :=
  let arg0 : BitVec 32 := BitVec.ofNat 32 (i 0).val
  let c256_i32 : BitVec 32 := 256#32
  let v4 : BitVec 32 := Scalar.muli arg0 c256_i32
  let c0_i32_28 : BitVec 32 := 0#32
  let c1_i32_30 : BitVec 32 := 1#32
  let arg16 : BitVec 32 := Scf.iv c0_i32_28 c1_i32_30 k0_t3
  let v46 : BitVec 32 := Scalar.addi v4 arg16
  let v47 : Index := Scalar.indexCast v46
  ![v47.toNat]
def k0_off8 (v48 : BitVec 32) : Fin 2 → Nat :=
  let c0_i32_37 : BitVec 32 := 0#32
  ![v48.toNat, 0]

def k0_chk3 (i : grid0.Coords) (v0 : BitVec 32) (v48 : BitVec 32) : Prop :=
  (∀ (k0_h1 : k0_cond1 i v0 = 1#1), ∀ a, (k0_off8 v48) a + S1x1024.size a ≤ S20480x1024.size a)
theorem k0_off8_inb : ∀ (i : grid0.Coords) (v0 : BitVec 32) (v48 : BitVec 32) (k0_hw3 : k0_chk3 i v0 v48), ∀ (k0_h1 : k0_cond1 i v0 = 1#1), ∀ a, (k0_off8 v48) a + S1x1024.size a ≤ S20480x1024.size a := fun i v0 v48 k0_hw3 k0_h1 => k0_hw3 k0_h1

def k0_off9 (v35 : BitVec 32) (k0_t3 : Fin (k0_t3_loop v35).trips) : Fin 2 → Nat :=
  let c0_i32_28 : BitVec 32 := 0#32
  let c1_i32_30 : BitVec 32 := 1#32
  let arg16 : BitVec 32 := Scf.iv c0_i32_28 c1_i32_30 k0_t3
  let c0_i32_38 : BitVec 32 := 0#32
  ![arg16.toNat, 0]
@[reducible] def k0_t4_loop (v35 : BitVec 32) : Scf.Loop 32 :=
  let c0_i32_28 : BitVec 32 := 0#32
  let v36 : BitVec 32 := Scalar.subi v35 c0_i32_28
  let c1_i32_29 : BitVec 32 := 1#32
  let v38 : BitVec 32 := Scalar.divsi v36 c1_i32_29
  let v39 : BitVec 32 := Scalar.muli v38 c1_i32_29
  let v40 : BitVec 32 := Scalar.addi c0_i32_28 v39
  let v37 : BitVec 32 := Scalar.addi c0_i32_28 v36
  let c1_i32_31 : BitVec 32 := 1#32
  ⟨v40, v37, c1_i32_31⟩
def k0_off10 (i : grid0.Coords) (v35 : BitVec 32) (k0_t4 : Fin (k0_t4_loop v35).trips) : Fin 1 → Nat :=
  let arg0 : BitVec 32 := BitVec.ofNat 32 (i 0).val
  let c256_i32 : BitVec 32 := 256#32
  let v4 : BitVec 32 := Scalar.muli arg0 c256_i32
  let c0_i32_28 : BitVec 32 := 0#32
  let v36 : BitVec 32 := Scalar.subi v35 c0_i32_28
  let c1_i32_29 : BitVec 32 := 1#32
  let v38 : BitVec 32 := Scalar.divsi v36 c1_i32_29
  let v39 : BitVec 32 := Scalar.muli v38 c1_i32_29
  let v40 : BitVec 32 := Scalar.addi c0_i32_28 v39
  let c1_i32_31 : BitVec 32 := 1#32
  let arg16 : BitVec 32 := Scf.iv v40 c1_i32_31 k0_t4
  let v46 : BitVec 32 := Scalar.addi v4 arg16
  let v47 : Index := Scalar.indexCast v46
  ![v47.toNat]
def k0_off11 (v48 : BitVec 32) : Fin 2 → Nat :=
  let c0_i32_37 : BitVec 32 := 0#32
  ![v48.toNat, 0]

def k0_chk4 (i : grid0.Coords) (v0 : BitVec 32) (v48 : BitVec 32) : Prop :=
  (∀ (k0_h1 : k0_cond1 i v0 = 1#1), ∀ a, (k0_off11 v48) a + S1x1024.size a ≤ S20480x1024.size a)
theorem k0_off11_inb : ∀ (i : grid0.Coords) (v0 : BitVec 32) (v48 : BitVec 32) (k0_hw4 : k0_chk4 i v0 v48), ∀ (k0_h1 : k0_cond1 i v0 = 1#1), ∀ a, (k0_off11 v48) a + S1x1024.size a ≤ S20480x1024.size a := fun i v0 v48 k0_hw4 k0_h1 => k0_hw4 k0_h1

def k0_off12 (v35 : BitVec 32) (k0_t4 : Fin (k0_t4_loop v35).trips) : Fin 2 → Nat :=
  let c0_i32_28 : BitVec 32 := 0#32
  let v36 : BitVec 32 := Scalar.subi v35 c0_i32_28
  let c1_i32_29 : BitVec 32 := 1#32
  let v38 : BitVec 32 := Scalar.divsi v36 c1_i32_29
  let v39 : BitVec 32 := Scalar.muli v38 c1_i32_29
  let v40 : BitVec 32 := Scalar.addi c0_i32_28 v39
  let c1_i32_31 : BitVec 32 := 1#32
  let arg16 : BitVec 32 := Scf.iv v40 c1_i32_31 k0_t4
  let c0_i32_38 : BitVec 32 := 0#32
  ![arg16.toNat, 0]
@[reducible] def k0_t5_loop (v35 : BitVec 32) : Scf.Loop 32 :=
  let c0_i32_33 : BitVec 32 := 0#32
  let v41 : BitVec 32 := Scalar.subi v35 c0_i32_33
  let c1_i32_34 : BitVec 32 := 1#32
  let v43 : BitVec 32 := Scalar.divsi v41 c1_i32_34
  let v44 : BitVec 32 := Scalar.muli v43 c1_i32_34
  let v45 : BitVec 32 := Scalar.addi c0_i32_33 v44
  let c1_i32_35 : BitVec 32 := 1#32
  ⟨c0_i32_33, v45, c1_i32_35⟩
def k0_off13 (v35 : BitVec 32) (k0_t5 : Fin (k0_t5_loop v35).trips) : Fin 2 → Nat :=
  let c0_i32_33 : BitVec 32 := 0#32
  let c1_i32_35 : BitVec 32 := 1#32
  let arg16 : BitVec 32 := Scf.iv c0_i32_33 c1_i32_35 k0_t5
  let c0_i32_39 : BitVec 32 := 0#32
  ![arg16.toNat, 0]
@[reducible] def k0_t6_loop (v35 : BitVec 32) : Scf.Loop 32 :=
  let c0_i32_33 : BitVec 32 := 0#32
  let v41 : BitVec 32 := Scalar.subi v35 c0_i32_33
  let c1_i32_34 : BitVec 32 := 1#32
  let v43 : BitVec 32 := Scalar.divsi v41 c1_i32_34
  let v44 : BitVec 32 := Scalar.muli v43 c1_i32_34
  let v45 : BitVec 32 := Scalar.addi c0_i32_33 v44
  let v42 : BitVec 32 := Scalar.addi c0_i32_33 v41
  let c1_i32_36 : BitVec 32 := 1#32
  ⟨v45, v42, c1_i32_36⟩
def k0_off14 (v35 : BitVec 32) (k0_t6 : Fin (k0_t6_loop v35).trips) : Fin 2 → Nat :=
  let c0_i32_33 : BitVec 32 := 0#32
  let v41 : BitVec 32 := Scalar.subi v35 c0_i32_33
  let c1_i32_34 : BitVec 32 := 1#32
  let v43 : BitVec 32 := Scalar.divsi v41 c1_i32_34
  let v44 : BitVec 32 := Scalar.muli v43 c1_i32_34
  let v45 : BitVec 32 := Scalar.addi c0_i32_33 v44
  let c1_i32_36 : BitVec 32 := 1#32
  let arg16 : BitVec 32 := Scf.iv v45 c1_i32_36 k0_t6
  let c0_i32_39 : BitVec 32 := 0#32
  ![arg16.toNat, 0]

def k0_chk2 (i : grid0.Coords) (v0 : BitVec 32) (v35 : BitVec 32) : Prop :=
  (∀ (k0_h1 : k0_cond1 i v0 = 1#1), (k0_t3_loop v35).OK) ∧
  (∀ k0_t3 : Fin (k0_t3_loop v35).trips, ∀ (k0_h1 : k0_cond1 i v0 = 1#1), ∀ a, (k0_off7 i v35 k0_t3) a + S1.size a ≤ S24576.size a) ∧
  (∀ k0_t3 : Fin (k0_t3_loop v35).trips, ∀ (k0_h1 : k0_cond1 i v0 = 1#1), ∀ a, (k0_off9 v35 k0_t3) a + S1x1024.size a ≤ S256x1024.size a) ∧
  (∀ (k0_h1 : k0_cond1 i v0 = 1#1), (k0_t4_loop v35).OK) ∧
  (∀ k0_t4 : Fin (k0_t4_loop v35).trips, ∀ (k0_h1 : k0_cond1 i v0 = 1#1), ∀ a, (k0_off10 i v35 k0_t4) a + S1.size a ≤ S24576.size a) ∧
  (∀ k0_t4 : Fin (k0_t4_loop v35).trips, ∀ (k0_h1 : k0_cond1 i v0 = 1#1), ∀ a, (k0_off12 v35 k0_t4) a + S1x1024.size a ≤ S256x1024.size a) ∧
  (∀ (k0_h1 : k0_cond1 i v0 = 1#1), (k0_t5_loop v35).OK) ∧
  (∀ k0_t5 : Fin (k0_t5_loop v35).trips, ∀ (k0_h1 : k0_cond1 i v0 = 1#1), ∀ a, (k0_off13 v35 k0_t5) a + S1x1024.size a ≤ S256x1024.size a) ∧
  (∀ (k0_h1 : k0_cond1 i v0 = 1#1), (k0_t6_loop v35).OK) ∧
  (∀ k0_t6 : Fin (k0_t6_loop v35).trips, ∀ (k0_h1 : k0_cond1 i v0 = 1#1), ∀ a, (k0_off14 v35 k0_t6) a + S1x1024.size a ≤ S256x1024.size a)
theorem k0_t3_ok : ∀ (i : grid0.Coords) (v0 : BitVec 32) (v35 : BitVec 32) (k0_hw2 : k0_chk2 i v0 v35), ∀ (k0_h1 : k0_cond1 i v0 = 1#1), (k0_t3_loop v35).OK := fun i v0 v35 k0_hw2 k0_h1 => k0_hw2.1 k0_h1
theorem k0_off7_inb : ∀ (i : grid0.Coords) (v0 : BitVec 32) (v35 : BitVec 32) (k0_hw2 : k0_chk2 i v0 v35) (k0_t3 : Fin (k0_t3_loop v35).trips), ∀ (k0_h1 : k0_cond1 i v0 = 1#1), ∀ a, (k0_off7 i v35 k0_t3) a + S1.size a ≤ S24576.size a := fun i v0 v35 k0_hw2 k0_t3 k0_h1 => k0_hw2.2.1 k0_t3 k0_h1
theorem k0_off9_inb : ∀ (i : grid0.Coords) (v0 : BitVec 32) (v35 : BitVec 32) (k0_hw2 : k0_chk2 i v0 v35) (k0_t3 : Fin (k0_t3_loop v35).trips), ∀ (k0_h1 : k0_cond1 i v0 = 1#1), ∀ a, (k0_off9 v35 k0_t3) a + S1x1024.size a ≤ S256x1024.size a := fun i v0 v35 k0_hw2 k0_t3 k0_h1 => k0_hw2.2.2.1 k0_t3 k0_h1
theorem k0_t4_ok : ∀ (i : grid0.Coords) (v0 : BitVec 32) (v35 : BitVec 32) (k0_hw2 : k0_chk2 i v0 v35), ∀ (k0_h1 : k0_cond1 i v0 = 1#1), (k0_t4_loop v35).OK := fun i v0 v35 k0_hw2 k0_h1 => k0_hw2.2.2.2.1 k0_h1
theorem k0_off10_inb : ∀ (i : grid0.Coords) (v0 : BitVec 32) (v35 : BitVec 32) (k0_hw2 : k0_chk2 i v0 v35) (k0_t4 : Fin (k0_t4_loop v35).trips), ∀ (k0_h1 : k0_cond1 i v0 = 1#1), ∀ a, (k0_off10 i v35 k0_t4) a + S1.size a ≤ S24576.size a := fun i v0 v35 k0_hw2 k0_t4 k0_h1 => k0_hw2.2.2.2.2.1 k0_t4 k0_h1
theorem k0_off12_inb : ∀ (i : grid0.Coords) (v0 : BitVec 32) (v35 : BitVec 32) (k0_hw2 : k0_chk2 i v0 v35) (k0_t4 : Fin (k0_t4_loop v35).trips), ∀ (k0_h1 : k0_cond1 i v0 = 1#1), ∀ a, (k0_off12 v35 k0_t4) a + S1x1024.size a ≤ S256x1024.size a := fun i v0 v35 k0_hw2 k0_t4 k0_h1 => k0_hw2.2.2.2.2.2.1 k0_t4 k0_h1
theorem k0_t5_ok : ∀ (i : grid0.Coords) (v0 : BitVec 32) (v35 : BitVec 32) (k0_hw2 : k0_chk2 i v0 v35), ∀ (k0_h1 : k0_cond1 i v0 = 1#1), (k0_t5_loop v35).OK := fun i v0 v35 k0_hw2 k0_h1 => k0_hw2.2.2.2.2.2.2.1 k0_h1
theorem k0_off13_inb : ∀ (i : grid0.Coords) (v0 : BitVec 32) (v35 : BitVec 32) (k0_hw2 : k0_chk2 i v0 v35) (k0_t5 : Fin (k0_t5_loop v35).trips), ∀ (k0_h1 : k0_cond1 i v0 = 1#1), ∀ a, (k0_off13 v35 k0_t5) a + S1x1024.size a ≤ S256x1024.size a := fun i v0 v35 k0_hw2 k0_t5 k0_h1 => k0_hw2.2.2.2.2.2.2.2.1 k0_t5 k0_h1
theorem k0_t6_ok : ∀ (i : grid0.Coords) (v0 : BitVec 32) (v35 : BitVec 32) (k0_hw2 : k0_chk2 i v0 v35), ∀ (k0_h1 : k0_cond1 i v0 = 1#1), (k0_t6_loop v35).OK := fun i v0 v35 k0_hw2 k0_h1 => k0_hw2.2.2.2.2.2.2.2.2.1 k0_h1
theorem k0_off14_inb : ∀ (i : grid0.Coords) (v0 : BitVec 32) (v35 : BitVec 32) (k0_hw2 : k0_chk2 i v0 v35) (k0_t6 : Fin (k0_t6_loop v35).trips), ∀ (k0_h1 : k0_cond1 i v0 = 1#1), ∀ a, (k0_off14 v35 k0_t6) a + S1x1024.size a ≤ S256x1024.size a := fun i v0 v35 k0_hw2 k0_t6 k0_h1 => k0_hw2.2.2.2.2.2.2.2.2.2 k0_t6 k0_h1

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeRefIdeal.lean ====
abbrev S24576 : Shape := ⟨1, ![24576]⟩
abbrev S96 : Shape := ⟨1, ![96]⟩
abbrev S1 : Shape := ⟨1, ![1]⟩
abbrev S10240x1024 : Shape := ⟨2, ![10240, 1024]⟩
abbrev S24576x1 : Shape := ⟨2, ![24576, 1]⟩
abbrev S16x1024x512 : Shape := ⟨3, ![16, 1024, 512]⟩
abbrev S16x512x1024 : Shape := ⟨3, ![16, 512, 1024]⟩
abbrev S24576x1024 : Shape := ⟨2, ![24576, 1024]⟩
abbrev S96x1 : Shape := ⟨2, ![96, 1]⟩
abbrev S96x256 : Shape := ⟨2, ![96, 256]⟩
abbrev S16 : Shape := ⟨1, ![16]⟩
abbrev S1x16 : Shape := ⟨2, ![1, 16]⟩
abbrev S24576x16 : Shape := ⟨2, ![24576, 16]⟩
abbrev S24576x16x512 : Shape := ⟨3, ![24576, 16, 512]⟩
abbrev S_ : Shape := ⟨0, ![]⟩
abbrev S24576x16x1 : Shape := ⟨3, ![24576, 16, 1]⟩
abbrev S256 : Shape := ⟨1, ![256]⟩
abbrev S1x256 : Shape := ⟨2, ![1, 256]⟩
abbrev S1x24576 : Shape := ⟨2, ![1, 24576]⟩
abbrev S20480 : Shape := ⟨1, ![20480]⟩
abbrev S20480x1 : Shape := ⟨2, ![20480, 1]⟩
abbrev S20480x24576 : Shape := ⟨2, ![20480, 24576]⟩
abbrev S20480x1024 : Shape := ⟨2, ![20480, 1024]⟩

abbrev nBuf : Space → Nat
  | .hbm => 66
  | .vmem => 0
  | .smem => 0
  | _ => 0

abbrev bufTy : (tb : Table) → Fin (tcTables nBuf tb) → BufTy
  | .hbm, ⟨0, _⟩ => ⟨S24576, .i32⟩
  | .hbm, ⟨1, _⟩ => ⟨S24576, .i32⟩
  | .hbm, ⟨2, _⟩ => ⟨S96, .i32⟩
  | .hbm, ⟨3, _⟩ => ⟨S96, .i32⟩
  | .hbm, ⟨4, _⟩ => ⟨S1, .i32⟩
  | .hbm, ⟨5, _⟩ => ⟨S10240x1024, .f32⟩
  | .hbm, ⟨6, _⟩ => ⟨S24576x1, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S24576x1, .i32⟩
  | .hbm, ⟨11, _⟩ => ⟨S24576x1024, .f32⟩
  | .hbm, ⟨12, _⟩ => ⟨S16x1024x512, .f32⟩
  | .hbm, ⟨13, _⟩ => ⟨S16x1024x512, .f32⟩
  | .hbm, ⟨14, _⟩ => ⟨S16x512x1024, .f32⟩
  | .hbm, ⟨15, _⟩ => ⟨S96x1, .i32⟩
  | .hbm, ⟨16, _⟩ => ⟨S96x256, .i32⟩
  | .hbm, ⟨17, _⟩ => ⟨S24576x1, .i32⟩
  | .hbm, ⟨18, _⟩ => ⟨S16, .i32⟩
  | .hbm, ⟨19, _⟩ => ⟨S1x16, .i32⟩
  | .hbm, ⟨20, _⟩ => ⟨S24576x16, .i32⟩
  | .hbm, ⟨21, _⟩ => ⟨S24576x16, .i32⟩
  | .hbm, ⟨22, _⟩ => ⟨S24576x16, .i1⟩
  | .hbm, ⟨23, _⟩ => ⟨S24576x16, .f32⟩
  | .hbm, ⟨24, _⟩ => ⟨S24576x16, .f32⟩
  | .hbm, ⟨25, _⟩ => ⟨S24576x16, .f32⟩
  | .hbm, ⟨26, _⟩ => ⟨S24576x16x512, .f32⟩
  | .hbm, ⟨27, _⟩ => ⟨S24576x16x512, .f32⟩
  | .hbm, ⟨28, _⟩ => ⟨S24576x16x512, .f32⟩
  | .hbm, ⟨29, _⟩ => ⟨S24576x16x512, .f32⟩
  | .hbm, ⟨30, _⟩ => ⟨S_, .f32⟩
  | .hbm, ⟨31, _⟩ => ⟨S24576x16x512, .f32⟩
  | .hbm, ⟨32, _⟩ => ⟨S24576x16x512, .f32⟩
  | .hbm, ⟨33, _⟩ => ⟨S_, .f32⟩
  | .hbm, ⟨34, _⟩ => ⟨S24576x16x512, .f32⟩
  | .hbm, ⟨35, _⟩ => ⟨S24576x16x512, .f32⟩
  | .hbm, ⟨36, _⟩ => ⟨S24576x16x512, .f32⟩
  | .hbm, ⟨37, _⟩ => ⟨S24576x16x512, .f32⟩
  | .hbm, ⟨38, _⟩ => ⟨S24576x16x1, .f32⟩
  | .hbm, ⟨39, _⟩ => ⟨S24576x16x512, .f32⟩
  | .hbm, ⟨40, _⟩ => ⟨S24576x16x512, .f32⟩
  | .hbm, ⟨41, _⟩ => ⟨S24576x1024, .f32⟩
  | .hbm, ⟨42, _⟩ => ⟨S96, .i32⟩
  | .hbm, ⟨43, _⟩ => ⟨S96x1, .i32⟩
  | .hbm, ⟨44, _⟩ => ⟨S_, .i32⟩
  | .hbm, ⟨45, _⟩ => ⟨S96x1, .i32⟩
  | .hbm, ⟨46, _⟩ => ⟨S96x1, .i1⟩
  | .hbm, ⟨47, _⟩ => ⟨S256, .i32⟩
  | .hbm, ⟨48, _⟩ => ⟨S1x256, .i32⟩
  | .hbm, ⟨49, _⟩ => ⟨S96x1, .i32⟩
  | .hbm, ⟨50, _⟩ => ⟨S96x256, .i32⟩
  | .hbm, ⟨51, _⟩ => ⟨S96x256, .i32⟩
  | .hbm, ⟨52, _⟩ => ⟨S96x256, .i1⟩
  | .hbm, ⟨53, _⟩ => ⟨S96x256, .i1⟩
  | .hbm, ⟨54, _⟩ => ⟨S96x256, .i1⟩
  | .hbm, ⟨55, _⟩ => ⟨S1x24576, .i32⟩
  | .hbm, ⟨56, _⟩ => ⟨S20480, .i32⟩
  | .hbm, ⟨57, _⟩ => ⟨S20480x1, .i32⟩
  | .hbm, ⟨58, _⟩ => ⟨S20480x24576, .i32⟩
  | .hbm, ⟨59, _⟩ => ⟨S20480x24576, .i32⟩
  | .hbm, ⟨60, _⟩ => ⟨S20480x24576, .i1⟩
  | .hbm, ⟨61, _⟩ => ⟨S1x24576, .i1⟩
  | .hbm, ⟨62, _⟩ => ⟨S20480x24576, .i1⟩
  | .hbm, ⟨63, _⟩ => ⟨S20480x24576, .i1⟩
  | .hbm, ⟨64, _⟩ => ⟨S20480x24576, .f32⟩
  | .hbm, ⟨65, _⟩ => ⟨S20480x1024, .f32⟩
  | _, _ => ⟨S24576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Inproj.lean ====
abbrev S10240x1024 : Shape := ⟨2, ![10240, 1024]⟩
abbrev S8x6144 : Shape := ⟨2, ![8, 6144]⟩
abbrev S1024x4608 : Shape := ⟨2, ![1024, 4608]⟩
abbrev S1024x128 : Shape := ⟨2, ![1024, 128]⟩
abbrev S10240x4608 : Shape := ⟨2, ![10240, 4608]⟩
abbrev S10240x128 : Shape := ⟨2, ![10240, 128]⟩
abbrev S512x1024 : Shape := ⟨2, ![512, 1024]⟩
abbrev S1024x2304 : Shape := ⟨2, ![1024, 2304]⟩
abbrev S512x2304 : Shape := ⟨2, ![512, 2304]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S10240x1024, .f32⟩
  | .hbm, ⟨1, _⟩ => ⟨S8x6144, .f32⟩
  | .hbm, ⟨2, _⟩ => ⟨S1024x4608, .bf16⟩
  | .hbm, ⟨3, _⟩ => ⟨S1024x128, .bf16⟩
  | .hbm, ⟨4, _⟩ => ⟨S10240x4608, .f32⟩
  | .hbm, ⟨5, _⟩ => ⟨S10240x128, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1024x2304, .bf16⟩
  | .local _ .vmem, ⟨4, _⟩ => ⟨S1024x2304, .bf16⟩
  | .local _ .vmem, ⟨5, _⟩ => ⟨S1024x128, .bf16⟩
  | .local _ .vmem, ⟨6, _⟩ => ⟨S512x2304, .f32⟩
  | .local _ .vmem, ⟨7, _⟩ => ⟨S512x2304, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![20, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c512_i32 : BitVec 32 := 512#32
  let v7 : BitVec 32 := Scalar.muli arg0 c512_i32
  let c8192_i32 : BitVec 32 := 8192#32
  let v8 : BitVec 1 := Scalar.cmpi .slt v7 c8192_i32
  let c0_i32_13 : BitVec 32 := 0#32
  let c1_i32_12 : BitVec 32 := 1#32
  let c8192_i32_6 : BitVec 32 := 8192#32
  let v9 : BitVec 32 := Scalar.subi v7 c8192_i32_6
  let c0_i32_7 : BitVec 32 := 0#32
  let v11 : BitVec 1 := Scalar.cmpi .sgt v9 c0_i32_7
  let v12 : BitVec 32 := Scalar.extui v11
  let c0_i32_8 : BitVec 32 := 0#32
  let v13 : BitVec 1 := Scalar.cmpi .slt v9 c0_i32_8
  let v14 : BitVec 32 := Scalar.extui v13
  let v15 : BitVec 32 := Scalar.subi v12 v14
  let c1024_i32 : BitVec 32 := 1024#32
  let c0_i32_9 : BitVec 32 := 0#32
  let v16 : BitVec 1 := Scalar.cmpi .sgt c1024_i32 c0_i32_9
  let v17 : BitVec 32 := Scalar.extui v16
  let c0_i32_10 : BitVec 32 := 0#32
  let v18 : BitVec 1 := Scalar.cmpi .slt c1024_i32 c0_i32_10
  let v19 : BitVec 32 := Scalar.extui v18
  let v20 : BitVec 32 := Scalar.subi v17 v19
  let v21 : BitVec 1 := Scalar.cmpi .ne v15 v20
  let v22 : BitVec 32 := Scalar.remsi v9 c1024_i32
  let c0_i32_11 : BitVec 32 := 0#32
  let v23 : BitVec 1 := Scalar.cmpi .ne v22 c0_i32_11
  let v24 : BitVec 1 := Scalar.andi v21 v23
  let v10 : BitVec 32 := Scalar.divsi v9 c1024_i32
  let c1_i32 : BitVec 32 := 1#32
  let v25 : BitVec 32 := Scalar.subi v10 c1_i32
  let v26 : BitVec 32 := Scalar.select v24 v25 v10
  let v27 : BitVec 32 := Scalar.addi c1_i32_12 v26
  let v28 : BitVec 32 := Scalar.select v8 c0_i32_13 v27
  let v29 : Index := Scalar.indexCast v28
  let c0_14 : Index := 0#32
  ![v29.toNat, 0]
def k0_off2 (i : grid0.Coords) : Fin 2 → Nat :=
  let arg0 : BitVec 32 := BitVec.ofNat 32 (i 0).val
  let c512_i32 : BitVec 32 := 512#32
  let v7 : BitVec 32 := Scalar.muli arg0 c512_i32
  let c8192_i32 : BitVec 32 := 8192#32
  let v8 : BitVec 1 := Scalar.cmpi .slt v7 c8192_i32
  let c0_i32_13 : BitVec 32 := 0#32
  let c1_i32_12 : BitVec 32 := 1#32
  let c8192_i32_6 : BitVec 32 := 8192#32
  let v9 : BitVec 32 := Scalar.subi v7 c8192_i32_6
  let c0_i32_7 : BitVec 32 := 0#32
  let v11 : BitVec 1 := Scalar.cmpi .sgt v9 c0_i32_7
  let v12 : BitVec 32 := Scalar.extui v11
  let c0_i32_8 : BitVec 32 := 0#32
  let v13 : BitVec 1 := Scalar.cmpi .slt v9 c0_i32_8
  let v14 : BitVec 32 := Scalar.extui v13
  let v15 : BitVec 32 := Scalar.subi v12 v14
  let c1024_i32 : BitVec 32 := 1024#32
  let c0_i32_9 : BitVec 32 := 0#32
  let v16 : BitVec 1 := Scalar.cmpi .sgt c1024_i32 c0_i32_9
  let v17 : BitVec 32 := Scalar.extui v16
  let c0_i32_10 : BitVec 32 := 0#32
  let v18 : BitVec 1 := Scalar.cmpi .slt c1024_i32 c0_i32_10
  let v19 : BitVec 32 := Scalar.extui v18
  let v20 : BitVec 32 := Scalar.subi v17 v19
  let v21 : BitVec 1 := Scalar.cmpi .ne v15 v20
  let v22 : BitVec 32 := Scalar.remsi v9 c1024_i32
  let c0_i32_11 : BitVec 32 := 0#32
  let v23 : BitVec 1 := Scalar.cmpi .ne v22 c0_i32_11
  let v24 : BitVec 1 := Scalar.andi v21 v23
  let v10 : BitVec 32 := Scalar.divsi v9 c1024_i32
  let c1_i32 : BitVec 32 := 1#32
  let v25 : BitVec 32 := Scalar.subi v10 c1_i32
  let v26 : BitVec 32 := Scalar.select v24 v25 v10
  let v27 : BitVec 32 := Scalar.addi c1_i32_12 v26
  let v28 : BitVec 32 := Scalar.select v8 c0_i32_13 v27
  let v31 : Index := Scalar.indexCast v28
  let c1024 : Index := 1024#32
  ![v31.toNat, 1024]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojRefIdeal.lean ====
abbrev S10240x1024 : Shape := ⟨2, ![10240, 1024]⟩
abbrev S8x6144 : Shape := ⟨2, ![8, 6144]⟩
abbrev S1024x4608 : Shape := ⟨2, ![1024, 4608]⟩
abbrev S1024x128 : Shape := ⟨2, ![1024, 128]⟩
abbrev S1x6144 : Shape := ⟨2, ![1, 6144]⟩
abbrev S8192x6144 : Shape := ⟨2, ![8192, 6144]⟩
abbrev S1024x6144 : Shape := ⟨2, ![1024, 6144]⟩
abbrev S10240x6144 : Shape := ⟨2, ![10240, 6144]⟩
abbrev S_ : Shape := ⟨0, ![]⟩
abbrev S10240 : Shape := ⟨1, ![10240]⟩
abbrev S10240x1 : Shape := ⟨2, ![10240, 1]⟩
abbrev S10240x4608 : Shape := ⟨2, ![10240, 4608]⟩
abbrev S10240x128 : Shape := ⟨2, ![10240, 128]⟩

abbrev nBuf : Space → Nat
  | .hbm => 43
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S8x6144, .f32⟩
  | .hbm, ⟨2, _⟩ => ⟨S1024x4608, .bf16⟩
  | .hbm, ⟨3, _⟩ => ⟨S1024x128, .bf16⟩
  | .hbm, ⟨4, _⟩ => ⟨S1x6144, .f32⟩
  | .hbm, ⟨5, _⟩ => ⟨S8192x6144, .f32⟩
  | .hbm, ⟨6, _⟩ => ⟨S1x6144, .f32⟩
  | .hbm, ⟨7, _⟩ => ⟨S1024x6144, .f32⟩
  | .hbm, ⟨8, _⟩ => ⟨S1x6144, .f32⟩
  | .hbm, ⟨9, _⟩ => ⟨S1024x6144, .f32⟩
  | .hbm, ⟨10, _⟩ => ⟨S10240x6144, .f32⟩
  | .hbm, ⟨11, _⟩ => ⟨S10240x1024, .f32⟩
  | .hbm, ⟨12, _⟩ => ⟨S10240x1024, .f32⟩
  | .hbm, ⟨13, _⟩ => ⟨S_, .f32⟩
  | .hbm, ⟨14, _⟩ => ⟨S10240, .f32⟩
  | .hbm, ⟨15, _⟩ => ⟨S10240x1, .f32⟩
  | .hbm, ⟨16, _⟩ => ⟨S_, .f32⟩
  | .hbm, ⟨17, _⟩ => ⟨S10240x1, .f32⟩
  | .hbm, ⟨18, _⟩ => ⟨S10240x1, .f32⟩
  | .hbm, ⟨19, _⟩ => ⟨S10240x1024, .f32⟩
  | .hbm, ⟨20, _⟩ => ⟨S10240x1024, .f32⟩
  | .hbm, ⟨21, _⟩ => ⟨S10240x1024, .f32⟩
  | .hbm, ⟨22, _⟩ => ⟨S_, .f32⟩
  | .hbm, ⟨23, _⟩ => ⟨S10240, .f32⟩
  | .hbm, ⟨24, _⟩ => ⟨S10240x1, .f32⟩
  | .hbm, ⟨25, _⟩ => ⟨S_, .f32⟩
  | .hbm, ⟨26, _⟩ => ⟨S10240x1, .f32⟩
  | .hbm, ⟨27, _⟩ => ⟨S10240x1, .f32⟩
  | .hbm, ⟨28, _⟩ => ⟨S_, .f32⟩
  | .hbm, ⟨29, _⟩ => ⟨S10240x1, .f32⟩
  | .hbm, ⟨30, _⟩ => ⟨S10240x1, .f32⟩
  | .hbm, ⟨31, _⟩ => ⟨S10240x1, .f32⟩
  | .hbm, ⟨32, _⟩ => ⟨S10240x1024, .f32⟩
  | .hbm, ⟨33, _⟩ => ⟨S10240x1024, .f32⟩
  | .hbm, ⟨34, _⟩ => ⟨S_, .f32⟩
  | .hbm, ⟨35, _⟩ => ⟨S10240x1024, .f32⟩
  | .hbm, ⟨36, _⟩ => ⟨S10240x1024, .f32⟩
  | .hbm, ⟨37, _⟩ => ⟨S10240x1024, .f32⟩
  | .hbm, ⟨38, _⟩ => ⟨S10240x1024, .f32⟩
  | .hbm, ⟨39, _⟩ => ⟨S1024x4608, .f32⟩
  | .hbm, ⟨40, _⟩ => ⟨S10240x4608, .f32⟩
  | .hbm, ⟨41, _⟩ => ⟨S1024x128, .f32⟩
  | .hbm, ⟨42, _⟩ => ⟨S10240x128, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Ada.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Embed.lean ====
abbrev S8192x1024 : Shape := ⟨2, ![8192, 1024]⟩
abbrev S2048x1024 : Shape := ⟨2, ![2048, 1024]⟩
abbrev S1024x1024 : Shape := ⟨2, ![1024, 1024]⟩
abbrev S10240x1024 : Shape := ⟨2, ![10240, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S1024x1024, .f32⟩
  | .hbm, ⟨3, _⟩ => ⟨S10240x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EmbedRefIdeal.lean ====
abbrev S8192x1024 : Shape := ⟨2, ![8192, 1024]⟩
abbrev S2048x1024 : Shape := ⟨2, ![2048, 1024]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S10240x1024 : Shape := ⟨2, ![10240, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S1024x1024, .f32⟩
  | .hbm, ⟨3, _⟩ => ⟨S2x1024x1024, .f32⟩
  | .hbm, ⟨4, _⟩ => ⟨S1x1024x1024, .f32⟩
  | .hbm, ⟨5, _⟩ => ⟨S2x1024x1024, .f32⟩
  | .hbm, ⟨6, _⟩ => ⟨S2x1024x1024, .f32⟩
  | .hbm, ⟨7, _⟩ => ⟨S2048x1024, .f32⟩
  | .hbm, ⟨8, _⟩ => ⟨S10240x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Conf.lean ====
abbrev S10240x4608 : Shape := ⟨2, ![10240, 4608]⟩
abbrev S32x512 : Shape := ⟨2, ![32, 512]⟩
abbrev S1x512 : Shape := ⟨2, ![1, 512]⟩
abbrev S10240x512 : Shape := ⟨2, ![10240, 512]⟩
abbrev S256x512 : Shape := ⟨2, ![256, 512]⟩
abbrev S16x512 : Shape := ⟨2, ![16, 512]⟩
abbrev S288x512 : Shape := ⟨2, ![288, 512]⟩
abbrev S64x512 : Shape := ⟨2, ![64, 512]⟩
abbrev S64 : Shape := ⟨1, ![64]⟩
abbrev S64x1 : Shape := ⟨2, ![64, 1]⟩

abbrev nBuf : Space → Nat
  | .hbm => 6
  | .vmem => 19
  | .smem => 0
  | _ => 0

abbrev bufTy : (tb : Table) → Fin (tcTables nBuf tb) → BufTy
  | .hbm, ⟨0, _⟩ => ⟨S10240x4608, .f32⟩
  | .hbm, ⟨1, _⟩ => ⟨S32x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S10240x512, .bf16⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | .local _ .vmem, ⟨18, _⟩ => ⟨S288x512, .f32⟩
  | _, _ => ⟨S10240x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c639_i32 : BitVec 32 := 639#32
  let v2 : BitVec 32 := Scalar.minsi v1 c639_i32
  let c7_i32 : BitVec 32 := 7#32
  let c0_i32 : BitVec 32 := 0#32
  ![v2.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c639_i32 : BitVec 32 := 639#32
  let v2 : BitVec 32 := Scalar.minsi v1 c639_i32
  let c8_i32 : BitVec 32 := 8#32
  let c0_i32 : BitVec 32 := 0#32
  ![v2.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConfRefIdeal.lean ====
abbrev S10240x4608 : Shape := ⟨2, ![10240, 4608]⟩
abbrev S32x512 : Shape := ⟨2, ![32, 512]⟩
abbrev S1x512 : Shape := ⟨2, ![1, 512]⟩
abbrev S10240x512 : Shape := ⟨2, ![10240, 512]⟩
abbrev S_ : Shape := ⟨0, ![]⟩
abbrev S8192x512 : Shape := ⟨2, ![8192, 512]⟩
abbrev S32x256x512 : Shape := ⟨3, ![32, 256, 512]⟩
abbrev S32x286x512 : Shape := ⟨3, ![32, 286, 512]⟩
abbrev S512 : Shape := ⟨1, ![512]⟩
abbrev S1x1x512 : Shape := ⟨3, ![1, 1, 512]⟩
abbrev S2048x512 : Shape := ⟨2, ![2048, 512]⟩
abbrev S2x1024x512 : Shape := ⟨3, ![2, 1024, 512]⟩
abbrev S2x1054x512 : Shape := ⟨3, ![2, 1054, 512]⟩
abbrev S10240 : Shape := ⟨1, ![10240]⟩
abbrev S10240x1 : Shape := ⟨2, ![10240, 1]⟩

abbrev nBuf : Space → Nat
  | .hbm => 510
  | .vmem => 0
  | .smem => 0
  | _ => 0

abbrev hbmTy0_0 (i : Nat) : BufTy := match i % 128 with
  | 0 => ⟨S10240x4608, .f32⟩
  | 1 => ⟨S32x512, .f32⟩
  | 2 => ⟨S1x512, .f32⟩
  | 3 => ⟨S1x512, .f32⟩
  | 4 => ⟨S1x512, .f32⟩
  | 5 => ⟨S10240x512, .f32⟩
  | 6 => ⟨S10240x512, .f32⟩
  | 7 => ⟨S10240x512, .f32⟩
  | 8 => ⟨S10240x512, .f32⟩
  | 9 => ⟨S_, .f32⟩
  | 10 => ⟨S10240x512, .f32⟩
  | 11 => ⟨S10240x512, .f32⟩
  | 12 => ⟨S_, .f32⟩
  | 13 => ⟨S10240x512, .f32⟩
  | 14 => ⟨S10240x512, .f32⟩
  | 15 => ⟨S10240x512, .f32⟩
  | 16 => ⟨S8192x512, .f32⟩
  | 17 => ⟨S32x256x512, .f32⟩
  | 18 => ⟨S_, .i32⟩
  | 19 => ⟨S_, .f32⟩
  | 20 => ⟨S32x286x512, .f32⟩
  | 21 => ⟨S32x256x512, .f32⟩
  | 22 => ⟨S1x512, .f32⟩
  | 23 => ⟨S512, .f32⟩
  | 24 => ⟨S1x1x512, .f32⟩
  | 25 => ⟨S32x256x512, .f32⟩
  | 26 => ⟨S32x256x512, .f32⟩
  | 27 => ⟨S_, .f32⟩
  | 28 => ⟨S32x256x512, .f32⟩
  | 29 => ⟨S32x256x512, .f32⟩
  | 30 => ⟨S32x256x512, .f32⟩
  | 31 => ⟨S1x512, .f32⟩
  | 32 => ⟨S512, .f32⟩
  | 33 => ⟨S1x1x512, .f32⟩
  | 34 => ⟨S32x256x512, .f32⟩
  | 35 => ⟨S32x256x512, .f32⟩
  | 36 => ⟨S32x256x512, .f32⟩
  | 37 => ⟨S32x256x512, .f32⟩
  | 38 => ⟨S1x512, .f32⟩
  | 39 => ⟨S512, .f32⟩
  | 40 => ⟨S1x1x512, .f32⟩
  | 41 => ⟨S32x256x512, .f32⟩
  | 42 => ⟨S32x256x512, .f32⟩
  | 43 => ⟨S32x256x512, .f32⟩
  | 44 => ⟨S32x256x512, .f32⟩
  | 45 => ⟨S1x512, .f32⟩
  | 46 => ⟨S512, .f32⟩
  | 47 => ⟨S1x1x512, .f32⟩
  | 48 => ⟨S32x256x512, .f32⟩
  | 49 => ⟨S32x256x512, .f32⟩
  | 50 => ⟨S32x256x512, .f32⟩
  | 51 => ⟨S32x256x512, .f32⟩
  | 52 => ⟨S1x512, .f32⟩
  | 53 => ⟨S512, .f32⟩
  | 54 => ⟨S1x1x512, .f32⟩
  | 55 => ⟨S32x256x512, .f32⟩
  | 56 => ⟨S32x256x512, .f32⟩
  | 57 => ⟨S32x256x512, .f32⟩
  | 58 => ⟨S32x256x512, .f32⟩
  | 59 => ⟨S1x512, .f32⟩
  | 60 => ⟨S512, .f32⟩
  | 61 => ⟨S1x1x512, .f32⟩
  | 62 => ⟨S32x256x512, .f32⟩
  | 63 => ⟨S32x256x512, .f32⟩
  | 64 => ⟨S32x256x512, .f32⟩
  | 65 => ⟨S32x256x512, .f32⟩
  | 66 => ⟨S1x512, .f32⟩
  | 67 => ⟨S512, .f32⟩
  | 68 => ⟨S1x1x512, .f32⟩
  | 69 => ⟨S32x256x512, .f32⟩
  | 70 => ⟨S32x256x512, .f32⟩
  | 71 => ⟨S32x256x512, .f32⟩
  | 72 => ⟨S32x256x512, .f32⟩
  | 73 => ⟨S1x512, .f32⟩
  | 74 => ⟨S512, .f32⟩
  | 75 => ⟨S1x1x512, .f32⟩
  | 76 => ⟨S32x256x512, .f32⟩
  | 77 => ⟨S32x256x512, .f32⟩
  | 78 => ⟨S32x256x512, .f32⟩
  | 79 => ⟨S32x256x512, .f32⟩
  | 80 => ⟨S1x512, .f32⟩
  | 81 => ⟨S512, .f32⟩
  | 82 => ⟨S1x1x512, .f32⟩
  | 83 => ⟨S32x256x512, .f32⟩
  | 84 => ⟨S32x256x512, .f32⟩
  | 85 => ⟨S32x256x512, .f32⟩
  | 86 => ⟨S32x256x512, .f32⟩
  | 87 => ⟨S1x512, .f32⟩
  | 88 => ⟨S512, .f32⟩
  | 89 => ⟨S1x1x512, .f32⟩
  | 90 => ⟨S32x256x512, .f32⟩
  | 91 => ⟨S32x256x512, .f32⟩
  | 92 => ⟨S32x256x512, .f32⟩
  | 93 => ⟨S32x256x512, .f32⟩
  | 94 => ⟨S1x512, .f32⟩
  | 95 => ⟨S512, .f32⟩
  | 96 => ⟨S1x1x512, .f32⟩
  | 97 => ⟨S32x256x512, .f32⟩
  | 98 => ⟨S32x256x512, .f32⟩
  | 99 => ⟨S32x256x512, .f32⟩
  | 100 => ⟨S32x256x512, .f32⟩
  | 101 => ⟨S1x512, .f32⟩
  | 102 => ⟨S512, .f32⟩
  | 103 => ⟨S1x1x512, .f32⟩
  | 104 => ⟨S32x256x512, .f32⟩
  | 105 => ⟨S32x256x512, .f32⟩
  | 106 => ⟨S32x256x512, .f32⟩
  | 107 => ⟨S32x256x512, .f32⟩
  | 108 => ⟨S1x512, .f32⟩
  | 109 => ⟨S512, .f32⟩
  | 110 => ⟨S1x1x512, .f32⟩
  | 111 => ⟨S32x256x512, .f32⟩
  | 112 => ⟨S32x256x512, .f32⟩
  | 113 => ⟨S32x256x512, .f32⟩
  | 114 => ⟨S32x256x512, .f32⟩
  | 115 => ⟨S1x512, .f32⟩
  | 116 => ⟨S512, .f32⟩
  | 117 => ⟨S1x1x512, .f32⟩
  | 118 => ⟨S32x256x512, .f32⟩
  | 119 => ⟨S32x256x512, .f32⟩
  | 120 => ⟨S32x256x512, .f32⟩
  | 121 => ⟨S32x256x512, .f32⟩
  | 122 => ⟨S1x512, .f32⟩
  | 123 => ⟨S512, .f32⟩
  | 124 => ⟨S1x1x512, .f32⟩
  | 125 => ⟨S32x256x512, .f32⟩
  | 126 => ⟨S32x256x512, .f32⟩
  | 127 => ⟨S32x256x512, .f32⟩
  | _ => ⟨S10240x4608, .f32⟩

abbrev hbmTy0_1 (i : Nat) : BufTy := match i % 128 with
  | 0 => ⟨S32x256x512, .f32⟩
  | 1 => ⟨S1x512, .f32⟩
  | 2 => ⟨S512, .f32⟩
  | 3 => ⟨S1x1x512, .f32⟩
  | 4 => ⟨S32x256x512, .f32⟩
  | 5 => ⟨S32x256x512, .f32⟩
  | 6 => ⟨S32x256x512, .f32⟩
  | 7 => ⟨S32x256x512, .f32⟩
  | 8 => ⟨S1x512, .f32⟩
  | 9 => ⟨S512, .f32⟩
  | 10 => ⟨S1x1x512, .f32⟩
  | 11 => ⟨S32x256x512, .f32⟩
  | 12 => ⟨S32x256x512, .f32⟩
  | 13 => ⟨S32x256x512, .f32⟩
  | 14 => ⟨S32x256x512, .f32⟩
  | 15 => ⟨S1x512, .f32⟩
  | 16 => ⟨S512, .f32⟩
  | 17 => ⟨S1x1x512, .f32⟩
  | 18 => ⟨S32x256x512, .f32⟩
  | 19 => ⟨S32x256x512, .f32⟩
  | 20 => ⟨S32x256x512, .f32⟩
  | 21 => ⟨S32x256x512, .f32⟩
  | 22 => ⟨S1x512, .f32⟩
  | 23 => ⟨S512, .f32⟩
  | 24 => ⟨S1x1x512, .f32⟩
  | 25 => ⟨S32x256x512, .f32⟩
  | 26 => ⟨S32x256x512, .f32⟩
  | 27 => ⟨S32x256x512, .f32⟩
  | 28 => ⟨S32x256x512, .f32⟩
  | 29 => ⟨S1x512, .f32⟩
  | 30 => ⟨S512, .f32⟩
  | 31 => ⟨S1x1x512, .f32⟩
  | 32 => ⟨S32x256x512, .f32⟩
  | 33 => ⟨S32x256x512, .f32⟩
  | 34 => ⟨S32x256x512, .f32⟩
  | 35 => ⟨S32x256x512, .f32⟩
  | 36 => ⟨S1x512, .f32⟩
  | 37 => ⟨S512, .f32⟩
  | 38 => ⟨S1x1x512, .f32⟩
  | 39 => ⟨S32x256x512, .f32⟩
  | 40 => ⟨S32x256x512, .f32⟩
  | 41 => ⟨S32x256x512, .f32⟩
  | 42 => ⟨S32x256x512, .f32⟩
  | 43 => ⟨S1x512, .f32⟩
  | 44 => ⟨S512, .f32⟩
  | 45 => ⟨S1x1x512, .f32⟩
  | 46 => ⟨S32x256x512, .f32⟩
  | 47 => ⟨S32x256x512, .f32⟩
  | 48 => ⟨S32x256x512, .f32⟩
  | 49 => ⟨S32x256x512, .f32⟩
  | 50 => ⟨S1x512, .f32⟩
  | 51 => ⟨S512, .f32⟩
  | 52 => ⟨S1x1x512, .f32⟩
  | 53 => ⟨S32x256x512, .f32⟩
  | 54 => ⟨S32x256x512, .f32⟩
  | 55 => ⟨S32x256x512, .f32⟩
  | 56 => ⟨S32x256x512, .f32⟩
  | 57 => ⟨S1x512, .f32⟩
  | 58 => ⟨S512, .f32⟩
  | 59 => ⟨S1x1x512, .f32⟩
  | 60 => ⟨S32x256x512, .f32⟩
  | 61 => ⟨S32x256x512, .f32⟩
  | 62 => ⟨S32x256x512, .f32⟩
  | 63 => ⟨S32x256x512, .f32⟩
  | 64 => ⟨S1x512, .f32⟩
  | 65 => ⟨S512, .f32⟩
  | 66 => ⟨S1x1x512, .f32⟩
  | 67 => ⟨S32x256x512, .f32⟩
  | 68 => ⟨S32x256x512, .f32⟩
  | 69 => ⟨S32x256x512, .f32⟩
  | 70 => ⟨S32x256x512, .f32⟩
  | 71 => ⟨S1x512, .f32⟩
  | 72 => ⟨S512, .f32⟩
  | 73 => ⟨S1x1x512, .f32⟩
  | 74 => ⟨S32x256x512, .f32⟩
  | 75 => ⟨S32x256x512, .f32⟩
  | 76 => ⟨S32x256x512, .f32⟩
  | 77 => ⟨S32x256x512, .f32⟩
  | 78 => ⟨S1x512, .f32⟩
  | 79 => ⟨S512, .f32⟩
  | 80 => ⟨S1x1x512, .f32⟩
  | 81 => ⟨S32x256x512, .f32⟩
  | 82 => ⟨S32x256x512, .f32⟩
  | 83 => ⟨S32x256x512, .f32⟩
  | 84 => ⟨S32x256x512, .f32⟩
  | 85 => ⟨S1x512, .f32⟩
  | 86 => ⟨S512, .f32⟩
  | 87 => ⟨S1x1x512, .f32⟩
  | 88 => ⟨S32x256x512, .f32⟩
  | 89 => ⟨S32x256x512, .f32⟩
  | 90 => ⟨S32x256x512, .f32⟩
  | 91 => ⟨S32x256x512, .f32⟩
  | 92 => ⟨S1x512, .f32⟩
  | 93 => ⟨S512, .f32⟩
  | 94 => ⟨S1x1x512, .f32⟩
  | 95 => ⟨S32x256x512, .f32⟩
  | 96 => ⟨S32x256x512, .f32⟩
  | 97 => ⟨S32x256x512, .f32⟩
  | 98 => ⟨S32x256x512, .f32⟩
  | 99 => ⟨S1x512, .f32⟩
  | 100 => ⟨S512, .f32⟩
  | 101 => ⟨S1x1x512, .f32⟩
  | 102 => ⟨S32x256x512, .f32⟩
  | 103 => ⟨S32x256x512, .f32⟩
  | 104 => ⟨S32x256x512, .f32⟩
  | 105 => ⟨S32x256x512, .f32⟩
  | 106 => ⟨S1x512, .f32⟩
  | 107 => ⟨S512, .f32⟩
  | 108 => ⟨S1x1x512, .f32⟩
  | 109 => ⟨S32x256x512, .f32⟩
  | 110 => ⟨S32x256x512, .f32⟩
  | 111 => ⟨S32x256x512, .f32⟩
  | 112 => ⟨S8192x512, .f32⟩
  | 113 => ⟨S2048x512, .f32⟩
  | 114 => ⟨S2x1024x512, .f32⟩
  | 115 => ⟨S_, .i32⟩
  | 116 => ⟨S_, .f32⟩
  | 117 => ⟨S2x1054x512, .f32⟩
  | 118 => ⟨S2x1024x512, .f32⟩
  | 119 => ⟨S1x512, .f32⟩
  | 120 => ⟨S512, .f32⟩
  | 121 => ⟨S1x1x512, .f32⟩
  | 122 => ⟨S2x1024x512, .f32⟩
  | 123 => ⟨S2x1024x512, .f32⟩
  | 124 => ⟨S_, .f32⟩
  | 125 => ⟨S2x1024x512, .f32⟩
  | 126 => ⟨S2x1024x512, .f32⟩
  | 127 => ⟨S2x1024x512, .f32⟩
  | _ => ⟨S10240x4608, .f32⟩

abbrev hbmTy0_2 (i : Nat) : BufTy := match i % 128 with
  | 0 => ⟨S1x512, .f32⟩
  | 1 => ⟨S512, .f32⟩
  | 2 => ⟨S1x1x512, .f32⟩
  | 3 => ⟨S2x1024x512, .f32⟩
  | 4 => ⟨S2x1024x512, .f32⟩
  | 5 => ⟨S2x1024x512, .f32⟩
  | 6 => ⟨S2x1024x512, .f32⟩
  | 7 => ⟨S1x512, .f32⟩
  | 8 => ⟨S512, .f32⟩
  | 9 => ⟨S1x1x512, .f32⟩
  | 10 => ⟨S2x1024x512, .f32⟩
  | 11 => ⟨S2x1024x512, .f32⟩
  | 12 => ⟨S2x1024x512, .f32⟩
  | 13 => ⟨S2x1024x512, .f32⟩
  | 14 => ⟨S1x512, .f32⟩
  | 15 => ⟨S512, .f32⟩
  | 16 => ⟨S1x1x512, .f32⟩
  | 17 => ⟨S2x1024x512, .f32⟩
  | 18 => ⟨S2x1024x512, .f32⟩
  | 19 => ⟨S2x1024x512, .f32⟩
  | 20 => ⟨S2x1024x512, .f32⟩
  | 21 => ⟨S1x512, .f32⟩
  | 22 => ⟨S512, .f32⟩
  | 23 => ⟨S1x1x512, .f32⟩
  | 24 => ⟨S2x1024x512, .f32⟩
  | 25 => ⟨S2x1024x512, .f32⟩
  | 26 => ⟨S2x1024x512, .f32⟩
  | 27 => ⟨S2x1024x512, .f32⟩
  | 28 => ⟨S1x512, .f32⟩
  | 29 => ⟨S512, .f32⟩
  | 30 => ⟨S1x1x512, .f32⟩
  | 31 => ⟨S2x1024x512, .f32⟩
  | 32 => ⟨S2x1024x512, .f32⟩
  | 33 => ⟨S2x1024x512, .f32⟩
  | 34 => ⟨S2x1024x512, .f32⟩
  | 35 => ⟨S1x512, .f32⟩
  | 36 => ⟨S512, .f32⟩
  | 37 => ⟨S1x1x512, .f32⟩
  | 38 => ⟨S2x1024x512, .f32⟩
  | 39 => ⟨S2x1024x512, .f32⟩
  | 40 => ⟨S2x1024x512, .f32⟩
  | 41 => ⟨S2x1024x512, .f32⟩
  | 42 => ⟨S1x512, .f32⟩
  | 43 => ⟨S512, .f32⟩
  | 44 => ⟨S1x1x512, .f32⟩
  | 45 => ⟨S2x1024x512, .f32⟩
  | 46 => ⟨S2x1024x512, .f32⟩
  | 47 => ⟨S2x1024x512, .f32⟩
  | 48 => ⟨S2x1024x512, .f32⟩
  | 49 => ⟨S1x512, .f32⟩
  | 50 => ⟨S512, .f32⟩
  | 51 => ⟨S1x1x512, .f32⟩
  | 52 => ⟨S2x1024x512, .f32⟩
  | 53 => ⟨S2x1024x512, .f32⟩
  | 54 => ⟨S2x1024x512, .f32⟩
  | 55 => ⟨S2x1024x512, .f32⟩
  | 56 => ⟨S1x512, .f32⟩
  | 57 => ⟨S512, .f32⟩
  | 58 => ⟨S1x1x512, .f32⟩
  | 59 => ⟨S2x1024x512, .f32⟩
  | 60 => ⟨S2x1024x512, .f32⟩
  | 61 => ⟨S2x1024x512, .f32⟩
  | 62 => ⟨S2x1024x512, .f32⟩
  | 63 => ⟨S1x512, .f32⟩
  | 64 => ⟨S512, .f32⟩
  | 65 => ⟨S1x1x512, .f32⟩
  | 66 => ⟨S2x1024x512, .f32⟩
  | 67 => ⟨S2x1024x512, .f32⟩
  | 68 => ⟨S2x1024x512, .f32⟩
  | 69 => ⟨S2x1024x512, .f32⟩
  | 70 => ⟨S1x512, .f32⟩
  | 71 => ⟨S512, .f32⟩
  | 72 => ⟨S1x1x512, .f32⟩
  | 73 => ⟨S2x1024x512, .f32⟩
  | 74 => ⟨S2x1024x512, .f32⟩
  | 75 => ⟨S2x1024x512, .f32⟩
  | 76 => ⟨S2x1024x512, .f32⟩
  | 77 => ⟨S1x512, .f32⟩
  | 78 => ⟨S512, .f32⟩
  | 79 => ⟨S1x1x512, .f32⟩
  | 80 => ⟨S2x1024x512, .f32⟩
  | 81 => ⟨S2x1024x512, .f32⟩
  | 82 => ⟨S2x1024x512, .f32⟩
  | 83 => ⟨S2x1024x512, .f32⟩
  | 84 => ⟨S1x512, .f32⟩
  | 85 => ⟨S512, .f32⟩
  | 86 => ⟨S1x1x512, .f32⟩
  | 87 => ⟨S2x1024x512, .f32⟩
  | 88 => ⟨S2x1024x512, .f32⟩
  | 89 => ⟨S2x1024x512, .f32⟩
  | 90 => ⟨S2x1024x512, .f32⟩
  | 91 => ⟨S1x512, .f32⟩
  | 92 => ⟨S512, .f32⟩
  | 93 => ⟨S1x1x512, .f32⟩
  | 94 => ⟨S2x1024x512, .f32⟩
  | 95 => ⟨S2x1024x512, .f32⟩
  | 96 => ⟨S2x1024x512, .f32⟩
  | 97 => ⟨S2x1024x512, .f32⟩
  | 98 => ⟨S1x512, .f32⟩
  | 99 => ⟨S512, .f32⟩
  | 100 => ⟨S1x1x512, .f32⟩
  | 101 => ⟨S2x1024x512, .f32⟩
  | 102 => ⟨S2x1024x512, .f32⟩
  | 103 => ⟨S2x1024x512, .f32⟩
  | 104 => ⟨S2x1024x512, .f32⟩
  | 105 => ⟨S1x512, .f32⟩
  | 106 => ⟨S512, .f32⟩
  | 107 => ⟨S1x1x512, .f32⟩
  | 108 => ⟨S2x1024x512, .f32⟩
  | 109 => ⟨S2x1024x512, .f32⟩
  | 110 => ⟨S2x1024x512, .f32⟩
  | 111 => ⟨S2x1024x512, .f32⟩
  | 112 => ⟨S1x512, .f32⟩
  | 113 => ⟨S512, .f32⟩
  | 114 => ⟨S1x1x512, .f32⟩
  | 115 => ⟨S2x1024x512, .f32⟩
  | 116 => ⟨S2x1024x512, .f32⟩
  | 117 => ⟨S2x1024x512, .f32⟩
  | 118 => ⟨S2x1024x512, .f32⟩
  | 119 => ⟨S1x512, .f32⟩
  | 120 => ⟨S512, .f32⟩
  | 121 => ⟨S1x1x512, .f32⟩
  | 122 => ⟨S2x1024x512, .f32⟩
  | 123 => ⟨S2x1024x512, .f32⟩
  | 124 => ⟨S2x1024x512, .f32⟩
  | 125 => ⟨S2x1024x512, .f32⟩
  | 126 => ⟨S1x512, .f32⟩
  | 127 => ⟨S512, .f32⟩
  | _ => ⟨S10240x4608, .f32⟩

abbrev hbmTy0_3 (i : Nat) : BufTy := match i % 128 with
  | 0 => ⟨S1x1x512, .f32⟩
  | 1 => ⟨S2x1024x512, .f32⟩
  | 2 => ⟨S2x1024x512, .f32⟩
  | 3 => ⟨S2x1024x512, .f32⟩
  | 4 => ⟨S2x1024x512, .f32⟩
  | 5 => ⟨S1x512, .f32⟩
  | 6 => ⟨S512, .f32⟩
  | 7 => ⟨S1x1x512, .f32⟩
  | 8 => ⟨S2x1024x512, .f32⟩
  | 9 => ⟨S2x1024x512, .f32⟩
  | 10 => ⟨S2x1024x512, .f32⟩
  | 11 => ⟨S2x1024x512, .f32⟩
  | 12 => ⟨S1x512, .f32⟩
  | 13 => ⟨S512, .f32⟩
  | 14 => ⟨S1x1x512, .f32⟩
  | 15 => ⟨S2x1024x512, .f32⟩
  | 16 => ⟨S2x1024x512, .f32⟩
  | 17 => ⟨S2x1024x512, .f32⟩
  | 18 => ⟨S2x1024x512, .f32⟩
  | 19 => ⟨S1x512, .f32⟩
  | 20 => ⟨S512, .f32⟩
  | 21 => ⟨S1x1x512, .f32⟩
  | 22 => ⟨S2x1024x512, .f32⟩
  | 23 => ⟨S2x1024x512, .f32⟩
  | 24 => ⟨S2x1024x512, .f32⟩
  | 25 => ⟨S2x1024x512, .f32⟩
  | 26 => ⟨S1x512, .f32⟩
  | 27 => ⟨S512, .f32⟩
  | 28 => ⟨S1x1x512, .f32⟩
  | 29 => ⟨S2x1024x512, .f32⟩
  | 30 => ⟨S2x1024x512, .f32⟩
  | 31 => ⟨S2x1024x512, .f32⟩
  | 32 => ⟨S2x1024x512, .f32⟩
  | 33 => ⟨S1x512, .f32⟩
  | 34 => ⟨S512, .f32⟩
  | 35 => ⟨S1x1x512, .f32⟩
  | 36 => ⟨S2x1024x512, .f32⟩
  | 37 => ⟨S2x1024x512, .f32⟩
  | 38 => ⟨S2x1024x512, .f32⟩
  | 39 => ⟨S2x1024x512, .f32⟩
  | 40 => ⟨S1x512, .f32⟩
  | 41 => ⟨S512, .f32⟩
  | 42 => ⟨S1x1x512, .f32⟩
  | 43 => ⟨S2x1024x512, .f32⟩
  | 44 => ⟨S2x1024x512, .f32⟩
  | 45 => ⟨S2x1024x512, .f32⟩
  | 46 => ⟨S2x1024x512, .f32⟩
  | 47 => ⟨S1x512, .f32⟩
  | 48 => ⟨S512, .f32⟩
  | 49 => ⟨S1x1x512, .f32⟩
  | 50 => ⟨S2x1024x512, .f32⟩
  | 51 => ⟨S2x1024x512, .f32⟩
  | 52 => ⟨S2x1024x512, .f32⟩
  | 53 => ⟨S2x1024x512, .f32⟩
  | 54 => ⟨S1x512, .f32⟩
  | 55 => ⟨S512, .f32⟩
  | 56 => ⟨S1x1x512, .f32⟩
  | 57 => ⟨S2x1024x512, .f32⟩
  | 58 => ⟨S2x1024x512, .f32⟩
  | 59 => ⟨S2x1024x512, .f32⟩
  | 60 => ⟨S2x1024x512, .f32⟩
  | 61 => ⟨S1x512, .f32⟩
  | 62 => ⟨S512, .f32⟩
  | 63 => ⟨S1x1x512, .f32⟩
  | 64 => ⟨S2x1024x512, .f32⟩
  | 65 => ⟨S2x1024x512, .f32⟩
  | 66 => ⟨S2x1024x512, .f32⟩
  | 67 => ⟨S2x1024x512, .f32⟩
  | 68 => ⟨S1x512, .f32⟩
  | 69 => ⟨S512, .f32⟩
  | 70 => ⟨S1x1x512, .f32⟩
  | 71 => ⟨S2x1024x512, .f32⟩
  | 72 => ⟨S2x1024x512, .f32⟩
  | 73 => ⟨S2x1024x512, .f32⟩
  | 74 => ⟨S2x1024x512, .f32⟩
  | 75 => ⟨S1x512, .f32⟩
  | 76 => ⟨S512, .f32⟩
  | 77 => ⟨S1x1x512, .f32⟩
  | 78 => ⟨S2x1024x512, .f32⟩
  | 79 => ⟨S2x1024x512, .f32⟩
  | 80 => ⟨S2x1024x512, .f32⟩
  | 81 => ⟨S2048x512, .f32⟩
  | 82 => ⟨S10240x512, .f32⟩
  | 83 => ⟨S512, .f32⟩
  | 84 => ⟨S1x512, .f32⟩
  | 85 => ⟨S10240x512, .f32⟩
  | 86 => ⟨S10240x512, .f32⟩
  | 87 => ⟨S_, .f32⟩
  | 88 => ⟨S10240, .f32⟩
  | 89 => ⟨S10240x1, .f32⟩
  | 90 => ⟨S_, .f32⟩
  | 91 => ⟨S10240x1, .f32⟩
  | 92 => ⟨S10240x1, .f32⟩
  | 93 => ⟨S10240x512, .f32⟩
  | 94 => ⟨S10240x512, .f32⟩
  | 95 => ⟨S10240x512, .f32⟩
  | 96 => ⟨S_, .f32⟩
  | 97 => ⟨S10240, .f32⟩
  | 98 => ⟨S10240x1, .f32⟩
  | 99 => ⟨S_, .f32⟩
  | 100 => ⟨S10240x1, .f32⟩
  | 101 => ⟨S10240x1, .f32⟩
  | 102 => ⟨S_, .f32⟩
  | 103 => ⟨S10240x1, .f32⟩
  | 104 => ⟨S10240x1, .f32⟩
  | 105 => ⟨S10240x1, .f32⟩
  | 106 => ⟨S10240x512, .f32⟩
  | 107 => ⟨S10240x512, .f32⟩
  | 108 => ⟨S512, .f32⟩
  | 109 => ⟨S1x512, .f32⟩
  | 110 => ⟨S10240x512, .f32⟩
  | 111 => ⟨S10240x512, .f32⟩
  | 112 => ⟨S512, .f32⟩
  | 113 => ⟨S1x512, .f32⟩
  | 114 => ⟨S10240x512, .f32⟩
  | 115 => ⟨S10240x512, .f32⟩
  | 116 => ⟨S10240x512, .f32⟩
  | 117 => ⟨S10240x512, .f32⟩
  | 118 => ⟨S_, .f32⟩
  | 119 => ⟨S10240x512, .f32⟩
  | 120 => ⟨S10240x512, .f32⟩
  | 121 => ⟨S_, .f32⟩
  | 122 => ⟨S10240x512, .f32⟩
  | 123 => ⟨S10240x512, .f32⟩
  | 124 => ⟨S10240x512, .f32⟩
  | 125 => ⟨S10240x512, .bf16⟩
  | _ => ⟨S10240x4608, .f32⟩

abbrev hbmTy (i : Nat) : BufTy := match i / 128 with
  | 0 => hbmTy0_0 i
  | 1 => hbmTy0_1 i
  | 2 => hbmTy0_2 i
  | 3 => hbmTy0_3 i
  | _ => ⟨S10240x4608, .f32⟩

abbrev bufTy : (tb : Table) → Fin (tcTables nBuf tb) → BufTy
  | .hbm, ⟨i, _⟩ => hbmTy i
  | _, _ => ⟨S10240x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_c_2 : Ref sig .tc := ⟨.hbm, 243, rfl⟩
abbrev main_call1_v0 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_3 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_v283 : Ref sig .tc := ⟨.hbm, 296, rfl⟩
abbrev main_v284 : Ref sig .tc := ⟨.hbm, 297, rfl⟩
abbrev main_v285 : Ref sig .tc := ⟨.hbm, 298, rfl⟩
abbrev main_v286 : Ref sig .tc := ⟨.hbm, 299, rfl⟩
abbrev main_v287 : Ref sig .tc := ⟨.hbm, 300, rfl⟩
abbrev main_v288 : Ref sig .tc := ⟨.hbm, 301, rfl⟩
abbrev main_v289 : Ref sig .tc := ⟨.hbm, 302, rfl⟩
abbrev main_v290 : Ref sig .tc := ⟨.hbm, 303, rfl⟩
abbrev main_v291 : Ref sig .tc := ⟨.hbm, 304, rfl⟩
abbrev main_v292 : Ref sig .tc := ⟨.hbm, 305, rfl⟩
abbrev main_v293 : Ref sig .tc := ⟨.hbm, 306, rfl⟩
abbrev main_v294 : Ref sig .tc := ⟨.hbm, 307, rfl⟩
abbrev main_v295 : Ref sig .tc := ⟨.hbm, 308, rfl⟩
abbrev main_v296 : Ref sig .tc := ⟨.hbm, 309, rfl⟩
abbrev main_v297 : Ref sig .tc := ⟨.hbm, 310, rfl⟩
abbrev main_v298 : Ref sig .tc := ⟨.hbm, 311, rfl⟩
abbrev main_v299 : Ref sig .tc := ⟨.hbm, 312, rfl⟩
abbrev main_v300 : Ref sig .tc := ⟨.hbm, 313, rfl⟩
abbrev main_v301 : Ref sig .tc := ⟨.hbm, 314, rfl⟩
abbrev main_v302 : Ref sig .tc := ⟨.hbm, 315, rfl⟩
abbrev main_v303 : Ref sig .tc := ⟨.hbm, 316, rfl⟩
abbrev main_v304 : Ref sig .tc := ⟨.hbm, 317, rfl⟩
abbrev main_v305 : Ref sig .tc := ⟨.hbm, 318, rfl⟩
abbrev main_v306 : Ref sig .tc := ⟨.hbm, 319, rfl⟩
abbrev main_v307 : Ref sig .tc := ⟨.hbm, 320, rfl⟩
abbrev main_v308 : Ref sig .tc := ⟨.hbm, 321, rfl⟩
abbrev main_v309 : Ref sig .tc := ⟨.hbm, 322, rfl⟩
abbrev main_v310 : Ref sig .tc := ⟨.hbm, 323, rfl⟩
abbrev main_v311 : Ref sig .tc := ⟨.hbm, 324, rfl⟩
abbrev main_v312 : Ref sig .tc := ⟨.hbm, 325, rfl⟩
abbrev main_v313 : Ref sig .tc := ⟨.hbm, 326, rfl⟩
abbrev main_v314 : Ref sig .tc := ⟨.hbm, 327, rfl⟩
abbrev main_v315 : Ref sig .tc := ⟨.hbm, 328, rfl⟩
abbrev main_v316 : Ref sig .tc := ⟨.hbm, 329, rfl⟩
abbrev main_v317 : Ref sig .tc := ⟨.hbm, 330, rfl⟩
abbrev main_v318 : Ref sig .tc := ⟨.hbm, 331, rfl⟩
abbrev main_v319 : Ref sig .tc := ⟨.hbm, 332, rfl⟩
abbrev main_v320 : Ref sig .tc := ⟨.hbm, 333, rfl⟩
abbrev main_v321 : Ref sig .tc := ⟨.hbm, 334, rfl⟩
abbrev main_v322 : Ref sig .tc := ⟨.hbm, 335, rfl⟩
abbrev main_v323 : Ref sig .tc := ⟨.hbm, 336, rfl⟩
abbrev main_v324 : Ref sig .tc := ⟨.hbm, 337, rfl⟩
abbrev main_v325 : Ref sig .tc := ⟨.hbm, 338, rfl⟩
abbrev main_v326 : Ref sig .tc := ⟨.hbm, 339, rfl⟩
abbrev main_v327 : Ref sig .tc := ⟨.hbm, 340, rfl⟩
abbrev main_v328 : Ref sig .tc := ⟨.hbm, 341, rfl⟩
abbrev main_v329 : Ref sig .tc := ⟨.hbm, 342, rfl⟩
abbrev main_v330 : Ref sig .tc := ⟨.hbm, 343, rfl⟩
abbrev main_v331 : Ref sig .tc := ⟨.hbm, 344, rfl⟩
abbrev main_v332 : Ref sig .tc := ⟨.hbm, 345, rfl⟩
abbrev main_v333 : Ref sig .tc := ⟨.hbm, 346, rfl⟩
abbrev main_v334 : Ref sig .tc := ⟨.hbm, 347, rfl⟩
abbrev main_v335 : Ref sig .tc := ⟨.hbm, 348, rfl⟩
abbrev main_v336 : Ref sig .tc := ⟨.hbm, 349, rfl⟩
abbrev main_v337 : Ref sig .tc := ⟨.hbm, 350, rfl⟩
abbrev main_v338 : Ref sig .tc := ⟨.hbm, 351, rfl⟩
abbrev main_v339 : Ref sig .tc := ⟨.hbm, 352, rfl⟩
abbrev main_v340 : Ref sig .tc := ⟨.hbm, 353, rfl⟩
abbrev main_v341 : Ref sig .tc := ⟨.hbm, 354, rfl⟩
abbrev main_v342 : Ref sig .tc := ⟨.hbm, 355, rfl⟩
abbrev main_v343 : Ref sig .tc := ⟨.hbm, 356, rfl⟩
abbrev main_v344 : Ref sig .tc := ⟨.hbm, 357, rfl⟩
abbrev main_v345 : Ref sig .tc := ⟨.hbm, 358, rfl⟩
abbrev main_v346 : Ref sig .tc := ⟨.hbm, 359, rfl⟩
abbrev main_v347 : Ref sig .tc := ⟨.hbm, 360, rfl⟩
abbrev main_v348 : Ref sig .tc := ⟨.hbm, 361, rfl⟩
abbrev main_v349 : Ref sig .tc := ⟨.hbm, 362, rfl⟩
abbrev main_v350 : Ref sig .tc := ⟨.hbm, 363, rfl⟩
abbrev main_v351 : Ref sig .tc := ⟨.hbm, 364, rfl⟩
abbrev main_v352 : Ref sig .tc := ⟨.hbm, 365, rfl⟩
abbrev main_v353 : Ref sig .tc := ⟨.hbm, 366, rfl⟩
abbrev main_v354 : Ref sig .tc := ⟨.hbm, 367, rfl⟩
abbrev main_v355 : Ref sig .tc := ⟨.hbm, 368, rfl⟩
abbrev main_v356 : Ref sig .tc := ⟨.hbm, 369, rfl⟩
abbrev main_v357 : Ref sig .tc := ⟨.hbm, 370, rfl⟩
abbrev main_v358 : Ref sig .tc := ⟨.hbm, 371, rfl⟩
abbrev main_v359 : Ref sig .tc := ⟨.hbm, 372, rfl⟩
abbrev main_v360 : Ref sig .tc := ⟨.hbm, 373, rfl⟩
abbrev main_v361 : Ref sig .tc := ⟨.hbm, 374, rfl⟩
abbrev main_v362 : Ref sig .tc := ⟨.hbm, 375, rfl⟩
abbrev main_v363 : Ref sig .tc := ⟨.hbm, 376, rfl⟩
abbrev main_v364 : Ref sig .tc := ⟨.hbm, 377, rfl⟩
abbrev main_v365 : Ref sig .tc := ⟨.hbm, 378, rfl⟩
abbrev main_v366 : Ref sig .tc := ⟨.hbm, 379, rfl⟩
abbrev main_v367 : Ref sig .tc := ⟨.hbm, 380, rfl⟩
abbrev main_v368 : Ref sig .tc := ⟨.hbm, 381, rfl⟩
abbrev main_v369 : Ref sig .tc := ⟨.hbm, 382, rfl⟩
abbrev main_v370 : Ref sig .tc := ⟨.hbm, 383, rfl⟩
abbrev main_v371 : Ref sig .tc := ⟨.hbm, 384, rfl⟩
abbrev main_v372 : Ref sig .tc := ⟨.hbm, 385, rfl⟩
abbrev main_v373 : Ref sig .tc := ⟨.hbm, 386, rfl⟩
abbrev main_v374 : Ref sig .tc := ⟨.hbm, 387, rfl⟩
abbrev main_v375 : Ref sig .tc := ⟨.hbm, 388, rfl⟩
abbrev main_v376 : Ref sig .tc := ⟨.hbm, 389, rfl⟩
abbrev main_v377 : Ref sig .tc := ⟨.hbm, 390, rfl⟩
abbrev main_v378 : Ref sig .tc := ⟨.hbm, 391, rfl⟩
abbrev main_v379 : Ref sig .tc := ⟨.hbm, 392, rfl⟩
abbrev main_v380 : Ref sig .tc := ⟨.hbm, 393, rfl⟩
abbrev main_v381 : Ref sig .tc := ⟨.hbm, 394, rfl⟩
abbrev main_v382 : Ref sig .tc := ⟨.hbm, 395, rfl⟩
abbrev main_v383 : Ref sig .tc := ⟨.hbm, 396, rfl⟩
abbrev main_v384 : Ref sig .tc := ⟨.hbm, 397, rfl⟩
abbrev main_v385 : Ref sig .tc := ⟨.hbm, 398, rfl⟩
abbrev main_v386 : Ref sig .tc := ⟨.hbm, 399, rfl⟩
abbrev main_v387 : Ref sig .tc := ⟨.hbm, 400, rfl⟩
abbrev main_v388 : Ref sig .tc := ⟨.hbm, 401, rfl⟩
abbrev main_v389 : Ref sig .tc := ⟨.hbm, 402, rfl⟩
abbrev main_v390 : Ref sig .tc := ⟨.hbm, 403, rfl⟩
abbrev main_v391 : Ref sig .tc := ⟨.hbm, 404, rfl⟩
abbrev main_v392 : Ref sig .tc := ⟨.hbm, 405, rfl⟩
abbrev main_v393 : Ref sig .tc := ⟨.hbm, 406, rfl⟩
abbrev main_v394 : Ref sig .tc := ⟨.hbm, 407, rfl⟩
abbrev main_v395 : Ref sig .tc := ⟨.hbm, 408, rfl⟩
abbrev main_v396 : Ref sig .tc := ⟨.hbm, 409, rfl⟩
abbrev main_v397 : Ref sig .tc := ⟨.hbm, 410, rfl⟩
abbrev main_v398 : Ref sig .tc := ⟨.hbm, 411, rfl⟩
abbrev main_v399 : Ref sig .tc := ⟨.hbm, 412, rfl⟩
abbrev main_v400 : Ref sig .tc := ⟨.hbm, 413, rfl⟩
abbrev main_v401 : Ref sig .tc := ⟨.hbm, 414, rfl⟩
abbrev main_v402 : Ref sig .tc := ⟨.hbm, 415, rfl⟩
abbrev main_v403 : Ref sig .tc := ⟨.hbm, 416, rfl⟩
abbrev main_v404 : Ref sig .tc := ⟨.hbm, 417, rfl⟩
abbrev main_v405 : Ref sig .tc := ⟨.hbm, 418, rfl⟩
abbrev main_v406 : Ref sig .tc := ⟨.hbm, 419, rfl⟩
abbrev main_v407 : Ref sig .tc := ⟨.hbm, 420, rfl⟩
abbrev main_v408 : Ref sig .tc := ⟨.hbm, 421, rfl⟩
abbrev main_v409 : Ref sig .tc := ⟨.hbm, 422, rfl⟩
abbrev main_v410 : Ref sig .tc := ⟨.hbm, 423, rfl⟩
abbrev main_v411 : Ref sig .tc := ⟨.hbm, 424, rfl⟩
abbrev main_v412 : Ref sig .tc := ⟨.hbm, 425, rfl⟩
abbrev main_v413 : Ref sig .tc := ⟨.hbm, 426, rfl⟩
abbrev main_v414 : Ref sig .tc := ⟨.hbm, 427, rfl⟩
abbrev main_v415 : Ref sig .tc := ⟨.hbm, 428, rfl⟩
abbrev main_v416 : Ref sig .tc := ⟨.hbm, 429, rfl⟩
abbrev main_v417 : Ref sig .tc := ⟨.hbm, 430, rfl⟩
abbrev main_v418 : Ref sig .tc := ⟨.hbm, 431, rfl⟩
abbrev main_v419 : Ref sig .tc := ⟨.hbm, 432, rfl⟩
abbrev main_v420 : Ref sig .tc := ⟨.hbm, 433, rfl⟩
abbrev main_v421 : Ref sig .tc := ⟨.hbm, 434, rfl⟩
abbrev main_v422 : Ref sig .tc := ⟨.hbm, 435, rfl⟩
abbrev main_v423 : Ref sig .tc := ⟨.hbm, 436, rfl⟩
abbrev main_v424 : Ref sig .tc := ⟨.hbm, 437, rfl⟩
abbrev main_v425 : Ref sig .tc := ⟨.hbm, 438, rfl⟩
abbrev main_v426 : Ref sig .tc := ⟨.hbm, 439, rfl⟩
abbrev main_v427 : Ref sig .tc := ⟨.hbm, 440, rfl⟩
abbrev main_v428 : Ref sig .tc := ⟨.hbm, 441, rfl⟩
abbrev main_v429 : Ref sig .tc := ⟨.hbm, 442, rfl⟩
abbrev main_v430 : Ref sig .tc := ⟨.hbm, 443, rfl⟩
abbrev main_v431 : Ref sig .tc := ⟨.hbm, 444, rfl⟩
abbrev main_v432 : Ref sig .tc := ⟨.hbm, 445, rfl⟩
abbrev main_v433 : Ref sig .tc := ⟨.hbm, 446, rfl⟩
abbrev main_v434 : Ref sig .tc := ⟨.hbm, 447, rfl⟩
abbrev main_v435 : Ref sig .tc := ⟨.hbm, 448, rfl⟩
abbrev main_v436 : Ref sig .tc := ⟨.hbm, 449, rfl⟩
abbrev main_v437 : Ref sig .tc := ⟨.hbm, 450, rfl⟩
abbrev main_v438 : Ref sig .tc := ⟨.hbm, 451, rfl⟩
abbrev main_v439 : Ref sig .tc := ⟨.hbm, 452, rfl⟩
abbrev main_v440 : Ref sig .tc := ⟨.hbm, 453, rfl⟩
abbrev main_v441 : Ref sig .tc := ⟨.hbm, 454, rfl⟩
abbrev main_v442 : Ref sig .tc := ⟨.hbm, 455, rfl⟩
abbrev main_v443 : Ref sig .tc := ⟨.hbm, 456, rfl⟩
abbrev main_v444 : Ref sig .tc := ⟨.hbm, 457, rfl⟩
abbrev main_v445 : Ref sig .tc := ⟨.hbm, 458, rfl⟩
abbrev main_v446 : Ref sig .tc := ⟨.hbm, 459, rfl⟩
abbrev main_v447 : Ref sig .tc := ⟨.hbm, 460, rfl⟩
abbrev main_v448 : Ref sig .tc := ⟨.hbm, 461, rfl⟩
abbrev main_v449 : Ref sig .tc := ⟨.hbm, 462, rfl⟩
abbrev main_v450 : Ref sig .tc := ⟨.hbm, 463, rfl⟩
abbrev main_v451 : Ref sig .tc := ⟨.hbm, 464, rfl⟩
abbrev main_v452 : Ref sig .tc := ⟨.hbm, 465, rfl⟩
abbrev main_v453 : Ref sig .tc := ⟨.hbm, 466, rfl⟩
abbrev main_v454 : Ref sig .tc := ⟨.hbm, 467, rfl⟩
abbrev main_v455 : Ref sig .tc := ⟨.hbm, 468, rfl⟩
abbrev main_v456 : Ref sig .tc := ⟨.hbm, 469, rfl⟩
abbrev main_v457 : Ref sig .tc := ⟨.hbm, 470, rfl⟩
abbrev main_cst_4 : Ref sig .tc := ⟨.hbm, 471, rfl⟩
abbrev main_v458 : Ref sig .tc := ⟨.hbm, 472, rfl⟩
abbrev main_v459 : Ref sig .tc := ⟨.hbm, 473, rfl⟩
abbrev main_cst_5 : Ref sig .tc := ⟨.hbm, 474, rfl⟩
abbrev main_v460 : Ref sig .tc := ⟨.hbm, 475, rfl⟩
abbrev main_v461 : Ref sig .tc := ⟨.hbm, 476, rfl⟩
abbrev main_v462 : Ref sig .tc := ⟨.hbm, 477, rfl⟩
abbrev main_v463 : Ref sig .tc := ⟨.hbm, 478, rfl⟩
abbrev main_v464 : Ref sig .tc := ⟨.hbm, 479, rfl⟩
abbrev main_cst_6 : Ref sig .tc := ⟨.hbm, 480, rfl⟩
abbrev main_v465 : Ref sig .tc := ⟨.hbm, 481, rfl⟩
abbrev main_v466 : Ref sig .tc := ⟨.hbm, 482, rfl⟩
abbrev main_cst_7 : Ref sig .tc := ⟨.hbm, 483, rfl⟩
abbrev main_v467 : Ref sig .tc := ⟨.hbm, 484, rfl⟩
abbrev main_v468 : Ref sig .tc := ⟨.hbm, 485, rfl⟩
abbrev main_cst_8 : Ref sig .tc := ⟨.hbm, 486, rfl⟩
abbrev main_v469 : Ref sig .tc := ⟨.hbm, 487, rfl⟩
abbrev main_v470 : Ref sig .tc := ⟨.hbm, 488, rfl⟩
abbrev main_v471 : Ref sig .tc := ⟨.hbm, 489, rfl⟩
abbrev main_v472 : Ref sig .tc := ⟨.hbm, 490, rfl⟩
abbrev main_v473 : Ref sig .tc := ⟨.hbm, 491, rfl⟩
abbrev main_v474 : Ref sig .tc := ⟨.hbm, 492, rfl⟩
abbrev main_v475 : Ref sig .tc := ⟨.hbm, 493, rfl⟩
abbrev main_v476 : Ref sig .tc := ⟨.hbm, 494, rfl⟩
abbrev main_v477 : Ref sig .tc := ⟨.hbm, 495, rfl⟩
abbrev main_v478 : Ref sig .tc := ⟨.hbm, 496, rfl⟩
abbrev main_v479 : Ref sig .tc := ⟨.hbm, 497, rfl⟩
abbrev main_v480 : Ref sig .tc := ⟨.hbm, 498, rfl⟩
abbrev main_v481 : Ref sig .tc := ⟨.hbm, 499, rfl⟩
abbrev main_call2_v0 : Ref sig .tc := ⟨.hbm, 500, rfl⟩
abbrev main_call2_v1 : Ref sig .tc := ⟨.hbm, 501, rfl⟩
abbrev main_call2_cst : Ref sig .tc := ⟨.hbm, 502, rfl⟩
abbrev main_call2_v2 : Ref sig .tc := ⟨.hbm, 503, rfl⟩
abbrev main_call2_v3 : Ref sig .tc := ⟨.hbm, 504, rfl⟩
abbrev main_call2_cst_0 : Ref sig .tc := ⟨.hbm, 505, rfl⟩
abbrev main_call2_v4 : Ref sig .tc := ⟨.hbm, 506, rfl⟩
abbrev main_call2_v5 : Ref sig .tc := ⟨.hbm, 507, rfl⟩
abbrev main_v482 : Ref sig .tc := ⟨.hbm, 508, rfl⟩
abbrev main_v483 : Ref sig .tc := ⟨.hbm, 509, rfl⟩

abbrev nD : Nat := 1
abbrev τ : Topo := Topo.v7x

variable {F : FTy → Type} [FloatOps F]
-- ==== Proof.OutModel.lean ====
/-
  The layer's second half for ONE token, over the extended reals: the layer norm without weights, the residual
  stream after the mixers (DeepNorm's post-norm), and the modulated norm that the experts read.
-/
module

public import Idealize.ShloMosaic.Lib.Pointwise

@[expose] public section

noncomputable section

namespace Cert.OutModel

open Idealize.ShloMosaic

/-- The mean of a row of 1024 numbers. -/
def mean (f : Fin 1024 → EReal) : EReal := Ideal.div (∑ k, f k) (Ideal.ofBits .f32 0x44800000#32)

/-- The layer norm of a row, without weights. -/
def ln (f : Fin 1024 → EReal) (j : Fin 1024) : EReal :=
  (f j - mean f) * Ideal.rsqrt (mean (fun k => (f k - mean f) * (f k - mean f)) + Ideal.ofBits .f32 0x3727C5AC#32)

/-- The residual stream: the norm of `ALPHA · x + gate · mix`, with the post-norm's weights. -/
def x1 (x g mix pg pb : Fin 1024 → EReal) (j : Fin 1024) : EReal :=
  ln (fun k => Ideal.ofBits .f32 0x3FB504F3#32 * x k + g k * mix k) j * pg j + pb j

/-- What the experts read: the norm of the residual stream, scaled and shifted. -/
def u2 (r sc sh : Fin 1024 → EReal) (j : Fin 1024) : EReal :=
  ln r j * (Ideal.ofBits .f32 0x3F800000#32 + sc j) + sh j

/-- The row of the modulation table that token `T` takes: row 0 for the prompt, one row per sample sequence after it. -/
def modRow (T : Nat) : Nat := if T < 8192 then 0 else if T < 9216 then 1 else 2

theorem modRow_lt (T : Nat) : modRow T < 8 := by unfold modRow; split_ifs <;> omega

/-- A sum over the 1536 joined features is the three sums over the mixers' own 512. -/
theorem sum_joined (f : Fin 1536 → EReal) :
    ∑ k, f k = (∑ k : Fin 512, f ⟨k.val, by omega⟩ + ∑ k : Fin 512, f ⟨512 + k.val, by omega⟩)
      + ∑ k : Fin 512, f ⟨1024 + k.val, by omega⟩ := by
  have h1 := Fin.sum_univ_add (a := 1024) (b := 512) f
  have h2 := Fin.sum_univ_add (a := 512) (b := 512) (fun k : Fin 1024 => f (Fin.castAdd 512 k))
  rw [h1, h2]
  rfl

end Cert.OutModel

end
-- ==== Proof.OutBody.lean ====
/-
  What one grid point of the output projection leaves in its two float blocks, as the printed body's own
  arithmetic of the blocks it read: each covering store read back, each load read as the rows it takes.
-/
module

public import proofs.«01_k».proof.Proof.Gen.OutprojIdeal.Value
public import proofs.«01_k».proof.Proof.OutModel
public import Idealize.ShloMosaic.Lib.Tactic

@[expose] public section

noncomputable section

namespace Cert.OutprojIdeal.Body

open Cert.OutprojIdeal Cert.OutprojIdeal.Gen Idealize.ShloMosaic Idealize.ShloMosaic.TcCoe Idealize.SL.Sem

theorem zz : (![0, 0] : Fin 2 → Nat) = fun _ => 0 := funext fun a => by fin_cases a <;> rfl

/-- The three products of the mixers' outputs with their rows of the weights, summed. -/
def mix (x0 x1 x2 : Vec Ideal S512x512 .bf16) (x5 : Vec Ideal S1536x1024 .bf16) (r : Fin 512) (j : Fin 1024) : EReal :=
  (∑ k : Fin 512, x0 (ix2 r k) * x5 (ix2 ⟨k.val, by omega⟩ j) + ∑ k : Fin 512, x1 (ix2 r k) * x5 (ix2 ⟨512 + k.val, by omega⟩ j))
    + ∑ k : Fin 512, x2 (ix2 r k) * x5 (ix2 ⟨1024 + k.val, by omega⟩ j)

/-- A row of the modulation table, 1024 columns from `o`, at grid point `t`. -/
def modAt (x4 : Vec Ideal S8x6144 .f32) (t : Fin cfg0.N) (o : Nat) (ho : o + 1024 ≤ 6144) (j : Fin 1024) : EReal :=
  x4 (ix2 ⟨OutModel.modRow (512 * t.val), OutModel.modRow_lt _⟩ ⟨o + j.val, by omega⟩)

theorem off1 : ∀ t : Fin cfg0.N, k0_off1 (grid0.coords t) = ![OutModel.modRow (512 * t.val), 2048] :=
  (by decide +kernel : ∀ t : Fin grid0.N, k0_off1 (grid0.coords t) = ![OutModel.modRow (512 * t.val), 2048])
theorem off2 : ∀ t : Fin cfg0.N, k0_off2 (grid0.coords t) = ![OutModel.modRow (512 * t.val), 3072] :=
  (by decide +kernel : ∀ t : Fin grid0.N, k0_off2 (grid0.coords t) = ![OutModel.modRow (512 * t.val), 3072])
theorem off3 : ∀ t : Fin cfg0.N, k0_off3 (grid0.coords t) = ![OutModel.modRow (512 * t.val), 4096] :=
  (by decide +kernel : ∀ t : Fin grid0.N, k0_off3 (grid0.coords t) = ![OutModel.modRow (512 * t.val), 4096])

/-- A load of one modulation row is that row. -/
theorem ld_mod (x4 : Vec Ideal S8x6144 .f32) (t : Fin cfg0.N) (off : Fin 2 → Nat) (o : Nat) (ho : o + 1024 ≤ 6144)
    (h : off = ![OutModel.modRow (512 * t.val), o]) (inb : ∀ a, off a + S1x1024.size a ≤ S8x6144.size a) (j : Fin 1024) :
    View.ld x4 (Rect.unit (s := S8x6144) off S1x1024.size inb) (ix2 0 j) = modAt x4 t o ho j := by
  subst h
  refine congrArg x4 (funext fun a => Fin.ext ?_)
  match a with
  | ⟨0, _⟩ => show OutModel.modRow (512 * t.val) + 1 * 0 = _; rfl
  | ⟨1, _⟩ => show o + 1 * j.val = o + j.val; omega

/-- A load of 512 rows of the weights from row `o`. -/
theorem ld_w (x5 : Vec Ideal S1536x1024 .bf16) (o : Nat) (ho : o + 512 ≤ 1536)
    (inb : ∀ a, (![o, 0] : Fin 2 → Nat) a + S512x1024.size a ≤ S1536x1024.size a) (k : Fin 512) (j : Fin 1024) :
    View.ld x5 (Rect.unit (s := S1536x1024) ![o, 0] S512x1024.size inb) (ix2 k j) = x5 (ix2 ⟨o + k.val, by omega⟩ j) := by
  refine congrArg x5 (funext fun a => Fin.ext ?_)
  match a with
  | ⟨0, _⟩ => show o + 1 * k.val = o + k.val; omega
  | ⟨1, _⟩ => show 0 + 1 * j.val = j.val; omega

/-- The stored residual stream, from the values the body read. -/
theorem pay4_apply (g : Vec Ideal S1x1024 .f32) (x0 x1 x2 : Vec Ideal S512x512 .bf16) (w0 w1 w2 : Vec Ideal S512x1024 .bf16)
    (x3 : Vec Ideal S512x1024 .f32) (x6 x7 : Vec Ideal S1x1024 .f32) (r : Fin 512) (j : Fin 1024) :
    k0_pay4 g (k0_pay2 x0 w0) (k0_pay3 x1 w1) x2 w2 x3 x6 x7 (ix2 r j)
      = OutModel.x1 (fun k => x3 (ix2 r k)) (fun k => g (ix2 0 k))
          (fun j => (∑ k : Fin 512, x0 (ix2 r k) * w0 (ix2 k j) + ∑ k : Fin 512, x1 (ix2 r k) * w1 (ix2 k j))
            + ∑ k : Fin 512, x2 (ix2 r k) * w2 (ix2 k j))
          (fun k => x6 (ix2 0 k)) (fun k => x7 (ix2 0 k)) j := by
  pointwise [k0_pay4, k0_pay2, k0_pay3, OutModel.x1, OutModel.ln, OutModel.mean]

/-- The mean that the second norm takes of the residual stream. -/
theorem pay5_apply (g : Vec Ideal S1x1024 .f32) (y0 y1 : FVec Ideal S512x1024 .f32) (x2 : Vec Ideal S512x512 .bf16) (w2 : Vec Ideal S512x1024 .bf16)
    (x3 : Vec Ideal S512x1024 .f32) (x6 x7 : Vec Ideal S1x1024 .f32) (r : Fin 512) :
    k0_pay5 g y0 y1 x2 w2 x3 x6 x7 (ix2 r 0) = OutModel.mean (fun k => k0_pay4 g y0 y1 x2 w2 x3 x6 x7 (ix2 r k)) := by
  unfold k0_pay5
  generalize k0_pay4 g y0 y1 x2 w2 x3 x6 x7 = y
  pointwise [OutModel.mean]

/-- The stored modulated norm. -/
theorem pay6_apply (sh sc : Vec Ideal S1x1024 .f32) (y : FVec Ideal S512x1024 .f32) (mu : FVec Ideal S512x1 .f32) (r : Fin 512)
    (hm : mu (ix2 r 0) = OutModel.mean (fun k => y (ix2 r k))) (j : Fin 1024) :
    k0_pay6 sh sc y mu (ix2 r j) = OutModel.u2 (fun k => y (ix2 r k)) (fun k => sc (ix2 0 k)) (fun k => sh (ix2 0 k)) j := by
  unfold OutModel.u2 OutModel.ln
  rw [← hm]
  pointwise [k0_pay6, OutModel.mean]

/-- What the body leaves in the residual block. -/
theorem x1_block (c : Dev nD) (t : Fin cfg0.N) (x0 x1 x2 : Vec Ideal S512x512 .bf16) (x3 : Vec Ideal S512x1024 .f32) (x4 : Vec Ideal S8x6144 .f32)
    (x5 : Vec Ideal S1536x1024 .bf16) (x6 x7 : Vec Ideal S1x1024 .f32) (x8 : Vec Ideal S16x1024 .f32) (x9 : Vec Ideal S16x1 .f32) (r : Fin 512) (j : Fin 1024) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) x0 x1 x2 x3 x4 x5 x6 x7 x8 x9 (ix2 r j)
      = OutModel.x1 (fun k => x3 (ix2 r k)) (modAt x4 t 2048 (by omega)) (mix x0 x1 x2 x5 r) (fun k => x6 (ix2 0 k)) (fun k => x7 (ix2 0 k)) j := by
  unfold out0_A_10
  rw [View.read_writes_eq_canon _ _ _ (cover0_A_10 c _ _ _ _ _ _ _ _ _ _ _ _ _ _ _ _ _ _ _ _ _ _ _ _ _ _ _ _ _ _ _ _ _ _ _ _ _ )]
  unfold kernelRun0_A
  dsimp only
  sl_unfold_words
  rw [View.canon_unit_zero zz]
  simp only [View.readAt_eq_ld, Memref.IsWhole.read_unread, View.ld_unit_zero (S := S512x512) zz,
    View.ld_unit_zero (S := S512x1024) zz, View.ld_unit_zero (S := S1x1024) zz, View.ld_unit_zero (S := S16x1024) zz,
    View.ld_unit_zero (S := S16x1) zz, shapeCast_self]
  refine (pay4_apply _ _ _ _ _ _ _ _ _ _ r j).trans ?_
  congr 1
  · funext k
    exact ld_mod x4 t (k0_off1 (grid0.coords t)) 2048 (by omega) (off1 t) (k0_off1_inb _) k
  · funext j
    simp only [ld_w x5 512 (by omega), ld_w x5 1024 (by omega), ld_w x5 0 (by omega), Nat.zero_add, mix]

/-- What the body leaves in the block that the experts read. -/
theorem u2_block (c : Dev nD) (t : Fin cfg0.N) (x0 x1 x2 : Vec Ideal S512x512 .bf16) (x3 : Vec Ideal S512x1024 .f32) (x4 : Vec Ideal S8x6144 .f32)
    (x5 : Vec Ideal S1536x1024 .bf16) (x6 x7 : Vec Ideal S1x1024 .f32) (x8 : Vec Ideal S16x1024 .f32) (x9 : Vec Ideal S16x1 .f32) (r : Fin 512) (j : Fin 1024) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) x0 x1 x2 x3 x4 x5 x6 x7 x8 x9 (ix2 r j)
      = OutModel.u2 (OutModel.x1 (fun k => x3 (ix2 r k)) (modAt x4 t 2048 (by omega)) (mix x0 x1 x2 x5 r) (fun k => x6 (ix2 0 k)) (fun k => x7 (ix2 0 k)))
          (modAt x4 t 4096 (by omega)) (modAt x4 t 3072 (by omega)) j := by
  unfold out0_A_11
  rw [View.read_writes_eq_canon _ _ _ (cover0_A_11 c _ _ _ _ _ _ _ _ _ _ _ _ _ _ _ _ _ _ _ _ _ _ _ _ _ _ _ _ _ _ _ _ _ _ _ _ _ )]
  unfold kernelRun0_A
  dsimp only
  sl_unfold_words
  rw [View.canon_unit_zero zz]
  simp only [View.readAt_eq_ld, Memref.IsWhole.read_unread, View.ld_unit_zero (S := S512x512) zz,
    View.ld_unit_zero (S := S512x1024) zz, View.ld_unit_zero (S := S1x1024) zz, View.ld_unit_zero (S := S16x1024) zz,
    View.ld_unit_zero (S := S16x1) zz, shapeCast_self]
  refine (pay6_apply _ _ _ _ r (pay5_apply _ _ _ _ _ _ _ _ r) j).trans ?_
  congr 1
  · funext j
    refine (pay4_apply _ _ _ _ _ _ _ _ _ _ r j).trans ?_
    congr 1
    · funext k
      exact ld_mod x4 t (k0_off1 (grid0.coords t)) 2048 (by omega) (off1 t) (k0_off1_inb _) k
    · funext j
      simp only [ld_w x5 512 (by omega), ld_w x5 1024 (by omega), ld_w x5 0 (by omega), Nat.zero_add, mix]
  · funext k
    exact ld_mod x4 t (k0_off3 (grid0.coords t)) 4096 (by omega) (off3 t) (k0_off3_inb _) k
  · funext k
    exact ld_mod x4 t (k0_off2 (grid0.coords t)) 3072 (by omega) (off2 t) (k0_off2_inb _) k

end Cert.OutprojIdeal.Body

end
-- ==== Proof.OutRef.lean ====
/-
  The plain reference, read at one token and one feature: the same row functions that the kernel's blocks are.
-/
module

public import proofs.«01_k».proof.Proof.OutModel
public import proofs.«01_k».proof.Proof.Gen.OutprojRefIdeal.Read

@[expose] public section

noncomputable section

namespace Cert.OutprojRefIdeal.At

open Cert.OutprojRefIdeal Cert.OutprojRefIdeal.Gen Cert.OutprojRefIdeal.Read Idealize.ShloMosaic Idealize.ShloMosaic.StableHlo

/-- Token `T`'s row of the modulation table, 1024 columns from `o`. -/
def modAt (x4 : Vec Ideal S8x6144 .f32) (T : Fin 10240) (o : Nat) (ho : o + 1024 ≤ 6144) (j : Fin 1024) : EReal :=
  x4 (ix2 ⟨OutModel.modRow T.val, OutModel.modRow_lt _⟩ ⟨o + j.val, by omega⟩)

/-- Three tables joined by rows, read at a row. -/
theorem join3 (y1 : Vec Ideal S8192x6144 .f32) (y3 y5 : Vec Ideal S1024x6144 .f32) (T : Fin 10240) (q : Fin 6144) :
    (concatenate S10240x6144 0 [⟨S8192x6144, y1⟩, ⟨S1024x6144, y3⟩, ⟨S1024x6144, y5⟩]
        concatenates_S8192x6144_S1024x6144_S1024x6144_S10240x6144_d0 : Vec Ideal S10240x6144 .f32) (ix2 T q)
      = if h : T.val < 8192 then y1 (ix2 ⟨T.val, h⟩ q)
        else if h' : T.val - 8192 < 1024 then y3 (ix2 ⟨T.val - 8192, h'⟩ q) else y5 (ix2 ⟨T.val - 8192 - 1024, by omega⟩ q) := by
  pointwise

/-- The rows joined for the 10240 tokens: each token's row of the table. -/
theorem v6_apply (x4 : Vec Ideal S8x6144 .f32) (T : Fin 10240) (q : Fin 6144) :
    val_main_v6 (F := Ideal) x4 (ix2 T q) = x4 (ix2 ⟨OutModel.modRow T.val, OutModel.modRow_lt _⟩ q) := by
  have h1 : ∀ (i : Fin 8192), val_main_v1 (F := Ideal) x4 (ix2 i q) = x4 (ix2 0 q) := fun i => by
    rw [val_main_v1_apply, val_main_v0_apply]
    exact congrArg x4 (funext fun a => match a with | ⟨0, _⟩ => rfl | ⟨1, _⟩ => rfl)
  have h3 : ∀ (i : Fin 1024), val_main_v3 (F := Ideal) x4 (ix2 i q) = x4 (ix2 1 q) := fun i => by
    rw [val_main_v3_apply, val_main_v2_apply]
    exact congrArg x4 (funext fun a => match a with | ⟨0, _⟩ => rfl | ⟨1, _⟩ => rfl)
  have h5 : ∀ (i : Fin 1024), val_main_v5 (F := Ideal) x4 (ix2 i q) = x4 (ix2 2 q) := fun i => by
    rw [val_main_v5_apply, val_main_v4_apply]
    exact congrArg x4 (funext fun a => match a with | ⟨0, _⟩ => rfl | ⟨1, _⟩ => rfl)
  refine (join3 _ _ _ T q).trans ?_
  by_cases ha : T.val < 8192
  · rw [dif_pos ha, h1]
    exact congrArg x4 (congrArg (fun r => ix2 r q) (Fin.ext (by show 0 = OutModel.modRow T.val; rw [OutModel.modRow, if_pos ha])))
  · rw [dif_neg ha]
    by_cases hb : T.val - 8192 < 1024
    · rw [dif_pos hb, h3]
      exact congrArg x4 (congrArg (fun r => ix2 r q) (Fin.ext (by
        show 1 = OutModel.modRow T.val; rw [OutModel.modRow, if_neg ha, if_pos (by omega)])))
    · rw [dif_neg hb, h5]
      exact congrArg x4 (congrArg (fun r => ix2 r q) (Fin.ext (by
        show 2 = OutModel.modRow T.val; rw [OutModel.modRow, if_neg ha, if_neg (by omega)])))

theorem v7_apply (x4 : Vec Ideal S8x6144 .f32) (T : Fin 10240) (j : Fin 1024) :
    val_main_v7 (F := Ideal) x4 (ix2 T j) = modAt x4 T 2048 (by omega) j := by
  rw [val_main_v7_apply]
  have e := v6_apply x4 T ⟨2048 + j.val, by omega⟩
  unfold modAt
  rw [← e]
  exact congrArg _ (funext fun a => match a with | ⟨0, _⟩ => rfl | ⟨1, _⟩ => rfl)

theorem v8_apply (x4 : Vec Ideal S8x6144 .f32) (T : Fin 10240) (j : Fin 1024) :
    val_main_v8 (F := Ideal) x4 (ix2 T j) = modAt x4 T 3072 (by omega) j := by
  rw [val_main_v8_apply]
  have e := v6_apply x4 T ⟨3072 + j.val, by omega⟩
  unfold modAt
  rw [← e]
  exact congrArg _ (funext fun a => match a with | ⟨0, _⟩ => rfl | ⟨1, _⟩ => rfl)

theorem v9_apply (x4 : Vec Ideal S8x6144 .f32) (T : Fin 10240) (j : Fin 1024) :
    val_main_v9 (F := Ideal) x4 (ix2 T j) = modAt x4 T 4096 (by omega) j := by
  rw [val_main_v9_apply]
  have e := v6_apply x4 T ⟨4096 + j.val, by omega⟩
  unfold modAt
  rw [← e]
  exact congrArg _ (funext fun a => match a with | ⟨0, _⟩ => rfl | ⟨1, _⟩ => rfl)

/-- The product with the joined mixers' outputs, as the three products with the mixers' own. -/
def mix (x0 x1 x2 : Vec Ideal S10240x512 .bf16) (x5 : Vec Ideal S1536x1024 .bf16) (T : Fin 10240) (j : Fin 1024) : EReal :=
  (∑ k : Fin 512, x0 (ix2 T k) * x5 (ix2 ⟨k.val, by omega⟩ j) + ∑ k : Fin 512, x1 (ix2 T k) * x5 (ix2 ⟨512 + k.val, by omega⟩ j))
    + ∑ k : Fin 512, x2 (ix2 T k) * x5 (ix2 ⟨1024 + k.val, by omega⟩ j)

/-- The three mixers' outputs, joined. -/
theorem v10_apply (x0 x1 x2 : Vec Ideal S10240x512 .bf16) (T : Fin 10240) (q : Fin 1536) :
    val_main_v10 (F := Ideal) x0 x1 x2 (ix2 T q)
      = if h : q.val < 512 then x0 (ix2 T ⟨q.val, h⟩)
        else if h' : q.val - 512 < 512 then x1 (ix2 T ⟨q.val - 512, h'⟩) else x2 (ix2 T ⟨q.val - 512 - 512, by omega⟩) := by
  pointwise [val_main_v10]

theorem v11_apply (x0 x1 x2 : Vec Ideal S10240x512 .bf16) (x5 : Vec Ideal S1536x1024 .bf16) (T : Fin 10240) (j : Fin 1024) :
    val_main_v11 (F := Ideal) x0 x1 x2 x5 (ix2 T j) = mix x0 x1 x2 x5 T j := by
  have hs : val_main_v11 (F := Ideal) x0 x1 x2 x5 (ix2 T j)
      = ∑ k : Fin 1536, val_main_v10 (F := Ideal) x0 x1 x2 (ix2 T k) * x5 (ix2 k j) := by
    rw [val_main_v11_apply]
    refine Finset.sum_congr rfl fun k _ => ?_
    exact congrArg₂ _ (congrArg _ (funext fun a => match a with | ⟨0, _⟩ => rfl | ⟨1, _⟩ => rfl))
      (congrArg _ (funext fun a => match a with | ⟨0, _⟩ => rfl | ⟨1, _⟩ => rfl))
  rw [hs, OutModel.sum_joined, mix]
  refine congrArg₂ _ (congrArg₂ _ ?_ ?_) ?_
  · refine Finset.sum_congr rfl fun k _ => ?_
    rw [v10_apply, dif_pos (show k.val < 512 from k.isLt)]
  · refine Finset.sum_congr rfl fun k _ => ?_
    rw [v10_apply, dif_neg (show ¬ 512 + k.val < 512 by omega), dif_pos (show 512 + k.val - 512 < 512 by omega)]
    refine congrArg (fun i => x1 (ix2 T i) * _) (Fin.ext ?_)
    show 512 + k.val - 512 = k.val; omega
  · refine Finset.sum_congr rfl fun k _ => ?_
    rw [v10_apply, dif_neg (show ¬ 1024 + k.val < 512 by omega), dif_neg (show ¬ 1024 + k.val - 512 < 512 by omega)]
    refine congrArg (fun i => x2 (ix2 T i) * _) (Fin.ext ?_)
    show 1024 + k.val - 512 - 512 = k.val; omega

variable (x0 x1 x2 : Vec Ideal S10240x512 .bf16) (x3 : Vec Ideal S10240x1024 .f32) (x4 : Vec Ideal S8x6144 .f32)
  (x5 : Vec Ideal S1536x1024 .bf16) (x6 x7 : Vec Ideal S1x1024 .f32)

/-- The first norm's argument. -/
theorem v15_apply (T : Fin 10240) (j : Fin 1024) :
    val_main_v15 (F := Ideal) x0 x1 x2 x3 x4 x5 (ix2 T j)
      = Ideal.ofBits .f32 0x3FB504F3#32 * x3 (ix2 T j) + modAt x4 T 2048 (by omega) j * mix x0 x1 x2 x5 T j := by
  rw [← v7_apply, ← v11_apply]
  pointwise [val_main_v15, val_main_v14, val_main_v13, val_main_v12, val_main_cst]

/-- The reference's residual stream at one token. -/
theorem x1_apply (T : Fin 10240) (j : Fin 1024) :
    val_main_v39 (F := Ideal) x0 x1 x2 x3 x4 x5 x6 x7 (ix2 T j)
      = OutModel.x1 (fun k => x3 (ix2 T k)) (modAt x4 T 2048 (by omega)) (mix x0 x1 x2 x5 T) (fun k => x6 (ix2 0 k)) (fun k => x7 (ix2 0 k)) j := by
  have h : val_main_v39 (F := Ideal) x0 x1 x2 x3 x4 x5 x6 x7 (ix2 T j)
      = OutModel.ln (fun k => val_main_v15 (F := Ideal) x0 x1 x2 x3 x4 x5 (ix2 T k)) j * x6 (ix2 0 j) + x7 (ix2 0 j) := by
    pointwise [val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst_0, val_main_cst_1, val_main_cst_2, val_main_cst_3, val_main_cst_4, OutModel.ln, OutModel.mean]
  rw [h, OutModel.x1]
  simp only [v15_apply]

/-- What the experts read, by the reference, at one token. -/
theorem u2_apply (T : Fin 10240) (j : Fin 1024) :
    val_main_v59 (F := Ideal) x0 x1 x2 x3 x4 x5 x6 x7 (ix2 T j)
      = OutModel.u2 (OutModel.x1 (fun k => x3 (ix2 T k)) (modAt x4 T 2048 (by omega)) (mix x0 x1 x2 x5 T) (fun k => x6 (ix2 0 k)) (fun k => x7 (ix2 0 k)))
          (modAt x4 T 4096 (by omega)) (modAt x4 T 3072 (by omega)) j := by
  have h : val_main_v59 (F := Ideal) x0 x1 x2 x3 x4 x5 x6 x7 (ix2 T j)
      = OutModel.ln (fun k => val_main_v39 (F := Ideal) x0 x1 x2 x3 x4 x5 x6 x7 (ix2 T k)) j
          * (Ideal.ofBits .f32 0x3F800000#32 + val_main_v9 (F := Ideal) x4 (ix2 T j)) + val_main_v8 (F := Ideal) x4 (ix2 T j) := by
    pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_5, val_main_cst_6, val_main_cst_7, val_main_cst_8, val_main_cst_9, val_main_cst_10, OutModel.ln, OutModel.mean]
  rw [h, OutModel.u2, v8_apply, v9_apply]
  simp only [x1_apply]

end Cert.OutprojRefIdeal.At

end
-- ==== Proof.OutValue.lean ====
/-
  The two result arrays of the kernel, entry by entry: row `T` is computed at grid point `T / 512` from row `T` of the
  token arrays, and it is the same row function of the arguments that the plain reference is.
-/
module

public import proofs.«01_k».proof.Proof.OutBody
public import proofs.«01_k».proof.Proof.OutRef
public import proofs.«01_k».proof.Proof.Gen.OutprojIdeal.Value

@[expose] public section

noncomputable section

namespace Cert.OutprojIdeal.Whole

open Cert.OutprojIdeal Cert.OutprojIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A token's number from its grid point and its row in the block. -/
abbrev tok (r : Fin 512) : Fin 10240 := ⟨512 * t.val + r.val, by have : t.val < 20 := t.isLt; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])

theorem iblk0 (r : Fin 512) (k : Fin 512) : iblk m c 0 t (ix2 r k) = m ((c : Thread nD τ).loc main_arg0) (ix2 (tok t r) k) := by
  unfold iblk
  rw [View.read_apply, cast_eq]
  refine congrArg (m ((c : Thread nD τ).loc main_arg0)) (funext fun a => Fin.ext ?_)
  match a with
  | ⟨0, _⟩ =>
    show win0_0.index t 0 * 512 + 1 * r.val = 512 * t.val + r.val
    rw [idx0 t]
    show t.val * 512 + 1 * r.val = _
    omega
  | ⟨1, _⟩ =>
    show win0_0.index t 1 * 512 + 1 * k.val = k.val
    rw [idx0 t]
    show 0 * 512 + 1 * k.val = _
    omega

theorem iblk1 (r : Fin 512) (k : Fin 512) : iblk m c 1 t (ix2 r k) = m ((c : Thread nD τ).loc main_arg1) (ix2 (tok t r) k) := by
  unfold iblk
  rw [View.read_apply, cast_eq]
  refine congrArg (m ((c : Thread nD τ).loc main_arg1)) (funext fun a => Fin.ext ?_)
  match a with
  | ⟨0, _⟩ =>
    show win0_1.index t 0 * 512 + 1 * r.val = 512 * t.val + r.val
    rw [idx1 t]
    show t.val * 512 + 1 * r.val = _
    omega
  | ⟨1, _⟩ =>
    show win0_1.index t 1 * 512 + 1 * k.val = k.val
    rw [idx1 t]
    show 0 * 512 + 1 * k.val = _
    omega

theorem iblk2 (r : Fin 512) (k : Fin 512) : iblk m c 2 t (ix2 r k) = m ((c : Thread nD τ).loc main_arg2) (ix2 (tok t r) k) := by
  unfold iblk
  rw [View.read_apply, cast_eq]
  refine congrArg (m ((c : Thread nD τ).loc main_arg2)) (funext fun a => Fin.ext ?_)
  match a with
  | ⟨0, _⟩ =>
    show win0_2.index t 0 * 512 + 1 * r.val = 512 * t.val + r.val
    rw [idx2 t]
    show t.val * 512 + 1 * r.val = _
    omega
  | ⟨1, _⟩ =>
    show win0_2.index t 1 * 512 + 1 * k.val = k.val
    rw [idx2 t]
    show 0 * 512 + 1 * k.val = _
    omega

theorem iblk3 (r : Fin 512) (k : Fin 1024) : iblk m c 3 t (ix2 r k) = m ((c : Thread nD τ).loc main_arg3) (ix2 (tok t r) k) := by
  unfold iblk
  rw [View.read_apply, cast_eq]
  refine congrArg (m ((c : Thread nD τ).loc main_arg3)) (funext fun a => Fin.ext ?_)
  match a with
  | ⟨0, _⟩ =>
    show win0_3.index t 0 * 512 + 1 * r.val = 512 * t.val + r.val
    rw [idx3 t]
    show t.val * 512 + 1 * r.val = _
    omega
  | ⟨1, _⟩ =>
    show win0_3.index t 1 * 1024 + 1 * k.val = k.val
    rw [idx3 t]
    show 0 * 1024 + 1 * k.val = _
    omega

theorem iblk4 (r : Fin 8) (k : Fin 6144) : iblk m c 4 t (ix2 r k) = m ((c : Thread nD τ).loc main_arg4) (ix2 r k) := by
  unfold iblk
  rw [View.read_apply, cast_eq]
  refine congrArg (m ((c : Thread nD τ).loc main_arg4)) (funext fun a => Fin.ext ?_)
  match a with
  | ⟨0, _⟩ =>
    show win0_4.index t 0 * 8 + 1 * r.val = r.val
    rw [idx4 t]
    show 0 * 8 + 1 * r.val = _
    omega
  | ⟨1, _⟩ =>
    show win0_4.index t 1 * 6144 + 1 * k.val = k.val
    rw [idx4 t]
    show 0 * 6144 + 1 * k.val = _
    omega

theorem iblk5 (r : Fin 1536) (k : Fin 1024) : iblk m c 5 t (ix2 r k) = m ((c : Thread nD τ).loc main_arg5) (ix2 r k) := by
  unfold iblk
  rw [View.read_apply, cast_eq]
  refine congrArg (m ((c : Thread nD τ).loc main_arg5)) (funext fun a => Fin.ext ?_)
  match a with
  | ⟨0, _⟩ =>
    show win0_5.index t 0 * 1536 + 1 * r.val = r.val
    rw [idx5 t]
    show 0 * 1536 + 1 * r.val = _
    omega
  | ⟨1, _⟩ =>
    show win0_5.index t 1 * 1024 + 1 * k.val = k.val
    rw [idx5 t]
    show 0 * 1024 + 1 * k.val = _
    omega

theorem iblk6 (r : Fin 1) (k : Fin 1024) : iblk m c 6 t (ix2 r k) = m ((c : Thread nD τ).loc main_arg6) (ix2 r k) := by
  unfold iblk
  rw [View.read_apply, cast_eq]
  refine congrArg (m ((c : Thread nD τ).loc main_arg6)) (funext fun a => Fin.ext ?_)
  match a with
  | ⟨0, _⟩ =>
    show win0_6.index t 0 * 1 + 1 * r.val = r.val
    rw [idx6 t]
    show 0 * 1 + 1 * r.val = _
    omega
  | ⟨1, _⟩ =>
    show win0_6.index t 1 * 1024 + 1 * k.val = k.val
    rw [idx6 t]
    show 0 * 1024 + 1 * k.val = _
    omega

theorem iblk7 (r : Fin 1) (k : Fin 1024) : iblk m c 7 t (ix2 r k) = m ((c : Thread nD τ).loc main_arg7) (ix2 r k) := by
  unfold iblk
  rw [View.read_apply, cast_eq]
  refine congrArg (m ((c : Thread nD τ).loc main_arg7)) (funext fun a => Fin.ext ?_)
  match a with
  | ⟨0, _⟩ =>
    show win0_7.index t 0 * 1 + 1 * r.val = r.val
    rw [idx7 t]
    show 0 * 1 + 1 * r.val = _
    omega
  | ⟨1, _⟩ =>
    show win0_7.index t 1 * 1024 + 1 * k.val = k.val
    rw [idx7 t]
    show 0 * 1024 + 1 * k.val = _
    omega

/-- All the tokens of a block take the same row of the modulation table. -/
theorem modRow_block (r : Fin 512) : OutModel.modRow (512 * t.val) = OutModel.modRow (tok t r).val := by
  have : t.val < 20 := t.isLt
  have := r.isLt
  show _ = OutModel.modRow (512 * t.val + r.val)
  unfold OutModel.modRow
  split_ifs <;> omega

theorem mod_block (o : Nat) (ho : o + 1024 ≤ 6144) (r : Fin 512) :
    Body.modAt (iblk m c 4 t) t o ho = OutprojRefIdeal.At.modAt (m ((c : Thread nD τ).loc main_arg4)) (tok t r) o ho := by
  funext j
  refine (iblk4 m c t _ _).trans ?_
  exact congrArg (fun i => m ((c : Thread nD τ).loc main_arg4) (ix2 i _)) (Fin.ext (modRow_block t r))

theorem mix_block (r : Fin 512) :
    Body.mix (iblk m c 0 t) (iblk m c 1 t) (iblk m c 2 t) (iblk m c 5 t) r
      = OutprojRefIdeal.At.mix (m ((c : Thread nD τ).loc main_arg0)) (m ((c : Thread nD τ).loc main_arg1)) (m ((c : Thread nD τ).loc main_arg2))
          (m ((c : Thread nD τ).loc main_arg5)) (tok t r) := by
  funext j
  unfold Body.mix OutprojRefIdeal.At.mix
  simp only [iblk0, iblk1, iblk2, iblk5]

/-- Row `T` of the result array, the residual stream. -/
theorem x1_at (r : Fin 512) (j : Fin 1024) :
    (dats m 0 c).arrAt 10 cfg0.N (ix2 (tok t r) j)
      = OutprojRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) j) := by
  have hf : (cfg0.win 10).flush t = true := by
    revert t
    exact (by decide +kernel : ∀ t : Fin grid0.N, (cfg0.win 10).flush t = true)
  have hb := congrFun ((Value.blocks10 m c t hf).trans (Value.flushed10_A m c t)) (ix2 r j)
  rw [View.read_apply, cast_eq] at hb
  have he : (((cfg0.win 10).blk t).view.emb (ix2 r j)) = ix2 (tok t r) j := by
    refine funext fun a => Fin.ext ?_
    match a with
    | ⟨0, _⟩ =>
      show win0_10.index t 0 * 512 + 1 * r.val = 512 * t.val + r.val
      rw [idx10 t]
      show t.val * 512 + 1 * r.val = _
      omega
    | ⟨1, _⟩ =>
      show win0_10.index t 1 * 1024 + 1 * j.val = j.val
      rw [idx10 t]
      show 0 * 1024 + 1 * j.val = _
      omega
  rw [he] at hb
  refine hb.trans ?_
  refine (Body.x1_block c t (iblk m c 0 t) (iblk m c 1 t) (iblk m c 2 t) (iblk m c 3 t) (iblk m c 4 t) (iblk m c 5 t) (iblk m c 6 t) (iblk m c 7 t) (iblk m c 8 t) (iblk m c 9 t) r j).trans ?_
  rw [OutprojRefIdeal.At.x1_apply, mix_block]
  simp only [mod_block m c t _ _ r, iblk3, iblk6, iblk7]

/-- The result array, whole. -/
theorem x1_eq : (dats m 0 c).arrAt 10 cfg0.N = OutprojRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨T, j, rfl⟩ : ∃ (T : Fin 10240) (j : Fin 1024), i = ix2 T j :=
    ⟨i 0, i 1, funext fun a => match a with | ⟨0, _⟩ => rfl | ⟨1, _⟩ => rfl⟩
  have hT : T.val < 10240 := T.isLt
  have h := x1_at m c ⟨T.val / 512, show T.val / 512 < 20 by omega⟩ ⟨T.val % 512, by omega⟩ j
  have e : tok ⟨T.val / 512, show T.val / 512 < 20 by omega⟩ ⟨T.val % 512, by omega⟩ = T := Fin.ext (show 512 * (T.val / 512) + T.val % 512 = T.val by omega)
  rw [e] at h
  exact h

/-- Row `T` of the result array, what the experts read. -/
theorem u2_at (r : Fin 512) (j : Fin 1024) :
    (dats m 0 c).arrAt 11 cfg0.N (ix2 (tok t r) j)
      = OutprojRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) j) := by
  have hf : (cfg0.win 11).flush t = true := by
    revert t
    exact (by decide +kernel : ∀ t : Fin grid0.N, (cfg0.win 11).flush t = true)
  have hb := congrFun ((Value.blocks11 m c t hf).trans (Value.flushed11_A m c t)) (ix2 r j)
  rw [View.read_apply, cast_eq] at hb
  have he : (((cfg0.win 11).blk t).view.emb (ix2 r j)) = ix2 (tok t r) j := by
    refine funext fun a => Fin.ext ?_
    match a with
    | ⟨0, _⟩ =>
      show win0_11.index t 0 * 512 + 1 * r.val = 512 * t.val + r.val
      rw [idx11 t]
      show t.val * 512 + 1 * r.val = _
      omega
    | ⟨1, _⟩ =>
      show win0_11.index t 1 * 1024 + 1 * j.val = j.val
      rw [idx11 t]
      show 0 * 1024 + 1 * j.val = _
      omega
  rw [he] at hb
  refine hb.trans ?_
  refine (Body.u2_block c t (iblk m c 0 t) (iblk m c 1 t) (iblk m c 2 t) (iblk m c 3 t) (iblk m c 4 t) (iblk m c 5 t) (iblk m c 6 t) (iblk m c 7 t) (iblk m c 8 t) (iblk m c 9 t) r j).trans ?_
  rw [OutprojRefIdeal.At.u2_apply, mix_block]
  simp only [mod_block m c t _ _ r, iblk3, iblk6, iblk7]

/-- The result array, whole. -/
theorem u2_eq : (dats m 0 c).arrAt 11 cfg0.N = OutprojRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨T, j, rfl⟩ : ∃ (T : Fin 10240) (j : Fin 1024), i = ix2 T j :=
    ⟨i 0, i 1, funext fun a => match a with | ⟨0, _⟩ => rfl | ⟨1, _⟩ => rfl⟩
  have hT : T.val < 10240 := T.isLt
  have h := u2_at m c ⟨T.val / 512, show T.val / 512 < 20 by omega⟩ ⟨T.val % 512, by omega⟩ j
  have e : tok ⟨T.val / 512, show T.val / 512 < 20 by omega⟩ ⟨T.val % 512, by omega⟩ = T := Fin.ext (show 512 * (T.val / 512) + T.val % 512 = T.val by omega)
  rw [e] at h
  exact h

end Cert.OutprojIdeal.Whole

end
-- ==== Proof.OutAlgebraic.lean ====
/-
  The claim about the output projection: kernel and reference, run from memories that agree on the arguments, end with the
  same two arrays.
-/
module

public import proofs.«01_k».proof.Defs
public import proofs.«01_k».proof.Proof.OutValue
public import proofs.«01_k».proof.Proof.Gen.OutprojIdeal
public import proofs.«01_k».proof.Proof.Gen.OutprojRefIdeal
public import proofs.«01_k».proof.Proof.Gen.OutprojRefIdeal.Run

@[expose] public section

noncomputable section

namespace Cert.Proof

open Idealize.ShloMosaic Idealize.ShloMosaic.TcCoe Idealize.SL.Sem

theorem outproj_algebraic :
    Cert.algebraic_OutprojIdeal_OutprojRefIdeal (hOutprojIdeal := Cert.OutprojIdeal.Gen.facts) (hOutprojRefIdeal := Cert.OutprojRefIdeal.Gen.facts) := by
  intro m g m' g' _ hargs
  refine ⟨fun c => (Cert.OutprojIdeal.Gen.dats m 0 c).arrAt 10 Cert.OutprojIdeal.cfg0.N,
    fun c => (Cert.OutprojIdeal.Gen.dats m 0 c).arrAt 11 Cert.OutprojIdeal.cfg0.N, ?_, ?_⟩
  · refine (θ_run Cert.OutprojIdeal.defs _ _).mono (fun r h c => ?_) (Cert.OutprojIdeal.Value.run_blocks m g)
    exact ⟨(h c).1, (h c).2.1, (h c).2.2.2⟩
  · refine (θ_run Cert.OutprojRefIdeal.defs _ _).mono (fun r h c => ?_) (Cert.OutprojRefIdeal.Value.run m' g')
    obtain ⟨a0, a1, a2, a3, a4, a5, a6, a7, _, _⟩ := hargs c
    obtain ⟨h1, h2, h3⟩ := h c
    refine ⟨h1.trans ?_, h2.trans ?_, h3⟩
    · rw [Cert.OutprojRefIdeal.Read.val_main_v39_eq, a0, a1, a2, a3, a4, a5, a6, a7]
      exact (Cert.OutprojIdeal.Whole.x1_eq m c).symm
    · rw [Cert.OutprojRefIdeal.Read.val_main_v59_eq, a0, a1, a2, a3, a4, a5, a6, a7]
      exact (Cert.OutprojIdeal.Whole.u2_eq m c).symm

end Cert.Proof

end
-- ==== Proof.FinRef.lean ====
/-
  The plain last step of the layer, read at one token and one feature: the same row function that the kernel's blocks are.
-/
module

public import proofs.«01_k».proof.Proof.OutModel
public import proofs.«01_k».proof.Proof.Gen.FinalRefIdeal.Read

@[expose] public section

noncomputable section

namespace Cert.FinalRefIdeal.At

open Cert.FinalRefIdeal Cert.FinalRefIdeal.Gen Cert.FinalRefIdeal.Read Idealize.ShloMosaic Idealize.ShloMosaic.StableHlo

/-- Token `T`'s gate: the last 1024 columns of its row of the modulation table. -/
def gate (x2 : Vec Ideal S8x6144 .f32) (T : Fin 10240) (j : Fin 1024) : EReal :=
  x2 (ix2 ⟨OutModel.modRow T.val, OutModel.modRow_lt _⟩ ⟨5120 + j.val, by omega⟩)

/-- The two experts' outputs of a token, added. -/
def both (x1 : Vec Ideal S20480x1024 .f32) (T : Fin 10240) (j : Fin 1024) : EReal :=
  x1 (ix2 ⟨T.val, by omega⟩ j) + x1 (ix2 ⟨10240 + T.val, by omega⟩ j)

/-- Three tables joined by rows, read at a row. -/
theorem join3 (y1 : Vec Ideal S8192x1024 .f32) (y3 y5 : Vec Ideal S1024x1024 .f32) (T : Fin 10240) (q : Fin 1024) :
    (concatenate S10240x1024 0 [⟨S8192x1024, y1⟩, ⟨S1024x1024, y3⟩, ⟨S1024x1024, y5⟩]
        concatenates_S8192x1024_S1024x1024_S1024x1024_S10240x1024_d0 : Vec Ideal S10240x1024 .f32) (ix2 T q)
      = if h : T.val < 8192 then y1 (ix2 ⟨T.val, h⟩ q)
        else if h' : T.val - 8192 < 1024 then y3 (ix2 ⟨T.val - 8192, h'⟩ q) else y5 (ix2 ⟨T.val - 8192 - 1024, by omega⟩ q) := by
  pointwise

/-- The gates of the 10240 tokens. -/
theorem v7_apply (x2 : Vec Ideal S8x6144 .f32) (T : Fin 10240) (q : Fin 1024) :
    val_main_v7 (F := Ideal) x2 (ix2 T q) = gate x2 T q := by
  have h1 : ∀ (i : Fin 8192), val_main_v2 (F := Ideal) x2 (ix2 i q) = x2 (ix2 0 ⟨5120 + q.val, by omega⟩) := fun i => by
    rw [val_main_v2_apply, val_main_v1_apply, val_main_v0_apply]
    exact congrArg x2 (funext fun a => match a with | ⟨0, _⟩ => rfl | ⟨1, _⟩ => rfl)
  have h3 : ∀ (i : Fin 1024), val_main_v4 (F := Ideal) x2 (ix2 i q) = x2 (ix2 1 ⟨5120 + q.val, by omega⟩) := fun i => by
    rw [val_main_v4_apply, val_main_v3_apply, val_main_v0_apply]
    exact congrArg x2 (funext fun a => match a with | ⟨0, _⟩ => rfl | ⟨1, _⟩ => rfl)
  have h5 : ∀ (i : Fin 1024), val_main_v6 (F := Ideal) x2 (ix2 i q) = x2 (ix2 2 ⟨5120 + q.val, by omega⟩) := fun i => by
    rw [val_main_v6_apply, val_main_v5_apply, val_main_v0_apply]
    exact congrArg x2 (funext fun a => match a with | ⟨0, _⟩ => rfl | ⟨1, _⟩ => rfl)
  refine (join3 _ _ _ T q).trans ?_
  unfold gate
  by_cases ha : T.val < 8192
  · rw [dif_pos ha, h1]
    exact congrArg x2 (congrArg (fun r => ix2 r _) (Fin.ext (by show 0 = OutModel.modRow T.val; rw [OutModel.modRow, if_pos ha])))
  · rw [dif_neg ha]
    by_cases hb : T.val - 8192 < 1024
    · rw [dif_pos hb, h3]
      exact congrArg x2 (congrArg (fun r => ix2 r _) (Fin.ext (by
        show 1 = OutModel.modRow T.val; rw [OutModel.modRow, if_neg ha, if_pos (by omega)])))
    · rw [dif_neg hb, h5]
      exact congrArg x2 (congrArg (fun r => ix2 r _) (Fin.ext (by
        show 2 = OutModel.modRow T.val; rw [OutModel.modRow, if_neg ha, if_neg (by omega)])))

/-- The sum over the two slots. -/
theorem v9_apply (x1 : Vec Ideal S20480x1024 .f32) (T : Fin 10240) (j : Fin 1024) :
    val_main_v9 (F := Ideal) x1 (ix2 T j) = both x1 T j := by
  rw [val_main_v9_apply, val_main_cst_apply, Fin.sum_univ_two, val_main_v8_apply, val_main_v8_apply]
  unfold both
  refine (congrArg (· + _) (show FloatOps.ofBits (F := Ideal) .f32 0x00000000#32 = (0 : EReal) from Ideal.ofBits_zero_f32)).trans ?_
  rw [zero_add]
  have hj := j.isLt
  refine congrArg₂ _ (congrArg x1 (funext fun a => Fin.ext ?_)) (congrArg x1 (funext fun a => Fin.ext ?_))
  · match a with
    | ⟨0, _⟩ => show ((0 * 10240 + T.val) * 1024 + j.val) / 1024 = T.val; omega
    | ⟨1, _⟩ => show ((0 * 10240 + T.val) * 1024 + j.val) % 1024 = j.val; omega
  · match a with
    | ⟨0, _⟩ => show ((1 * 10240 + T.val) * 1024 + j.val) / 1024 = 10240 + T.val; omega
    | ⟨1, _⟩ => show ((1 * 10240 + T.val) * 1024 + j.val) % 1024 = j.val; omega

variable (x0 : Vec Ideal S10240x1024 .f32) (x1 : Vec Ideal S20480x1024 .f32) (x2 : Vec Ideal S8x6144 .f32) (x3 x4 : Vec Ideal S1x1024 .f32)

/-- The norm's argument. -/
theorem v13_apply (T : Fin 10240) (j : Fin 1024) :
    val_main_v13 (F := Ideal) x0 x1 x2 (ix2 T j) = Ideal.ofBits .f32 0x3FB504F3#32 * x0 (ix2 T j) + gate x2 T j * both x1 T j := by
  rw [← v7_apply, ← v9_apply]
  pointwise [val_main_v13, val_main_v12, val_main_v11, val_main_v10, val_main_cst_0]

/-- The reference's new residual stream at one token. -/
theorem out_apply (T : Fin 10240) (j : Fin 1024) :
    val_main_v37 (F := Ideal) x0 x1 x2 x3 x4 (ix2 T j)
      = OutModel.x1 (fun k => x0 (ix2 T k)) (gate x2 T) (both x1 T) (fun k => x3 (ix2 0 k)) (fun k => x4 (ix2 0 k)) j := by
  have h : val_main_v37 (F := Ideal) x0 x1 x2 x3 x4 (ix2 T j)
      = OutModel.ln (fun k => val_main_v13 (F := Ideal) x0 x1 x2 (ix2 T k)) j * x3 (ix2 0 j) + x4 (ix2 0 j) := by
    pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_1, val_main_cst_2, val_main_cst_3, val_main_cst_4, val_main_cst_5, OutModel.ln, OutModel.mean]
  rw [h, OutModel.x1]
  simp only [v13_apply]

end Cert.FinalRefIdeal.At

end
-- ==== Proof.FinValue.lean ====
/-
  The layer's last call: what one grid point leaves in its block, and the result array, entry by entry.
-/
module

public import proofs.«01_k».proof.Proof.FinRef
public import proofs.«01_k».proof.Proof.Gen.FinalIdeal.Value
public import Idealize.ShloMosaic.Lib.Tactic

@[expose] public section

noncomputable section

namespace Cert.FinalIdeal.Whole

open Cert.FinalIdeal Cert.FinalIdeal.Gen Idealize.ShloMosaic Idealize.ShloMosaic.TcCoe Idealize.SL.Sem
open Idealize.ShloMosaic.Pipeline (Dat)

theorem zz : (![0, 0] : Fin 2 → Nat) = fun _ => 0 := funext fun a => by fin_cases a <;> rfl

/-- The gate that grid point `t` takes of the modulation table. -/
def gateAt (x3 : Vec Ideal S8x6144 .f32) (t : Fin cfg0.N) (j : Fin 1024) : EReal :=
  x3 (ix2 ⟨OutModel.modRow (512 * t.val), OutModel.modRow_lt _⟩ ⟨5120 + j.val, by omega⟩)

theorem off1 : ∀ t : Fin cfg0.N, k0_off1 (grid0.coords t) = ![OutModel.modRow (512 * t.val), 5120] :=
  (by decide +kernel : ∀ t : Fin grid0.N, k0_off1 (grid0.coords t) = ![OutModel.modRow (512 * t.val), 5120])

/-- A load of the gate's row is that row. -/
theorem ld_gate (x3 : Vec Ideal S8x6144 .f32) (t : Fin cfg0.N) (off : Fin 2 → Nat) (h : off = ![OutModel.modRow (512 * t.val), 5120])
    (inb : ∀ a, off a + S1x1024.size a ≤ S8x6144.size a) (j : Fin 1024) :
    View.ld x3 (Rect.unit (s := S8x6144) off S1x1024.size inb) (ix2 0 j) = gateAt x3 t j := by
  subst h
  refine congrArg x3 (funext fun a => Fin.ext ?_)
  match a with
  | ⟨0, _⟩ => show OutModel.modRow (512 * t.val) + 1 * 0 = _; rfl
  | ⟨1, _⟩ => show 5120 + 1 * j.val = 5120 + j.val; omega

/-- The stored block from the values the body read. -/
theorem pay_apply (g : Vec Ideal S1x1024 .f32) (y0 y1 x : Vec Ideal S512x1024 .f32) (pg pb : Vec Ideal S1x1024 .f32) (r : Fin 512) (j : Fin 1024) :
    k0_pay1 (k0_pay2 g y0 y1 x) (k0_pay3 g y0 y1 x) pg pb (ix2 r j)
      = OutModel.x1 (fun k => x (ix2 r k)) (fun k => g (ix2 0 k)) (fun k => y0 (ix2 r k) + y1 (ix2 r k))
          (fun k => pg (ix2 0 k)) (fun k => pb (ix2 0 k)) j := by
  pointwise [k0_pay1, k0_pay2, k0_pay3, OutModel.x1, OutModel.ln, OutModel.mean]

/-- A row of the two experts' blocks, added. -/
def sum2 (u v : Vec Ideal S512x1024 .f32) (r : Fin 512) (k : Fin 1024) : EReal := u (ix2 r k) + v (ix2 r k)

/-- What the body leaves in its block. -/
theorem block (c : Dev nD) (t : Fin cfg0.N) (x0 x1 x2 : Vec Ideal S512x1024 .f32) (x3 : Vec Ideal S8x6144 .f32)
    (x4 x5 : Vec Ideal S1x1024 .f32) (r : Fin 512) (j : Fin 1024) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 x5 (ix2 r j)
      = OutModel.x1 (fun k => x0 (ix2 r k)) (gateAt x3 t) (sum2 x1 x2 r) (fun k => x4 (ix2 0 k)) (fun k => x5 (ix2 0 k)) j := by
  unfold out0_A_6
  rw [View.read_writes_eq_canon _ _ _ (cover0_A_6 c _ _ _ _ _ _ _ _ _ _ _ _ _ _ _ _ _ _ _ _ _ )]
  unfold kernelRun0_A
  dsimp only
  sl_unfold_words
  rw [View.canon_unit_zero zz]
  simp only [View.readAt_eq_ld, Memref.IsWhole.read_unread, View.ld_unit_zero (S := S512x1024) zz, View.ld_unit_zero (S := S1x1024) zz, shapeCast_self]
  refine (pay_apply _ _ _ _ _ _ r j).trans ?_
  congr 1
  funext k
  exact ld_gate x3 t (k0_off1 (grid0.coords t)) (off1 t) (k0_off1_inb _) k

variable (m : (ℓ : Loc nD τ sig) → Buf (Elt Ideal) ℓ) (c : Dev nD) (t : Fin cfg0.N)

/-- A token's number from its grid point and its row in the block. -/
abbrev tok (r : Fin 512) : Fin 10240 := ⟨512 * t.val + r.val, by have : t.val < 20 := t.isLt; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![20 + t.val, 0] :=
  (by decide +kernel : ∀ t : Fin grid0.N, win0_2.index t = ![20 + t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])

theorem iblk0 (r : Fin 512) (k : Fin 1024) : iblk m c 0 t (ix2 r k) = m ((c : Thread nD τ).loc main_arg0) (ix2 (tok t r) k) := by
  unfold iblk
  rw [View.read_apply, cast_eq]
  refine congrArg (m ((c : Thread nD τ).loc main_arg0)) (funext fun a => Fin.ext ?_)
  match a with
  | ⟨0, _⟩ =>
    show win0_0.index t 0 * 512 + 1 * r.val = 512 * t.val + r.val
    rw [idx0 t]
    show t.val * 512 + 1 * r.val = _
    omega
  | ⟨1, _⟩ =>
    show win0_0.index t 1 * 1024 + 1 * k.val = k.val
    rw [idx0 t]
    show 0 * 1024 + 1 * k.val = _
    omega

theorem iblk1 (r : Fin 512) (k : Fin 1024) : iblk m c 1 t (ix2 r k) = m ((c : Thread nD τ).loc main_arg1) (ix2 ((⟨(tok t r).val, by have := (tok t r).isLt; omega⟩ : Fin 20480)) k) := by
  unfold iblk
  rw [View.read_apply, cast_eq]
  refine congrArg (m ((c : Thread nD τ).loc main_arg1)) (funext fun a => Fin.ext ?_)
  match a with
  | ⟨0, _⟩ =>
    show win0_1.index t 0 * 512 + 1 * r.val = 512 * t.val + r.val
    rw [idx1 t]
    show t.val * 512 + 1 * r.val = _
    omega
  | ⟨1, _⟩ =>
    show win0_1.index t 1 * 1024 + 1 * k.val = k.val
    rw [idx1 t]
    show 0 * 1024 + 1 * k.val = _
    omega

theorem iblk2 (r : Fin 512) (k : Fin 1024) : iblk m c 2 t (ix2 r k) = m ((c : Thread nD τ).loc main_arg1) (ix2 ((⟨10240 + (tok t r).val, by have := (tok t r).isLt; omega⟩ : Fin 20480)) k) := by
  unfold iblk
  rw [View.read_apply, cast_eq]
  refine congrArg (m ((c : Thread nD τ).loc main_arg1)) (funext fun a => Fin.ext ?_)
  match a with
  | ⟨0, _⟩ =>
    show win0_2.index t 0 * 512 + 1 * r.val = 10240 + (512 * t.val + r.val)
    rw [idx2 t]
    show (20 + t.val) * 512 + 1 * r.val = _
    omega
  | ⟨1, _⟩ =>
    show win0_2.index t 1 * 1024 + 1 * k.val = k.val
    rw [idx2 t]
    show 0 * 1024 + 1 * k.val = _
    omega

theorem iblk3 (r : Fin 8) (k : Fin 6144) : iblk m c 3 t (ix2 r k) = m ((c : Thread nD τ).loc main_arg2) (ix2 (r) k) := by
  unfold iblk
  rw [View.read_apply, cast_eq]
  refine congrArg (m ((c : Thread nD τ).loc main_arg2)) (funext fun a => Fin.ext ?_)
  match a with
  | ⟨0, _⟩ =>
    show win0_3.index t 0 * 8 + 1 * r.val = r.val
    rw [idx3 t]
    show 0 * 8 + 1 * r.val = _
    omega
  | ⟨1, _⟩ =>
    show win0_3.index t 1 * 6144 + 1 * k.val = k.val
    rw [idx3 t]
    show 0 * 6144 + 1 * k.val = _
    omega

theorem iblk4 (r : Fin 1) (k : Fin 1024) : iblk m c 4 t (ix2 r k) = m ((c : Thread nD τ).loc main_arg3) (ix2 (r) k) := by
  unfold iblk
  rw [View.read_apply, cast_eq]
  refine congrArg (m ((c : Thread nD τ).loc main_arg3)) (funext fun a => Fin.ext ?_)
  match a with
  | ⟨0, _⟩ =>
    show win0_4.index t 0 * 1 + 1 * r.val = r.val
    rw [idx4 t]
    show 0 * 1 + 1 * r.val = _
    omega
  | ⟨1, _⟩ =>
    show win0_4.index t 1 * 1024 + 1 * k.val = k.val
    rw [idx4 t]
    show 0 * 1024 + 1 * k.val = _
    omega

theorem iblk5 (r : Fin 1) (k : Fin 1024) : iblk m c 5 t (ix2 r k) = m ((c : Thread nD τ).loc main_arg4) (ix2 (r) k) := by
  unfold iblk
  rw [View.read_apply, cast_eq]
  refine congrArg (m ((c : Thread nD τ).loc main_arg4)) (funext fun a => Fin.ext ?_)
  match a with
  | ⟨0, _⟩ =>
    show win0_5.index t 0 * 1 + 1 * r.val = r.val
    rw [idx5 t]
    show 0 * 1 + 1 * r.val = _
    omega
  | ⟨1, _⟩ =>
    show win0_5.index t 1 * 1024 + 1 * k.val = k.val
    rw [idx5 t]
    show 0 * 1024 + 1 * k.val = _
    omega

/-- All the tokens of a block take the same row of the modulation table. -/
theorem modRow_block (r : Fin 512) : OutModel.modRow (512 * t.val) = OutModel.modRow (tok t r).val := by
  have : t.val < 20 := t.isLt
  have := r.isLt
  show _ = OutModel.modRow (512 * t.val + r.val)
  unfold OutModel.modRow
  split_ifs <;> omega

theorem gate_block (r : Fin 512) :
    gateAt (iblk m c 3 t) t = FinalRefIdeal.At.gate (m ((c : Thread nD τ).loc main_arg2)) (tok t r) := by
  funext j
  refine (iblk3 m c t _ _).trans ?_
  exact congrArg (fun i => m ((c : Thread nD τ).loc main_arg2) (ix2 i _)) (Fin.ext (modRow_block t r))

theorem both_block (r : Fin 512) :
    sum2 (iblk m c 1 t) (iblk m c 2 t) r = FinalRefIdeal.At.both (m ((c : Thread nD τ).loc main_arg1)) (tok t r) := by
  funext j
  exact congrArg₂ (fun a b : EReal => a + b) (iblk1 m c t r j) (iblk2 m c t r j)

/-- Row `T` of the result array. -/
theorem out_at (r : Fin 512) (j : Fin 1024) :
    (dats m 0 c).arrAt 6 cfg0.N (ix2 (tok t r) j)
      = FinalRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) j) := by
  have hf : (cfg0.win 6).flush t = true := by
    revert t
    exact (by decide +kernel : ∀ t : Fin grid0.N, (cfg0.win 6).flush t = true)
  have hb := congrFun ((Value.blocks6 m c t hf).trans (Value.flushed6_A m c t)) (ix2 r j)
  rw [View.read_apply, cast_eq] at hb
  have he : (((cfg0.win 6).blk t).view.emb (ix2 r j)) = ix2 (tok t r) j := by
    refine funext fun a => Fin.ext ?_
    match a with
    | ⟨0, _⟩ =>
      show win0_6.index t 0 * 512 + 1 * r.val = 512 * t.val + r.val
      rw [idx6 t]
      show t.val * 512 + 1 * r.val = _
      omega
    | ⟨1, _⟩ =>
      show win0_6.index t 1 * 1024 + 1 * j.val = j.val
      rw [idx6 t]
      show 0 * 1024 + 1 * j.val = _
      omega
  rw [he] at hb
  refine hb.trans ?_
  refine (block c t (iblk m c 0 t) (iblk m c 1 t) (iblk m c 2 t) (iblk m c 3 t) (iblk m c 4 t) (iblk m c 5 t) r j).trans ?_
  rw [FinalRefIdeal.At.out_apply, gate_block m c t r, both_block]
  simp only [iblk0, iblk4, iblk5]

/-- The result array, whole. -/
theorem out_eq : (dats m 0 c).arrAt 6 cfg0.N = FinalRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨T, j, rfl⟩ : ∃ (T : Fin 10240) (j : Fin 1024), i = ix2 T j :=
    ⟨i 0, i 1, funext fun a => match a with | ⟨0, _⟩ => rfl | ⟨1, _⟩ => rfl⟩
  have hT : T.val < 10240 := T.isLt
  have h := out_at m c ⟨T.val / 512, show T.val / 512 < 20 by omega⟩ ⟨T.val % 512, by omega⟩ j
  have e : tok ⟨T.val / 512, show T.val / 512 < 20 by omega⟩ ⟨T.val % 512, by omega⟩ = T := Fin.ext (show 512 * (T.val / 512) + T.val % 512 = T.val by omega)
  rw [e] at h
  exact h

end Cert.FinalIdeal.Whole

end
-- ==== Proof.FinAlgebraic.lean ====
/-
  The claim about the layer's last call: kernel and reference, run from memories that agree on the arguments, end with the
  same array.
-/
module

public import proofs.«01_k».proof.Defs
public import proofs.«01_k».proof.Proof.FinValue
public import proofs.«01_k».proof.Proof.Gen.FinalIdeal
public import proofs.«01_k».proof.Proof.Gen.FinalRefIdeal
public import proofs.«01_k».proof.Proof.Gen.FinalRefIdeal.Run

@[expose] public section

noncomputable section

namespace Cert.Proof

open Idealize.ShloMosaic Idealize.ShloMosaic.TcCoe Idealize.SL.Sem

theorem final_algebraic :
    Cert.algebraic_FinalIdeal_FinalRefIdeal (hFinalIdeal := Cert.FinalIdeal.Gen.facts) (hFinalRefIdeal := Cert.FinalRefIdeal.Gen.facts) := by
  intro m g m' g' _ hargs
  refine ⟨fun c => (Cert.FinalIdeal.Gen.dats m 0 c).arrAt 6 Cert.FinalIdeal.cfg0.N, Cert.FinalIdeal.Value.run_blocks m g, ?_⟩
  refine (θ_run Cert.FinalRefIdeal.defs _ _).mono (fun r h c => ?_) (Cert.FinalRefIdeal.Value.run m' g')
  obtain ⟨a0, a1, a2, a3, a4⟩ := hargs c
  obtain ⟨h1, h2⟩ := h c
  refine ⟨h1.trans ?_, h2⟩
  rw [Cert.FinalRefIdeal.Read.val_main_v37_eq, a0, a1, a2, a3, a4]
  exact (Cert.FinalIdeal.Whole.out_eq m c).symm

end Cert.Proof

end
-- ==== Proof.MoePre.lean ====
/- The precondition of the tables, read: every word in range, and every assignment hit by exactly one used row. -/
module

public import proofs.«01_k».proof.Proof.Gen.Pre_tables_route
public import proofs.«01_k».proof.Pre_tables_route
public import Idealize.ShloMosaic.Lib.StableHlo.Predicate
public import Idealize.ShloMosaic.Lib.ReduceAll
public import Idealize.ShloMosaic.Lib.Pipeline.Value
public import Idealize.ShloMosaic.Lib.Pointwise

@[expose] public section

set_option maxRecDepth 16384

noncomputable section

namespace Cert.Pre_tables_route

open Idealize.ShloMosaic

/-- Row `r` of the sorted rows is used: its tile is, and it lies before the tile's count. -/
def usedRow (nv : IVec S96 32) (nu : IVec S1 32) (r : Fin 24576) : Prop :=
  r.val / 256 < (nu (ix1 ⟨0, by omega⟩)).toNat ∧ r.val % 256 < (nv (ix1 ⟨r.val / 256, by omega⟩)).toNat

/-- Row `r` is used and lands at assignment `a`. -/
def hitRow (dt : IVec S24576 32) (nv : IVec S96 32) (nu : IVec S1 32) (a : Fin 20480) (r : Fin 24576) : Prop :=
  (dt (ix1 r)).toNat = a.val ∧ usedRow nv nu r

section
variable [Facts]
open Facts

/-- Which row lands at which assignment, as the printed function computes it. -/
def mask (dt : IVec S24576 32) (nv : IVec S96 32) (nu : IVec S1 32) : IVec S20480x24576 1 :=
  let main_v0 : IVec S96 32 := iotaInDim S96 32 0
  let main_v1 : IVec S96x1 32 := broadcastInDim S96x1 ![0] bcast_S96_S96x1_0 main_v0
  let main_v2 : IVec S_ 32 := shapeCast S_ nu shapeCasts_S1_S_
  let main_v3 : IVec S96x1 32 := broadcastInDim S96x1 ![] bcast_S_S96x1 main_v2
  let main_v4 : IVec S96x1 1 := cmpi .slt main_v1 main_v3
  let main_v5 : IVec S256 32 := iotaInDim S256 32 0
  let main_v6 : IVec S1x256 32 := broadcastInDim S1x256 ![1] bcast_S256_S1x256_1 main_v5
  let main_v7 : IVec S96x1 32 := broadcastInDim S96x1 ![0] bcast_S96_S96x1_0 nv
  let main_v8 : IVec S96x256 32 := broadcastInDim S96x256 ![0, 1] bcast_S1x256_S96x256_0_1 main_v6
  let main_v9 : IVec S96x256 32 := broadcastInDim S96x256 ![0, 1] bcast_S96x1_S96x256_0_1 main_v7
  let main_v10 : IVec S96x256 1 := cmpi .slt main_v8 main_v9
  let main_v11 : IVec S96x256 1 := broadcastInDim S96x256 ![0, 1] bcast_S96x1_S96x256_0_1 main_v4
  let main_v12 : IVec S96x256 1 := andi main_v11 main_v10
  let main_v13 : IVec S1x24576 32 := broadcastInDim S1x24576 ![1] bcast_S24576_S1x24576_1 dt
  let main_v14 : IVec S20480 32 := iotaInDim S20480 32 0
  let main_v15 : IVec S20480x1 32 := broadcastInDim S20480x1 ![0] bcast_S20480_S20480x1_0 main_v14
  let main_v16 : IVec S20480x24576 32 := broadcastInDim S20480x24576 ![0, 1] bcast_S1x24576_S20480x24576_0_1 main_v13
  let main_v17 : IVec S20480x24576 32 := broadcastInDim S20480x24576 ![0, 1] bcast_S20480x1_S20480x24576_0_1 main_v15
  let main_v18 : IVec S20480x24576 1 := cmpi .eq main_v16 main_v17
  let main_v19 : IVec S1x24576 1 := shapeCast S1x24576 main_v12 shapeCasts_S96x256_S1x24576
  let main_v20 : IVec S20480x24576 1 := broadcastInDim S20480x24576 ![0, 1] bcast_S1x24576_S20480x24576_0_1 main_v19
  andi main_v18 main_v20

theorem mask_at (dt : IVec S24576 32) (nv : IVec S96 32) (nu : IVec S1 32) (a : Fin 20480) (r : Fin 24576) :
    mask dt nv nu (ix2 a r) = IntOp.andi (IntOp.cmpi .eq (dt (ix1 r)) (BitVec.ofNat 32 a.val))
      (IntOp.andi (IntOp.cmpi .slt (BitVec.ofNat 32 (r.val / 256)) (nu (ix1 ⟨0, by omega⟩)))
        (IntOp.cmpi .slt (BitVec.ofNat 32 (r.val % 256)) (nv (ix1 ⟨r.val / 256, by omega⟩)))) := by
  pointwise [mask]

theorem and_one {x y : BitVec 1} (h : IntOp.andi x y = 1#1) : x = 1#1 ∧ y = 1#1 := by
  revert x y; decide

theorem and_one_iff {x y : BitVec 1} : IntOp.andi x y = 1#1 ↔ x = 1#1 ∧ y = 1#1 := by
  revert x y; decide

/-- A word not negative reads the same signed and unsigned. -/
theorem nonneg_of {x : BitVec 32} (h0 : IntOp.cmpi .sge x 0#32 = 1#1) : x.toInt = x.toNat ∧ x.toNat < 2 ^ 31 := by
  have h : (0 : Int) ≤ x.toInt := by
    simpa only [IntOp.cmpi, StableHlo.Predicate.ofBool_eq_one_iff, BitVec.sle, decide_eq_true_eq, BitVec.toInt_zero] using h0
  have hx := x.isLt
  rw [BitVec.toInt_eq_toNat_cond] at h ⊢
  split at h <;> rename_i hc
  · rw [if_pos hc]; exact ⟨rfl, by omega⟩
  · omega

theorem lt_of {x : BitVec 32} {n : ℕ} (hn : n < 2 ^ 31) (h0 : IntOp.cmpi .sge x 0#32 = 1#1) (h1 : IntOp.cmpi .slt x (BitVec.ofNat 32 n) = 1#1) :
    x.toNat < n := by
  have h := (StableHlo.Predicate.slt_iff_toNat (nonneg_of h0).2 (by rw [BitVec.toNat_ofNat]; omega)).1 h1
  rwa [BitVec.toNat_ofNat, Nat.mod_eq_of_lt (by omega)] at h

theorem le_of {x : BitVec 32} {n : ℕ} (hn : n < 2 ^ 31) (h0 : IntOp.cmpi .sge x 0#32 = 1#1) (h1 : IntOp.cmpi .sle x (BitVec.ofNat 32 n) = 1#1) :
    x.toNat ≤ n := by
  have h := (StableHlo.Predicate.sle_iff_toNat (nonneg_of h0).2 (by rw [BitVec.toNat_ofNat]; omega)).1 h1
  rwa [BitVec.toNat_ofNat, Nat.mod_eq_of_lt (by omega)] at h

/-- The mask read, of tables in range. -/
theorem mask_iff (dt : IVec S24576 32) (nv : IVec S96 32) (nu : IVec S1 32) (hnv : ∀ i : Fin 96, (nv (ix1 i)).toNat ≤ 256)
    (hnu : (nu (ix1 ⟨0, by omega⟩)).toNat ≤ 96) (a : Fin 20480) (r : Fin 24576) :
    mask dt nv nu (ix2 a r) = 1#1 ↔ hitRow dt nv nu a r := by
  have ha := a.isLt
  have hr := r.isLt
  have h1 := hnv ⟨r.val / 256, by omega⟩
  rw [mask_at, and_one_iff, and_one_iff, StableHlo.Predicate.cmpi_eq_iff,
    StableHlo.Predicate.slt_iff_toNat (by rw [BitVec.toNat_ofNat]; omega) (by omega),
    StableHlo.Predicate.slt_iff_toNat (by rw [BitVec.toNat_ofNat]; omega) (by omega), BitVec.toNat_ofNat, BitVec.toNat_ofNat,
    Nat.mod_eq_of_lt (by omega), Nat.mod_eq_of_lt (by omega)]
  unfold hitRow usedRow
  refine and_congr ⟨fun h => ?_, fun h => ?_⟩ Iff.rfl
  · rw [h, BitVec.toNat_ofNat, Nat.mod_eq_of_lt (by omega)]
  · exact BitVec.eq_of_toNat_eq (by rw [h, BitVec.toNat_ofNat, Nat.mod_eq_of_lt (by omega)])

theorem ix1_eta {n : ℕ} (i : (⟨1, ![n]⟩ : Shape).Idx) : i = ix1 (i 0) := by
  funext a; match a with | ⟨0, _⟩ => rfl

/-- What the precondition says of the tables. -/
structure Routed (tk dt : IVec S24576 32) (te nv : IVec S96 32) (nu : IVec S1 32) : Prop where
  tok : ∀ r : Fin 24576, (tk (ix1 r)).toNat < 10240
  dst : ∀ r : Fin 24576, (dt (ix1 r)).toNat < 20480
  exp : ∀ i : Fin 96, (te (ix1 i)).toNat < 16
  cnt : ∀ i : Fin 96, (nv (ix1 i)).toNat ≤ 256
  tiles : (nu (ix1 ⟨0, by omega⟩)).toNat ≤ 96
  hit : ∀ a : Fin 20480, ∃ r, hitRow dt nv nu a r
  once : ∀ (a : Fin 20480) (r r' : Fin 24576), hitRow dt nv nu a r → hitRow dt nv nu a r' → r = r'

set_option maxHeartbeats 1000000 in
theorem routed_of {F : FTy → Type} [FloatOps F] (tk dt : IVec S24576 32) (te nv : IVec S96 32) (nu : IVec S1 32) (u2 w g u d)
    (h : fn (F := F) tk dt te nv nu u2 w g u d = fun _ => 1#1) : Routed tk dt te nv nu := by
  have e := congrFun h (Shape.Idx.first h_S_)
  have : Subsingleton S_.Idx := ⟨fun x y => funext fun a => a.elim0⟩
  obtain ⟨e, eo⟩ := and_one e
  obtain ⟨e, eu⟩ := and_one e
  obtain ⟨e, ev⟩ := and_one e
  obtain ⟨e, ee⟩ := and_one e
  obtain ⟨et, ed⟩ := and_one e
  have ht : ∀ r : Fin 24576, (tk (ix1 r)).toNat < 10240 := fun r => by
    obtain ⟨x, y⟩ := and_one (Host.reduce_andi_all _ _ _ _ _ et (ix1 r)); exact lt_of (by omega) x y
  have hd : ∀ r : Fin 24576, (dt (ix1 r)).toNat < 20480 := fun r => by
    obtain ⟨x, y⟩ := and_one (Host.reduce_andi_all _ _ _ _ _ ed (ix1 r)); exact lt_of (by omega) x y
  have he : ∀ r : Fin 96, (te (ix1 r)).toNat < 16 := fun r => by
    obtain ⟨x, y⟩ := and_one (Host.reduce_andi_all _ _ _ _ _ ee (ix1 r)); exact lt_of (by omega) x y
  have hv : ∀ r : Fin 96, (nv (ix1 r)).toNat ≤ 256 := fun r => by
    obtain ⟨x, y⟩ := and_one (Host.reduce_andi_all _ _ _ _ _ ev (ix1 r)); exact le_of (by omega) x y
  have hu : (nu (ix1 ⟨0, by omega⟩)).toNat ≤ 96 := by
    obtain ⟨x, y⟩ := and_one (Host.reduce_andi_all _ _ _ _ _ eu (ix1 ⟨0, by omega⟩)); exact le_of (by omega) x y
  have ho : ∀ a : Fin 20480, (Finset.univ.filter fun r : Fin 24576 => mask dt nv nu (ix2 a r) = 1#1).card = 1 := fun a => by
    have x := Host.reduce_andi_all _ _ _ _ _ eo (ix1 a)
    have y := StableHlo.Predicate.cmpi_eq_iff.1 x
    have z := StableHlo.Predicate.toNat_reduce_count_cols (n := 20480) (m := 24576) (by omega) (mask dt nv nu) natLt_1_32 reducesTo_S20480x24576_S20480_d1 h_S_ (ix1 a)
    have w : (Host.reduce IntOp.addi (extui 32 (mask dt nv nu) natLt_1_32) (constantI S_ 32 0#32) reducesTo_S20480x24576_S20480_d1 h_S_ (ix1 a)) = 1#32 := y
    rw [w] at z
    exact z.symm
  refine ⟨ht, hd, he, hv, hu, fun a => ?_, fun a r r' hr hr' => ?_⟩
  · obtain ⟨r, hr⟩ := Finset.card_eq_one.1 (ho a)
    refine ⟨r, (mask_iff dt nv nu hv hu a r).1 (Finset.mem_filter.1 (?_ : r ∈ Finset.univ.filter fun r : Fin 24576 => mask dt nv nu (ix2 a r) = 1#1)).2⟩
    rw [hr]; exact Finset.mem_singleton_self r
  · exact Finset.card_le_one.1 (ho a).le r (Finset.mem_filter.2 ⟨Finset.mem_univ _, (mask_iff dt nv nu hv hu a r).2 hr⟩) r'
      (Finset.mem_filter.2 ⟨Finset.mem_univ _, (mask_iff dt nv nu hv hu a r').2 hr'⟩)

end

end Cert.Pre_tables_route

end
-- ==== Proof.MoeModel.lean ====
module
public import proofs.«01_k».proof.Proof.OutModel
@[expose] public section

/-! What an expert makes of one row: the gated product of two projections of a token, scaled by the row's weight, and
    projected back. -/

noncomputable section

namespace Cert.MoeModel
open Idealize.ShloMosaic

/-- A row `u` through one expert: `silu(u · wg) * (u · wu)`, scaled by `w`, through `wd`, at the output column. -/
def rowOut (u : Fin 1024 → EReal) (wg wu : Fin 1024 → Fin 512 → EReal) (wd : Fin 512 → EReal) (w : EReal) : EReal :=
  ∑ f, ((∑ k, u k * wg k f) * Ideal.div 1 (1 + Ideal.exp (-∑ k, u k * wg k f)) * (∑ k, u k * wu k f)) * w * wd f

end Cert.MoeModel

end
-- ==== Proof.MoeRef.lean ====
module
public import proofs.«01_k».proof.Proof.MoePre
public import proofs.«01_k».proof.Proof.MoeModel
public import proofs.«01_k».proof.Proof.Gen.MoeRefIdeal.Read
@[expose] public section

/-! The reference's result, read at an assignment `a` and a column `d`: the one row of the tables whose destination is
    `a`, through that row's expert. -/

noncomputable section

namespace Cert.MoeRefIdeal.At
open Cert.MoeRefIdeal Cert.MoeRefIdeal.Gen Cert.MoeRefIdeal.Read Idealize.ShloMosaic Idealize.ShloMosaic.StableHlo
open Cert.Pre_tables_route (Routed hitRow mask mask_iff nonneg_of)

/-- The gathered rows: row `r` is `u2`'s row at the token the table names. -/
theorem v0_at (x0 : IVec S24576 32) (x5) (r : Fin 24576) (k : Fin 1024) (h : (x0 (ix1 r)).toNat < 10240) :
    val_main_v0 (F := Ideal) x0 x5 (ix2 r k) = x5 (ix2 ⟨(x0 (ix1 r)).toNat, h⟩ k) := by
  unfold val_main_v0 Host.gather
  refine congrArg x5 (funext fun a => Fin.ext ?_)
  show gather_S10240x1024_S24576x1_S24576x1024_1_0_n_n_0_1_11024.start (ix2 r k) (val_main_call0_v0 (F := Ideal) x0) a
      + gather_S10240x1024_S24576x1_S24576x1024_1_0_n_n_0_1_11024.batchCoord (ix2 r k) a
      + gather_S10240x1024_S24576x1_S24576x1024_1_0_n_n_0_1_11024.offCoord (ix2 r k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10240x1024_S24576x1_S24576x1024_1_0_n_n_0_1_11024.startIndexMap from List.mem_singleton.mpr rfl)]
    have e : ∀ y : S24576x1.Idx, (y 0).val = r.val → val_main_call0_v0 (F := Ideal) x0 y = x0 (ix1 r) := fun y hy => by
      have : y = ix2 r 0 := funext fun b => by
        match b with
        | ⟨0, _⟩ => exact Fin.ext hy
        | ⟨1, _⟩ => exact Fin.ext (by have h1 : (y 1).val < 1 := (y 1).isLt; show (y 1).val = 0; omega)
      rw [this]; pointwise [val_main_call0_v0]
    rw [e _ rfl]
    have hx := BitVec.toInt_eq_toNat_of_lt (x := x0 (ix1 r)) (by omega)
    show min (x0 (ix1 r)).toInt.toNat (10240 - 1) = (x0 (ix1 r)).toNat
    rw [hx]; omega
  · unfold GatherDims.start
    rw [dif_neg (show ¬ (1 : Fin 2) ∈ gather_S10240x1024_S24576x1_S24576x1024_1_0_n_n_0_1_11024.startIndexMap by decide)]
    simp only [Nat.zero_add, Nat.add_zero]
    unfold GatherDims.offCoord
    rw [dif_pos (show (1 : Fin 2) ∈ gather_S10240x1024_S24576x1_S24576x1024_1_0_n_n_0_1_11024.sKept by decide)]
    rfl

/-- A bit as a number. -/
theorem bit_zero {b : BitVec 1} (h : b ≠ 1#1) : FloatOps.uitofp (F := Ideal) FTy.f32 b = (0 : EReal) := by
  have : b = 0#1 := by revert h; revert b; decide
  rw [this]; show ((((0#1 : BitVec 1).toNat : ℕ) : ℝ) : EReal) = 0; simp

theorem bit_one {b : BitVec 1} (h : b = 1#1) : FloatOps.uitofp (F := Ideal) FTy.f32 b = (1 : EReal) := by
  rw [h]; show ((((1#1 : BitVec 1).toNat : ℕ) : ℝ) : EReal) = 1; simp

theorem v21_at (x0 x2 x5 x6 x7 x8) (r : Fin 24576) (e : Fin 16) (f : Fin 512) :
    val_main_v21 (F := Ideal) x0 x2 x5 x6 x7 x8 (ix3 r e f)
      = ((∑ x, val_main_v0 (F := Ideal) x0 x5 (ix2 r x) * x7 (ix3 e x f)) *
          Ideal.div 1 (1 + Ideal.exp (-∑ x, val_main_v0 (F := Ideal) x0 x5 (ix2 r x) * x7 (ix3 e x f))) *
        ∑ x, val_main_v0 (F := Ideal) x0 x5 (ix2 r x) * x8 (ix3 e x f)) *
      ((FloatOps.uitofp (F := Ideal) FTy.f32 (IntOp.cmpi CmpIPredicate.eq (x2 (ix1 ⟨r.val / 256, by have := r.isLt; omega⟩)) (BitVec.ofNat 32 e.val)) : EReal) *
        x6 (ix2 r 0)) := by
  pointwise [val_main_v21, val_main_v20, val_main_v19, val_main_v18, val_main_v17, val_main_v16, val_main_v15, val_main_call1_v5, val_main_call1_v3, val_main_call1_v1, val_main_call1_v0, val_main_call1_v2, val_main_call1_v4, val_main_call1_cst, val_main_call1_cst_0, val_main_v14, val_main_v13, val_main_v12, val_main_v11, val_main_v10, val_main_v9, val_main_v8, val_main_v7, val_main_v6, val_main_v5, val_main_v4, val_main_v2, val_main_v1]

theorem v22_at (x0 x2 x5 x6 x7 x8 x9) (r : Fin 24576) (d : Fin 1024) :
    val_main_v22 (F := Ideal) x0 x2 x5 x6 x7 x8 x9 (ix2 r d)
      = ∑ e, ∑ f, val_main_v21 (F := Ideal) x0 x2 x5 x6 x7 x8 (ix3 r e f) * x9 (ix3 e f d) := by
  unfold val_main_v22
  generalize val_main_v21 (F := Ideal) x0 x2 x5 x6 x7 x8 = y
  pointwise [val_main_v3]

/-- A row's sum over the experts is what its own expert makes of it: the others' gates are zero. -/
theorem v22_row (x0 : IVec S24576 32) (x2 : IVec S96 32) (x5 x6 x7 x8 x9) (r : Fin 24576) (d : Fin 1024)
    (ht : (x0 (ix1 r)).toNat < 10240) (e : Fin 16) (he : (x2 (ix1 ⟨r.val / 256, by have := r.isLt; omega⟩)).toNat = e.val) :
    val_main_v22 (F := Ideal) x0 x2 x5 x6 x7 x8 x9 (ix2 r d)
      = Cert.MoeModel.rowOut (fun k => x5 (ix2 ⟨(x0 (ix1 r)).toNat, ht⟩ k)) (fun k f => x7 (ix3 e k f)) (fun k f => x8 (ix3 e k f))
          (fun f => x9 (ix3 e f d)) (x6 (ix2 r 0)) := by
  rw [v22_at]
  rw [Finset.sum_eq_single e]
  · unfold Cert.MoeModel.rowOut
    refine Finset.sum_congr rfl fun f _ => ?_
    rw [v21_at, bit_one (StableHlo.Predicate.cmpi_eq_iff.2 (BitVec.eq_of_toNat_eq (by
      rw [he, BitVec.toNat_ofNat, Nat.mod_eq_of_lt (by omega)]))), one_mul]
    simp only [v0_at x0 x5 r _ ht]
  · intro e' _ hne
    refine Finset.sum_eq_zero fun f _ => ?_
    rw [v21_at, bit_zero (fun h => hne (Fin.ext ?_)), zero_mul, mul_zero, zero_mul]
    have h := StableHlo.Predicate.cmpi_eq_iff.1 h
    rw [h, BitVec.toNat_ofNat, Nat.mod_eq_of_lt (by omega)] at he
    exact he
  · intro h; exact absurd (Finset.mem_univ _) h

theorem v45_at (x1 : IVec S24576 32) (x3 : IVec S96 32) (x4 : IVec S1 32) (i) :
    val_main_v45 (F := Ideal) x1 x3 x4 i = (FloatOps.uitofp (F := Ideal) FTy.f32 (mask x1 x3 x4 i) : EReal) := rfl

/-- The reference's result at `(a, d)`, of the row `r` whose destination is `a`. -/
theorem v46_at (x0 x1 : IVec S24576 32) (x2 x3 : IVec S96 32) (x4 : IVec S1 32) (x5 x6 x7 x8 x9) (hR : Routed x0 x1 x2 x3 x4)
    (a : Fin 20480) (d : Fin 1024) (r : Fin 24576) (hr : hitRow x1 x3 x4 a r) (e : Fin 16)
    (he : (x2 (ix1 ⟨r.val / 256, by have := r.isLt; omega⟩)).toNat = e.val) :
    val_main_v46 (F := Ideal) x0 x1 x2 x3 x4 x5 x6 x7 x8 x9 (ix2 a d)
      = Cert.MoeModel.rowOut (fun k => x5 (ix2 ⟨(x0 (ix1 r)).toNat, hR.tok r⟩ k)) (fun k f => x7 (ix3 e k f)) (fun k f => x8 (ix3 e k f))
          (fun f => x9 (ix3 e f d)) (x6 (ix2 r 0)) := by
  have h0 : val_main_v46 (F := Ideal) x0 x1 x2 x3 x4 x5 x6 x7 x8 x9 (ix2 a d)
      = ∑ s : Fin 24576, val_main_v45 (F := Ideal) x1 x3 x4 (ix2 a s) * val_main_v22 (F := Ideal) x0 x2 x5 x6 x7 x8 x9 (ix2 s d) := by
    unfold val_main_v46
    generalize val_main_v45 (F := Ideal) x1 x3 x4 = y
    generalize val_main_v22 (F := Ideal) x0 x2 x5 x6 x7 x8 x9 = z
    pointwise
  rw [h0, Finset.sum_eq_single r]
  · rw [v45_at, bit_one ((mask_iff x1 x3 x4 hR.cnt hR.tiles a r).2 hr), one_mul, v22_row x0 x2 x5 x6 x7 x8 x9 r d (hR.tok r) e he]
  · intro s _ hne
    rw [v45_at, bit_zero (fun h => hne (hR.once a s r ((mask_iff x1 x3 x4 hR.cnt hR.tiles a s).1 h) hr)), zero_mul]
  · intro h; exact absurd (Finset.mem_univ _) h

end Cert.MoeRefIdeal.At

end
-- ==== Proof.MoeIdealRows.lean ====
/- The rows the kernel's transfers move, as sets of elements, and what a transfer leaves on them. -/
module

public import proofs.«01_k».proof.Proof.Gen.MoeIdeal.Loops
public import Idealize.ShloMosaic.Lib.Pipeline.ValueKit
public import Idealize.ShloMosaic.Lib.Batch

@[expose] public section

noncomputable section

namespace Cert.MoeIdeal

open Idealize.ShloMosaic Idealize.ShloMosaic.TcCoe
open Idealize.SL Idealize.SL.RA Idealize.SL.BI

variable {F : FTy → Type} [FloatOps F]

/-- The elements of row `k` of an array of rows. -/
def rowSet (n d k : ℕ) : Finset (⟨2, ![n, d]⟩ : Shape).Idx := Finset.univ.filter fun x => (x 0).val = k

theorem mem_rowSet {n d k : ℕ} {x : (⟨2, ![n, d]⟩ : Shape).Idx} : x ∈ rowSet n d k ↔ (x 0).val = k := by simp [rowSet]

/-- Different rows share no element. -/
theorem rowSet_disjoint {n d k k' : ℕ} (h : k ≠ k') : Disjoint (rowSet n d k) (rowSet n d k') :=
  Finset.disjoint_left.mpr fun x hx hx' => h ((mem_rowSet.mp hx).symm.trans (mem_rowSet.mp hx'))

/-- The rows of the gathered rows' buffer, of the results' buffer, of the tokens and of the assignments. -/
abbrev xrow (off : Fin 2 → ℕ) (h : ∀ a, off a + S1x1024.size a ≤ S256x1024.size a) : Memref sig .tc .vmem S1x1024 .f32 :=
  (Memref.whole cc0_scratch0).slice (Rect.unit (s := S256x1024) off S1x1024.size h) (fun _ => rfl)
abbrev orow (off : Fin 2 → ℕ) (h : ∀ a, off a + S1x1024.size a ≤ S256x1024.size a) : Memref sig .tc .vmem S1x1024 .f32 :=
  (Memref.whole cc0_scratch1).slice (Rect.unit (s := S256x1024) off S1x1024.size h) (fun _ => rfl)
abbrev urow (off : Fin 2 → ℕ) (h : ∀ a, off a + S1x1024.size a ≤ S10240x1024.size a) : Memref sig .tc .hbm S1x1024 .f32 :=
  (Memref.whole main_arg5).slice (Rect.unit (s := S10240x1024) off S1x1024.size h) (fun _ => rfl)
abbrev yrow (off : Fin 2 → ℕ) (h : ∀ a, off a + S1x1024.size a ≤ S20480x1024.size a) : Memref sig .tc .hbm S1x1024 .f32 :=
  (Memref.whole main_v0).slice (Rect.unit (s := S20480x1024) off S1x1024.size h) (fun _ => rfl)

theorem mem_unit_row {n k : ℕ} {off : Fin 2 → ℕ} (ho : off = ![k, 0])
    (h : ∀ a, off a + S1x1024.size a ≤ (⟨2, ![n, 1024]⟩ : Shape).size a) (x : (⟨2, ![n, 1024]⟩ : Shape).Idx) :
    x ∈ (Rect.unit (s := ⟨2, ![n, 1024]⟩) off S1x1024.size h).set ↔ x ∈ rowSet n 1024 k := by
  subst ho
  rw [Rect.mem_set_unit, mem_rowSet, Fin.forall_fin_two]
  have h1 : (x 1).val < 1024 := (x 1).isLt
  show (k ≤ (x 0).val ∧ (x 0).val < k + 1) ∧ (0 ≤ (x 1).val ∧ (x 1).val < 0 + 1024) ↔ _
  omega

theorem xrow_set {k : ℕ} {off : Fin 2 → ℕ} (ho : off = ![k, 0]) (h) : (xrow off h).view.set = rowSet 256 1024 k := by
  ext x; exact ValueKit.mem_set_slice_whole_iff cc0_scratch0 _ x (mem_unit_row ho h x)
theorem orow_set {k : ℕ} {off : Fin 2 → ℕ} (ho : off = ![k, 0]) (h) : (orow off h).view.set = rowSet 256 1024 k := by
  ext x; exact ValueKit.mem_set_slice_whole_iff cc0_scratch1 _ x (mem_unit_row ho h x)
theorem urow_set {k : ℕ} {off : Fin 2 → ℕ} (ho : off = ![k, 0]) (h) : (urow off h).view.set = rowSet 10240 1024 k := by
  ext x; exact ValueKit.mem_set_slice_whole_iff main_arg5 _ x (mem_unit_row ho h x)
theorem yrow_set {k : ℕ} {off : Fin 2 → ℕ} (ho : off = ![k, 0]) (h) : (yrow off h).view.set = rowSet 20480 1024 k := by
  ext x; exact ValueKit.mem_set_slice_whole_iff main_v0 _ x (mem_unit_row ho h x)

/-- A gathered row lands with the token's columns. -/
theorem gather_landed {k t : ℕ} {off off' : Fin 2 → ℕ} (ho : off = ![k, 0]) (ho' : off' = ![t, 0]) (h) (h') (ht : t < 10240)
    (fd : S256x1024.Idx → Elt F .f32) (fs : S10240x1024.Idx → Elt F .f32) (x : S256x1024.Idx) (hx : x ∈ rowSet 256 1024 k) :
    (xrow off h).view.write (Elt F) fd (ReadAs.same.apply ((urow off' h').view.read (Elt F) fs)) Finset.univ x = fs (ix2 ⟨t, ht⟩ (x 1)) := by
  subst ho ho'
  have e : (xrow ![k, 0] h).view.emb (ix2 (0 : Fin 1) (x 1)) = x := by
    funext a; refine Fin.ext ?_
    refine (ValueKit.view_emb_slice_whole_unit_val cc0_scratch0 _ _ _ _ a).trans ?_
    match a with
    | ⟨0, _⟩ => exact ((mem_rowSet.mp hx).trans (Nat.add_zero k).symm).symm
    | ⟨1, _⟩ => exact Nat.zero_add _
  have e' : (urow ![t, 0] h').view.emb (ix2 (0 : Fin 1) (x 1)) = ix2 ⟨t, ht⟩ (x 1) := by
    funext a; refine Fin.ext ?_
    refine (ValueKit.view_emb_slice_whole_unit_val main_arg5 _ _ _ _ a).trans ?_
    match a with
    | ⟨0, _⟩ => exact Nat.add_zero t
    | ⟨1, _⟩ => exact Nat.zero_add _
  have w := View.write_emb (Val := Elt F) (v := (xrow ![k, 0] h).view) fd (ReadAs.same.apply ((urow ![t, 0] h').view.read (Elt F) fs)) Finset.univ (ix2 (0 : Fin 1) (x 1))
  rw [e] at w
  refine w.trans ?_
  rw [if_pos (Finset.mem_univ _)]
  exact congrArg fs e'

/-- A scattered row lands with the result's columns. -/
theorem scatter_landed {k t : ℕ} {off off' : Fin 2 → ℕ} (ho : off = ![k, 0]) (ho' : off' = ![t, 0]) (h) (h') (ht : t < 256)
    (fd : S20480x1024.Idx → Elt F .f32) (fs : S256x1024.Idx → Elt F .f32) (x : S20480x1024.Idx) (hx : x ∈ rowSet 20480 1024 k) :
    (yrow off h).view.write (Elt F) fd (ReadAs.same.apply ((orow off' h').view.read (Elt F) fs)) Finset.univ x = fs (ix2 ⟨t, ht⟩ (x 1)) := by
  subst ho ho'
  have e : (yrow ![k, 0] h).view.emb (ix2 (0 : Fin 1) (x 1)) = x := by
    funext a; refine Fin.ext ?_
    refine (ValueKit.view_emb_slice_whole_unit_val main_v0 _ _ _ _ a).trans ?_
    match a with
    | ⟨0, _⟩ => exact ((mem_rowSet.mp hx).trans (Nat.add_zero k).symm).symm
    | ⟨1, _⟩ => exact Nat.zero_add _
  have e' : (orow ![t, 0] h').view.emb (ix2 (0 : Fin 1) (x 1)) = ix2 ⟨t, ht⟩ (x 1) := by
    funext a; refine Fin.ext ?_
    refine (ValueKit.view_emb_slice_whole_unit_val cc0_scratch1 _ _ _ _ a).trans ?_
    match a with
    | ⟨0, _⟩ => exact Nat.add_zero t
    | ⟨1, _⟩ => exact Nat.zero_add _
  have w := View.write_emb (Val := Elt F) (v := (yrow ![k, 0] h).view) fd (ReadAs.same.apply ((orow ![t, 0] h').view.read (Elt F) fs)) Finset.univ (ix2 (0 : Fin 1) (x 1))
  rw [e] at w
  refine w.trans ?_
  rw [if_pos (Finset.mem_univ _)]
  exact congrArg fs e'

end Cert.MoeIdeal

end
-- ==== Proof.MoeIdealGather.lean ====
/- The gather of one tile: every row's copy started on one semaphore, then every row's wait, and the tile's rows whole
   again at the tokens' rows. -/
module

public import proofs.«01_k».proof.Proof.MoeIdealRows
public import Idealize.ShloMosaic.Lib.Tactic
public import Idealize.ShloMosaic.Lib.Exec

@[expose] public section

noncomputable section

namespace Cert.MoeIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Facts₀ Facts

local notation "𝕄" => MT nD τ sig Unit (Elt F) ℕ (Pipeline.UD sig nD τ) ℕ
local notation "EC" => (countersEmb (U := Pipeline.UD sig nD τ))

/-- A word of a table: its element at position `n`. -/
def word {N : ℕ} (t : (⟨1, ![N]⟩ : Shape).Idx → BitVec 32) (n : ℕ) (h : n < N) : BitVec 32 := t (ix1 ⟨n, h⟩)

/-- A trip of a loop from zero by one is its induction variable. -/
theorem iv_zero_one (k : ℕ) : Scf.iv (0#32) 1#32 k = BitVec.ofNat 32 k := by
  unfold Scf.iv; rw [BitVec.zero_add, BitVec.mul_one]

theorem grid_lt (i : grid0.Coords) : (i 0).val < 96 := (i 0).isLt

theorem trips1 : k0_t1_loop.trips = 256 := by decide
theorem trips2 : k0_t2_loop.trips = 256 := by decide

theorem k1_lt (k : Fin k0_t1_loop.trips) : k.val < 256 := lt_of_lt_of_eq k.isLt trips1
theorem pos1_lt (i : grid0.Coords) {k : ℕ} (hk : k < 256) : 256 * (i 0).val + k < 24576 := by have := grid_lt i; omega

theorem off4_eq (w : BitVec 32) : k0_off4 w = ![w.toNat, 0] := rfl

/-- A program that has returned goes on at its value; a step's continuation takes what follows. -/
theorem ret_bind {E : Type → Type} {α β : Type} (a : α) (k : α → Prog E β) : (Prog.ret a).bind k = k a := rfl
theorem ret_bindM {E : Type → Type} {α β : Type} (a : α) (k : α → Prog E β) : (Prog.ret a) >>= k = k a := rfl
theorem op_bind {E : Type → Type} {α β γ : Type} (e : E γ) (k' : γ → Prog E α) (k : α → Prog E β) : (Prog.op e k') >>= k = Prog.op e (fun r => k' r >>= k) := rfl

/-- A word of a table, the table held whole. -/
theorem wp_tableWord {α : Type} {Q : α → sProp 𝕄} (c : Dev nD) {s : Shape} {e : EltTy} (m : Memref sig .tc .smem s e) {r : Rect s} {x : r.shape.Idx}
    {hw : (m.access r).Loads}
    {k : Elt F e → Prog (TpuEff nD τ sig (Elt F) Λ₀ .tc) α} {q : PosShare TreeShare} {f : Buf (Elt F) (m.view.loc (c : Thread nD τ))} :
    ((m.view.loc (c : Thread nD τ)) ↦{q} f)
      ⊢ iprop((((m.view.loc (c : Thread nD τ)) ↦{q} f) -∗ ∀ w, ⌜w = (m.access r).read (Elt F) f x⌝
          -∗ wp frame (wpE (defs₀ (F := F)) Variants.none (c : Thread nD τ) none) Set.univ (k w) Q)
        -∗ wp frame (wpE (defs₀ (F := F)) Variants.none (c : Thread nD τ) none) Set.univ (smemLoadElt m r hw x k) Q) :=
  wp_smemLoadElt_named Variants.none (c : Thread nD τ) none Set.univ (m := m) (Finset.subset_univ _)

/-! ## The gather's loops -/

section Gather

variable (c : Dev nD) (i : grid0.Coords)
variable (tk : S24576.Idx → BitVec 32) (htk : ∀ n (h : n < 24576), (word tk n h).toNat < 10240)
variable (fu : S10240x1024.Idx → Elt F .f32) (fx : S256x1024.Idx → Elt F .f32)

/-- The token word of the tile's row `k`. -/
def tokW (k : Fin k0_t1_loop.trips) : BitVec 32 := word tk (256 * (i 0).val + k.val) (pos1_lt i (k1_lt k))

/-- The tile's gathered rows. -/
def gathered : S256x1024.Idx → Elt F .f32 := fun x =>
  fu (ix2 ⟨(word tk (256 * (i 0).val + (x 0).val) (pos1_lt i (x 0).isLt)).toNat, htk _ _⟩ (x 1))

/-- What row `j`'s copy takes: its token's row at a read share, the row it lands in. -/
def gPiece (j : Fin k0_t1_loop.trips) : sProp 𝕄 :=
  iprop((((c : Thread nD τ).loc main_arg5) ↦[rowSet 10240 1024 (tokW i tk j).toNat]{Transfers.shareTok fullShare k0_t1_loop.trips j} fu)
    ∗ (((c : Thread nD τ).loc cc0_scratch0) ↦[rowSet 256 1024 j.val]{fullShare} fx))

/-- What it delivers: the row landed, the token's row back. -/
def gDeliv (j : Fin k0_t1_loop.trips) : sProp 𝕄 :=
  iprop((((c : Thread nD τ).loc cc0_scratch0) ↦[rowSet 256 1024 j.val]{fullShare} (gathered i tk htk fu))
    ∗ (((c : Thread nD τ).loc main_arg5) ↦[rowSet 10240 1024 (tokW i tk j).toNat]{Transfers.shareTok fullShare k0_t1_loop.trips j} fu))

instance gDeliv_storable (j : Fin k0_t1_loop.trips) : Storable (upEmb : UEmb _ 𝕄) (gDeliv (F := F) c i tk htk fu j) := by
  unfold gDeliv; infer_instance

theorem inb_S256x1024_row0 : ∀ a, (![0, 0] : Fin 2 → ℕ) a + S1x1024.size a ≤ S256x1024.size a := by decide

/-- One row's credit. -/
abbrev gN : ℕ := (xrow ![0, 0] inb_S256x1024_row0).view.amount (SemLoc.dma (sig := sig) cc0_scratch2.sem)

abbrev gBatch (k u : ℕ) : sProp 𝕄 :=
  Transfers.Batch EC (c : Thread nD τ) (.dma cc0_scratch2.sem) () gN (gDeliv (F := F) c i tk htk fu) k u

variable (arg7 : Memref sig .tc .vmem S256x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg0 v0 : BitVec 32) (h1 : k0_cond1 i v0 = 1#1)

/-- Starting the copy of a token's row into a row of the buffer. -/
theorem wp_gatherRow {α : Type} {Q : α → sProp 𝕄} {n : ℕ} {t kk : ℕ} {off off' : Fin 2 → ℕ} (ho : off = ![kk, 0]) (ho' : off' = ![t, 0]) (h) (h')
    (ht : t < 10240) {hs hd ht'} {k : PUnit → Prog (TpuEff nD τ sig (Elt F) Λ₀ .tc) α} {q : PosShare TreeShare}
    {fu : S10240x1024.Idx → Elt F .f32} {fx g : S256x1024.Idx → Elt F .f32} {D : Fin n → sProp 𝕄} {j u : ℕ} (hj : j < n) (hu : u ≤ j * gN)
    (hg : ∀ x ∈ rowSet 256 1024 kk, fu (ix2 ⟨t, ht⟩ (x 1)) = g x)
    (hD : iprop((((c : Thread nD τ).loc cc0_scratch0) ↦[rowSet 256 1024 kk]{fullShare} g)
      ∗ (((c : Thread nD τ).loc main_arg5) ↦[rowSet 10240 1024 t]{q} fu)) ⊢ D ⟨j, hj⟩) :
    iprop((((c : Thread nD τ).loc main_arg5) ↦[rowSet 10240 1024 t]{q} fu) ∗ (((c : Thread nD τ).loc cc0_scratch0) ↦[rowSet 256 1024 kk]{fullShare} fx)
        ∗ Transfers.Batch EC (c : Thread nD τ) (.dma cc0_scratch2.sem) () gN D j u)
      ⊢ iprop((Transfers.Batch EC (c : Thread nD τ) (.dma cc0_scratch2.sem) () gN D (j + 1) u
            -∗ wp frame (wpE (defs₀ (F := F)) Variants.none (c : Thread nD τ) none) Set.univ (k ⟨⟩) Q)
          -∗ wp frame (wpE (defs₀ (F := F)) Variants.none (c : Thread nD τ) none) Set.univ
            (.op (.enqueueDma (urow off' h') (.here (xrow off h)) (.dma cc0_scratch2.sem) hs hd ht') k) Q) := by
  rw [← xrow_set ho h, ← urow_set ho' h']
  refine Transfers.wp_dmaBatch EC Variants.none (c : Thread nD τ) none (src := urow off' h') (dst := xrow off h) (fs := fu) (fd := fx) () gN rfl
    subset_rfl hj hu (BI.Entails.trans ?_ hD)
  rw [← xrow_set ho h, ← urow_set ho' h']
  refine sep_mono_left (Entails.of_eq (pointsTo_congr ?_))
  intro x hx
  exact (gather_landed ho ho' h h' ht fx fu x (xrow_set ho h ▸ hx)).trans (hg x (xrow_set ho h ▸ hx))

/-- A trip of the starting loop and of the waiting loop, on the kernel's operands. -/
abbrev gBody1 := Gen.k0_t1_body (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3 arg0 v0 h1
abbrev gBody2 := Gen.k0_t2_body (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3 arg0 v0 h1

/-- Before trip `k` of the starting loop: the token table, the rows not yet started, and the batch with `k` started. -/
def gInv (q : PosShare TreeShare) (k : ℕ) : sProp 𝕄 :=
  iprop((((c : Thread nD τ).loc main_arg0) ↦{q} (tk : Buf (Elt F) ((c : Thread nD τ).loc main_arg0)))
    ∗ bigSep (Transfers.pending k) (gPiece (F := F) c i tk fu fx) ∗ gBatch (F := F) c i tk htk fu k 0)

theorem tok_read (k : Fin k0_t1_loop.trips) (x) :
    ((Memref.whole main_arg0).access (Rect.unit (s := S24576) (k0_off2 i k) S1.size (k0_off2_inb i k))).read (Elt F)
      (tk : Buf (Elt F) ((c : Thread nD τ).loc main_arg0)) x = tokW i tk k := by
  rw [View.read_apply, cast_eq]
  refine congrArg tk (funext fun a => Fin.ext ?_)
  refine (ValueKit.view_emb_slice_whole_unit_val main_arg0 _ _ _ _ a).trans ?_
  have hx : (x a).val < 1 := (x a).isLt.trans_le (by match a with | ⟨0, _⟩ => exact le_refl 1)
  have ho := congrFun (Gen.k0_off2_eq i k) a
  match a, ho, hx with
  | ⟨0, _⟩, ho, hx =>
    show k0_off2 i k 0 + (x 0).val = 256 * (i 0).val + k.val
    have ho' : k0_off2 i k 0 = 256 * (i 0).val + k.val := ho
    have hx' : (x 0).val < 1 := hx
    omega

theorem chk1_of (w : BitVec 32) (hw : w.toNat < 10240) : k0_chk1 i v0 w := by
  intro _
  rw [off4_eq, Fin.forall_fin_two]
  exact ⟨show w.toNat + 1 ≤ 10240 by omega, show 0 + 1024 ≤ 1024 by omega⟩

theorem gStep (q : PosShare TreeShare) (k : Fin k0_t1_loop.trips) (u : Unit) :
    gInv c i tk htk fu fx q k.val ⊢ wp frame (wpE (defs₀ (F := F)) Variants.none c none) Set.univ
      (gBody1 i arg7 harg7 arg8 harg8 arg9 harg9 arg10 harg10 arg0 v0 h1 k u) (fun _ => gInv (F := F) c i tk htk fu fx q (k.val + 1)) := by
  unfold gInv gBody1 Gen.k0_t1_body
  have hk := k1_lt k
  rw [Transfers.bigSep_pending_step _ k.val k.isLt]
  iintro ⟨Ht, ⟨Hp, Hrest⟩, HB⟩
  unfold smemLoad
  rw [smemLoadElt_bind]
  iapply (wp_tableWord c (Memref.whole main_arg0) (f := tk) (q := q)) $$ Ht
  iintro Ht %w %hw
  have hw' : w = tokW i tk k := hw.trans (tok_read i tk k _)
  have hlt : w.toNat < 10240 := by rw [hw']; exact htk _ _
  simp only [ret_bind, ret_bindM, op_bind, Prog.lift]
  rw [wp_assume_of Variants.none (c : Thread nD τ) none Set.univ (chk1_of i v0 w hlt)]
  unfold gPiece
  icases Hp with ⟨Hs, Hd⟩
  iapply (wp_gatherRow c (Gen.k0_off3_eq k) (off4_eq w) (k0_off3_inb k) (k0_off4_inb i v0 w (chk1_of i v0 w hlt) h1) hlt
    (q := Transfers.shareTok fullShare k0_t1_loop.trips k) (fu := fu) (fx := fx) (g := gathered i tk htk fu)
    (D := gDeliv (F := F) c i tk htk fu) (j := k.val) (u := 0) k.isLt (Nat.zero_le _)
    (fun x hx => by
      obtain ⟨rfl⟩ := hw'
      show _ = fu (ix2 _ (x 1))
      have hx' : (x 0).val = k.val := mem_rowSet.mp hx
      refine congrArg fu ?_
      congr 1
      refine Fin.ext ?_
      show (tokW i tk k).toNat = (word tk _ _).toNat
      unfold tokW; congr 2; congr 1; omega)
    (by rw [hw']; exact .rfl)) $$ [Hs Hd HB]
  · isplitl [Hs]
    · rw [hw']; iexact Hs
    isplitl [Hd]; · iexact Hd
    iexact HB
  iintro HB
  simp only [ret_bindM]
  sl_step
  isplitl [Ht]; · iexact Ht
  isplitl [Hrest]; · iexact Hrest
  iexact HB

/-- Every row of the buffer is one trip's. -/
theorem rows_univ : (Finset.univ : Finset (Fin k0_t1_loop.trips)).biUnion (fun j => rowSet 256 1024 j.val) = Finset.univ := by
  ext x
  simp only [Finset.mem_biUnion, Finset.mem_univ, true_and, iff_true]
  exact ⟨⟨(x 0).val, lt_of_lt_of_eq (x 0).isLt trips1.symm⟩, mem_rowSet.mpr rfl⟩

/-- What of the tokens' array stays behind while the copies run. -/
def gKeep : sProp 𝕄 :=
  iprop((((c : Thread nD τ).loc main_arg5) ↦{Transfers.shareDrop fullShare k0_t1_loop.trips} (fu : Buf (Elt F) ((c : Thread nD τ).loc main_arg5)))
    ∗ bigSep Finset.univ (fun j : Fin k0_t1_loop.trips =>
        (((c : Thread nD τ).loc main_arg5) ↦[Finset.univ \ rowSet 10240 1024 (tokW i tk j).toNat]{Transfers.shareTok fullShare k0_t1_loop.trips j} fu)))

/-- The tokens' array and the buffer of rows, cut into the copies' pieces; -/
theorem gather_cut :
    iprop((((c : Thread nD τ).loc main_arg5) ↦{fullShare} (fu : Buf (Elt F) ((c : Thread nD τ).loc main_arg5)))
      ∗ (((c : Thread nD τ).loc cc0_scratch0) ↦{fullShare} (fx : Buf (Elt F) ((c : Thread nD τ).loc cc0_scratch0))))
    ⊢ iprop(bigSep Finset.univ (gPiece (F := F) c i tk fu fx) ∗ gKeep (F := F) c i tk fu) := by
  iintro ⟨Hu, Hx⟩
  ihave Hu' := (Transfers.pointsTo_toks_split fullShare k0_t1_loop.trips) $$ Hu
  icases Hu' with ⟨Hdrop, Htoks⟩
  ihave Hx' := (show ((((c : Thread nD τ).loc cc0_scratch0) ↦{fullShare} (fx : Buf (Elt F) ((c : Thread nD τ).loc cc0_scratch0))) : sProp 𝕄)
      ⊢ bigSep Finset.univ (fun j : Fin k0_t1_loop.trips => (((c : Thread nD τ).loc cc0_scratch0) ↦[rowSet 256 1024 j.val]{fullShare} fx))
    from Entails.of_eq (by
      rw [← pointsTo_biUnion _ _ (fun t _ t' _ h => rowSet_disjoint (fun e => h (Fin.ext e))), rows_univ])) $$ Hx
  ihave Ht' := (show (bigSep Finset.univ (fun j : Fin k0_t1_loop.trips =>
        (((c : Thread nD τ).loc main_arg5) ↦{Transfers.shareTok fullShare k0_t1_loop.trips j} (fu : Buf (Elt F) ((c : Thread nD τ).loc main_arg5)))) : sProp 𝕄)
      ⊢ iprop(bigSep Finset.univ (fun j : Fin k0_t1_loop.trips =>
        (((c : Thread nD τ).loc main_arg5) ↦[rowSet 10240 1024 (tokW i tk j).toNat]{Transfers.shareTok fullShare k0_t1_loop.trips j} fu))
      ∗ bigSep Finset.univ (fun j : Fin k0_t1_loop.trips =>
        (((c : Thread nD τ).loc main_arg5) ↦[Finset.univ \ rowSet 10240 1024 (tokW i tk j).toNat]{Transfers.shareTok fullShare k0_t1_loop.trips j} fu)))
    from by rw [← bigSep_sep']; exact bigSep_mono fun j _ => (pointsTo_split_subset (Finset.subset_univ _)).1) $$ Htoks
  icases Ht' with ⟨Hrow, Hrest⟩
  isplitl [Hrow Hx']
  · unfold gPiece
    rw [bigSep_sep']
    isplitl [Hrow]; · iexact Hrow
    iexact Hx'
  unfold gKeep
  isplitl [Hdrop]; · iexact Hdrop
  iexact Hrest

/-- and whole again from what the copies delivered. -/
theorem gather_join :
    iprop(bigSep Finset.univ (gDeliv (F := F) c i tk htk fu) ∗ gKeep (F := F) c i tk fu)
    ⊢ iprop((((c : Thread nD τ).loc main_arg5) ↦{fullShare} (fu : Buf (Elt F) ((c : Thread nD τ).loc main_arg5)))
      ∗ (((c : Thread nD τ).loc cc0_scratch0) ↦{fullShare} (gathered i tk htk fu : Buf (Elt F) ((c : Thread nD τ).loc cc0_scratch0)))) := by
  unfold gDeliv gKeep
  rw [bigSep_sep']
  iintro ⟨⟨Hx, Hrow⟩, Hdrop, Hrest⟩
  isplitr [Hx]
  · iapply (Transfers.pointsTo_toks_join fullShare k0_t1_loop.trips)
    isplitl [Hdrop]; · iexact Hdrop
    iapply (show iprop(bigSep Finset.univ (fun j : Fin k0_t1_loop.trips =>
        (((c : Thread nD τ).loc main_arg5) ↦[rowSet 10240 1024 (tokW i tk j).toNat]{Transfers.shareTok fullShare k0_t1_loop.trips j} fu))
      ∗ bigSep Finset.univ (fun j : Fin k0_t1_loop.trips =>
        (((c : Thread nD τ).loc main_arg5) ↦[Finset.univ \ rowSet 10240 1024 (tokW i tk j).toNat]{Transfers.shareTok fullShare k0_t1_loop.trips j} fu)))
      ⊢ (bigSep Finset.univ (fun j : Fin k0_t1_loop.trips =>
        (((c : Thread nD τ).loc main_arg5) ↦{Transfers.shareTok fullShare k0_t1_loop.trips j} (fu : Buf (Elt F) ((c : Thread nD τ).loc main_arg5)))) : sProp 𝕄)
      from by rw [← bigSep_sep']; exact bigSep_mono fun j _ => (pointsTo_split_subset (Finset.subset_univ _)).2)
    isplitl [Hrow]; · iexact Hrow
    iexact Hrest
  · iapply (show (bigSep Finset.univ (fun j : Fin k0_t1_loop.trips => (((c : Thread nD τ).loc cc0_scratch0) ↦[rowSet 256 1024 j.val]{fullShare} (gathered i tk htk fu))) : sProp 𝕄)
      ⊢ (((c : Thread nD τ).loc cc0_scratch0) ↦{fullShare} (gathered i tk htk fu : Buf (Elt F) ((c : Thread nD τ).loc cc0_scratch0)))
      from Entails.of_eq (by
      rw [← pointsTo_biUnion _ _ (fun t _ t' _ h => rowSet_disjoint (fun e => h (Fin.ext e))), rows_univ]))
    iexact Hx

/-- Before trip `k` of the waiting loop: every copy started, `k` rows' credit taken, nothing owed. -/
def gWait (k : ℕ) : sProp 𝕄 :=
  iprop(gBatch (F := F) c i tk htk fu k0_t1_loop.trips (k * gN) ∗ ∃ W, owes (c : Thread nD τ) 0 W)

theorem gStep2 (k : Fin k0_t2_loop.trips) (u : Unit) :
    gWait c i tk htk fu k.val ⊢ wp frame (wpE (defs₀ (F := F)) Variants.none c none) Set.univ
      (gBody2 i arg7 harg7 arg8 harg8 arg9 harg9 arg10 harg10 arg0 v0 h1 k u) (fun _ => gWait (F := F) c i tk htk fu (k.val + 1)) := by
  unfold gWait gBody2 Gen.k0_t2_body
  iintro ⟨HB, %W, HO⟩
  simp only [Prog.lift, op_bind]
  have hk : k.val < 256 := lt_of_lt_of_eq k.isLt trips2
  have hle : k.val * gN + 1 * gN ≤ gN * k0_t1_loop.trips := by
    rw [← Nat.add_mul, Nat.mul_comm gN]
    exact Nat.mul_le_mul_right _ (Nat.succ_le_of_lt (lt_of_lt_of_eq hk trips1.symm))
  iapply (Transfers.wp_waitBatchMul EC Variants.none (c : Thread nD τ) none (dstw := xrow (k0_off5 k) (k0_off5_inb k)) () 1 (N := gN) (Nat.one_mul _).symm hle) $$ [HB HO]
  · isplitl [HB]; · iexact HB
    iexact HO
  iintro ⟨HB, HO⟩
  simp only [ret_bindM]
  sl_step
  isplitl [HB]
  · rw [Nat.add_mul]; iexact HB
  iexists _; iexact HO

theorem gN_pos : 0 < gN := by decide

/-- The gather: the tile's rows in the buffer, everything else as before. -/
theorem wp_gather {q : PosShare TreeShare} {W : Waits sig Unit} {α : Type} {Q : α → sProp 𝕄} {kk : Unit → Prog (TpuEff nD τ sig (Elt F) Λ₀ .tc) α} :
    iprop((((c : Thread nD τ).loc main_arg0) ↦{q} (tk : Buf (Elt F) ((c : Thread nD τ).loc main_arg0)))
      ∗ (((c : Thread nD τ).loc main_arg5) ↦{fullShare} (fu : Buf (Elt F) ((c : Thread nD τ).loc main_arg5)))
      ∗ (((c : Thread nD τ).loc cc0_scratch0) ↦{fullShare} (fx : Buf (Elt F) ((c : Thread nD τ).loc cc0_scratch0)))
      ∗ semVal ((c : Thread nD τ), .dma cc0_scratch2.sem) 0 ∗ owes (c : Thread nD τ) 0 W)
    ⊢ iprop((iprop((((c : Thread nD τ).loc main_arg0) ↦{q} (tk : Buf (Elt F) ((c : Thread nD τ).loc main_arg0)))
      ∗ (((c : Thread nD τ).loc main_arg5) ↦{fullShare} (fu : Buf (Elt F) ((c : Thread nD τ).loc main_arg5)))
      ∗ (((c : Thread nD τ).loc cc0_scratch0) ↦{fullShare} (gathered i tk htk fu : Buf (Elt F) ((c : Thread nD τ).loc cc0_scratch0)))
      ∗ semVal ((c : Thread nD τ), .dma cc0_scratch2.sem) 0 ∗ (∃ W', owes (c : Thread nD τ) 0 W'))
        -∗ wp frame (wpE (defs₀ (F := F)) Variants.none (c : Thread nD τ) none) Set.univ (kk ⟨⟩) Q)
      -∗ wp frame (wpE (defs₀ (F := F)) Variants.none (c : Thread nD τ) none) Set.univ
        (Scf.Loop.for k0_t1_loop k0_t1_ok ⟨⟩ (gBody1 i arg7 harg7 arg8 harg8 arg9 harg9 arg10 harg10 arg0 v0 h1) >>= fun _ =>
          Scf.Loop.for k0_t2_loop k0_t2_ok ⟨⟩ (gBody2 i arg7 harg7 arg8 harg8 arg9 harg9 arg10 harg10 arg0 v0 h1) >>= kk) Q) := by
  iintro ⟨Ht, Hu, Hx, Hs, HO⟩ Hk
  ihave Hc := (gather_cut c i tk fu fx) $$ [Hu Hx]
  · isplitl [Hu]; · iexact Hu
    iexact Hx
  icases Hc with ⟨Hp, Hkeep⟩
  imod (Transfers.batch_alloc' (Lvl := ℕ) EC (c : Thread nD τ) () gN (gDeliv (F := F) c i tk htk fu) (sm := .dma cc0_scratch2.sem) (E := Set.univ)) $$ Hs with HB
  iapply (Scf.wp_for_bind frame (wpE (defs₀ (F := F)) Variants.none (c : Thread nD τ) none) Set.univ _ _ _ k0_t1_ok ⟨⟩ _
    (fun k _ => gInv (F := F) c i tk htk fu fx q k) (gStep c i tk htk fu fx arg7 harg7 arg8 harg8 arg9 harg9 arg10 harg10 arg0 v0 h1 q)) $$ [Ht Hp HB]
  · unfold gInv
    isplitl [Ht]; · iexact Ht
    isplitl [Hp]
    · iapply (Entails.of_eq (Transfers.bigSep_pending_zero (gPiece (F := F) c i tk fu fx))) $$ Hp
    iexact HB
  iintro %acc HI
  unfold gInv
  icases HI with ⟨Ht, -, HB⟩
  iapply (Scf.wp_for_bind frame (wpE (defs₀ (F := F)) Variants.none (c : Thread nD τ) none) Set.univ _ _ _ k0_t2_ok ⟨⟩ _
    (fun k _ => gWait (F := F) c i tk htk fu k) (gStep2 c i tk htk fu arg7 harg7 arg8 harg8 arg9 harg9 arg10 harg10 arg0 v0 h1)) $$ [HB HO]
  · unfold gWait
    isplitl [HB]
    · rw [Nat.zero_mul]; iexact HB
    iexists _; iexact HO
  iintro %acc2 HI
  unfold gWait
  icases HI with ⟨HB, HO⟩
  ihave HB' := (show gBatch (F := F) c i tk htk fu k0_t1_loop.trips (k0_t2_loop.trips * gN) ⊢ gBatch (F := F) c i tk htk fu k0_t1_loop.trips (gN * k0_t1_loop.trips)
    from Entails.of_eq (by rw [Nat.mul_comm, trips2])) $$ HB
  imod (Transfers.batch_collect' (Lvl := ℕ) EC (c : Thread nD τ) (sm := .dma cc0_scratch2.sem) (ι := ()) (N := gN) gN_pos (D := gDeliv (F := F) c i tk htk fu)) $$ HB' with ⟨HD, Hs⟩
  ihave Hj := (gather_join c i tk htk fu) $$ [HD Hkeep]
  · isplitl [HD]; · iexact HD
    iexact Hkeep
  icases Hj with ⟨Hu, Hx⟩
  iapply Hk
  isplitl [Ht]; · iexact Ht
  isplitl [Hu]; · iexact Hu
  isplitl [Hx]; · iexact Hx
  isplitl [Hs]; · iexact Hs
  iexact HO

end Gather
-- ==== Proof.MoeIdealScatter.lean ====
/- The scatter of one tile: the copies of its first rows, as many as the tile's count, into the assignments' rows, and
   their waits. -/
module

public import proofs.«01_k».proof.Proof.MoeIdealGather

@[expose] public section

noncomputable section

namespace Cert.MoeIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Facts₀ Facts

local notation "𝕄" => MT nD τ sig Unit (Elt F) ℕ (Pipeline.UD sig nD τ) ℕ
local notation "EC" => (countersEmb (U := Pipeline.UD sig nD τ))

/-! ## The loops at a small count -/

theorem count_word (v : BitVec 32) : Scalar.addi 0#32 (Scalar.muli (Scalar.divsi (Scalar.subi v 0#32) 1#32) 1#32) = v := by
  have h : Scalar.divsi (Scalar.subi v 0#32) 1#32 = v := by
    show IntOp.divsi .scalar (v - 0#32) 1#32 = v
    rw [BitVec.sub_zero]
    unfold IntOp.divsi
    rw [if_neg (by unfold IntOp.SDivCorner; simp)]
    simp
  rw [h]
  show 0#32 + v * 1#32 = v
  rw [BitVec.zero_add, BitVec.mul_one]

theorem count_word' (v : BitVec 32) : Scalar.addi 0#32 (Scalar.subi v 0#32) = v := by
  show 0#32 + (v - 0#32) = v
  rw [BitVec.sub_zero, BitVec.zero_add]

theorem loop3_eq (v : BitVec 32) : k0_t3_loop v = ⟨0#32, v, 1#32⟩ := by unfold k0_t3_loop; simp only [count_word]
theorem loop4_eq (v : BitVec 32) : k0_t4_loop v = ⟨v, v, 1#32⟩ := by unfold k0_t4_loop; simp only [count_word, count_word']
theorem loop5_eq (v : BitVec 32) : k0_t5_loop v = ⟨0#32, v, 1#32⟩ := by unfold k0_t5_loop; simp only [count_word]
theorem loop6_eq (v : BitVec 32) : k0_t6_loop v = ⟨v, v, 1#32⟩ := by unfold k0_t6_loop; simp only [count_word, count_word']

theorem small_toInt {v : BitVec 32} (hv : v.toNat ≤ 256) : v.toInt = (v.toNat : ℤ) := by
  rw [BitVec.toInt_eq_toNat_cond]; split <;> omega

theorem trips_up {v : BitVec 32} (hv : v.toNat ≤ 256) : Scf.trips 0#32 v 1#32 = v.toNat := by
  unfold Scf.trips; rw [small_toInt hv]
  simp
theorem trips_none (v : BitVec 32) : Scf.trips v v 1#32 = 0 := by
  unfold Scf.trips; simp

theorem trips3 {v : BitVec 32} (hv : v.toNat ≤ 256) : (k0_t3_loop v).trips = v.toNat := by rw [loop3_eq]; exact trips_up hv
theorem trips4 (v : BitVec 32) : (k0_t4_loop v).trips = 0 := by rw [loop4_eq]; exact trips_none v
theorem trips5 {v : BitVec 32} (hv : v.toNat ≤ 256) : (k0_t5_loop v).trips = v.toNat := by rw [loop5_eq]; exact trips_up hv
theorem trips6 (v : BitVec 32) : (k0_t6_loop v).trips = 0 := by rw [loop6_eq]; exact trips_none v

theorem ok_up {v : BitVec 32} (hv : v.toNat ≤ 256) : Scf.OK 0#32 v 1#32 := by
  refine ⟨by decide, ?_⟩
  rw [trips_up hv, show (0#32 : BitVec 32).toInt = 0 from rfl, show (1#32 : BitVec 32).toInt = 1 from rfl]
  norm_num; omega
theorem ok_none {v : BitVec 32} (hv : v.toNat ≤ 256) : Scf.OK v v 1#32 := by
  refine ⟨by decide, ?_⟩
  rw [trips_none v, small_toInt hv, show (1#32 : BitVec 32).toInt = 1 from rfl]
  norm_num; omega

theorem loop_lt {n : ℕ} {v : BitVec 32} (hv : v.toNat ≤ 256) (k : Fin n) (hn : n = v.toNat) : k.val < 256 := by
  have := k.isLt; omega

theorem off7_eq (i : grid0.Coords) {v : BitVec 32} (hv : v.toNat ≤ 256) (k : Fin (k0_t3_loop v).trips) :
    k0_off7 i v k = ![256 * (i 0).val + k.val] := by
  have hk := loop_lt hv k (trips3 hv)
  have hi := grid_lt i
  unfold k0_off7
  simp only [iv_zero_one]
  refine congrArg (fun n => (![n] : Fin 1 → ℕ)) ?_
  show (BitVec.ofNat 32 (i 0).val * 256#32 + BitVec.ofNat 32 k.val).toNat = _
  rw [BitVec.toNat_add, BitVec.toNat_mul, BitVec.toNat_ofNat, BitVec.toNat_ofNat, BitVec.toNat_ofNat]
  omega
theorem off9_eq {v : BitVec 32} (hv : v.toNat ≤ 256) (k : Fin (k0_t3_loop v).trips) : k0_off9 v k = ![k.val, 0] := by
  have hk := loop_lt hv k (trips3 hv)
  unfold k0_off9
  simp only [iv_zero_one]
  rw [BitVec.toNat_ofNat, Nat.mod_eq_of_lt (by omega)]
theorem off13_eq {v : BitVec 32} (hv : v.toNat ≤ 256) (k : Fin (k0_t5_loop v).trips) : k0_off13 v k = ![k.val, 0] := by
  have hk := loop_lt hv k (trips5 hv)
  unfold k0_off13
  simp only [iv_zero_one]
  rw [BitVec.toNat_ofNat, Nat.mod_eq_of_lt (by omega)]
theorem off8_eq (w : BitVec 32) : k0_off8 w = ![w.toNat, 0] := rfl

theorem row_inb {off : Fin 2 → ℕ} {k n : ℕ} (ho : off = ![k, 0]) (hk : k < n) :
    ∀ a, off a + S1x1024.size a ≤ (⟨2, ![n, 1024]⟩ : Shape).size a := by
  subst ho; rw [Fin.forall_fin_two]
  exact ⟨show k + 1 ≤ n from hk, show 0 + 1024 ≤ 1024 from le_refl _⟩

/-- The conditions read off the tile's count. -/
theorem chk2_of (i : grid0.Coords) (v0 : BitVec 32) {v : BitVec 32} (hv : v.toNat ≤ 256) : k0_chk2 i v0 v := by
  refine ⟨fun _ => ?_, fun k _ => ?_, fun k _ => ?_, fun _ => ?_, fun k _ => ?_, fun k _ => ?_, fun _ => ?_, fun k _ => ?_, fun _ => ?_, fun k _ => ?_⟩
  · rw [loop3_eq]; exact ok_up hv
  · have hk := loop_lt hv k (trips3 hv)
    have hi := grid_lt i
    rw [off7_eq i hv k]
    intro a
    match a with
    | ⟨0, _⟩ => show 256 * (i 0).val + k.val + 1 ≤ 24576; omega
  · exact row_inb (off9_eq hv k) (loop_lt hv k (trips3 hv))
  · rw [loop4_eq]; exact ok_none hv
  · exact absurd (lt_of_lt_of_eq k.isLt (trips4 v)) (Nat.not_lt_zero _)
  · exact absurd (lt_of_lt_of_eq k.isLt (trips4 v)) (Nat.not_lt_zero _)
  · rw [loop5_eq]; exact ok_up hv
  · exact row_inb (off13_eq hv k) (loop_lt hv k (trips5 hv))
  · rw [loop6_eq]; exact ok_none hv
  · exact absurd (lt_of_lt_of_eq k.isLt (trips6 v)) (Nat.not_lt_zero _)

theorem chk3_of (i : grid0.Coords) (v0 w : BitVec 32) (hw : w.toNat < 20480) : k0_chk3 i v0 w :=
  fun _ => row_inb (off8_eq w) hw

/-! ## The scatter's loops -/

section Scatter

variable (c : Dev nD) (i : grid0.Coords)
variable (dt : S24576.Idx → BitVec 32) (hdt : ∀ n (h : n < 24576), (word dt n h).toNat < 20480)
variable (v : BitVec 32) (hv : v.toNat ≤ 256)

/-- The assignment of the tile's row `k`. -/
def dstN (k : Fin 256) : ℕ := (word dt (256 * (i 0).val + k.val) (pos1_lt i k.isLt)).toNat

variable (hinj : ∀ k k' : Fin 256, k.val < v.toNat → k'.val < v.toNat → dstN i dt k = dstN i dt k' → k = k')
variable (fo : S256x1024.Idx → Elt F .f32) (fy : S20480x1024.Idx → Elt F .f32)

open Classical in
/-- The assignments' array after the tile: the rows its first rows go to, everything else as before. -/
def scattered : S20480x1024.Idx → Elt F .f32 := fun x =>
  if h : ∃ k : Fin 256, k.val < v.toNat ∧ dstN i dt k = (x 0).val then fo (ix2 h.choose (x 1)) else fy x

include hinj in
theorem scattered_hit (k : Fin 256) (hk : k.val < v.toNat) (x : S20480x1024.Idx) (hx : dstN i dt k = (x 0).val) :
    scattered i dt v fo fy x = fo (ix2 k (x 1)) := by
  have h : ∃ k : Fin 256, k.val < v.toNat ∧ dstN i dt k = (x 0).val := ⟨k, hk, hx⟩
  unfold scattered
  rw [dif_pos h, hinj _ k h.choose_spec.1 hk (h.choose_spec.2.trans hx.symm)]

theorem scattered_miss (x : S20480x1024.Idx) (hx : ∀ k : Fin 256, k.val < v.toNat → dstN i dt k ≠ (x 0).val) :
    scattered i dt v fo fy x = fy x := by
  unfold scattered; rw [dif_neg]; rintro ⟨k, hk, e⟩; exact hx k hk e

abbrev sk (j : Fin (k0_t3_loop v).trips) : Fin 256 := ⟨j.val, loop_lt hv j (trips3 hv)⟩

theorem sk_lt (j : Fin (k0_t3_loop v).trips) : (sk v hv j).val < v.toNat := lt_of_lt_of_eq j.isLt (trips3 hv)

/-- What row `j`'s copy takes, -/
def sPiece (j : Fin (k0_t3_loop v).trips) : sProp 𝕄 :=
  iprop((((c : Thread nD τ).loc cc0_scratch1) ↦[rowSet 256 1024 j.val]{fullShare} fo)
    ∗ (((c : Thread nD τ).loc main_v0) ↦[rowSet 20480 1024 (dstN i dt (sk v hv j))]{fullShare} fy))

/-- and delivers. -/
def sDeliv (j : Fin (k0_t3_loop v).trips) : sProp 𝕄 :=
  iprop((((c : Thread nD τ).loc main_v0) ↦[rowSet 20480 1024 (dstN i dt (sk v hv j))]{fullShare} (scattered i dt v fo fy))
    ∗ (((c : Thread nD τ).loc cc0_scratch1) ↦[rowSet 256 1024 j.val]{fullShare} fo))

instance sDeliv_storable (j : Fin (k0_t3_loop v).trips) : Storable (upEmb : UEmb _ 𝕄) (sDeliv (F := F) c i dt v hv fo fy j) := by
  unfold sDeliv; infer_instance

theorem inb_S20480x1024_row0 : ∀ a, (![0, 0] : Fin 2 → ℕ) a + S1x1024.size a ≤ S20480x1024.size a := by decide

/-- One row's credit. -/
abbrev sN : ℕ := (yrow ![0, 0] inb_S20480x1024_row0).view.amount (SemLoc.dma (sig := sig) cc0_scratch3.sem)

abbrev sBatch (k u : ℕ) : sProp 𝕄 :=
  Transfers.Batch EC (c : Thread nD τ) (.dma cc0_scratch3.sem) () sN (sDeliv (F := F) c i dt v hv fo fy) k u

/-- Starting the copy of a row of the results into an assignment's row. -/
theorem wp_scatterRow {α : Type} {Q : α → sProp 𝕄} {n : ℕ} {t kk : ℕ} {off off' : Fin 2 → ℕ} (ho : off = ![t, 0]) (ho' : off' = ![kk, 0]) (h) (h')
    (hkk : kk < 256) {hs hd ht'} {k : PUnit → Prog (TpuEff nD τ sig (Elt F) Λ₀ .tc) α} {q : PosShare TreeShare}
    {fo : S256x1024.Idx → Elt F .f32} {fy g : S20480x1024.Idx → Elt F .f32} {D : Fin n → sProp 𝕄} {j u : ℕ} (hj : j < n) (hu : u ≤ j * sN)
    (hg : ∀ x ∈ rowSet 20480 1024 t, fo (ix2 ⟨kk, hkk⟩ (x 1)) = g x)
    (hD : iprop((((c : Thread nD τ).loc main_v0) ↦[rowSet 20480 1024 t]{fullShare} g)
      ∗ (((c : Thread nD τ).loc cc0_scratch1) ↦[rowSet 256 1024 kk]{q} fo)) ⊢ D ⟨j, hj⟩) :
    iprop((((c : Thread nD τ).loc cc0_scratch1) ↦[rowSet 256 1024 kk]{q} fo) ∗ (((c : Thread nD τ).loc main_v0) ↦[rowSet 20480 1024 t]{fullShare} fy)
        ∗ Transfers.Batch EC (c : Thread nD τ) (.dma cc0_scratch3.sem) () sN D j u)
      ⊢ iprop((Transfers.Batch EC (c : Thread nD τ) (.dma cc0_scratch3.sem) () sN D (j + 1) u
            -∗ wp frame (wpE (defs₀ (F := F)) Variants.none (c : Thread nD τ) none) Set.univ (k ⟨⟩) Q)
          -∗ wp frame (wpE (defs₀ (F := F)) Variants.none (c : Thread nD τ) none) Set.univ
            (.op (.enqueueDma (orow off' h') (.here (yrow off h)) (.dma cc0_scratch3.sem) hs hd ht') k) Q) := by
  rw [← yrow_set ho h, ← orow_set ho' h']
  refine Transfers.wp_dmaBatch EC Variants.none (c : Thread nD τ) none (src := orow off' h') (dst := yrow off h) (fs := fo) (fd := fy) () sN rfl
    subset_rfl hj hu (BI.Entails.trans ?_ hD)
  refine sep_mono ?_ ?_
  · rw [← yrow_set ho h]
    refine Entails.of_eq (pointsTo_congr ?_)
    intro x hx
    exact (scatter_landed ho ho' h h' hkk fy fo x (yrow_set ho h ▸ hx)).trans (hg x (yrow_set ho h ▸ hx))
  · rw [← orow_set ho' h']; exact BI.Entails.refl _

variable (arg7 : Memref sig .tc .vmem S256x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (v0 : BitVec 32) (h1 : k0_cond1 i v0 = 1#1) (h2 : k0_chk2 i v0 v)

abbrev sBody3 := Gen.k0_t3_body (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3 v0 h1 v h2
abbrev sBody4 := Gen.k0_t4_body (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3 v0 h1 v h2
abbrev sBody5 := Gen.k0_t5_body (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3 v0 h1 v h2
abbrev sBody6 := Gen.k0_t6_body (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3 v0 h1 v h2

/-- Before trip `k` of the starting loop. -/
def sInv (q : PosShare TreeShare) (k : ℕ) : sProp 𝕄 :=
  iprop((((c : Thread nD τ).loc main_arg1) ↦{q} (dt : Buf (Elt F) ((c : Thread nD τ).loc main_arg1)))
    ∗ bigSep (Transfers.pending k) (sPiece (F := F) c i dt v hv fo fy) ∗ sBatch (F := F) c i dt v hv fo fy k 0)

theorem dst_read (k : Fin (k0_t3_loop v).trips) (hin) (x) :
    ((Memref.whole main_arg1).access (Rect.unit (s := S24576) (k0_off7 i v k) S1.size hin)).read (Elt F)
      (dt : Buf (Elt F) ((c : Thread nD τ).loc main_arg1)) x = word dt (256 * (i 0).val + k.val) (pos1_lt i (loop_lt hv k (trips3 hv))) := by
  rw [View.read_apply, cast_eq]
  refine congrArg dt (funext fun a => Fin.ext ?_)
  refine (ValueKit.view_emb_slice_whole_unit_val main_arg1 _ _ _ _ a).trans ?_
  have hx : (x a).val < 1 := (x a).isLt.trans_le (by match a with | ⟨0, _⟩ => exact le_refl 1)
  have ho := congrFun (off7_eq i hv k) a
  match a, ho, hx with
  | ⟨0, _⟩, ho, hx =>
    show k0_off7 i v k 0 + (x 0).val = 256 * (i 0).val + k.val
    have ho' : k0_off7 i v k 0 = 256 * (i 0).val + k.val := ho
    have hx' : (x 0).val < 1 := hx
    omega

include hdt hinj hv in
theorem sStep (q : PosShare TreeShare) (k : Fin (k0_t3_loop v).trips) (u : Unit) :
    sInv c i dt v hv fo fy q k.val ⊢ wp frame (wpE (defs₀ (F := F)) Variants.none c none) Set.univ
      (sBody3 i v arg7 harg7 arg8 harg8 arg9 harg9 arg10 harg10 v0 h1 h2 k u) (fun _ => sInv (F := F) c i dt v hv fo fy q (k.val + 1)) := by
  unfold sInv sBody3 Gen.k0_t3_body
  have hk := loop_lt hv k (trips3 hv)
  rw [Transfers.bigSep_pending_step _ k.val k.isLt]
  iintro ⟨Ht, ⟨Hp, Hrest⟩, HB⟩
  unfold smemLoad
  rw [smemLoadElt_bind]
  iapply (wp_tableWord c (Memref.whole main_arg1) (f := dt) (q := q)) $$ Ht
  iintro Ht %w %hw
  have hw' : w = word dt (256 * (i 0).val + k.val) (pos1_lt i (loop_lt hv k (trips3 hv))) := hw.trans (dst_read i dt v hv k _ _)
  have hlt : w.toNat < 20480 := by rw [hw']; exact hdt _ _
  have hwn : w.toNat = dstN i dt (sk v hv k) := by rw [hw']; rfl
  simp only [ret_bind, ret_bindM, op_bind, Prog.lift]
  rw [wp_assume_of Variants.none (c : Thread nD τ) none Set.univ (chk3_of i v0 w hlt)]
  unfold sPiece
  icases Hp with ⟨Hs, Hd⟩
  iapply (wp_scatterRow c (off8_eq w) (off9_eq hv k) (k0_off8_inb i v0 w (chk3_of i v0 w hlt) h1) (k0_off9_inb i v0 v h2 k h1) hk
    (q := fullShare) (fo := fo) (fy := fy) (g := scattered i dt v fo fy)
    (D := sDeliv (F := F) c i dt v hv fo fy) (j := k.val) (u := 0) k.isLt (Nat.zero_le _)
    (fun x hx => (scattered_hit i dt v hinj fo fy (sk v hv k) (sk_lt v hv k) x (hwn.symm.trans (mem_rowSet.mp hx).symm)).symm)
    (by rw [hwn]; exact .rfl)) $$ [Hs Hd HB]
  · isplitl [Hs]; · iexact Hs
    isplitl [Hd]
    · rw [hwn]; iexact Hd
    iexact HB
  iintro HB
  simp only [ret_bindM]
  sl_step
  isplitl [Ht]; · iexact Ht
  isplitl [Hrest]; · iexact Hrest
  iexact HB

/-- The rows the copies land in, and the rows they are taken from. -/
abbrev yRows : Finset S20480x1024.Idx := Finset.univ.biUnion fun j => rowSet 20480 1024 (dstN i dt (sk v hv j))
abbrev oRows : Finset S256x1024.Idx := Finset.univ.biUnion fun j : Fin (k0_t3_loop v).trips => rowSet 256 1024 j.val

/-- What stays behind while the copies run. -/
def sKeep : sProp 𝕄 :=
  iprop((((c : Thread nD τ).loc cc0_scratch1) ↦[Finset.univ \ oRows v]{fullShare} fo)
    ∗ (((c : Thread nD τ).loc main_v0) ↦[Finset.univ \ yRows i dt v hv]{fullShare} fy))

include hinj in
theorem yRows_split (f : S20480x1024.Idx → Elt F .f32) :
    ((((c : Thread nD τ).loc main_v0) ↦[yRows i dt v hv]{fullShare} f) : sProp 𝕄)
      = bigSep Finset.univ (fun j => (((c : Thread nD τ).loc main_v0) ↦[rowSet 20480 1024 (dstN i dt (sk v hv j))]{fullShare} f)) :=
  pointsTo_biUnion _ _ fun t _ t' _ h => rowSet_disjoint fun e => h (Fin.ext (by
    have := congrArg Fin.val (hinj (sk v hv t) (sk v hv t') (sk_lt v hv t) (sk_lt v hv t') e)
    exact this))

theorem oRows_split :
    ((((c : Thread nD τ).loc cc0_scratch1) ↦[oRows v]{fullShare} fo) : sProp 𝕄)
      = bigSep Finset.univ (fun j : Fin (k0_t3_loop v).trips => (((c : Thread nD τ).loc cc0_scratch1) ↦[rowSet 256 1024 j.val]{fullShare} fo)) :=
  pointsTo_biUnion _ _ fun t _ t' _ h => rowSet_disjoint fun e => h (Fin.ext e)

include hinj in
theorem scatter_cut :
    iprop((((c : Thread nD τ).loc cc0_scratch1) ↦{fullShare} (fo : Buf (Elt F) ((c : Thread nD τ).loc cc0_scratch1)))
      ∗ (((c : Thread nD τ).loc main_v0) ↦{fullShare} (fy : Buf (Elt F) ((c : Thread nD τ).loc main_v0))))
    ⊢ iprop(bigSep Finset.univ (sPiece (F := F) c i dt v hv fo fy) ∗ sKeep (F := F) c i dt v hv fo fy) := by
  iintro ⟨Ho, Hy⟩
  ihave Ho' := ((pointsTo_split_subset (Finset.subset_univ (oRows v))).1) $$ Ho
  ihave Hy' := ((pointsTo_split_subset (Finset.subset_univ (yRows i dt v hv))).1) $$ Hy
  icases Ho' with ⟨Ho, Hor⟩
  icases Hy' with ⟨Hy, Hyr⟩
  isplitl [Ho Hy]
  · unfold sPiece
    rw [bigSep_sep', ← oRows_split, ← yRows_split c i dt v hv hinj]
    isplitl [Ho]; · iexact Ho
    iexact Hy
  unfold sKeep
  isplitl [Hor]; · iexact Hor
  iexact Hyr

include hinj in
theorem scatter_join :
    iprop(bigSep Finset.univ (sDeliv (F := F) c i dt v hv fo fy) ∗ sKeep (F := F) c i dt v hv fo fy)
    ⊢ iprop((((c : Thread nD τ).loc cc0_scratch1) ↦{fullShare} (fo : Buf (Elt F) ((c : Thread nD τ).loc cc0_scratch1)))
      ∗ (((c : Thread nD τ).loc main_v0) ↦{fullShare} (scattered i dt v fo fy : Buf (Elt F) ((c : Thread nD τ).loc main_v0)))) := by
  have hmiss : ((((c : Thread nD τ).loc main_v0) ↦[Finset.univ \ yRows i dt v hv]{fullShare} fy) : sProp 𝕄)
      = (((c : Thread nD τ).loc main_v0) ↦[Finset.univ \ yRows i dt v hv]{fullShare} (scattered i dt v fo fy)) := by
    refine pointsTo_congr fun x hx => (scattered_miss i dt v fo fy x fun k hk e => ?_).symm
    refine (Finset.mem_sdiff.mp hx).2 (Finset.mem_biUnion.mpr ⟨⟨k.val, lt_of_lt_of_eq hk (trips3 hv).symm⟩, Finset.mem_univ _, mem_rowSet.mpr e.symm⟩)
  unfold sDeliv sKeep
  rw [bigSep_sep', ← oRows_split, ← yRows_split c i dt v hv hinj, hmiss]
  iintro ⟨⟨Hy, Ho⟩, Hor, Hyr⟩
  isplitl [Ho Hor]
  · iapply ((pointsTo_split_subset (Finset.subset_univ (oRows v))).2)
    isplitl [Ho]; · iexact Ho
    iexact Hor
  · iapply ((pointsTo_split_subset (Finset.subset_univ (yRows i dt v hv))).2)
    isplitl [Hy]; · iexact Hy
    iexact Hyr

/-- Before trip `k` of the waiting loop. -/
def sWait (k : ℕ) : sProp 𝕄 :=
  iprop(sBatch (F := F) c i dt v hv fo fy (k0_t3_loop v).trips (k * sN) ∗ ∃ W, owes (c : Thread nD τ) 0 W)

theorem sStep5 (k : Fin (k0_t5_loop v).trips) (u : Unit) :
    sWait c i dt v hv fo fy k.val ⊢ wp frame (wpE (defs₀ (F := F)) Variants.none c none) Set.univ
      (sBody5 i v arg7 harg7 arg8 harg8 arg9 harg9 arg10 harg10 v0 h1 h2 k u) (fun _ => sWait (F := F) c i dt v hv fo fy (k.val + 1)) := by
  unfold sWait sBody5 Gen.k0_t5_body
  iintro ⟨HB, %W, HO⟩
  simp only [Prog.lift, op_bind]
  have hk : k.val < v.toNat := lt_of_lt_of_eq k.isLt (trips5 hv)
  have hle : k.val * sN + 1 * sN ≤ sN * (k0_t3_loop v).trips := by
    rw [← Nat.add_mul, Nat.mul_comm sN]
    exact Nat.mul_le_mul_right _ (Nat.succ_le_of_lt (lt_of_lt_of_eq hk (trips3 hv).symm))
  iapply (Transfers.wp_waitBatchMul EC Variants.none (c : Thread nD τ) none (dstw := yrow ![0, 0] inb_S20480x1024_row0) () 1 (N := sN) (Nat.one_mul _).symm hle) $$ [HB HO]
  · isplitl [HB]; · iexact HB
    iexact HO
  iintro ⟨HB, HO⟩
  simp only [ret_bindM]
  sl_step
  isplitl [HB]
  · rw [Nat.add_mul]; iexact HB
  iexists _; iexact HO

theorem sN_pos : 0 < sN := by decide

include hdt hinj hv in
/-- The scatter: the tile's first rows at their assignments, everything else as before. -/
theorem wp_scatter {q : PosShare TreeShare} {W : Waits sig Unit} {α : Type} {Q : α → sProp 𝕄} {kk : Unit → Prog (TpuEff nD τ sig (Elt F) Λ₀ .tc) α} :
    iprop((((c : Thread nD τ).loc main_arg1) ↦{q} (dt : Buf (Elt F) ((c : Thread nD τ).loc main_arg1)))
      ∗ (((c : Thread nD τ).loc cc0_scratch1) ↦{fullShare} (fo : Buf (Elt F) ((c : Thread nD τ).loc cc0_scratch1)))
      ∗ (((c : Thread nD τ).loc main_v0) ↦{fullShare} (fy : Buf (Elt F) ((c : Thread nD τ).loc main_v0)))
      ∗ semVal ((c : Thread nD τ), .dma cc0_scratch3.sem) 0 ∗ owes (c : Thread nD τ) 0 W)
    ⊢ iprop((iprop((((c : Thread nD τ).loc main_arg1) ↦{q} (dt : Buf (Elt F) ((c : Thread nD τ).loc main_arg1)))
      ∗ (((c : Thread nD τ).loc cc0_scratch1) ↦{fullShare} (fo : Buf (Elt F) ((c : Thread nD τ).loc cc0_scratch1)))
      ∗ (((c : Thread nD τ).loc main_v0) ↦{fullShare} (scattered i dt v fo fy : Buf (Elt F) ((c : Thread nD τ).loc main_v0)))
      ∗ semVal ((c : Thread nD τ), .dma cc0_scratch3.sem) 0 ∗ (∃ W', owes (c : Thread nD τ) 0 W'))
        -∗ wp frame (wpE (defs₀ (F := F)) Variants.none (c : Thread nD τ) none) Set.univ (kk ⟨⟩) Q)
      -∗ wp frame (wpE (defs₀ (F := F)) Variants.none (c : Thread nD τ) none) Set.univ
        (Scf.Loop.for (k0_t3_loop v) (k0_t3_ok i v0 v h2 h1) ⟨⟩ (sBody3 i v arg7 harg7 arg8 harg8 arg9 harg9 arg10 harg10 v0 h1 h2) >>= fun _ =>
          Scf.Loop.for (k0_t4_loop v) (k0_t4_ok i v0 v h2 h1) ⟨⟩ (sBody4 i v arg7 harg7 arg8 harg8 arg9 harg9 arg10 harg10 v0 h1 h2) >>= fun _ =>
          Scf.Loop.for (k0_t5_loop v) (k0_t5_ok i v0 v h2 h1) ⟨⟩ (sBody5 i v arg7 harg7 arg8 harg8 arg9 harg9 arg10 harg10 v0 h1 h2) >>= fun _ =>
          Scf.Loop.for (k0_t6_loop v) (k0_t6_ok i v0 v h2 h1) ⟨⟩ (sBody6 i v arg7 harg7 arg8 harg8 arg9 harg9 arg10 harg10 v0 h1 h2) >>= kk) Q) := by
  iintro ⟨Ht, Ho, Hy, Hs, HO⟩ Hk
  ihave Hc := (scatter_cut c i dt v hv hinj fo fy) $$ [Ho Hy]
  · isplitl [Ho]; · iexact Ho
    iexact Hy
  icases Hc with ⟨Hp, Hkeep⟩
  imod (Transfers.batch_alloc' (Lvl := ℕ) EC (c : Thread nD τ) () sN (sDeliv (F := F) c i dt v hv fo fy) (sm := .dma cc0_scratch3.sem) (E := Set.univ)) $$ Hs with HB
  iapply (Scf.wp_for_bind frame (wpE (defs₀ (F := F)) Variants.none (c : Thread nD τ) none) Set.univ _ _ _ (k0_t3_ok i v0 v h2 h1) ⟨⟩ _
    (fun k _ => sInv (F := F) c i dt v hv fo fy q k) (sStep c i dt hdt v hv hinj fo fy arg7 harg7 arg8 harg8 arg9 harg9 arg10 harg10 v0 h1 h2 q)) $$ [Ht Hp HB]
  · unfold sInv
    isplitl [Ht]; · iexact Ht
    isplitl [Hp]
    · iapply (Entails.of_eq (Transfers.bigSep_pending_zero (sPiece (F := F) c i dt v hv fo fy))) $$ Hp
    iexact HB
  iintro %acc HI
  unfold sInv
  icases HI with ⟨Ht, -, HB⟩
  iapply (Scf.wp_for_bind frame (wpE (defs₀ (F := F)) Variants.none (c : Thread nD τ) none) Set.univ _ _ _ (k0_t4_ok i v0 v h2 h1) ⟨⟩ _
    (fun k _ => iprop(sBatch (F := F) c i dt v hv fo fy (k0_t3_loop v).trips 0))
    (fun k _ => absurd (lt_of_lt_of_eq k.isLt (trips4 v)) (Nat.not_lt_zero _))) $$ HB
  iintro %acc4 HB
  iapply (Scf.wp_for_bind frame (wpE (defs₀ (F := F)) Variants.none (c : Thread nD τ) none) Set.univ _ _ _ (k0_t5_ok i v0 v h2 h1) ⟨⟩ _
    (fun k _ => sWait (F := F) c i dt v hv fo fy k) (sStep5 c i dt v hv fo fy arg7 harg7 arg8 harg8 arg9 harg9 arg10 harg10 v0 h1 h2)) $$ [HB HO]
  · unfold sWait
    isplitl [HB]
    · rw [Nat.zero_mul]; iexact HB
    iexists _; iexact HO
  iintro %acc5 HI
  iapply (Scf.wp_for_bind frame (wpE (defs₀ (F := F)) Variants.none (c : Thread nD τ) none) Set.univ _ _ _ (k0_t6_ok i v0 v h2 h1) ⟨⟩ _
    (fun k _ => sWait (F := F) c i dt v hv fo fy (k0_t5_loop v).trips)
    (fun k _ => absurd (lt_of_lt_of_eq k.isLt (trips6 v)) (Nat.not_lt_zero _))) $$ HI
  iintro %acc6 HI
  unfold sWait
  icases HI with ⟨HB, HO⟩
  ihave HB' := (show sBatch (F := F) c i dt v hv fo fy (k0_t3_loop v).trips ((k0_t5_loop v).trips * sN)
      ⊢ sBatch (F := F) c i dt v hv fo fy (k0_t3_loop v).trips (sN * (k0_t3_loop v).trips)
    from Entails.of_eq (by rw [Nat.mul_comm, (trips5 hv).trans (trips3 hv).symm])) $$ HB
  imod (Transfers.batch_collect' (Lvl := ℕ) EC (c : Thread nD τ) (sm := .dma cc0_scratch3.sem) (ι := ()) (N := sN) sN_pos (D := sDeliv (F := F) c i dt v hv fo fy)) $$ HB' with ⟨HD, Hs⟩
  ihave Hj := (scatter_join c i dt v hv hinj fo fy) $$ [HD Hkeep]
  · isplitl [HD]; · iexact HD
    iexact Hkeep
  icases Hj with ⟨Ho, Hy⟩
  iapply Hk
  isplitl [Ht]; · iexact Ht
  isplitl [Ho]; · iexact Ho
  isplitl [Hy]; · iexact Hy
  isplitl [Hs]; · iexact Hs
  iexact HO

end Scatter
-- ==== Proof.MoeIdealBody.lean ====
/- The kernel body at one tile: the rows gathered, the tile's matrix products, and the rows scattered. -/
module

public import proofs.«01_k».proof.Proof.MoeIdealGather
public import proofs.«01_k».proof.Proof.MoeIdealScatter
public import Idealize.ShloMosaic.Lib.Pipeline.FrameBody
public import Idealize.ShloMosaic.Lib.Pipeline.Value

@[expose] public section

noncomputable section

namespace Cert.MoeIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Facts₀ Facts

local notation "𝕄" => MT nD τ sig Unit (Elt F) ℕ (Pipeline.UD sig nD τ) ℕ
local notation "EC" => (countersEmb (U := Pipeline.UD sig nD τ))

/-- A load of a whole window: what the window holds. -/
theorem wp_loadOwns {α : Type} {Q : α → sProp 𝕄} (c : Dev nD) {cs : CoreSpace} {s : Shape} {e : EltTy} (m : Memref sig .tc cs s e)
    {off : Fin s.rank → ℕ} (h0 : off = fun _ => 0) {inb : ∀ a, off a + s.size a ≤ s.size a}
    {hl : m.view.LoadsAt (Rect.unit off s.size inb).toLoadRect}
    {k : (s.Idx → Elt F e) → Prog (TpuEff nD τ sig (Elt F) Λ₀ .tc) α} {q : PosShare TreeShare} {x : s.Idx → Elt F e} :
    (owns (c : Thread nD τ) m q x : sProp 𝕄)
      ⊢ iprop((owns (c : Thread nD τ) m q x -∗ wp frame (wpE (defs₀ (F := F)) Variants.none (c : Thread nD τ) none) Set.univ (k x) Q)
        -∗ wp frame (wpE (defs₀ (F := F)) Variants.none (c : Thread nD τ) none) Set.univ
          (.op (.load m (Rect.unit off s.size inb).toLoadRect hl) k) Q) := by
  subst h0
  unfold owns
  iintro ⟨%f, %hf, H⟩ Hk
  iapply (wp_load Variants.none (c : Thread nD τ) none Set.univ (m := m) (View.setOn_subset_set _ _)) $$ H
  iintro H
  have e : m.view.readAt (Elt F) (Rect.unit (fun _ => 0) s.size inb).toLoadRect f = x := by
    rw [View.readAt_eq_ld, hf]; exact View.ld_unit_zero rfl inb x
  rw [e]
  iapply Hk
  iexists f
  isplitr
  · ipureintro; exact hf
  iexact H

/-- A buffer held whole is its memref owned, both ways. -/
theorem owns_of_buf (c : Dev nD) (b : Ref sig .tc) (q : PosShare TreeShare) (f : b.ty.Contents (Elt F)) :
    ((((c : Thread nD τ).loc b) ↦{q} (f : Buf (Elt F) ((c : Thread nD τ).loc b))) : sProp 𝕄) ⊢ owns (c : Thread nD τ) (Memref.whole b) q f := by
  rw [owns_whole_eq]
  iintro H
  iexists _
  isplitr
  · ipureintro; rfl
  iexact H

theorem buf_of_owns (c : Dev nD) (b : Ref sig .tc) (q : PosShare TreeShare) (f : b.ty.Contents (Elt F)) :
    (owns (c : Thread nD τ) (Memref.whole b) q f : sProp 𝕄) ⊢ (((c : Thread nD τ).loc b) ↦{q} (f : Buf (Elt F) ((c : Thread nD τ).loc b))) := by
  rw [owns_whole_eq]
  iintro ⟨%g, %hg, H⟩
  rw [← hg]
  iexact H

/-- A store of the whole output scratch leaves what was stored. -/
theorem wp_storeOut {α : Type} {Q : α → sProp 𝕄} (c : Dev nD)
    {off : Fin S256x1024.rank → ℕ} (h0 : off = fun _ => 0) {inb : ∀ a, off a + S256x1024.size a ≤ S256x1024.size a} {w : S256x1024.Idx → Elt F .f32}
    {hx : ((Memref.whole cc0_scratch1 : Memref sig .tc _ _ _).access (Rect.unit off S256x1024.size inb)).Stores Finset.univ}
    {hm : (Finset.univ : Finset (Rect.unit off S256x1024.size inb).shape.Idx) = Finset.univ ∨ ∀ a, (Rect.unit off S256x1024.size inb).stride a = 1}
    {k : PUnit → Prog (TpuEff nD τ sig (Elt F) Λ₀ .tc) α} {f : S256x1024.Idx → Elt F .f32} :
    (((c : Thread nD τ).loc cc0_scratch1) ↦{fullShare} (f : Buf (Elt F) ((c : Thread nD τ).loc cc0_scratch1)))
      ⊢ iprop(((((c : Thread nD τ).loc cc0_scratch1) ↦{fullShare} (w : Buf (Elt F) ((c : Thread nD τ).loc cc0_scratch1)))
          -∗ wp frame (wpE (defs₀ (F := F)) Variants.none (c : Thread nD τ) none) Set.univ (k ⟨⟩) Q)
        -∗ wp frame (wpE (defs₀ (F := F)) Variants.none (c : Thread nD τ) none) Set.univ
          (.op (.store (Memref.whole cc0_scratch1) (Rect.unit off S256x1024.size inb) w Finset.univ hx hm) k) Q) := by
  iintro H Hk
  iapply (wp_store Variants.none (c : Thread nD τ) none Set.univ (m := Memref.whole cc0_scratch1) (r := Rect.unit off S256x1024.size inb)
    (Mk := Finset.univ) (w := w) (S := Finset.univ) (f := (f : Buf (Elt F) ((c : Thread nD τ).loc cc0_scratch1))) (Finset.subset_univ _)) $$ H
  iintro H
  iapply Hk
  rw [show ((Memref.whole cc0_scratch1 : Memref sig .tc _ _ _).access (Rect.unit off S256x1024.size inb)).write (Elt F) f w Finset.univ = w
    from Memref.write_access_unit_zero_univ (Elt F) cc0_scratch1 h0 inb f w]
  iexact H

section Body

variable (c : Dev nD) (i : grid0.Coords)
variable (tk dt : S24576.Idx → BitVec 32) (nv : S96.Idx → BitVec 32) (nu : S1.Idx → BitVec 32)
variable (htk : ∀ n (h : n < 24576), (word tk n h).toNat < 10240) (hdt : ∀ n (h : n < 24576), (word dt n h).toNat < 20480)
variable (hnv : ∀ n (h : n < 96), (word nv n h).toNat ≤ 256)

/-- The tile's count of rows with an assignment, and the condition that the tile is used. -/
def cntW : BitVec 32 := word nv (i 0).val (grid_lt i)
def usedW : BitVec 32 := word nu 0 (by omega)

/-- The tile's output rows. -/
def tileOut (fu : S10240x1024.Idx → Elt F .f32) (x0 : S256x1.Idx → Elt F .f32) (x1 x2 : S1x1024x512.Idx → Elt F .bf16) (x3 : S1x512x1024.Idx → Elt F .bf16) :
    S256x1024.Idx → Elt F .f32 :=
  Gen.k0_pay1 (Gen.k0_pay2 (gathered i tk htk fu) x1 x2 x0 x3)

open Classical in
/-- What the tile leaves of the result. -/
def tileNext (fu : S10240x1024.Idx → Elt F .f32) (x0 : S256x1.Idx → Elt F .f32) (x1 x2 : S1x1024x512.Idx → Elt F .bf16) (x3 : S1x512x1024.Idx → Elt F .bf16)
    (fy : S20480x1024.Idx → Elt F .f32) : S20480x1024.Idx → Elt F .f32 :=
  if k0_cond1 i (usedW nu) = 1#1 then scattered i dt (cntW i nv) (tileOut i tk htk fu x0 x1 x2 x3) fy else fy

theorem zz2 : (![0, 0] : Fin 2 → ℕ) = fun _ => 0 := by decide
theorem zz3 : (![0, 0, 0] : Fin 3 → ℕ) = fun _ => 0 := by decide

theorem used_read (r : Rect S1) (h : r = Rect.unit (s := S1) ![0] S1.size inb_S1_S1_0) (x : r.shape.Idx) :
    ((Memref.whole main_arg4 : Memref sig .tc _ _ _).access r).read (Elt F) nu x = usedW nu := by
  show nu _ = nu _
  exact congrArg nu (funext fun a => Fin.ext (by
    have e := fun (y : S1.Idx) (b : Fin 1) => (y b).isLt
    have h1 := e ((r.emb) x) a
    match a with
    | 0 => simpa using h1))

theorem cnt_read (x) :
    ((Memref.whole main_arg3 : Memref sig .tc _ _ _).access (Rect.unit (s := S96) (k0_off6 i) S1.size (k0_off6_inb i))).read (Elt F)
      (nv : Buf (Elt F) ((c : Thread nD τ).loc main_arg3)) x = cntW i nv := by
  rw [View.read_apply, cast_eq]
  refine congrArg nv (funext fun a => Fin.ext ?_)
  refine (ValueKit.view_emb_slice_whole_unit_val main_arg3 _ _ _ _ a).trans ?_
  have hx : (x a).val < 1 := (x a).isLt.trans_le (by match a with | ⟨0, _⟩ => exact le_refl 1)
  have hi := grid_lt i
  match a, hx with
  | ⟨0, _⟩, hx =>
    have ho' : k0_off6 i 0 = (i 0).val := by
      unfold k0_off6
      show (BitVec.ofNat 32 (i 0).val).toNat = _
      rw [BitVec.toNat_ofNat, Nat.mod_eq_of_lt (by omega)]
    show k0_off6 i 0 + (x 0).val = (i 0).val
    have hx' : (x 0).val < 1 := hx
    omega

variable (hinj : k0_cond1 i (usedW nu) = 1#1 → ∀ k k' : Fin 256, k.val < (cntW i nv).toNat → k'.val < (cntW i nv).toNat → dstN i dt k = dstN i dt k' → k = k')
variable (fu : S10240x1024.Idx → Elt F .f32) (fy : S20480x1024.Idx → Elt F .f32)
variable (x0 : S256x1.Idx → Elt F .f32) (x1 x2 : S1x1024x512.Idx → Elt F .bf16) (x3 : S1x512x1024.Idx → Elt F .bf16)
variable (arg7 : Memref sig .tc .vmem S256x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)

abbrev bodyAt := cc0__moe_kernel (F := F) i (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_arg5) (Memref.isWhole_whole _) arg7 harg7 arg8 harg8 arg9 harg9 arg10 harg10 (Memref.whole main_v0) (Memref.isWhole_whole _)
  (Memref.whole cc0_scratch0) (Memref.isWhole_whole _) (Memref.whole cc0_scratch1) (Memref.isWhole_whole _) cc0_scratch2 cc0_scratch3

set_option maxRecDepth 65536 in
include hdt hnv hinj in
/-- One tile's body: the tables and the weights as they were, the result with the tile's rows laid down. -/
theorem wp_body {q : PosShare TreeShare} {W : Waits sig Unit} {Q : PUnit → sProp 𝕄} :
    iprop((((c : Thread nD τ).loc main_arg0) ↦{q} (tk : Buf (Elt F) ((c : Thread nD τ).loc main_arg0))) ∗ (((c : Thread nD τ).loc main_arg1) ↦{q} (dt : Buf (Elt F) ((c : Thread nD τ).loc main_arg1))) ∗ (((c : Thread nD τ).loc main_arg3) ↦{q} (nv : Buf (Elt F) ((c : Thread nD τ).loc main_arg3))) ∗ (((c : Thread nD τ).loc main_arg4) ↦{q} (nu : Buf (Elt F) ((c : Thread nD τ).loc main_arg4))) ∗
      (((c : Thread nD τ).loc main_arg5) ↦{fullShare} (fu : Buf (Elt F) ((c : Thread nD τ).loc main_arg5))) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗
      (((c : Thread nD τ).loc main_v0) ↦{fullShare} (fy : Buf (Elt F) ((c : Thread nD τ).loc main_v0))) ∗ semVal ((c : Thread nD τ), .dma cc0_scratch2.sem) 0 ∗ semVal ((c : Thread nD τ), .dma cc0_scratch3.sem) 0 ∗ owes (c : Thread nD τ) 0 W ∗
      owns (c : Thread nD τ) arg7 fullShare x0 ∗ owns (c : Thread nD τ) arg8 fullShare x1 ∗ owns (c : Thread nD τ) arg9 fullShare x2 ∗ owns (c : Thread nD τ) arg10 fullShare x3)
    ⊢ iprop((iprop((((c : Thread nD τ).loc main_arg0) ↦{q} (tk : Buf (Elt F) ((c : Thread nD τ).loc main_arg0))) ∗ (((c : Thread nD τ).loc main_arg1) ↦{q} (dt : Buf (Elt F) ((c : Thread nD τ).loc main_arg1))) ∗ (((c : Thread nD τ).loc main_arg3) ↦{q} (nv : Buf (Elt F) ((c : Thread nD τ).loc main_arg3))) ∗ (((c : Thread nD τ).loc main_arg4) ↦{q} (nu : Buf (Elt F) ((c : Thread nD τ).loc main_arg4))) ∗
      (((c : Thread nD τ).loc main_arg5) ↦{fullShare} (fu : Buf (Elt F) ((c : Thread nD τ).loc main_arg5))) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗
      (((c : Thread nD τ).loc main_v0) ↦{fullShare} (tileNext i tk dt nv nu htk fu x0 x1 x2 x3 fy : Buf (Elt F) ((c : Thread nD τ).loc main_v0))) ∗ semVal ((c : Thread nD τ), .dma cc0_scratch2.sem) 0 ∗ semVal ((c : Thread nD τ), .dma cc0_scratch3.sem) 0 ∗ (∃ W', owes (c : Thread nD τ) 0 W') ∗
      owns (c : Thread nD τ) arg7 fullShare x0 ∗ owns (c : Thread nD τ) arg8 fullShare x1 ∗ owns (c : Thread nD τ) arg9 fullShare x2 ∗ owns (c : Thread nD τ) arg10 fullShare x3)
        -∗ Q ⟨⟩)
      -∗ wp frame (wpE (defs₀ (F := F)) Variants.none (c : Thread nD τ) none) Set.univ (bodyAt i arg7 harg7 arg8 harg8 arg9 harg9 arg10 harg10) Q) := by
  rw [show bodyAt (F := F) i arg7 harg7 arg8 harg8 arg9 harg9 arg10 harg10 = _ from
    congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun Gen.cc0__moe_kernel_eq_skeleton _) _) _) _) _) _) _) _) _) _) _) _) _) _) _) _) _) _) _) _) _) _) _) _) _) _) _) _) _]
  unfold Gen.cc0__moe_kernel_skel
  iintro ⟨Htk, Hdt, Hnv, Hnu, Hu, ⟨%fx, Hx⟩, ⟨%fo, Ho⟩, Hy, Hs2, Hs3, HO, H7, H8, H9, H10⟩ Hk
  simp only [ret_bind, ret_bindM, op_bind, Prog.lift]
  unfold smemLoad
  rw [smemLoadElt_bind]
  iapply (wp_tableWord c (Memref.whole main_arg4) (f := nu) (q := q)) $$ Hnu
  iintro Hnu %w %hw
  have hw' : w = usedW nu := hw.trans (used_read (F := F) nu _ rfl _)
  subst hw'
  simp only [ret_bind, ret_bindM, op_bind, Prog.lift]
  by_cases h1 : k0_cond1 i (usedW nu) = 1#1
  · rw [dif_pos h1, Gen.k0_part1_eq_skeleton]
    unfold Gen.k0_part1_skel
    simp only [ret_bind, ret_bindM, op_bind, Prog.lift, bind_assoc]
    iapply (wp_gather c i tk htk fu fx arg7 harg7 arg8 harg8 arg9 harg9 arg10 harg10 (BitVec.ofNat 32 (i 0).val) (usedW nu) h1 (q := q)) $$ [Htk Hu Hx Hs2 HO]
    · isplitl [Htk]; · iexact Htk
      isplitl [Hu]; · iexact Hu
      isplitl [Hx]; · iexact Hx
      isplitl [Hs2]; · iexact Hs2
      iexact HO
    iintro ⟨Htk, Hu, Hx, Hs2, ⟨%W1, HO⟩⟩
    ihave Hx := (owns_of_buf c cc0_scratch0 fullShare (gathered i tk htk fu)) $$ Hx
    iapply (wp_loadOwns c (Memref.whole cc0_scratch0) zz2) $$ Hx
    iintro Hx
    iapply (wp_loadOwns c arg8 zz3) $$ H8
    iintro H8
    iapply (wp_loadOwns c arg9 zz3) $$ H9
    iintro H9
    iapply (wp_loadOwns c arg7 zz2) $$ H7
    iintro H7
    iapply (wp_loadOwns c arg10 zz3) $$ H10
    iintro H10
    ihave Ho := (owns_of_buf c cc0_scratch1 fullShare fo) $$ Ho
    iapply (wp_loadOwns c (Memref.whole cc0_scratch1) zz2) $$ Ho
    iintro Ho
    ihave Ho := (buf_of_owns c cc0_scratch1 fullShare fo) $$ Ho
    ihave Hx := (buf_of_owns c cc0_scratch0 fullShare (gathered i tk htk fu)) $$ Hx
    dsimp only [ret_bind, ret_bindM, op_bind]
    iapply (wp_storeOut c zz2) $$ Ho
    iintro Ho
    rw [smemLoadElt_bind]
    iapply (wp_tableWord c (Memref.whole main_arg3) (f := nv) (q := q)) $$ Hnv
    iintro Hnv %v %hv
    have hv' : v = cntW i nv := hv.trans (cnt_read (F := F) i nv _)
    subst hv'
    simp only [ret_bind, ret_bindM, op_bind, Prog.lift]
    have hle : (cntW i nv).toNat ≤ 256 := hnv _ _
    rw [wp_assume_of Variants.none (c : Thread nD τ) none Set.univ (chk2_of i (usedW nu) hle)]
    iapply (wp_scatter c i dt hdt (cntW i nv) hle (hinj h1) (tileOut i tk htk fu x0 x1 x2 x3) fy arg7 harg7 arg8 harg8 arg9 harg9 arg10 harg10 (usedW nu) h1
      (chk2_of i (usedW nu) hle) (q := q)) $$ [Hdt Ho Hy Hs3 HO]
    · isplitl [Hdt]; · iexact Hdt
      isplitl [Ho]; · iexact Ho
      isplitl [Hy]; · iexact Hy
      isplitl [Hs3]; · iexact Hs3
      iexact HO
    iintro ⟨Hdt, Ho, Hy, Hs3, HO⟩
    sl_step
    iapply Hk
    unfold tileNext
    rw [if_pos h1]
    isplitl [Htk]; · iexact Htk
    isplitl [Hdt]; · iexact Hdt
    isplitl [Hnv]; · iexact Hnv
    isplitl [Hnu]; · iexact Hnu
    isplitl [Hu]; · iexact Hu
    isplitl [Hx]
    · iexists _; iexact Hx
    isplitl [Ho]
    · iexists _; iexact Ho
    isplitl [Hy]; · iexact Hy
    isplitl [Hs2]; · iexact Hs2
    isplitl [Hs3]; · iexact Hs3
    isplitl [HO]; · iexact HO
    isplitl [H7]; · iexact H7
    isplitl [H8]; · iexact H8
    isplitl [H9]; · iexact H9
    iexact H10
  · rw [dif_neg h1]
    sl_step
    iapply Hk
    unfold tileNext
    rw [if_neg h1]
    isplitl [Htk]; · iexact Htk
    isplitl [Hdt]; · iexact Hdt
    isplitl [Hnv]; · iexact Hnv
    isplitl [Hnu]; · iexact Hnu
    isplitl [Hu]; · iexact Hu
    isplitl [Hx]
    · iexists _; iexact Hx
    isplitl [Ho]
    · iexists _; iexact Ho
    isplitl [Hy]; · iexact Hy
    isplitl [Hs2]; · iexact Hs2
    isplitl [Hs3]; · iexact Hs3
    isplitl [HO]; · iexists _; iexact HO
    isplitl [H7]; · iexact H7
    isplitl [H8]; · iexact H8
    isplitl [H9]; · iexact H9
    iexact H10

end Body

end Cert.MoeIdeal

end
-- ==== Proof.MoeIdealFrame.lean ====
/- The pipeline over the tiles: what the result holds before each tile, the run, and the arguments unchanged. -/
module

public import proofs.«01_k».proof.Proof.MoeIdealBody
public import proofs.«01_k».proof.Proof.Gen.MoeIdeal.Launch
public import Idealize.ShloMosaic.Lib.Pipeline.FrameValue
public import Idealize.ShloMosaic.Lib.Claim

@[expose] public section

set_option maxRecDepth 16384

noncomputable section

namespace Cert.MoeIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Facts₀ Facts

local notation "𝕄" => MT nD τ sig Unit (Elt F) ℕ (Pipeline.UD sig nD τ) ℕ

variable (m : (ℓ : Loc nD τ sig) → Buf (Elt F) ℓ) (ρ : Dev nD → PrngReg)

/-! ## The tables and the arrays as the region finds them -/

def V (c : Dev nD) (b : Ref sig .tc) : Buf (Elt F) ((c : Thread nD τ).loc b) := m ((c : Thread nD τ).loc b)

def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- The tables, each as words: the rows' tokens and assignments, the tiles' experts and counts, the used tiles. -/
def tkOf : S24576.Idx → BitVec 32 := V m (0 : Dev nD) main_arg0
def dtOf : S24576.Idx → BitVec 32 := V m (0 : Dev nD) main_arg1
def teOf : S96.Idx → BitVec 32 := V m (0 : Dev nD) main_arg2
def nvOf : S96.Idx → BitVec 32 := V m (0 : Dev nD) main_arg3
def nuOf : S1.Idx → BitVec 32 := V m (0 : Dev nD) main_arg4
def uOf : S10240x1024.Idx → Elt F .f32 := V m (0 : Dev nD) main_arg5

/-- What the run asks of the tables: every word in range, and no assignment twice in a used tile. -/
structure TablesOk : Prop where
  tok : ∀ n (h : n < 24576), (word (tkOf m) n h).toNat < 10240
  dst : ∀ n (h : n < 24576), (word (dtOf m) n h).toNat < 20480
  exp : ∀ n (h : n < 96), (word (teOf m) n h).toNat < 16
  cnt : ∀ n (h : n < 96), (word (nvOf m) n h).toNat ≤ 256
  once : ∀ i : grid0.Coords, k0_cond1 i (usedW (nuOf m)) = 1#1 → ∀ k k' : Fin 256,
    k.val < (cntW i (nvOf m)).toNat → k'.val < (cntW i (nvOf m)).toNat → dstN i (dtOf m) k = dstN i (dtOf m) k' → k = k'

theorem exp_word (i : grid0.Coords) (hin : ∀ a, (k0_off1 i) a + S1.size a ≤ S96.size a) (hn) :
    (tbl m).at 2 (Rect.unit (s := S96) ![(Scalar.indexCast (BitVec.ofNat 32 (i 0).val) : Index).toNat] S1.size hin) hn = word (teOf m) (i 0).val (grid_lt i) := by
  unfold Pipeline.Prefetch.Contents.at
  refine congrArg (teOf m) (funext fun a => Fin.ext ?_)
  have hi := grid_lt i
  match a with
  | ⟨0, _⟩ =>
    show (BitVec.ofNat 32 (i 0).val).toNat + 1 * _ = (i 0).val
    have hx : ∀ y : (⟨1, ![1]⟩ : Shape).Idx, (y 0).val = 0 := fun y => by have : (y 0).val < 1 := (y 0).isLt; omega
    rw [BitVec.toNat_ofNat, Nat.mod_eq_of_lt (by omega)]
    erw [hx]
    omega

theorem ok_of (hT : TablesOk m) : ok0 (F := F) (tbl m) := by
  refine ⟨fun i => ?_, fun i => ?_, fun i => ?_⟩ <;>
  · refine ⟨fun x => ?_, Or.inr (Or.inr ⟨by decide, rfl, Nat.zero_mul _, rfl⟩)⟩
    have hw := hT.exp (i 0).val (grid_lt i)
    rw [← exp_word m i (Facts₀.k0_off1_inb i) Facts₀.numel1_S1] at hw
    match x with
    | ⟨0, _⟩ => exact Nat.mul_le_mul_right 1 (m := 16) hw
    | ⟨1, _⟩ => exact le_of_eq (Nat.one_mul _)
    | ⟨2, _⟩ => exact le_of_eq (Nat.one_mul _)

abbrev adm (hT : TablesOk m) : (pcfg0 (F := F)).Adm := ⟨tbl m, ok_of m hT⟩
abbrev cfgM (hT : TablesOk m) : Pipeline.Cfg sig Λ₀ := cfg0 (adm m hT)

/-- A window's block at a tile. -/
def iblk (hT : TablesOk m) (c : Dev nD) (w : Fin (cfgM m hT).W) (t : Fin (cfgM m hT).N) :
    (((cfgM m hT).win w).xblock ((cfgM m hT).grid.coords t)).Idx → Elt F ((cfgM m hT).win w).elt :=
  (((cfgM m hT).win w).blk t).view.read (Elt F) (V m c (Pipeline.arrRef spec0 w))

/-- What the result holds before tile `n`. -/
def yAt (hT : TablesOk m) (c : Dev nD) : ℕ → S20480x1024.Idx → Elt F .f32
  | 0 => V m c main_v0
  | n + 1 => if h : n < (cfgM m hT).N then
      tileNext ((cfgM m hT).grid.coords ⟨n, h⟩) (tkOf m) (dtOf m) (nvOf m) (nuOf m) hT.tok (uOf m)
        (iblk m hT c 0 ⟨n, h⟩) (iblk m hT c 1 ⟨n, h⟩) (iblk m hT c 2 ⟨n, h⟩) (iblk m hT c 3 ⟨n, h⟩) (yAt hT c n)
    else yAt hT c n

theorem yAt_succ (hT : TablesOk m) (c : Dev nD) (t : Fin (cfgM m hT).N) : yAt m hT c (t.val + 1) =
    tileNext ((cfgM m hT).grid.coords t) (tkOf m) (dtOf m) (nvOf m) (nuOf m) hT.tok (uOf m)
        (iblk m hT c 0 t) (iblk m hT c 1 t) (iblk m hT c 2 t) (iblk m hT c 3 t) (yAt m hT c t.val) := by
  show (if h : t.val < (cfgM m hT).N then _ else _) = _
  rw [dif_pos t.isLt]

/-! ## The pipeline's proof data -/

/-- The tables' half shares the region hands the body, one by one. -/
theorem PhiT_eq (c : Dev nD) : (Pipeline.ΦT pre0 (tbl m) c : sProp 𝕄)
    = iprop((((c : Thread nD τ).loc main_arg0) ↦{fullShare.right} (tkOf m : Buf (Elt F) ((c : Thread nD τ).loc main_arg0)))
      ∗ (((c : Thread nD τ).loc main_arg1) ↦{fullShare.right} (dtOf m : Buf (Elt F) ((c : Thread nD τ).loc main_arg1)))
      ∗ (((c : Thread nD τ).loc main_arg2) ↦{fullShare.right} (teOf m : Buf (Elt F) ((c : Thread nD τ).loc main_arg2)))
      ∗ (((c : Thread nD τ).loc main_arg3) ↦{fullShare.right} (nvOf m : Buf (Elt F) ((c : Thread nD τ).loc main_arg3)))
      ∗ (((c : Thread nD τ).loc main_arg4) ↦{fullShare.right} (nuOf m : Buf (Elt F) ((c : Thread nD τ).loc main_arg4)))) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The body's own semaphores. -/
def osem : Fin 2 → SemLoc sig := fun | 0 => .dma cc0_scratch2.sem | 1 => .dma cc0_scratch3.sem

theorem osem_facts : Pipeline.OwnSemFacts spec0 osem := by decide

/-- The body's invariant before tile `n`. -/
def Phi (hT : TablesOk m) (c : Dev nD) (n : ℕ) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ r, prngReg c r) ∗ semVal ((c : Thread nD τ), .dma cc0_scratch2.sem) 0 ∗ semVal ((c : Thread nD τ), .dma cc0_scratch3.sem) 0
    ∗ (((c : Thread nD τ).loc main_arg5) ↦{fullShare} (uOf m : Buf (Elt F) ((c : Thread nD τ).loc main_arg5)))
    ∗ (((c : Thread nD τ).loc main_v0) ↦{fullShare} (yAt m hT c n : Buf (Elt F) ((c : Thread nD τ).loc main_v0)))
    ∗ Pipeline.ΦT pre0 (tbl m) c)

def dats (hT : TablesOk m) (_ : Fin 1) (c : Dev nD) : Dat τ (Elt F) Unit ℕ (Pipeline.UD sig nD τ) ℕ (cfgM m hT) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => iblk m hT c 3 t
  Φ t := Phi m hT c t.val
  q _ := fullShare
  owed _ := 0
  recorded _ := Set.univ

variable (hT : TablesOk m)

theorem A_eq (c : Dev nD) (w : Fin (cfgM m hT).W) : (dats m hT 0 c).A w = V m c (Pipeline.arrRef spec0 w) := by
  dsimp only [dats]

theorem after_0 (c : Dev nD) (t : Fin (cfgM m hT).N) : (dats m hT 0 c).after 0 t = iblk m hT c 0 t := by dsimp only [dats]; rfl
theorem after_1 (c : Dev nD) (t : Fin (cfgM m hT).N) : (dats m hT 0 c).after 1 t = iblk m hT c 1 t := by dsimp only [dats]; rfl
theorem after_2 (c : Dev nD) (t : Fin (cfgM m hT).N) : (dats m hT 0 c).after 2 t = iblk m hT c 2 t := by dsimp only [dats]; rfl
theorem after_3 (c : Dev nD) (t : Fin (cfgM m hT).N) : (dats m hT 0 c).after 3 t = iblk m hT c 3 t := by dsimp only [dats]; rfl
theorem before_0 (c : Dev nD) (t : Fin (cfgM m hT).N) (d) : (dats m hT 0 c).before 0 t d = iblk m hT c 0 t :=
  ((dats m hT 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hT).N) (d) : (dats m hT 0 c).before 1 t d = iblk m hT c 1 t :=
  ((dats m hT 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m hT).N) (d) : (dats m hT 0 c).before 2 t d = iblk m hT c 2 t :=
  ((dats m hT 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m hT).N) (d) : (dats m hT 0 c).before 3 t d = iblk m hT c 3 t :=
  ((dats m hT 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

abbrev st_0 (t : Fin (cfgM m hT).N) : Memref sig .tc .vmem S256x1 .f32 := ((cfgM m hT).win 0).stage ((cfgM m hT).slots t 0)
abbrev hst_0 (t : Fin (cfgM m hT).N) : (st_0 m hT t).IsWhole := hstage0_0 (((cfgM m hT).slots t 0).cast nbuf0_0)
abbrev st_1 (t : Fin (cfgM m hT).N) : Memref sig .tc .vmem S1x1024x512 .bf16 := ((cfgM m hT).win 1).stage ((cfgM m hT).slots t 1)
abbrev hst_1 (t : Fin (cfgM m hT).N) : (st_1 m hT t).IsWhole := hstage0_1 (((cfgM m hT).slots t 1).cast nbuf0_1)
abbrev st_2 (t : Fin (cfgM m hT).N) : Memref sig .tc .vmem S1x1024x512 .bf16 := ((cfgM m hT).win 2).stage ((cfgM m hT).slots t 2)
abbrev hst_2 (t : Fin (cfgM m hT).N) : (st_2 m hT t).IsWhole := hstage0_2 (((cfgM m hT).slots t 2).cast nbuf0_2)
abbrev st_3 (t : Fin (cfgM m hT).N) : Memref sig .tc .vmem S1x512x1024 .bf16 := ((cfgM m hT).win 3).stage ((cfgM m hT).slots t 3)
abbrev hst_3 (t : Fin (cfgM m hT).N) : (st_3 m hT t).IsWhole := hstage0_3 (((cfgM m hT).slots t 3).cast nbuf0_3)

/-- The body as the pipeline calls it at a tile. -/
abbrev bodyAt0 (t : Fin (cfgM m hT).N) := bodyAt (F := F) ((cfgM m hT).grid.coords t) (st_0 m hT t) (hst_0 m hT t) (st_1 m hT t) (hst_1 m hT t)
  (st_2 m hT t) (hst_2 m hT t) (st_3 m hT t) (hst_3 m hT t)

def bodyPre (c : Dev nD) (t : Fin (cfgM m hT).N) : sProp 𝕄 :=
  iprop((dats m hT 0 c).Φ t.castSucc ∗ (dats m hT 0 c).owesAt () t.castSucc
    ∗ (∃ d, owns (c : Thread nD τ) (st_0 m hT t) fullShare ((dats m hT 0 c).before 0 t d))
    ∗ (∃ d, owns (c : Thread nD τ) (st_1 m hT t) fullShare ((dats m hT 0 c).before 1 t d))
    ∗ (∃ d, owns (c : Thread nD τ) (st_2 m hT t) fullShare ((dats m hT 0 c).before 2 t d))
    ∗ (∃ d, owns (c : Thread nD τ) (st_3 m hT t) fullShare ((dats m hT 0 c).before 3 t d)))

def bodyPost (c : Dev nD) (t : Fin (cfgM m hT).N) : sProp 𝕄 :=
  iprop((dats m hT 0 c).Φ t.succ ∗ (dats m hT 0 c).owesAt () t.succ
    ∗ owns (c : Thread nD τ) (st_0 m hT t) fullShare ((dats m hT 0 c).after 0 t)
    ∗ owns (c : Thread nD τ) (st_1 m hT t) fullShare ((dats m hT 0 c).after 1 t)
    ∗ owns (c : Thread nD τ) (st_2 m hT t) fullShare ((dats m hT 0 c).after 2 t)
    ∗ owns (c : Thread nD τ) (st_3 m hT t) fullShare ((dats m hT 0 c).after 3 t))

theorem sound_body (c : Dev nD) (t : Fin (cfgM m hT).N) :
    bodyPre m hT c t ⊢ wp frame (wpE (defs₀ (F := F)) Variants.none (c : Thread nD τ) none) Set.univ (bodyAt0 m hT t) (fun _ => bodyPost m hT c t) := by
  unfold bodyPre bodyPost
  simp only [before_0, before_1, before_2, before_3]
  rw [after_0, after_1, after_2, after_3]
  rw [show (dats m hT 0 c).Φ t.castSucc = Phi m hT c t.val from rfl, show (dats m hT 0 c).Φ t.succ = Phi m hT c (t.val + 1) from rfl]
  unfold Phi
  rw [PhiT_eq, yAt_succ]
  iintro ⟨⟨Hx, Ho, Hg, Hs2, Hs3, Hu, Hy, Ht0, Ht1, Ht2, Ht3, Ht4⟩, HO, ⟨%d0, H0⟩, ⟨%d1, H1⟩, ⟨%d2, H2⟩, ⟨%d3, H3⟩⟩
  unfold Dat.owesAt Pipeline.owesWithin
  icases HO with ⟨%W, %hW, HO⟩
  iapply (wp_body (F := F) c ((cfgM m hT).grid.coords t) (tkOf m) (dtOf m) (nvOf m) (nuOf m) hT.tok hT.dst hT.cnt (hT.once _) (uOf m) (yAt m hT c t.val)
    (iblk m hT c 0 t) (iblk m hT c 1 t) (iblk m hT c 2 t) (iblk m hT c 3 t) (st_0 m hT t) (hst_0 m hT t) (st_1 m hT t) (hst_1 m hT t)
    (st_2 m hT t) (hst_2 m hT t) (st_3 m hT t) (hst_3 m hT t) (q := fullShare.right) (W := W)) $$ [Hx Ho Hs2 Hs3 Hu Hy Ht0 Ht1 Ht3 Ht4 HO H0 H1 H2 H3]
  · isplitl [Ht0]; · iexact Ht0
    isplitl [Ht1]; · iexact Ht1
    isplitl [Ht3]; · iexact Ht3
    isplitl [Ht4]; · iexact Ht4
    isplitl [Hu]; · iexact Hu
    isplitl [Hx]; · iexact Hx
    isplitl [Ho]; · iexact Ho
    isplitl [Hy]; · iexact Hy
    isplitl [Hs2]; · iexact Hs2
    isplitl [Hs3]; · iexact Hs3
    isplitl [HO]; · iexact HO
    isplitl [H0]; · iexact H0
    isplitl [H1]; · iexact H1
    isplitl [H2]; · iexact H2
    iexact H3
  iintro ⟨Ht0, Ht1, Ht3, Ht4, Hu, Hx, Ho, Hy, Hs2, Hs3, ⟨%W', HO⟩, H0, H1, H2, H3⟩
  isplitl [Hx Ho Hg Hs2 Hs3 Hu Hy Ht0 Ht1 Ht2 Ht3 Ht4]
  · isplitl [Hx]; · iexact Hx
    isplitl [Ho]; · iexact Ho
    isplitl [Hg]; · iexact Hg
    isplitl [Hs2]; · iexact Hs2
    isplitl [Hs3]; · iexact Hs3
    isplitl [Hu]; · iexact Hu
    isplitl [Hy]; · iexact Hy
    isplitl [Ht0]; · iexact Ht0
    isplitl [Ht1]; · iexact Ht1
    isplitl [Ht2]; · iexact Ht2
    isplitl [Ht3]; · iexact Ht3
    iexact Ht4
  isplitl [HO]
  · iexists W'
    isplitr
    · ipureintro; exact fun _ _ => Or.inl (Set.mem_univ _)
    iexact HO
  isplitl [H0]; · iexact H0
  isplitl [H1]; · iexact H1
  isplitl [H2]; · iexact H2
  iexact H3

theorem defs₀_row (t : Fin (cfgM m hT).N) :
    defs₀ (F := F) .tc (cfgM m hT).body ((cfgM m hT).bodyArgs t ((cfgM m hT).slots t)) = bodyAt0 m hT t := by
  unfold defs₀; rw [Defs.onTc_tc]; rfl

theorem body_obligation (c : Dev nD) : BodyObligation (dats (F := F) m hT 0 c) (defs₀ (F := F)) Variants.none () Set.univ := fun t => by
  rw [Gen.bigSep_W0, Gen.bigSep_W0, defs₀_row]
  exact triple_restated (sound_body m hT c t) rfl .rfl fun _ => .rfl

/-! ## The run -/

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (Gen.main_chain c).trans rfl

/-- What the region leaves: the result after the last tile. -/
def G (c : Dev nD) (b : Ref sig .tc) : Buf (Elt F) ((c : Thread nD τ).loc b) :=
  if h : b = main_v0 then h ▸ (yAt m hT c 96 : Buf (Elt F) ((c : Thread nD τ).loc main_v0)) else V m c b

theorem G_y (c : Dev nD) : G m hT c main_v0 = yAt m hT c 96 := by
  unfold G; rw [dif_pos rfl]

theorem ends_eq (c : Dev nD) (W : (c : Dev nD) → (b : Ref sig .tc) → Buf (Elt F) ((c.tc : Thread nD τ).loc b)) :
    (Pipeline.ΦDRG osem spec0 {main_arg5} {main_v0} (V m) W c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ (∃ r, prngReg c r) ∗ (semVal ((c : Thread nD τ), .dma cc0_scratch2.sem) 0 ∗ semVal ((c : Thread nD τ), .dma cc0_scratch3.sem) 0)
      ∗ (((c : Thread nD τ).loc main_arg5) ↦{fullShare} V m c main_arg5) ∗ (((c : Thread nD τ).loc main_v0) ↦{fullShare} W c main_v0)) := by
  rw [Pipeline.ΦDRG_eq, Gen.scopedRest0_eq, Pipeline.ownSems0_eq_of_list c osem [0, 1] (by decide) (by decide), bigSep_singleton, Pipeline.routed_singleton]
  rfl

theorem hin (c : Dev nD) : iprop(Pipeline.ΦDRG osem spec0 {main_arg5} {main_v0} (V m) (V m) c ∗ Pipeline.ΦT pre0 (tbl m) c) ⊢ (dats m hT 0 c).Φ 0 := by
  rw [ends_eq]
  show _ ⊢ Phi m hT c 0
  unfold Phi
  obtain rfl : c = 0 := Subsingleton.elim _ _
  iintro ⟨⟨⟨Hx, Ho⟩, Hg, ⟨Hs2, Hs3⟩, Hu, Hy⟩, Ht⟩
  isplitl [Hx]; · iexact Hx
  isplitl [Ho]; · iexact Ho
  isplitl [Hg]; · iexact Hg
  isplitl [Hs2]; · iexact Hs2
  isplitl [Hs3]; · iexact Hs3
  isplitl [Hu]; · iexact Hu
  isplitl [Hy]; · iexact Hy
  iexact Ht

theorem hout (c : Dev nD) : (dats m hT 0 c).Φ (Fin.last (cfgM m hT).N) ⊢ Pipeline.ΦDRG osem spec0 {main_arg5} {main_v0} (V m) (G m hT) c := by
  rw [ends_eq, G_y]
  rw [show (dats m hT 0 c).Φ (Fin.last (cfgM m hT).N) = Phi m hT c (cfgM m hT).N from rfl, show (cfgM m hT).N = 96 from Gen.N_0]
  unfold Phi
  obtain rfl : c = 0 := Subsingleton.elim _ _
  iintro ⟨Hx, Ho, Hg, Hs2, Hs3, Hu, Hy, -⟩
  isplitl [Hx Ho]
  · isplitl [Hx]; · iexact Hx
    iexact Ho
  isplitl [Hg]; · iexact Hg
  isplitl [Hs2 Hs3]
  · isplitl [Hs2]; · iexact Hs2
    iexact Hs3
  isplitl [Hu]; · iexact Hu
  iexact Hy

set_option backward.isDefEq.respectTransparency.types false in
theorem run_main : θ_run defs (onTc (τ := τ) (main (F := F))) (s₀ m ρ)
    (fun r => Pipeline.FramePostRG (Pipeline.pin pcfgs (fun _ => adm m hT)) (dats m hT) 0 {main_v0} (V m) (G m hT) r ∧ r.2.sem = fun _ => 0) :=
  Pipeline.θ_run_frameP_dmaRG (Q' := _) pcfgs (fun _ => adm m hT) (dats m hT) (0 : Fin 1) Gen.launch0 osem defs₀ Variants.none osem_facts {main_arg5} {main_v0}
    (show {main_arg5} ⊆ Pipeline.restRefsP sig pre0 spec0 by decide) (show {main_v0} ⊆ Pipeline.restRefsP sig pre0 spec0 \ {main_arg5} by decide) m ρ main
    (hbody := fun c => (body_obligation m hT c).loose) (hshare := fun c w => ite_self _)
    (howed := fun _ _ => rfl) (V := V m) (hmain := hmain m Variants.none) (hA := A_eq m hT) (hpf := V_pre m) (G := G m hT)
    (hin := hin m hT) (hout := hout m hT) (hQ' := fun _ h => h)

/-- The arguments end unchanged, every counter at zero, and the result at what the last tile left. -/
theorem run_value : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v0) = yAt m hT c 96)
      ∧ r.2.sem = fun _ => 0) :=
  (θ_run defs _ _).mono (fun r h => ⟨fun c => ⟨⟨
      (h.1.toR c).2 main_arg0 (show main_arg0 ∈ Pipeline.restRefs sig spec0 \ {main_v0} by decide),
      (h.1.toR c).2 main_arg1 (show main_arg1 ∈ Pipeline.restRefs sig spec0 \ {main_v0} by decide),
      (h.1.toR c).2 main_arg2 (show main_arg2 ∈ Pipeline.restRefs sig spec0 \ {main_v0} by decide),
      (h.1.toR c).2 main_arg3 (show main_arg3 ∈ Pipeline.restRefs sig spec0 \ {main_v0} by decide),
      (h.1.toR c).2 main_arg4 (show main_arg4 ∈ Pipeline.restRefs sig spec0 \ {main_v0} by decide),
      (h.1.toR c).2 main_arg5 (show main_arg5 ∈ Pipeline.restRefs sig spec0 \ {main_v0} by decide),
      ((h.1.toR c).1 0).trans (((dats m hT 0 c).arrAt_in 0 rfl _).trans (A_eq m hT c 0)),
      ((h.1.toR c).1 1).trans (((dats m hT 0 c).arrAt_in 1 rfl _).trans (A_eq m hT c 1)),
      ((h.1.toR c).1 2).trans (((dats m hT 0 c).arrAt_in 2 rfl _).trans (A_eq m hT c 2)),
      ((h.1.toR c).1 3).trans (((dats m hT 0 c).arrAt_in 3 rfl _).trans (A_eq m hT c 3))⟩,
      (h.1.written c (Finset.mem_singleton_self _)).trans (G_y m hT c)⟩, h.2⟩) (run_main m ρ hT)

include hT in
theorem frame_moe : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).1, h.2⟩) (run_value m ρ hT)

end Cert.MoeIdeal

end
-- ==== Proof.MoeIdealTables.lean ====
/- The precondition of the tables gives what the run asks of them. -/
module

public import proofs.«01_k».proof.Proof.MoeIdealFrame
public import proofs.«01_k».proof.Proof.MoePre

@[expose] public section

set_option maxRecDepth 16384

noncomputable section

namespace Cert.MoeIdeal

open Idealize.ShloMosaic Idealize.ShloMosaic.TcCoe
open Cert.Pre_tables_route (Routed hitRow)

/-- A tile's condition holds exactly when the tile is one of the used ones. -/
theorem cond1_iff (i : grid0.Coords) (v : BitVec 32) (hv : v.toNat ≤ 96) : k0_cond1 i v = 1#1 ↔ (i 0).val < v.toNat := by
  have hi : (i 0).val < 96 := (i 0).isLt
  have hb : ∀ b : BitVec 1, Scalar.cmpi .ne (Scalar.extui b : BitVec 32) 0#32 = 1#1 ↔ b = 1#1 := by decide
  show Scalar.cmpi .ne (Scalar.extui (Scalar.cmpi .slt (BitVec.ofNat 32 (i 0).val) v) : BitVec 32) 0#32 = 1#1 ↔ _
  rw [hb]
  have h := StableHlo.Predicate.slt_iff_toNat (a := BitVec.ofNat 32 (i 0).val) (b := v) (by rw [BitVec.toNat_ofNat]; omega) (by omega)
  rw [BitVec.toNat_ofNat, Nat.mod_eq_of_lt (by omega)] at h
  exact h

/-- Row `k` of a used tile, before the tile's count, lands at its assignment. -/
theorem hitRow_of (dt : S24576.Idx → BitVec 32) (nv : S96.Idx → BitVec 32) (nu : S1.Idx → BitVec 32) (i : grid0.Coords)
    (hi : (i 0).val < (usedW nu).toNat) (k : Fin 256) (hk : k.val < (cntW i nv).toNat) (a : Fin 20480) (ha : dstN i dt k = a.val) :
    hitRow dt nv nu a ⟨256 * (i 0).val + k.val, pos1_lt i k.isLt⟩ := by
  have hk' := k.isLt
  refine ⟨ha, ?_, ?_⟩
  · show (256 * (i 0).val + k.val) / 256 < _
    rw [show (256 * (i 0).val + k.val) / 256 = (i 0).val by omega]; exact hi
  · show (256 * (i 0).val + k.val) % 256 < (nv (ix1 ⟨(256 * (i 0).val + k.val) / 256, _⟩)).toNat
    have e : (256 * (i 0).val + k.val) / 256 = (i 0).val := by omega
    have e' : (256 * (i 0).val + k.val) % 256 = k.val := by omega
    simp only [e, e']
    exact hk

variable {F : FTy → Type} [FloatOps F]
variable (m : (ℓ : Loc nD τ sig) → Buf (Elt F) ℓ)

theorem tablesOk_of (h : Routed (tkOf m) (dtOf m) (teOf m) (nvOf m) (nuOf m)) : TablesOk m where
  tok n hn := h.tok ⟨n, hn⟩
  dst n hn := h.dst ⟨n, hn⟩
  exp n hn := h.exp ⟨n, hn⟩
  cnt n hn := h.cnt ⟨n, hn⟩
  once i hi k k' hk hk' e := by
    have hu := (cond1_iff i _ h.tiles).1 hi
    have hd : dstN i (dtOf m) k < 20480 := h.dst ⟨_, pos1_lt i k.isLt⟩
    have := h.once ⟨_, hd⟩ _ _ (hitRow_of _ _ _ i hu k hk ⟨_, hd⟩ rfl) (hitRow_of _ _ _ i hu k' hk' ⟨_, hd⟩ e.symm)
    have := congrArg Fin.val this
    exact Fin.ext (by simpa using this)

end Cert.MoeIdeal

end
-- ==== Proof.MoeIdealValue.lean ====
module
public import proofs.«01_k».proof.Proof.MoeIdealTables
public import proofs.«01_k».proof.Proof.MoeModel
@[expose] public section

/-! The kernel's result over all tiles, read at an assignment `a` and a column `d`: the one row of a used tile whose
    destination is `a`, through the tile's expert. -/

noncomputable section

namespace Cert.MoeIdeal
open Cert.MoeIdeal.Gen Idealize.ShloMosaic Idealize.ShloMosaic.TcCoe Idealize.ShloMosaic.Pipeline
open Cert.Pre_tables_route (Routed hitRow usedRow)

/-- A tile's output at a row and a column. -/
theorem out_at (g : S256x1024.Idx → Elt Ideal .f32) (x1 x2 x0 x3) (r : Fin 256) (d : Fin 1024) :
    (k0_pay1 (k0_pay2 (F := Ideal) g x1 x2 x0 x3)) (ix2 r d)
      = Cert.MoeModel.rowOut (fun k => g (ix2 r k)) (fun k f => x1 (ix3 0 k f)) (fun k f => x2 (ix3 0 k f)) (fun f => x3 (ix3 0 f d)) (x0 (ix2 r 0)) := by
  unfold Cert.MoeModel.rowOut
  simp only [← zero_sub]
  pointwise [k0_pay1, k0_pay2]

variable (m : (ℓ : Loc nD τ sig) → Buf (Elt Ideal) ℓ)

theorem coords_val : ∀ t : Fin grid0.N, ((grid0.coords t) 0).val = t.val := by decide +kernel

variable (hT : TablesOk m) (c : Dev nD) (t : Fin (cfgM m hT).N)

/-- The tile's expert. -/
def expOf : Fin 16 := ⟨(teOf m (ix1 ⟨t.val, t.isLt⟩)).toNat, hT.exp t.val t.isLt⟩

theorem iblk0 (r : Fin 256) : iblk m hT c 0 t (ix2 r 0)
    = m ((c : Thread nD τ).loc main_arg6) (ix2 ⟨256 * t.val + r.val, by have := r.isLt; have h : t.val < 96 := t.isLt; omega⟩ 0) := by
  unfold iblk
  refine (View.read_apply _ _).trans ((cast_eq _ _).trans ?_)
  refine congrArg (m ((c : Thread nD τ).loc main_arg6)) (funext fun a => Fin.ext ?_)
  match a with
  | ⟨0, _⟩ =>
    show (BitVec.ofNat 32 ((grid0.coords t) 0).val).toNat * 256 + 1 * r.val = 256 * t.val + r.val
    have h : t.val < 96 := t.isLt
    rw [coords_val, BitVec.toNat_ofNat, Nat.mod_eq_of_lt (by omega)]
    omega
  | ⟨1, _⟩ => rfl

theorem exp_at (hin hn) : ((tbl m).at 2 (Rect.unit (s := S96) ![(Scalar.indexCast (BitVec.ofNat 32 ((grid0.coords t) 0).val) : Index).toNat] S1.size hin) hn : BitVec 32).toNat
    = (expOf m hT t).val := by
  refine (congrArg BitVec.toNat (exp_word m (grid0.coords t) hin hn)).trans ?_
  unfold expOf word
  have e := coords_val t
  simp only [e]

theorem iblk1 (k : Fin 1024) (f : Fin 512) : iblk m hT c 1 t (ix3 0 k f)
    = m ((c : Thread nD τ).loc main_arg7) (ix3 (expOf m hT t) k f) := by
  unfold iblk
  refine (View.read_apply _ _).trans ((cast_eq _ _).trans ?_)
  refine congrArg (m ((c : Thread nD τ).loc main_arg7)) (funext fun a => Fin.ext ?_)
  match a with
  | ⟨0, _⟩ =>
    show ((tbl m).at 2 (Rect.unit (s := S96) ![(Scalar.indexCast (BitVec.ofNat 32 ((grid0.coords t) 0).val) : Index).toNat] S1.size _) _ : BitVec 32).toNat * 1 + 1 * 0 = (expOf m hT t).val
    exact (congrArg (fun z : ℕ => z * 1 + 1 * 0) (exp_at m hT t _ _)).trans (by omega)
  | ⟨1, _⟩ => show 0 * 1024 + 1 * k.val = k.val; omega
  | ⟨2, _⟩ => show 0 * 512 + 1 * f.val = f.val; omega

theorem iblk2 (k : Fin 1024) (f : Fin 512) : iblk m hT c 2 t (ix3 0 k f)
    = m ((c : Thread nD τ).loc main_arg8) (ix3 (expOf m hT t) k f) := by
  unfold iblk
  refine (View.read_apply _ _).trans ((cast_eq _ _).trans ?_)
  refine congrArg (m ((c : Thread nD τ).loc main_arg8)) (funext fun a => Fin.ext ?_)
  match a with
  | ⟨0, _⟩ =>
    show ((tbl m).at 2 (Rect.unit (s := S96) ![(Scalar.indexCast (BitVec.ofNat 32 ((grid0.coords t) 0).val) : Index).toNat] S1.size _) _ : BitVec 32).toNat * 1 + 1 * 0 = (expOf m hT t).val
    exact (congrArg (fun z : ℕ => z * 1 + 1 * 0) (exp_at m hT t _ _)).trans (by omega)
  | ⟨1, _⟩ => show 0 * 1024 + 1 * k.val = k.val; omega
  | ⟨2, _⟩ => show 0 * 512 + 1 * f.val = f.val; omega

theorem iblk3 (f : Fin 512) (d : Fin 1024) : iblk m hT c 3 t (ix3 0 f d)
    = m ((c : Thread nD τ).loc main_arg9) (ix3 (expOf m hT t) f d) := by
  unfold iblk
  refine (View.read_apply _ _).trans ((cast_eq _ _).trans ?_)
  refine congrArg (m ((c : Thread nD τ).loc main_arg9)) (funext fun a => Fin.ext ?_)
  match a with
  | ⟨0, _⟩ =>
    show ((tbl m).at 2 (Rect.unit (s := S96) ![(Scalar.indexCast (BitVec.ofNat 32 ((grid0.coords t) 0).val) : Index).toNat] S1.size _) _ : BitVec 32).toNat * 1 + 1 * 0 = (expOf m hT t).val
    exact (congrArg (fun z : ℕ => z * 1 + 1 * 0) (exp_at m hT t _ _)).trans (by omega)
  | ⟨1, _⟩ => show 0 * 512 + 1 * f.val = f.val; omega
  | ⟨2, _⟩ => show 0 * 1024 + 1 * d.val = d.val; omega

/-- What row `r` of the tables becomes, at column `d`. -/
def rowVal (r : Fin 24576) (d : Fin 1024) : EReal :=
  have hr : r.val / 256 < 96 := by have := r.isLt; omega
  Cert.MoeModel.rowOut (fun k => uOf m (ix2 ⟨(tkOf m (ix1 r)).toNat, hT.tok r.val r.isLt⟩ k))
    (fun k f => m ((c : Thread nD τ).loc main_arg7) (ix3 ⟨(teOf m (ix1 ⟨r.val / 256, hr⟩)).toNat, hT.exp _ hr⟩ k f))
    (fun k f => m ((c : Thread nD τ).loc main_arg8) (ix3 ⟨(teOf m (ix1 ⟨r.val / 256, hr⟩)).toNat, hT.exp _ hr⟩ k f))
    (fun f => m ((c : Thread nD τ).loc main_arg9) (ix3 ⟨(teOf m (ix1 ⟨r.val / 256, hr⟩)).toNat, hT.exp _ hr⟩ f d))
    (m ((c : Thread nD τ).loc main_arg6) (ix2 r 0))

/-- A tile's output row is the value of the row of the tables it stands for. -/
theorem tileOut_at (k : Fin 256) (d : Fin 1024) (r : Fin 24576) (hr : r.val = 256 * t.val + k.val) :
    tileOut (F := Ideal) ((cfgM m hT).grid.coords t) (tkOf m) hT.tok (uOf m) (iblk m hT c 0 t) (iblk m hT c 1 t) (iblk m hT c 2 t) (iblk m hT c 3 t) (ix2 k d)
      = rowVal m hT c r d := by
  have hk := k.isLt
  have hq : r.val / 256 = t.val := by omega
  have ht : t.val < 96 := t.isLt
  have ee : expOf m hT t = ⟨(teOf m (ix1 ⟨r.val / 256, by omega⟩)).toNat, hT.exp _ (by omega)⟩ := by
    unfold expOf; simp only [hq]
  have e0 : (⟨256 * t.val + k.val, by omega⟩ : Fin 24576) = r := Fin.ext hr.symm
  have hc : (((cfgM m hT).grid.coords t) 0).val = t.val := coords_val t
  have eg : ∀ x : Fin 1024, gathered (F := Ideal) ((cfgM m hT).grid.coords t) (tkOf m) hT.tok (uOf m) (ix2 k x)
      = uOf m (ix2 ⟨(tkOf m (ix1 r)).toNat, hT.tok r.val r.isLt⟩ x) := fun x => by
    unfold gathered
    refine congrArg (uOf m) (funext fun a => Fin.ext ?_)
    match a with
    | ⟨0, _⟩ =>
      show (tkOf m (ix1 ⟨256 * (((cfgM m hT).grid.coords t) 0).val + k.val, _⟩)).toNat = (tkOf m (ix1 r)).toNat
      refine congrArg (fun z => (tkOf m (ix1 z)).toNat) (Fin.ext ?_)
      show 256 * (((cfgM m hT).grid.coords t) 0).val + k.val = r.val
      rw [hc, hr]
    | ⟨1, _⟩ => rfl
  unfold tileOut
  refine (out_at _ _ _ _ _ k d).trans ?_
  unfold rowVal
  simp only [eg]
  have h0 := iblk0 m hT c t k
  rw [e0] at h0
  have h1 := iblk1 m hT c t
  have h2 := iblk2 m hT c t
  have h3 := fun f => iblk3 m hT c t f d
  rw [ee] at h1 h2 h3
  unfold Cert.MoeModel.rowOut
  refine Finset.sum_congr rfl fun f _ => ?_
  exact congrArg₂ (· * ·) (congrArg₂ (· * ·) (congrArg₂ (· * ·) (congrArg₂ (· * ·)
    (Finset.sum_congr rfl fun x _ => congrArg _ (h1 x f))
    (congrArg (fun z => Ideal.div 1 (1 + Ideal.exp (-z))) (Finset.sum_congr rfl fun x _ => congrArg _ (h1 x f))))
    (Finset.sum_congr rfl fun x _ => congrArg _ (h2 x f))) h0) (h3 f)

/-- After `n` tiles an assignment whose row lies in them holds that row's value. -/
theorem yAt_at (hR : Routed (tkOf m) (dtOf m) (teOf m) (nvOf m) (nuOf m)) (a : Fin 20480) (d : Fin 1024) (r : Fin 24576)
    (hr : hitRow (dtOf m) (nvOf m) (nuOf m) a r) : ∀ n, n ≤ 96 → r.val / 256 < n → yAt m hT c n (ix2 a d) = rowVal m hT c r d
  | 0, _, h => absurd h (Nat.not_lt_zero _)
  | n + 1, hn, h => by
    have ht : n < (cfgM m hT).N := hn
    have hc : (((cfgM m hT).grid.coords ⟨n, ht⟩) 0).val = n := coords_val ⟨n, ht⟩
    have ih := fun h => yAt_at hR a d r hr n (by omega) h
    refine (congrFun (yAt_succ m hT c ⟨n, ht⟩) _).trans ?_
    have hcond := cond1_iff ((cfgM m hT).grid.coords ⟨n, ht⟩) (usedW (nuOf m)) hR.tiles
    unfold tileNext
    have hcnt : (cntW ((cfgM m hT).grid.coords ⟨n, ht⟩) (nvOf m)) = nvOf m (ix1 ⟨n, hn⟩) :=
      congrArg (fun z => nvOf m (ix1 z)) (Fin.ext hc)
    by_cases hq : r.val / 256 = n
    · have hu : (usedW (nuOf m)).toNat > n := by rw [← hq]; exact hr.2.1
      rw [if_pos (hcond.2 (by rw [hc]; exact hu))]
      have hk : r.val % 256 < 256 := Nat.mod_lt _ (by omega)
      refine (scattered_hit _ (dtOf m) _ (hT.once _ (hcond.2 (by rw [hc]; exact hu))) _ _ ⟨r.val % 256, hk⟩ ?_ (ix2 a d) ?_).trans ?_
      · rw [hcnt]
        have := hr.2.2
        simp only [hq] at this
        exact this
      · refine Eq.trans ?_ hr.1
        show (dtOf m (ix1 ⟨256 * (((cfgM m hT).grid.coords ⟨n, ht⟩) 0).val + r.val % 256, _⟩)).toNat = (dtOf m (ix1 r)).toNat
        refine congrArg (fun z => (dtOf m (ix1 z)).toNat) (Fin.ext ?_)
        show 256 * (((cfgM m hT).grid.coords ⟨n, ht⟩) 0).val + r.val % 256 = r.val
        rw [hc]; omega
      · exact tileOut_at m hT c ⟨n, ht⟩ ⟨r.val % 256, hk⟩ d r (by show r.val = 256 * n + r.val % 256; omega)
    · have hlt : r.val / 256 < n := by omega
      by_cases hb : k0_cond1 ((cfgM m hT).grid.coords ⟨n, ht⟩) (usedW (nuOf m)) = 1#1
      · rw [if_pos hb]
        refine (scattered_miss _ (dtOf m) _ _ _ (ix2 a d) fun k hk e => ?_).trans (ih hlt)
        have h2 := hitRow_of (dtOf m) (nvOf m) (nuOf m) _ (hcond.1 hb) k hk a e
        have h3 := congrArg Fin.val (hR.once a _ _ h2 hr)
        have h4 : 256 * (((cfgM m hT).grid.coords ⟨n, ht⟩) 0).val + k.val = r.val := h3
        have := k.isLt
        rw [hc] at h4
        omega
      · rw [if_neg hb]; exact ih hlt

end Cert.MoeIdeal

end
-- ==== Proof.MoeAlgebraic.lean ====
/-
  The claim about the experts' call: kernel and reference, run from memories that agree on the arguments and whose tables
  the precondition admits, end with the same array.
-/
module

public import proofs.«01_k».proof.Defs
public import proofs.«01_k».proof.Proof.MoeRef
public import proofs.«01_k».proof.Proof.MoeIdealValue
public import proofs.«01_k».proof.Proof.Gen.MoeRefIdeal.Run

@[expose] public section

noncomputable section

namespace Cert.Proof

open Idealize.ShloMosaic Idealize.ShloMosaic.TcCoe Idealize.SL.Sem
open Cert.MoeIdeal (tkOf dtOf teOf nvOf nuOf uOf)

/-- The two results agree at every assignment and column. -/
theorem moe_out_eq (m : (ℓ : Loc Cert.MoeIdeal.nD Cert.MoeIdeal.τ Cert.MoeIdeal.sig) → Buf (Elt Ideal) ℓ)
    (hT : Cert.MoeIdeal.TablesOk m) (hR : Cert.Pre_tables_route.Routed (tkOf m) (dtOf m) (teOf m) (nvOf m) (nuOf m)) (c : Dev Cert.MoeIdeal.nD) :
    Cert.MoeIdeal.yAt m hT c 96 = Cert.MoeRefIdeal.Read.val_main_v46 (F := Ideal) (tkOf m) (dtOf m) (teOf m) (nvOf m) (nuOf m) (uOf m)
      (m ((c.tc : Thread Cert.MoeIdeal.nD Cert.MoeIdeal.τ).loc Cert.MoeIdeal.main_arg6)) (m ((c.tc : Thread Cert.MoeIdeal.nD Cert.MoeIdeal.τ).loc Cert.MoeIdeal.main_arg7))
      (m ((c.tc : Thread Cert.MoeIdeal.nD Cert.MoeIdeal.τ).loc Cert.MoeIdeal.main_arg8)) (m ((c.tc : Thread Cert.MoeIdeal.nD Cert.MoeIdeal.τ).loc Cert.MoeIdeal.main_arg9)) := by
  funext x
  have hx : x = ix2 (x 0) (x 1) := funext fun a => by
    match a with
    | ⟨0, _⟩ => rfl
    | ⟨1, _⟩ => rfl
  rw [hx]
  obtain ⟨r, hr⟩ := hR.hit (x 0)
  have hr' : r.val / 256 < 96 := by have := r.isLt; omega
  exact (Cert.MoeIdeal.yAt_at m hT c hR (x 0) (x 1) r hr 96 le_rfl hr').trans
    (Cert.MoeRefIdeal.At.v46_at _ _ _ _ _ _ _ _ _ _ hR (x 0) (x 1) r hr ⟨(teOf m (ix1 ⟨r.val / 256, hr'⟩)).toNat, hR.exp _⟩ rfl).symm

theorem moe_algebraic :
    Cert.algebraic_MoeIdeal_MoeRefIdeal (hMoeIdeal := Cert.MoeIdeal.Gen.facts) (hMoeRefIdeal := Cert.MoeRefIdeal.Gen.facts)
      (hPre_tables_route := Cert.Pre_tables_route.Gen.facts) := by
  intro m g m' g' hpre hargs
  have hR : Cert.Pre_tables_route.Routed (tkOf m) (dtOf m) (teOf m) (nvOf m) (nuOf m) := Cert.Pre_tables_route.routed_of (F := Ideal) _ _ _ _ _ _ _ _ _ _ (hpre 0)
  have hT : Cert.MoeIdeal.TablesOk m := Cert.MoeIdeal.tablesOk_of m hR
  refine ⟨fun c => Cert.MoeIdeal.yAt m hT c 96,
    (θ_run Cert.MoeIdeal.defs _ _).mono (fun r h c => ⟨(h.1 c).2, (h.1 c).1⟩) (Cert.MoeIdeal.run_value m g hT), ?_⟩
  refine (θ_run Cert.MoeRefIdeal.defs _ _).mono (fun r h c => ?_) (Cert.MoeRefIdeal.Value.run m' g')
  obtain ⟨a0, a1, a2, a3, a4, a5, a6, a7, a8, a9⟩ := hargs c
  obtain ⟨h1, h2⟩ := h c
  refine ⟨h1.trans ?_, h2⟩
  rw [Cert.MoeRefIdeal.Read.val_main_v46_eq, a0, a1, a2, a3, a4, a5, a6, a7, a8, a9]
  obtain rfl : c = 0 := Subsingleton.elim _ _
  exact (moe_out_eq m hT hR 0).symm

end Cert.Proof

end
-- ==== Proof.InIdealBody.lean ====
/- The kernel body at one grid point: what it leaves in the modulated rows, in the result block and in the narrow result block. -/
module

public import proofs.«01_k».proof.Proof.Gen.InprojIdeal.Launch
public import proofs.«01_k».proof.Proof.Gen.InprojIdeal.Skeleton
public import proofs.«01_k».proof.Proof.Gen.InprojIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.InprojIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Facts₀ Facts

local notation "𝕄" => MT nD τ sig Unit (Elt F) ℕ (UR sig nD τ) ℕ

theorem zz2 : (![0, 0] : Fin 2 → ℕ) = fun _ => 0 := by decide

/-- The modulated rows a first point of a block computes: the tokens `x`, normed, scaled and shifted by a row of `md`. -/
def rowsOf (i : grid0.Coords) (h : k0_cond1 i = 1#1) (x : Vec F S512x1024 .f32) (md : Vec F S8x6144 .f32) : FVec F S512x1024 .bf16 :=
  Gen.k0_pay2 (View.ld md (Rect.unit (s := S8x6144) (k0_off1 i) S1x1024.size (k0_off1_inb i h)))
    (View.ld md (Rect.unit (s := S8x6144) (k0_off2 i) S1x1024.size (k0_off2_inb i h))) (Gen.k0_pay5 x) (Gen.k0_pay6 x) Gen.k0_pay7

/-- The narrow block it computes of them. -/
def narrowOf (i : grid0.Coords) (h : k0_cond1 i = 1#1) (x : Vec F S512x1024 .f32) (md : Vec F S8x6144 .f32) (ws : Vec F S1024x128 .bf16) : FVec F S512x128 .f32 :=
  Gen.k0_pay3 (View.ld md (Rect.unit (s := S8x6144) (k0_off1 i) S1x1024.size (k0_off1_inb i h)))
    (View.ld md (Rect.unit (s := S8x6144) (k0_off2 i) S1x1024.size (k0_off2_inb i h))) (Gen.k0_pay5 x) (Gen.k0_pay6 x) Gen.k0_pay7 ws

/-- A buffer written whole holds what was written. -/
theorem written {s : Shape} {e : EltTy} {sp : CoreSpace} (v : View sig .tc sp s e) (f : v.ty.Contents (Elt F))
    {off : Fin s.rank → ℕ} (h0 : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon v f _ fun y => ⟨_, List.mem_singleton_self _, ?_⟩, View.canon_unit_zero h0]
  subst h0
  exact (Rect.set_whole s).symm ▸ Finset.mem_univ y

variable (c : Dev nD) (i : grid0.Coords)
  (arg2 : Memref sig .tc .vmem S512x1024 .f32) (harg2 : arg2.IsWhole)
  (arg3 : Memref sig .tc .vmem S8x6144 .f32) (harg3 : arg3.IsWhole)
  (arg4 : Memref sig .tc .vmem S1024x2304 .bf16) (harg4 : arg4.IsWhole)
  (arg5 : Memref sig .tc .vmem S1024x128 .bf16) (harg5 : arg5.IsWhole)
  (arg6 : Memref sig .tc .vmem S512x2304 .f32) (harg6 : arg6.IsWhole)
  (arg7 : Memref sig .tc .vmem S512x128 .f32) (harg7 : arg7.IsWhole)
  (arg8 : Memref sig .tc .vmem S512x1024 .bf16) (harg8 : arg8.IsWhole)
  (x0 : Vec F S512x1024 .f32) (x1 : Vec F S8x6144 .f32) (x2 : Vec F S1024x2304 .bf16) (x3 : Vec F S1024x128 .bf16)

set_option maxHeartbeats 1000000 in
/-- The first point of a block: the modulated rows and both result blocks computed. -/
theorem wp_first (h : k0_cond1 i = 1#1) {Q : PUnit → sProp 𝕄} :
    iprop(owns (c : Thread nD τ) arg2 fullShare x0 ∗ owns (c : Thread nD τ) arg3 fullShare x1 ∗ owns (c : Thread nD τ) arg4 fullShare x2 ∗ owns (c : Thread nD τ) arg5 fullShare x3
      ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (Gen.k0_pay4 (rowsOf i h x0 x1) x2) ∗ owns (c : Thread nD τ) arg7 fullShare (narrowOf i h x0 x1 x3) ∗ owns (c : Thread nD τ) arg8 fullShare (rowsOf i h x0 x1)) -∗ Q ⟨⟩))
    ⊢ wp frame (wpE (defs₀ (F := F)) Variants.none (c : Thread nD τ) none) Set.univ (cc0__inproj_kernel i arg2 harg2 arg3 harg3 arg4 harg4 arg5 harg5 arg6 harg6 arg7 harg7 arg8 harg8) Q := by
  simp only [Gen.cc0__inproj_kernel_eq_skeleton]
  unfold Gen.cc0__inproj_kernel_skel
  simp only [Gen.k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  sl_exec (disch := sl_exact h)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (written _ _ zz2 _ _).trans ?_
    sl_unfold_words
    simp only [View.readCov_unit_zero (S := S512x1024) _ zz2, View.readAt_eq_ld, hf0, hf1, hf2, View.ld_unit_zero (S := S512x1024) zz2, View.ld_unit_zero (S := S1024x2304) zz2, View.ld_unit_zero (S := S1024x128) zz2, rowsOf]
    rfl
  isplitl [H5]
  · iexists _; isplitr
    swap; · iexact H5
    ipureintro
    refine (written _ _ zz2 _ _).trans ?_
    sl_unfold_words
    simp only [View.readCov_unit_zero (S := S512x1024) _ zz2, View.readAt_eq_ld, hf0, hf1, hf3, View.ld_unit_zero (S := S512x1024) zz2, View.ld_unit_zero (S := S1024x2304) zz2, View.ld_unit_zero (S := S1024x128) zz2, narrowOf]
    rfl
  iexists _; isplitr
  swap; · iexact H6
  ipureintro
  refine (written _ _ zz2 _ _).trans ?_
  sl_unfold_words
  simp only [View.readCov_unit_zero (S := S512x1024) _ zz2, View.readAt_eq_ld, hf0, hf1, View.ld_unit_zero (S := S512x1024) zz2, View.ld_unit_zero (S := S1024x2304) zz2, View.ld_unit_zero (S := S1024x128) zz2, rowsOf]
  rfl

set_option maxHeartbeats 1000000 in
/-- The second point: the wide result block computed of the rows kept, the narrow block left alone. -/
theorem wp_second (h : ¬ k0_cond1 i = 1#1) (x5 : Vec F S512x128 .f32) (u : Vec F S512x1024 .bf16) {Q : PUnit → sProp 𝕄} :
    iprop(owns (c : Thread nD τ) arg2 fullShare x0 ∗ owns (c : Thread nD τ) arg3 fullShare x1 ∗ owns (c : Thread nD τ) arg4 fullShare x2 ∗ owns (c : Thread nD τ) arg5 fullShare x3
      ∗ (∃ d, owns (c : Thread nD τ) arg6 fullShare d) ∗ owns (c : Thread nD τ) arg7 fullShare x5 ∗ owns (c : Thread nD τ) arg8 fullShare u
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (Gen.k0_pay4 u x2) ∗ owns (c : Thread nD τ) arg7 fullShare x5 ∗ owns (c : Thread nD τ) arg8 fullShare u) -∗ Q ⟨⟩))
    ⊢ wp frame (wpE (defs₀ (F := F)) Variants.none (c : Thread nD τ) none) Set.univ (cc0__inproj_kernel i arg2 harg2 arg3 harg3 arg4 harg4 arg5 harg5 arg6 harg6 arg7 harg7 arg8 harg8) Q := by
  simp only [Gen.cc0__inproj_kernel_eq_skeleton]
  unfold Gen.cc0__inproj_kernel_skel
  simp only [Gen.k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  sl_exec (disch := sl_exact h)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (written _ _ zz2 _ _).trans ?_
    sl_unfold_words
    simp only [View.readAt_eq_ld, hf2, hf6, View.ld_unit_zero (S := S512x1024) zz2, View.ld_unit_zero (S := S1024x2304) zz2, View.ld_unit_zero (S := S1024x128) zz2]
  isplitl [H5]
  · iexists _; isplitr; · ipureintro; exact hf5
    iexact H5
  iexists _; isplitr; · ipureintro; exact hf6
  iexact H6

end Cert.InprojIdeal

end
-- ==== Proof.InIdealFrame.lean ====
/- The pipeline over the blocks of tokens: what the kept rows and both results hold after each point, the run, and the arguments unchanged. -/
module

public import proofs.«01_k».proof.Proof.InIdealBody
public import Idealize.ShloMosaic.Lib.Claim

@[expose] public section

set_option maxRecDepth 16384

noncomputable section

namespace Cert.InprojIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Facts₀ Facts

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The first point of each block of tokens -/

theorem first_iff : ∀ t : Fin cfg0.N, k0_cond1 (grid0.coords t) = 1#1 ↔ t.val % 2 = 0 :=
  (fun t => by
    have ht : t.val < 40 := Nat.lt_of_lt_of_eq t.isLt Gen.N_0
    have e0 : (grid0.coords t 0).val = t.val / 2 % 20 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val % 2 = 0)

/-- The first point of the block of tokens a point works on. -/
def first (t : Fin cfg0.N) : Fin cfg0.N := ⟨t.val / 2 * 2, by have := t.isLt; omega⟩

theorem first_cond (t : Fin cfg0.N) : k0_cond1 (grid0.coords (first t)) = 1#1 :=
  (first_iff _).mpr (Nat.mul_mod_left _ _)

theorem first_even (t : Fin cfg0.N) (h : t.val % 2 = 0) : first t = t :=
  Fin.ext (show t.val / 2 * 2 = t.val by omega)

theorem first_odd (t : Fin cfg0.N) (h : ¬ t.val % 2 = 0) : first ⟨t.val - 1, by omega⟩ = first t :=
  Fin.ext (show (t.val - 1) / 2 * 2 = t.val / 2 * 2 by omega)

/-! ## What each point leaves -/

def rowsIn (c : Dev nD) (t : Fin cfg0.N) (h : k0_cond1 (grid0.coords t) = 1#1) : FVec F S512x1024 .bf16 :=
  rowsOf (grid0.coords t) h (iblk m c 0 t) (iblk m c 1 t)

def narrowIn (c : Dev nD) (t : Fin cfg0.N) (h : k0_cond1 (grid0.coords t) = 1#1) : FVec F S512x128 .f32 :=
  narrowOf (grid0.coords t) h (iblk m c 0 t) (iblk m c 1 t) (iblk m c 3 t)

/-- The rows kept after point `t`, the wide block it leaves, and the narrow one. -/
def rowsAt (c : Dev nD) (t : Fin cfg0.N) : FVec F S512x1024 .bf16 := rowsIn m c (first t) (first_cond t)
def narrowAt (c : Dev nD) (t : Fin cfg0.N) : FVec F S512x128 .f32 := narrowIn m c (first t) (first_cond t)
def wideAt (c : Dev nD) (t : Fin cfg0.N) : FVec F S512x2304 .f32 := Gen.k0_pay4 (rowsAt m c t) (iblk m c 2 t)

theorem rowsIn_congr (c : Dev nD) {s t : Fin cfg0.N} (e : s = t) (hs ht) : rowsIn m c s hs = rowsIn m c t ht := by subst e; rfl
theorem narrowIn_congr (c : Dev nD) {s t : Fin cfg0.N} (e : s = t) (hs ht) : narrowIn m c s hs = narrowIn m c t ht := by subst e; rfl

/-- What the body keeps between points, before point `n`: nothing known at first, then the rows of the point before. -/
def Phi (c : Dev nD) : ℕ → sProp 𝕄
  | 0 => iprop((∃ d, owns (c : Thread nD τ) (Memref.whole cc0_scratch0) fullShare d) ∗ (∃ r, prngReg c r))
  | n + 1 => iprop((if h : n < cfg0.N then owns (c : Thread nD τ) (Memref.whole cc0_scratch0) fullShare (rowsAt m c ⟨n, h⟩)
      else iprop(∃ d, owns (c : Thread nD τ) (Memref.whole cc0_scratch0) fullShare d)) ∗ (∃ r, prngReg c r))

theorem Phi_succ (c : Dev nD) (t : Fin cfg0.N) : Phi m c (t.val + 1)
    = iprop(owns (c : Thread nD τ) (Memref.whole cc0_scratch0) fullShare (rowsAt m c t) ∗ (∃ r, prngReg c r)) := by
  show iprop((if h : t.val < cfg0.N then _ else _) ∗ _) = _
  rw [dif_pos t.isLt]

theorem Phi_pos (c : Dev nD) (t : Fin cfg0.N) (h : t.val ≠ 0) : Phi m c t.val
    = iprop(owns (c : Thread nD τ) (Memref.whole cc0_scratch0) fullShare (rowsAt m c ⟨t.val - 1, by omega⟩) ∗ (∃ r, prngReg c r)) := by
  have e : t.val = (⟨t.val - 1, by omega⟩ : Fin cfg0.N).val + 1 := by show _ = t.val - 1 + 1; omega
  exact (congrArg (Phi m c) e).trans (Phi_succ m c _)

/-- Whatever was kept, the scratch is held at something. -/
theorem Phi_some (c : Dev nD) (n : ℕ) : Phi m c n ⊢ iprop((∃ d, owns (c : Thread nD τ) (Memref.whole cc0_scratch0) fullShare d) ∗ (∃ r, prngReg c r)) := by
  match n with
  | 0 => exact .rfl
  | n + 1 =>
    by_cases h : n < cfg0.N
    · rw [show Phi m c (n + 1) = _ from Phi_succ m c ⟨n, h⟩]
      iintro ⟨H, Hg⟩
      isplitl [H]
      · iexists _; iexact H
      iexact Hg
    · unfold Phi
      dsimp only
      rw [dif_neg h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => narrowAt m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = wideAt m c t := by dsimp only [dats]
theorem after_5 (c : Dev nD) (t : Fin cfg0.N) : (dats m 0 c).after 5 t = narrowAt m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The narrow result's buffer at a second point -/

theorem idle_even : ∀ t : Fin cfg0.N, t.val % 2 = 0 → cfg0.idle 5 (grid0.coords t) = false := by decide +kernel
theorem idle_odd : ∀ t : Fin cfg0.N, ¬ t.val % 2 = 0 → cfg0.idle 5 (grid0.coords t) = true := by decide +kernel
theorem flush_odd : ∀ t : Fin cfg0.N, ¬ t.val % 2 = 0 → (cfg0.win 5).flush t = true := by decide +kernel
theorem flush_even : ∀ t : Fin cfg0.N, t.val % 2 = 0 → (cfg0.win 5).flush t = false := by decide +kernel

theorem narrowAt_odd (c : Dev nD) (t : Fin cfg0.N) (h : ¬ t.val % 2 = 0) : narrowAt m c ⟨t.val - 1, by omega⟩ = narrowAt m c t :=
  narrowIn_congr m c (first_odd t h) _ _

theorem rowsAt_odd (c : Dev nD) (t : Fin cfg0.N) (h : ¬ t.val % 2 = 0) : rowsAt m c ⟨t.val - 1, by omega⟩ = rowsAt m c t :=
  rowsIn_congr m c (first_odd t h) _ _

theorem or_all (a b e : Bool) (ha : a = false) (hb : b = false) : (a || (b && e)) = false := by subst ha; subst hb; rfl

/-- There it holds what the point before left, and that is what the point writes back. -/
theorem before_5 (c : Dev nD) (t : Fin cfg0.N) (h : ¬ t.val % 2 = 0) (d) : (dats m 0 c).before 5 t d = narrowAt m c t := by
  have hp : (⟨t.val - 1, by omega⟩ : Fin cfg0.N).val % 2 = 0 := by show (t.val - 1) % 2 = 0; omega
  have hf : cfg0.fresh 5 t.val = false := by
    refine (congrArg (cfg0.fresh 5) (show t.val = (t.val - 1) + 1 by omega)).trans ((Pipeline.Cfg.fresh_succ cfg0 5 (t.val - 1) (by have := t.isLt; omega)).trans ?_)
    exact or_all _ _ _ (flush_even _ hp) (idle_even _ hp)
  rw [Dat.before_out_traj _ 5 rfl (fun _ _ => rfl) (fun s _ hi _ => ?_) t.val t rfl d, hf, if_neg Bool.false_ne_true, after_5]
  · exact narrowAt_odd m c t h
  · rw [after_5, after_5]
    refine (narrowAt_odd m c s fun hs => ?_).symm
    rw [show cfg0.idle 5 (grid0.coords s) = false from idle_even s hs] at hi
    exact Bool.false_ne_true hi

/-! ## The body obligation -/

abbrev st_0 (t : Fin cfg0.N) : Memref sig .tc .vmem S512x1024 .f32 := win0_0.stage (cfg0.slots t 0)
abbrev hst_0 (t : Fin cfg0.N) : (st_0 t).IsWhole := hstage0_0 ((cfg0.slots t 0).cast nbuf0_0)
abbrev st_1 (t : Fin cfg0.N) : Memref sig .tc .vmem S8x6144 .f32 := win0_1.stage (cfg0.slots t 1)
abbrev hst_1 (t : Fin cfg0.N) : (st_1 t).IsWhole := hstage0_1 ((cfg0.slots t 1).cast nbuf0_1)
abbrev st_2 (t : Fin cfg0.N) : Memref sig .tc .vmem S1024x2304 .bf16 := win0_2.stage (cfg0.slots t 2)
abbrev hst_2 (t : Fin cfg0.N) : (st_2 t).IsWhole := hstage0_2 ((cfg0.slots t 2).cast nbuf0_2)
abbrev st_3 (t : Fin cfg0.N) : Memref sig .tc .vmem S1024x128 .bf16 := win0_3.stage (cfg0.slots t 3)
abbrev hst_3 (t : Fin cfg0.N) : (st_3 t).IsWhole := hstage0_3 ((cfg0.slots t 3).cast nbuf0_3)
abbrev st_4 (t : Fin cfg0.N) : Memref sig .tc .vmem S512x2304 .f32 := win0_4.stage (cfg0.slots t 4)
abbrev hst_4 (t : Fin cfg0.N) : (st_4 t).IsWhole := hstage0_4 ((cfg0.slots t 4).cast nbuf0_4)
abbrev st_5 (t : Fin cfg0.N) : Memref sig .tc .vmem S512x128 .f32 := win0_5.stage (cfg0.slots t 5)
abbrev hst_5 (t : Fin cfg0.N) : (st_5 t).IsWhole := hstage0_5 ((cfg0.slots t 5).cast nbuf0_5)

def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t))

theorem sound_body (c : Dev nD) (t : Fin cfg0.N) :
    bodyPre m c t ⊢ wp frame (wpE (defs₀ (F := F)) Variants.none (c : Thread nD τ) none) Set.univ (Gen.bodyAt0 t) (fun _ => bodyPost m c t) := by
  unfold bodyPre bodyPost Gen.bodyAt0
  simp only [before_0, before_1, before_2, before_3]
  rw [after_0, after_1, after_2, after_3, after_4, after_5]
  rw [show (dats m 0 c).owesAt () t.succ = (dats m 0 c).owesAt () t.castSucc from rfl,
    show (dats m 0 c).Φ t.castSucc = Phi m c t.val from rfl, show (dats m 0 c).Φ t.succ = Phi m c (t.val + 1) from rfl, Phi_succ]
  by_cases h : t.val % 2 = 0
  · have hc := (first_iff t).mpr h
    rw [show rowsAt m c t = rowsOf (grid0.coords t) hc (iblk m c 0 t) (iblk m c 1 t) from rowsIn_congr m c (first_even t h) _ _,
      show narrowAt m c t = narrowOf (grid0.coords t) hc (iblk m c 0 t) (iblk m c 1 t) (iblk m c 3 t) from narrowIn_congr m c (first_even t h) _ _]
    rw [show wideAt m c t = Gen.k0_pay4 (rowsOf (grid0.coords t) hc (iblk m c 0 t) (iblk m c 1 t)) (iblk m c 2 t) from
      congrArg (fun u => Gen.k0_pay4 u _) (rowsIn_congr m c (first_even t h) _ _)]
    iintro ⟨HP, HO, ⟨%d0, H0⟩, ⟨%d1, H1⟩, ⟨%d2, H2⟩, ⟨%d3, H3⟩, ⟨%d4, H4⟩, ⟨%d5, H5⟩⟩
    ihave HP := (Phi_some m c t.val) $$ HP
    icases HP with ⟨H6, Hg⟩
    iapply (wp_first (F := F) c (grid0.coords t) (st_0 t) (hst_0 t) (st_1 t) (hst_1 t) (st_2 t) (hst_2 t) (st_3 t) (hst_3 t) (st_4 t) (hst_4 t) (st_5 t) (hst_5 t) (Memref.whole cc0_scratch0) (Memref.isWhole_whole _) (iblk m c 0 t) (iblk m c 1 t) (iblk m c 2 t) (iblk m c 3 t) hc)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [H6 Hg]
    · isplitl [H6]; · iexact H6
      iexact Hg
    isplitl [HO]; · iexact HO
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun e => h ((first_iff t).mp e)
    simp only [before_5 m c t h]
    rw [Phi_pos m c t (by omega), rowsAt_odd m c t h]
    unfold wideAt
    iintro ⟨⟨H6, Hg⟩, HO, ⟨%d0, H0⟩, ⟨%d1, H1⟩, ⟨%d2, H2⟩, ⟨%d3, H3⟩, ⟨%d4, H4⟩, ⟨%d5, H5⟩⟩
    iapply (wp_second (F := F) c (grid0.coords t) (st_0 t) (hst_0 t) (st_1 t) (hst_1 t) (st_2 t) (hst_2 t) (st_3 t) (hst_3 t) (st_4 t) (hst_4 t) (st_5 t) (hst_5 t) (Memref.whole cc0_scratch0) (Memref.isWhole_whole _) (iblk m c 0 t) (iblk m c 1 t) (iblk m c 2 t) (iblk m c 3 t) hc (narrowAt m c t) (rowsAt m c t))
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [H6 Hg]
    · isplitl [H6]; · iexact H6
      iexact Hg
    isplitl [HO]; · iexact HO
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = Gen.bodyAt0 t := by
  unfold defs₀; rw [Defs.onTc_tc]

theorem leaves_5 (c : Dev nD) (t : Fin cfg0.N) :
    owns (c : Thread nD τ) (st_5 t) fullShare ((dats m 0 c).after 5 t) ⊢ (dats m 0 c).leavesExact 5 t := by
  unfold Dat.leavesExact
  by_cases h : t.val % 2 = 0
  · rw [show cfg0.idle 5 (cfg0.grid.coords t) = false from idle_even t h]
  · rw [show cfg0.idle 5 (cfg0.grid.coords t) = true from idle_odd t h, flush_odd t h]

theorem body_obligation (c : Dev nD) : BodyObligation (dats (F := F) m 0 c) (defs₀ (F := F)) Variants.none () Set.univ := fun t => by
  rw [Gen.bigSep_W0, Gen.bigSep_W0, defs₀_row]
  refine triple_restated (sound_body m c t) rfl .rfl fun _ => ?_
  unfold bodyPost
  iintro ⟨HP, HO, H0, H1, H2, H3, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iapply (leaves_5 m c t) $$ H5

/-! ## The run -/

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (Gen.main_chain c).trans rfl

theorem rest_eq (c : Dev nD) : (Pipeline.ΦA spec0 c : sProp 𝕄) = Phi m c 0 := by
  unfold Pipeline.ΦA Phi; rw [Gen.scopedRest0_eq]; simp only [owns_whole]; try rfl

theorem hin (c : Dev nD) : Pipeline.ΦA spec0 c ⊢ (dats m 0 c).Φ 0 := by
  rw [rest_eq m c]
  exact .rfl

theorem hout (c : Dev nD) : (dats m 0 c).Φ (Fin.last cfg0.N) ⊢ Pipeline.ΦA spec0 c := by
  rw [rest_eq m c]
  show Phi m c (Fin.last cfg0.N).val ⊢ _
  exact Phi_some m c _

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) Gen.launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The results hold what the blocks left, and the arguments end unchanged, every counter at zero. -/
theorem run_value : θ_run defs (onTc (τ := τ) (main (F := F))) ⟨m, fun _ => 0, ρ⟩ (fun r => (∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 4, (h.1 c).1 5,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

/-- The arguments end unchanged, and every counter at zero. -/
theorem frame_inproj : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2, h.2⟩) (run_value m ρ)

end Cert.InprojIdeal

end
-- ==== Proof.InRef.lean ====
/- The plain reference of the input projection, read at one token and one column. -/
module

public import proofs.«01_k».proof.Proof.OutRef
public import proofs.«01_k».proof.Proof.Gen.InprojRefIdeal.Read

@[expose] public section

noncomputable section

namespace Cert.InprojRefIdeal.At

open Cert.InprojRefIdeal Cert.InprojRefIdeal.Gen Cert.InprojRefIdeal.Read Idealize.ShloMosaic Idealize.ShloMosaic.StableHlo

variable (x : Vec Ideal S10240x1024 .f32) (md : Vec Ideal S8x6144 .f32)

/-- Token `T`'s row of the modulation table, 1024 columns from `o`. -/
def modAt (T : Fin 10240) (o : Nat) (ho : o + 1024 ≤ 6144) (j : Fin 1024) : EReal :=
  md (ix2 ⟨OutModel.modRow T.val, OutModel.modRow_lt _⟩ ⟨o + j.val, by omega⟩)

/-- Token `T`'s modulated norm. -/
def uRow (T : Fin 10240) : Fin 1024 → EReal :=
  OutModel.u2 (fun k => x (ix2 T k)) (modAt md T 1024 (by omega)) (modAt md T 0 (by omega))

/-- The table's rows joined for the tokens: the same join as the output projection's. -/
theorem v6_apply (T : Fin 10240) (q : Fin 6144) :
    val_main_v6 (F := Ideal) md (ix2 T q) = md (ix2 ⟨OutModel.modRow T.val, OutModel.modRow_lt _⟩ q) :=
  OutprojRefIdeal.At.v6_apply md T q

theorem v7_apply (T : Fin 10240) (j : Fin 1024) : val_main_v7 (F := Ideal) md (ix2 T j) = modAt md T 0 (by omega) j := by
  rw [val_main_v7_apply]
  refine Eq.trans (congrArg _ (funext fun a => Fin.ext ?_)) (v6_apply md T ⟨0 + j.val, by omega⟩)
  match a with
  | ⟨0, _⟩ => rfl
  | ⟨1, _⟩ => exact (Nat.zero_add j.val).symm

theorem v8_apply (T : Fin 10240) (j : Fin 1024) : val_main_v8 (F := Ideal) md (ix2 T j) = modAt md T 1024 (by omega) j := by
  rw [val_main_v8_apply]
  refine Eq.trans (congrArg _ (funext fun a => Fin.ext ?_)) (v6_apply md T ⟨1024 + j.val, by omega⟩)
  match a with
  | ⟨0, _⟩ => rfl
  | ⟨1, _⟩ => rfl

/-- The reference's modulated norm. -/
theorem v28_apply (T : Fin 10240) (j : Fin 1024) : val_main_v28 (F := Ideal) x md (ix2 T j) = uRow x md T j := by
  have h : val_main_v28 (F := Ideal) x md (ix2 T j)
      = OutModel.ln (fun k => x (ix2 T k)) j * (Ideal.ofBits .f32 0x3F800000#32 + val_main_v8 (F := Ideal) md (ix2 T j))
        + val_main_v7 (F := Ideal) md (ix2 T j) := by
    pointwise [val_main_cst, val_main_v9, val_main_v10, val_main_cst_0, val_main_v11, val_main_v12, val_main_v13, val_main_v14, val_main_v15, val_main_cst_1, val_main_v16, val_main_v17, val_main_cst_2, val_main_v18, val_main_v19, val_main_cst_3, val_main_v20, val_main_v21, val_main_v22, val_main_v23, val_main_v24, val_main_cst_4, val_main_v25, val_main_v26, val_main_v27, val_main_v28, OutModel.ln, OutModel.mean]
  rw [h, v7_apply, v8_apply, uRow, OutModel.u2]

/-- The wide result. -/
theorem wide_apply (w : Vec Ideal S1024x4608 .bf16) (T : Fin 10240) (j : Fin 4608) :
    val_main_v30 (F := Ideal) x md w (ix2 T j) = ∑ k : Fin 1024, uRow x md T k * w (ix2 k j) := by
  rw [val_main_v30_apply]
  refine Finset.sum_congr rfl fun k _ => congrArg₂ _ (Eq.trans (congrArg _ ?_) (v28_apply x md T k)) (congrArg w ?_) <;>
  exact funext fun a => match a with | ⟨0, _⟩ => rfl | ⟨1, _⟩ => rfl

/-- The narrow result. -/
theorem narrow_apply (w : Vec Ideal S1024x128 .bf16) (T : Fin 10240) (j : Fin 128) :
    val_main_v32 (F := Ideal) x md w (ix2 T j) = ∑ k : Fin 1024, uRow x md T k * w (ix2 k j) := by
  rw [val_main_v32_apply]
  refine Finset.sum_congr rfl fun k _ => congrArg₂ _ (Eq.trans (congrArg _ ?_) (v28_apply x md T k)) (congrArg w ?_) <;>
  exact funext fun a => match a with | ⟨0, _⟩ => rfl | ⟨1, _⟩ => rfl

end Cert.InprojRefIdeal.At

end
-- ==== Proof.InValue.lean ====
/-
  The two result arrays of the input projection, entry by entry: row `T` is computed in block `T / 512` from row `T` of the tokens,
  and it is the same row function of the arguments that the plain reference is.
-/
module

public import proofs.«01_k».proof.Proof.InIdealFrame
public import proofs.«01_k».proof.Proof.InRef

@[expose] public section

noncomputable section

namespace Cert.InprojIdeal

open Idealize.ShloMosaic Idealize.ShloMosaic.TcCoe Idealize.SL.Sem
open Idealize.ShloMosaic.Pipeline (Dat)

open Facts₀ Facts

/-! ## The stored values, at a row and a column -/

/-- The modulated rows. -/
theorem pay1_apply (sh sc : Vec Ideal S1x1024 .f32) (x : Vec Ideal S512x1024 .f32) (r : Fin 512) (j : Fin 1024) :
    Gen.k0_pay1 sh sc (Gen.k0_pay5 x) (Gen.k0_pay6 x) (Gen.k0_pay7 (F := Ideal)) (ix2 r j)
      = OutModel.u2 (fun k => x (ix2 r k)) (fun k => sc (ix2 0 k)) (fun k => sh (ix2 0 k)) j := by
  pointwise [Gen.k0_pay1, Gen.k0_pay5, Gen.k0_pay6, Gen.k0_pay7, OutModel.u2, OutModel.ln, OutModel.mean]

/-- The wide block of any rows. -/
theorem pay4_apply (u : Vec Ideal S512x1024 .bf16) (w : Vec Ideal S1024x2304 .bf16) (r : Fin 512) (j : Fin 2304) :
    Gen.k0_pay4 u w (ix2 r j) = ∑ k : Fin 1024, u (ix2 r k) * w (ix2 k j) := by
  pointwise [Gen.k0_pay4]

/-- The narrow block of the modulated rows. -/
theorem pay3_apply (sh sc : Vec Ideal S1x1024 .f32) (x : FVec Ideal S512x1024 .f32) (v a : FVec Ideal S512x1 .f32) (w : Vec Ideal S1024x128 .bf16)
    (r : Fin 512) (j : Fin 128) :
    Gen.k0_pay3 sh sc x v a w (ix2 r j) = ∑ k : Fin 1024, Gen.k0_pay1 sh sc x v a (ix2 r k) * w (ix2 k j) := by
  unfold Gen.k0_pay3
  generalize Gen.k0_pay1 sh sc x v a = y
  pointwise

theorem off1 : ∀ t : Fin cfg0.N, k0_off1 (grid0.coords t) = ![OutModel.modRow (512 * (t.val / 2)), 0] :=
  (by decide +kernel : ∀ t : Fin grid0.N, k0_off1 (grid0.coords t) = ![OutModel.modRow (512 * (t.val / 2)), 0])
theorem off2 : ∀ t : Fin cfg0.N, k0_off2 (grid0.coords t) = ![OutModel.modRow (512 * (t.val / 2)), 1024] :=
  (by decide +kernel : ∀ t : Fin grid0.N, k0_off2 (grid0.coords t) = ![OutModel.modRow (512 * (t.val / 2)), 1024])

/-- A load of 1024 columns of one modulation row. -/
theorem ld_mod (md : Vec Ideal S8x6144 .f32) (off : Fin 2 → Nat) (n o : Nat) (hn : n < 8) (ho : o + 1024 ≤ 6144)
    (h : off = ![n, o]) (inb : ∀ a, off a + S1x1024.size a ≤ S8x6144.size a) (j : Fin 1024) :
    View.ld md (Rect.unit (s := S8x6144) off S1x1024.size inb) (ix2 0 j) = md (ix2 ⟨n, hn⟩ ⟨o + j.val, by omega⟩) := by
  subst h
  refine congrArg md (funext fun a => Fin.ext ?_)
  match a with
  | ⟨0, _⟩ => show n + 1 * 0 = _; rfl
  | ⟨1, _⟩ => show o + 1 * j.val = o + j.val; omega

variable (m : (ℓ : Loc nD τ sig) → Buf (Elt Ideal) ℓ) (ρ : Dev nD → PrngReg) (c : Dev nD) (t : Fin cfg0.N)

/-! ## The windows' blocks, at a row and a column -/

/-- A token's number from its grid point and its row in the block; a column's number from its grid point and its place in the block. -/
abbrev tok (r : Fin 512) : Fin 10240 := ⟨512 * (t.val / 2) + r.val, by have : t.val < 40 := t.isLt; omega⟩
abbrev col (j : Fin 2304) : Fin 4608 := ⟨2304 * (t.val % 2) + j.val, by omega⟩

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, 0] :=
  (by decide +kernel : ∀ t : Fin grid0.N, win0_1.index t = ![0, 0])
theorem idx2 : ∀ t : Fin cfg0.N, win0_2.index t = ![0, t.val % 2] :=
  (by decide +kernel : ∀ t : Fin grid0.N, win0_2.index t = ![0, t.val % 2])
theorem idx3 : ∀ t : Fin cfg0.N, win0_3.index t = ![0, 0] :=
  (by decide +kernel : ∀ t : Fin grid0.N, win0_3.index t = ![0, 0])
theorem idx4 : ∀ t : Fin cfg0.N, win0_4.index t = ![t.val / 2, t.val % 2] :=
  (by decide +kernel : ∀ t : Fin grid0.N, win0_4.index t = ![t.val / 2, t.val % 2])
theorem idx5 : ∀ t : Fin cfg0.N, win0_5.index t = ![t.val / 2, 0] :=
  (by decide +kernel : ∀ t : Fin grid0.N, win0_5.index t = ![t.val / 2, 0])

theorem iblk0 (r : Fin 512) (k : Fin 1024) : iblk m c 0 t (ix2 r k) = m ((c : Thread nD τ).loc main_arg0) (ix2 (tok t r) (k)) := by
  unfold iblk
  rw [View.read_apply, cast_eq]
  refine congrArg (m ((c : Thread nD τ).loc main_arg0)) (funext fun a => Fin.ext ?_)
  match a with
  | ⟨0, _⟩ =>
    show win0_0.index t 0 * 512 + 1 * r.val = 512 * (t.val / 2) + r.val
    rw [idx0 t]
    show t.val / 2 * 512 + 1 * r.val = _
    omega
  | ⟨1, _⟩ =>
    show win0_0.index t 1 * 1024 + 1 * k.val = k.val
    rw [idx0 t]
    show 0 * 1024 + 1 * k.val = _
    omega

theorem iblk1 (r : Fin 8) (k : Fin 6144) : iblk m c 1 t (ix2 r k) = m ((c : Thread nD τ).loc main_arg1) (ix2 (r) (k)) := by
  unfold iblk
  rw [View.read_apply, cast_eq]
  refine congrArg (m ((c : Thread nD τ).loc main_arg1)) (funext fun a => Fin.ext ?_)
  match a with
  | ⟨0, _⟩ =>
    show win0_1.index t 0 * 8 + 1 * r.val = r.val
    rw [idx1 t]
    show 0 * 8 + 1 * r.val = _
    omega
  | ⟨1, _⟩ =>
    show win0_1.index t 1 * 6144 + 1 * k.val = k.val
    rw [idx1 t]
    show 0 * 6144 + 1 * k.val = _
    omega

theorem iblk2 (r : Fin 1024) (k : Fin 2304) : iblk m c 2 t (ix2 r k) = m ((c : Thread nD τ).loc main_arg2) (ix2 (r) (col t k)) := by
  unfold iblk
  rw [View.read_apply, cast_eq]
  refine congrArg (m ((c : Thread nD τ).loc main_arg2)) (funext fun a => Fin.ext ?_)
  match a with
  | ⟨0, _⟩ =>
    show win0_2.index t 0 * 1024 + 1 * r.val = r.val
    rw [idx2 t]
    show 0 * 1024 + 1 * r.val = _
    omega
  | ⟨1, _⟩ =>
    show win0_2.index t 1 * 2304 + 1 * k.val = 2304 * (t.val % 2) + k.val
    rw [idx2 t]
    show t.val % 2 * 2304 + 1 * k.val = _
    omega

theorem iblk3 (r : Fin 1024) (k : Fin 128) : iblk m c 3 t (ix2 r k) = m ((c : Thread nD τ).loc main_arg3) (ix2 (r) (k)) := by
  unfold iblk
  rw [View.read_apply, cast_eq]
  refine congrArg (m ((c : Thread nD τ).loc main_arg3)) (funext fun a => Fin.ext ?_)
  match a with
  | ⟨0, _⟩ =>
    show win0_3.index t 0 * 1024 + 1 * r.val = r.val
    rw [idx3 t]
    show 0 * 1024 + 1 * r.val = _
    omega
  | ⟨1, _⟩ =>
    show win0_3.index t 1 * 128 + 1 * k.val = k.val
    rw [idx3 t]
    show 0 * 128 + 1 * k.val = _
    omega

/-- All the tokens of a block take the same row of the modulation table. -/
theorem modRow_block (r : Fin 512) : OutModel.modRow (512 * (t.val / 2)) = OutModel.modRow (tok t r).val := by
  have : t.val < 40 := t.isLt
  have := r.isLt
  show _ = OutModel.modRow (512 * (t.val / 2) + r.val)
  unfold OutModel.modRow
  split_ifs <;> omega

theorem mod_block (off : Fin 2 → Nat) (o : Nat) (ho : o + 1024 ≤ 6144) (h : off = ![OutModel.modRow (512 * (t.val / 2)), o])
    (inb : ∀ a, off a + S1x1024.size a ≤ S8x6144.size a) (r : Fin 512) :
    (fun k : Fin 1024 => View.ld (iblk m c 1 t : Vec Ideal S8x6144 .f32) (Rect.unit (s := S8x6144) off S1x1024.size inb) (ix2 0 k))
      = InprojRefIdeal.At.modAt (m ((c : Thread nD τ).loc main_arg1)) (tok t r) o ho := by
  funext k
  refine (ld_mod _ off _ o (OutModel.modRow_lt _) ho h inb k).trans ((iblk1 m c t _ _).trans ?_)
  exact congrArg (fun i => m ((c : Thread nD τ).loc main_arg1) (ix2 i _)) (Fin.ext (modRow_block t r))

/-! ## What the points leave -/

/-- The modulated rows computed at a first point are the reference's. -/
theorem rows_first (h : k0_cond1 (grid0.coords t) = 1#1) (r : Fin 512) (j : Fin 1024) :
    Gen.k0_pay1 (View.ld (iblk m c 1 t : Vec Ideal S8x6144 .f32) (Rect.unit (s := S8x6144) (k0_off1 (grid0.coords t)) S1x1024.size (k0_off1_inb _ h)))
        (View.ld (iblk m c 1 t : Vec Ideal S8x6144 .f32) (Rect.unit (s := S8x6144) (k0_off2 (grid0.coords t)) S1x1024.size (k0_off2_inb _ h)))
        (Gen.k0_pay5 (iblk m c 0 t : Vec Ideal S512x1024 .f32)) (Gen.k0_pay6 (iblk m c 0 t : Vec Ideal S512x1024 .f32)) (Gen.k0_pay7 (F := Ideal)) (ix2 r j)
      = InprojRefIdeal.At.uRow (m ((c : Thread nD τ).loc main_arg0)) (m ((c : Thread nD τ).loc main_arg1)) (tok t r) j := by
  refine (pay1_apply _ _ _ r j).trans ?_
  rw [mod_block m c t _ 0 (by omega) (off1 t) _ r, mod_block m c t _ 1024 (by omega) (off2 t) _ r]
  simp only [iblk0]
  rfl

theorem tok_first (r : Fin 512) : tok (first t) r = tok t r :=
  Fin.ext (show 512 * (t.val / 2 * 2 / 2) + r.val = 512 * (t.val / 2) + r.val by omega)

/-- The rows kept at any point of a block. -/
theorem rowsAt_apply (r : Fin 512) (j : Fin 1024) : rowsAt m c t (ix2 r j)
    = InprojRefIdeal.At.uRow (m ((c : Thread nD τ).loc main_arg0)) (m ((c : Thread nD τ).loc main_arg1)) (tok t r) j := by
  rw [← tok_first t r]
  unfold rowsAt rowsIn rowsOf Gen.k0_pay2
  dsimp only
  rw [shapeCast_self]
  exact rows_first m c (first t) (first_cond t) r j

theorem wideAt_apply (r : Fin 512) (j : Fin 2304) : wideAt m c t (ix2 r j) = InprojRefIdeal.Read.val_main_v30 (F := Ideal) (m ((c : Thread nD τ).loc main_arg0)) (m ((c : Thread nD τ).loc main_arg1)) (m ((c : Thread nD τ).loc main_arg2)) (ix2 (tok t r) (col t j)) := by
  rw [InprojRefIdeal.At.wide_apply]
  unfold wideAt
  refine (pay4_apply _ _ r j).trans (Finset.sum_congr rfl fun k _ => ?_)
  rw [rowsAt_apply]
  exact congrArg _ (iblk2 m c t k j)

theorem narrowAt_apply (r : Fin 512) (j : Fin 128) : narrowAt m c t (ix2 r j) = InprojRefIdeal.Read.val_main_v32 (F := Ideal) (m ((c : Thread nD τ).loc main_arg0)) (m ((c : Thread nD τ).loc main_arg1)) (m ((c : Thread nD τ).loc main_arg3)) (ix2 (tok t r) j) := by
  rw [InprojRefIdeal.At.narrow_apply, ← tok_first t r]
  unfold narrowAt narrowIn narrowOf
  refine (pay3_apply _ _ _ _ _ _ r j).trans (Finset.sum_congr rfl fun k _ => ?_)
  exact congrArg₂ _ (rows_first m c (first t) (first_cond t) r k) (iblk3 m c (first t) k j)

/-! ## The result arrays, whole -/

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (by
    have h' : win0_4.index t = win0_4.index t' := h
    rw [idx4, idx4] at h'
    have h0 : t.val / 2 = t'.val / 2 := congrFun h' 0
    have h1 : t.val % 2 = t'.val % 2 := congrFun h' 1
    exact Fin.ext (by omega))

theorem disjoint5 : ∀ t t' : Fin cfg0.N, (cfg0.win 5).flush t = true → (cfg0.win 5).flush t' = true → t ≠ t' →
    Disjoint ((cfg0.win 5).blk t).view.set ((cfg0.win 5).blk t').view.set :=
  fun t t' ht ht' hne => (cfg0.win 5).disjoint_blk fun h => hne (by
    have h' : win0_5.index t = win0_5.index t' := h
    rw [idx5, idx5] at h'
    have h0 : t.val / 2 = t'.val / 2 := congrFun h' 0
    have o : t.val % 2 = 1 := (Gen.flush0_5 t).mp ht
    have o' : t'.val % 2 = 1 := (Gen.flush0_5 t').mp ht'
    exact Fin.ext (by omega))

theorem wide_at (r : Fin 512) (j : Fin 2304) :
    (dats m 0 c).arrAt 4 cfg0.N (ix2 (tok t r) (col t j)) = InprojRefIdeal.Read.val_main_v30 (F := Ideal) (m ((c : Thread nD τ).loc main_arg0)) (m ((c : Thread nD τ).loc main_arg1)) (m ((c : Thread nD τ).loc main_arg2)) (ix2 (tok t r) (col t j)) := by
  have hb := congrFun ((dats m 0 c).read_blk_arrAt_eq_flushed 4 disjoint4 cfg0.N t t.isLt (Gen.flush0_4 t)) (ix2 r j)
  rw [View.read_apply, cast_eq] at hb
  have he : ((cfg0.win 4).blk t).view.emb (ix2 r j) = ix2 (tok t r) (col t j) := by
    refine funext fun a => Fin.ext ?_
    match a with
    | ⟨0, _⟩ =>
      show win0_4.index t 0 * 512 + 1 * r.val = 512 * (t.val / 2) + r.val
      rw [idx4 t]
      show t.val / 2 * 512 + 1 * r.val = _
      omega
    | ⟨1, _⟩ =>
      show win0_4.index t 1 * 2304 + 1 * j.val = 2304 * (t.val % 2) + j.val
      rw [idx4 t]
      show t.val % 2 * 2304 + 1 * j.val = _
      omega
  rw [he] at hb
  exact hb.trans ((congrFun (after_4 m c t) (ix2 r j)).trans (wideAt_apply m c t r j))

theorem narrow_at (ht : t.val % 2 = 1) (r : Fin 512) (j : Fin 128) :
    (dats m 0 c).arrAt 5 cfg0.N (ix2 (tok t r) j) = InprojRefIdeal.Read.val_main_v32 (F := Ideal) (m ((c : Thread nD τ).loc main_arg0)) (m ((c : Thread nD τ).loc main_arg1)) (m ((c : Thread nD τ).loc main_arg3)) (ix2 (tok t r) j) := by
  have hb := congrFun ((dats m 0 c).read_blk_arrAt_eq_flushed 5 disjoint5 cfg0.N t t.isLt ((Gen.flush0_5 t).mpr ht)) (ix2 r j)
  rw [View.read_apply, cast_eq] at hb
  have he : ((cfg0.win 5).blk t).view.emb (ix2 r j) = ix2 (tok t r) j := by
    refine funext fun a => Fin.ext ?_
    match a with
    | ⟨0, _⟩ =>
      show win0_5.index t 0 * 512 + 1 * r.val = 512 * (t.val / 2) + r.val
      rw [idx5 t]
      show t.val / 2 * 512 + 1 * r.val = _
      omega
    | ⟨1, _⟩ =>
      show win0_5.index t 1 * 128 + 1 * j.val = j.val
      rw [idx5 t]
      show 0 * 128 + 1 * j.val = _
      omega
  rw [he] at hb
  exact hb.trans ((congrFun (after_5 m c t) (ix2 r j)).trans (narrowAt_apply m c t r j))

theorem wide_eq : (dats m 0 c).arrAt 4 cfg0.N = InprojRefIdeal.Read.val_main_v30 (F := Ideal) (m ((c : Thread nD τ).loc main_arg0)) (m ((c : Thread nD τ).loc main_arg1)) (m ((c : Thread nD τ).loc main_arg2)) := by
  funext i
  obtain ⟨T, j, rfl⟩ : ∃ (T : Fin 10240) (j : Fin 4608), i = ix2 T j :=
    ⟨i 0, i 1, funext fun a => match a with | ⟨0, _⟩ => rfl | ⟨1, _⟩ => rfl⟩
  have hT := T.isLt
  have hj := j.isLt
  have hp : T.val / 512 * 2 + j.val / 2304 < 40 := by omega
  have h := wide_at m c ⟨T.val / 512 * 2 + j.val / 2304, hp⟩ ⟨T.val % 512, by omega⟩ ⟨j.val % 2304, by omega⟩
  rw [show tok ⟨T.val / 512 * 2 + j.val / 2304, hp⟩ ⟨T.val % 512, by omega⟩ = T from
      Fin.ext (show 512 * ((T.val / 512 * 2 + j.val / 2304) / 2) + T.val % 512 = T.val by omega),
    show col ⟨T.val / 512 * 2 + j.val / 2304, hp⟩ ⟨j.val % 2304, by omega⟩ = j from
      Fin.ext (show 2304 * ((T.val / 512 * 2 + j.val / 2304) % 2) + j.val % 2304 = j.val by omega)] at h
  exact h

theorem narrow_eq : (dats m 0 c).arrAt 5 cfg0.N = InprojRefIdeal.Read.val_main_v32 (F := Ideal) (m ((c : Thread nD τ).loc main_arg0)) (m ((c : Thread nD τ).loc main_arg1)) (m ((c : Thread nD τ).loc main_arg3)) := by
  funext i
  obtain ⟨T, j, rfl⟩ : ∃ (T : Fin 10240) (j : Fin 128), i = ix2 T j :=
    ⟨i 0, i 1, funext fun a => match a with | ⟨0, _⟩ => rfl | ⟨1, _⟩ => rfl⟩
  have hT := T.isLt
  have hp : T.val / 512 * 2 + 1 < 40 := by omega
  have h := narrow_at m c ⟨T.val / 512 * 2 + 1, hp⟩ (show (T.val / 512 * 2 + 1) % 2 = 1 by omega) ⟨T.val % 512, by omega⟩ j
  rw [show tok ⟨T.val / 512 * 2 + 1, hp⟩ ⟨T.val % 512, by omega⟩ = T from
      Fin.ext (show 512 * ((T.val / 512 * 2 + 1) / 2) + T.val % 512 = T.val by omega)] at h
  exact h

end Cert.InprojIdeal

end
-- ==== Proof.InAlgebraic.lean ====
/-
  The claim about the input projection: kernel and reference, run from memories that agree on the arguments, end with the
  same two arrays.
-/
module

public import proofs.«01_k».proof.Defs
public import proofs.«01_k».proof.Proof.InValue
public import proofs.«01_k».proof.Proof.Gen.InprojIdeal
public import proofs.«01_k».proof.Proof.Gen.InprojRefIdeal
public import proofs.«01_k».proof.Proof.Gen.InprojRefIdeal.Run

@[expose] public section

noncomputable section

namespace Cert.Proof

open Idealize.ShloMosaic Idealize.ShloMosaic.TcCoe Idealize.SL.Sem

theorem inproj_algebraic :
    Cert.algebraic_InprojIdeal_InprojRefIdeal (hInprojIdeal := Cert.InprojIdeal.Gen.facts) (hInprojRefIdeal := Cert.InprojRefIdeal.Gen.facts) := by
  intro m g m' g' _ hargs
  refine ⟨fun c => (Cert.InprojIdeal.dats m 0 c).arrAt 4 Cert.InprojIdeal.cfg0.N,
    fun c => (Cert.InprojIdeal.dats m 0 c).arrAt 5 Cert.InprojIdeal.cfg0.N, ?_, ?_⟩
  · exact (θ_run Cert.InprojIdeal.defs _ _).mono (fun r h => h.1) (Cert.InprojIdeal.run_value m g)
  · refine (θ_run Cert.InprojRefIdeal.defs _ _).mono (fun r h c => ?_) (Cert.InprojRefIdeal.Value.run m' g')
    obtain ⟨a0, a1, a2, a3⟩ := hargs c
    obtain ⟨h1, h2, h3⟩ := h c
    refine ⟨h1.trans ?_, h2.trans ?_, h3⟩
    · rw [Cert.InprojRefIdeal.Read.val_main_v30_eq, a0, a1, a2]
      exact (Cert.InprojIdeal.wide_eq m c).symm
    · rw [Cert.InprojRefIdeal.Read.val_main_v32_eq, a0, a1, a3]
      exact (Cert.InprojIdeal.narrow_eq m c).symm

end Cert.Proof

end
-- ==== Proof.AdaValue.lean ====
/-
  The modulation table, entry by entry: a conditioning vector's silu times a layer's weights, and its bias; and the plain reference's array.
-/
module

public import proofs.«01_k».proof.Proof.Gen.AdaIdeal.Value
public import proofs.«01_k».proof.Proof.Gen.AdaRefIdeal.Read
public import Idealize.ShloMosaic.Lib.Tactic
public import Idealize.ShloMosaic.Lib.Pointwise
public import Idealize.ShloMosaic.PureOps.Ideal
public import Idealize.ShloMosaic.Lib.Claim

@[expose] public section

noncomputable section

namespace Cert.AdaRefIdeal.At

open Cert.AdaRefIdeal Cert.AdaRefIdeal.Gen Cert.AdaRefIdeal.Read Idealize.ShloMosaic Idealize.ShloMosaic.StableHlo

/-- An entry of the table: row `r` of the vectors with a column of the weights, and the bias. -/
def entry (x w : Fin 1024 → EReal) (b : EReal) : EReal :=
  (∑ k : Fin 1024, x k * Ideal.div 1 (1 + Ideal.exp (-(x k))) * w k) + b

/-- The reference's table. -/
theorem v5_at (x0 : Vec Ideal S8x1024 .f32) (x1 : Vec Ideal S2x1024x6144 .f32) (x2 : Vec Ideal S2x6144 .f32) (l : Fin 2) (r : Fin 8) (e : Fin 6144) :
    val_main_v5 (F := Ideal) x0 x1 x2 (ix3 l r e) = entry (fun k => x0 (ix2 r k)) (fun k => x1 (ix3 l k e)) (x2 (ix2 l e)) := by
  rw [val_main_v5_apply, val_main_v2_apply, val_main_v1_apply, val_main_v4_apply, val_main_v3_apply]
  refine congrArg₂ (· + ·) (Finset.sum_congr rfl fun k _ => ?_) (congrArg x2 (funext fun a => match a with | ⟨0, _⟩ => rfl | ⟨1, _⟩ => rfl))
  have hs : val_main_v0 (F := Ideal) x0 (ix2 r k) = x0 (ix2 r k) * Ideal.div 1 (1 + Ideal.exp (-(x0 (ix2 r k)))) := by
    pointwise [val_main_v0, val_main_call0_v5, val_main_call0_v4, val_main_call0_v3, val_main_call0_v2, val_main_call0_v1, val_main_call0_v0, val_main_call0_cst, val_main_call0_cst_0]
  rw [← hs, mul_comm]
  exact congrArg₂ _ (congrArg _ (funext fun a => match a with | ⟨0, _⟩ => rfl | ⟨1, _⟩ => rfl))
    (congrArg x1 (funext fun a => match a with | ⟨0, _⟩ => rfl | ⟨1, _⟩ => rfl | ⟨2, _⟩ => rfl))

end Cert.AdaRefIdeal.At

namespace Cert.AdaIdeal.Whole

open Cert.AdaIdeal Cert.AdaIdeal.Gen Idealize.ShloMosaic Idealize.ShloMosaic.TcCoe Idealize.SL.Sem
open Idealize.ShloMosaic.Pipeline (Dat)

theorem zz : (![0, 0] : Fin 2 → Nat) = fun _ => 0 := funext fun a => by fin_cases a <;> rfl
theorem zzz : (![0, 0, 0] : Fin 3 → Nat) = fun _ => 0 := funext fun a => by fin_cases a <;> rfl

/-- The stored block from the loaded ones. -/
theorem pay_apply (x : Vec Ideal S8x1024 .f32) (w : Vec Ideal S1x1024x1536 .f32) (b : Vec Ideal S1x1x1536 .f32) (r : Fin 8) (j : Fin 1536) :
    k0_pay1 x w b (ix3 0 r j) = AdaRefIdeal.At.entry (fun k => x (ix2 r k)) (fun k => w (ix3 0 k j)) (b (ix3 0 0 j)) := by
  pointwise [k0_pay1, AdaRefIdeal.At.entry]
  simp only [zero_sub]

variable (m : (ℓ : Loc nD τ sig) → Buf (Elt Ideal) ℓ) (c : Dev nD) (t : Fin cfg0.N)

theorem idx0 : ∀ t : Fin cfg0.N, win0_0.index t = ![0, 0] :=
  (by decide +kernel : ∀ t : Fin grid0.N, win0_0.index t = ![0, 0])
theorem idx1 : ∀ t : Fin cfg0.N, win0_1.index t = ![t.val / 4, 0, t.val % 4] :=
  (by decide +kernel : ∀ t : Fin grid0.N, win0_1.index t = ![t.val / 4, 0, t.val % 4])
theorem idx2 : ∀ t : Fin cfg0.N, win0_2.index t = ![t.val / 4, 0, t.val % 4] :=
  (by decide +kernel : ∀ t : Fin grid0.N, win0_2.index t = ![t.val / 4, 0, t.val % 4])
theorem idx3 : ∀ t : Fin cfg0.N, win0_3.index t = ![t.val / 4, 0, t.val % 4] :=
  (by decide +kernel : ∀ t : Fin grid0.N, win0_3.index t = ![t.val / 4, 0, t.val % 4])

/-- A grid point's layer, and a column's number from the grid point and its place in the block. -/
abbrev lay : Fin 2 := ⟨t.val / 4, by have : t.val < 8 := t.isLt; omega⟩
abbrev col (j : Fin 1536) : Fin 6144 := ⟨1536 * (t.val % 4) + j.val, by omega⟩

theorem iblk0 (r : Fin 8) (k : Fin 1024) : iblk m c 0 t (ix2 r k) = m ((c : Thread nD τ).loc main_arg0) (ix2 (r) (k)) := by
  unfold iblk
  rw [View.read_apply, cast_eq]
  refine congrArg (m ((c : Thread nD τ).loc main_arg0)) (funext fun a => Fin.ext ?_)
  match a with
  | ⟨0, _⟩ =>
    show win0_0.index t 0 * 8 + 1 * r.val = r.val
    rw [idx0 t]
    show 0 * 8 + 1 * r.val = _
    omega
  | ⟨1, _⟩ =>
    show win0_0.index t 1 * 1024 + 1 * k.val = k.val
    rw [idx0 t]
    show 0 * 1024 + 1 * k.val = _
    omega

theorem iblk1 (k : Fin 1024) (j : Fin 1536) : iblk m c 1 t (ix3 0 k j) = m ((c : Thread nD τ).loc main_arg1) (ix3 (lay t) (k) (col t j)) := by
  unfold iblk
  rw [View.read_apply, cast_eq]
  refine congrArg (m ((c : Thread nD τ).loc main_arg1)) (funext fun a => Fin.ext ?_)
  match a with
  | ⟨0, _⟩ =>
    show win0_1.index t 0 * 1 + 1 * 0 = t.val / 4
    rw [idx1 t]
    show t.val / 4 * 1 + 1 * 0 = _
    omega
  | ⟨1, _⟩ =>
    show win0_1.index t 1 * 1024 + 1 * k.val = k.val
    rw [idx1 t]
    show 0 * 1024 + 1 * k.val = _
    omega
  | ⟨2, _⟩ =>
    show win0_1.index t 2 * 1536 + 1 * j.val = 1536 * (t.val % 4) + j.val
    rw [idx1 t]
    show t.val % 4 * 1536 + 1 * j.val = _
    omega

/-- The bias, which the host reshapes before the call. -/
theorem V_bias : V m c main_v0 = shapeCast S2x1x6144 (m ((c : Thread nD τ).loc main_arg2)) shapeCasts_S2x6144_S2x1x6144 := by
  entry_read
  rfl

theorem iblk2 (j : Fin 1536) : iblk m c 2 t (ix3 0 0 j) = m ((c : Thread nD τ).loc main_arg2) (ix2 (lay t) (col t j)) := by
  have h : iblk m c 2 t (ix3 0 0 j) = V m c main_v0 (ix3 (lay t) 0 (col t j)) := by
    unfold iblk
    rw [View.read_apply, cast_eq]
    refine congrArg (V m c main_v0) (funext fun a => Fin.ext ?_)
    match a with
    | ⟨0, _⟩ =>
      show win0_2.index t 0 * 1 + 1 * 0 = t.val / 4
      rw [idx2 t]
      show t.val / 4 * 1 + 1 * 0 = _
      omega
    | ⟨1, _⟩ =>
      show win0_2.index t 1 * 1 + 1 * 0 = 0
      rw [idx2 t]
      rfl
    | ⟨2, _⟩ =>
      show win0_2.index t 2 * 1536 + 1 * j.val = 1536 * (t.val % 4) + j.val
      rw [idx2 t]
      show t.val % 4 * 1536 + 1 * j.val = _
      omega
  rw [h, V_bias]
  refine shapeCast_apply _ shapeCasts_S2x6144_S2x1x6144 _ _ ?_
  rw [Shape.rowMajor_val_two, Shape.rowMajor_val_three]
  show t.val / 4 * 6144 + (1536 * (t.val % 4) + j.val) = (t.val / 4 * 1 + 0) * 6144 + (1536 * (t.val % 4) + j.val)
  omega

theorem outs_apply (r : Fin 8) (j : Fin 1536) : out0_3 (iblk m c 0 t) (iblk m c 1 t) (iblk m c 2 t) (ix3 0 r j)
    = AdaRefIdeal.Read.val_main_v5 (F := Ideal) (m ((c : Thread nD τ).loc main_arg0)) (m ((c : Thread nD τ).loc main_arg1)) (m ((c : Thread nD τ).loc main_arg2)) (ix3 (lay t) r (col t j)) := by
  unfold out0_3 r0_0 r0_1 r0_2 r0_3
  rw [View.canon_unit_zero zzz, View.ld_unit_zero (S := S8x1024) zz, View.ld_unit_zero (S := S1x1024x1536) zzz,
    View.ld_unit_zero (S := S1x1x1536) zzz]
  refine (pay_apply _ _ _ r j).trans ?_
  rw [AdaRefIdeal.At.v5_at, iblk2]
  simp only [iblk0, iblk1]

theorem out_at (r : Fin 8) (j : Fin 1536) : (dats m 0 c).arrAt 3 cfg0.N (ix3 (lay t) r (col t j)) = AdaRefIdeal.Read.val_main_v5 (F := Ideal) (m ((c : Thread nD τ).loc main_arg0)) (m ((c : Thread nD τ).loc main_arg1)) (m ((c : Thread nD τ).loc main_arg2)) (ix3 (lay t) r (col t j)) := by
  have hb := congrFun (Value.blocks3 m c t (flush0_3 t)) (ix3 0 r j)
  rw [View.read_apply, cast_eq] at hb
  have he : ((cfg0.win 3).blk t).view.emb (ix3 0 r j) = ix3 (lay t) r (col t j) := by
    refine funext fun a => Fin.ext ?_
    match a with
    | ⟨0, _⟩ =>
      show win0_3.index t 0 * 1 + 1 * 0 = t.val / 4
      rw [idx3 t]
      show t.val / 4 * 1 + 1 * 0 = _
      omega
    | ⟨1, _⟩ =>
      show win0_3.index t 1 * 8 + 1 * r.val = r.val
      rw [idx3 t]
      show 0 * 8 + 1 * r.val = _
      omega
    | ⟨2, _⟩ =>
      show win0_3.index t 2 * 1536 + 1 * j.val = 1536 * (t.val % 4) + j.val
      rw [idx3 t]
      show t.val % 4 * 1536 + 1 * j.val = _
      omega
  rw [he, Value.flushed3 m c t] at hb
  exact hb.trans (outs_apply m c t r j)

/-- The table is the reference's. -/
theorem out_eq : (dats m 0 c).arrAt 3 cfg0.N = AdaRefIdeal.Read.val_main_v5 (F := Ideal) (m ((c : Thread nD τ).loc main_arg0)) (m ((c : Thread nD τ).loc main_arg1)) (m ((c : Thread nD τ).loc main_arg2)) := by
  funext i
  obtain ⟨l, r, e, rfl⟩ : ∃ (l : Fin 2) (r : Fin 8) (e : Fin 6144), i = ix3 l r e :=
    ⟨i 0, i 1, i 2, funext fun a => match a with | ⟨0, _⟩ => rfl | ⟨1, _⟩ => rfl | ⟨2, _⟩ => rfl⟩
  have hl := l.isLt
  have he := e.isLt
  have hp : l.val * 4 + e.val / 1536 < 8 := by omega
  have h := out_at m c ⟨l.val * 4 + e.val / 1536, hp⟩ r ⟨e.val % 1536, by omega⟩
  rw [show lay ⟨l.val * 4 + e.val / 1536, hp⟩ = l from Fin.ext (show (l.val * 4 + e.val / 1536) / 4 = l.val by omega),
    show col ⟨l.val * 4 + e.val / 1536, hp⟩ ⟨e.val % 1536, by omega⟩ = e from
      Fin.ext (show 1536 * ((l.val * 4 + e.val / 1536) % 4) + e.val % 1536 = e.val by omega)] at h
  exact h

end Cert.AdaIdeal.Whole

end
-- ==== Proof.AdaAlgebraic.lean ====
/-
  The claim about the modulation table: kernel and reference, run from memories that agree on the arguments, end with the same array.
-/
module

public import proofs.«01_k».proof.Defs
public import proofs.«01_k».proof.Proof.AdaValue
public import proofs.«01_k».proof.Proof.Gen.AdaIdeal
public import proofs.«01_k».proof.Proof.Gen.AdaRefIdeal
public import proofs.«01_k».proof.Proof.Gen.AdaRefIdeal.Run

@[expose] public section

noncomputable section

namespace Cert.Proof

open Idealize.ShloMosaic Idealize.ShloMosaic.TcCoe Idealize.SL.Sem

theorem ada_algebraic :
    Cert.algebraic_AdaIdeal_AdaRefIdeal (hAdaIdeal := Cert.AdaIdeal.Gen.facts) (hAdaRefIdeal := Cert.AdaRefIdeal.Gen.facts) := by
  intro m g m' g' _ hargs
  refine ⟨fun c => (Cert.AdaIdeal.Gen.dats m 0 c).arrAt 3 Cert.AdaIdeal.cfg0.N, Cert.AdaIdeal.Value.run_blocks m g, ?_⟩
  refine (θ_run Cert.AdaRefIdeal.defs _ _).mono (fun r h c => ?_) (Cert.AdaRefIdeal.Value.run m' g')
  obtain ⟨a0, a1, a2⟩ := hargs c
  obtain ⟨h1, h2⟩ := h c
  refine ⟨h1.trans ?_, h2⟩
  rw [Cert.AdaRefIdeal.Read.val_main_v5_eq, a0, a1, a2]
  exact (Cert.AdaIdeal.Whole.out_eq m c).symm

end Cert.Proof

end
-- ==== Proof.EmbedValue.lean ====
/-
  The tokens' embedding, entry by entry: the prompts' tokens as they come, the samples' with their position added; and the plain reference's array.
-/
module

public import proofs.«01_k».proof.Proof.Gen.EmbedIdeal.Value
public import proofs.«01_k».proof.Proof.Gen.EmbedRefIdeal.Read
public import Idealize.ShloMosaic.Lib.Tactic
public import Idealize.ShloMosaic.Lib.Pointwise
public import Idealize.ShloMosaic.PureOps.Ideal

@[expose] public section

noncomputable section

namespace Cert.EmbedRefIdeal.At

open Cert.EmbedRefIdeal Cert.EmbedRefIdeal.Gen Cert.EmbedRefIdeal.Read Idealize.ShloMosaic Idealize.ShloMosaic.StableHlo

/-- Two arrays joined by rows, at a row. -/
theorem join2 (u : Vec Ideal S8192x1024 .f32) (v : Vec Ideal S2048x1024 .f32) (T : Fin 10240) (j : Fin 1024) :
    concatenate S10240x1024 0 [⟨S8192x1024, u⟩, ⟨S2048x1024, v⟩] concatenates_S8192x1024_S2048x1024_S10240x1024_d0 (ix2 T j)
      = if h : T.val < 8192 then u (ix2 ⟨T.val, h⟩ j) else v (ix2 ⟨T.val - 8192, by have := T.isLt; omega⟩ j) := by
  pointwise

/-- A row of the samples' tokens with their positions. -/
theorem v4_at (x1 : Vec Ideal S2048x1024 .f32) (x2 : Vec Ideal S1024x1024 .f32) (R : Fin 2048) (j : Fin 1024) :
    val_main_v4 (F := Ideal) x1 x2 (ix2 R j) = x1 (ix2 R j) + x2 (ix2 ⟨R.val % 1024, by omega⟩ j) := by
  have hR := R.isLt
  have hj := j.isLt
  rw [val_main_v4_apply, val_main_v3_apply, val_main_v0_apply, val_main_v2_apply, val_main_v1_apply]
  refine congrArg₂ _ (congrArg x1 (funext fun a => Fin.ext ?_)) (congrArg x2 (funext fun a => Fin.ext ?_))
  · match a with
    | ⟨0, _⟩ =>
      show (((R.val * 1024 + j.val) / 1048576 * 1024 + (R.val * 1024 + j.val) / 1024 % 1024) * 1024 + (R.val * 1024 + j.val) % 1024) / 1024 = R.val
      omega
    | ⟨1, _⟩ =>
      show (((R.val * 1024 + j.val) / 1048576 * 1024 + (R.val * 1024 + j.val) / 1024 % 1024) * 1024 + (R.val * 1024 + j.val) % 1024) % 1024 = j.val
      omega
  · match a with
    | ⟨0, _⟩ =>
      show (R.val * 1024 + j.val) / 1024 % 1024 = R.val % 1024
      omega
    | ⟨1, _⟩ =>
      show (R.val * 1024 + j.val) % 1024 = j.val
      omega

end Cert.EmbedRefIdeal.At

namespace Cert.EmbedIdeal.Whole

open Cert.EmbedIdeal Cert.EmbedIdeal.Gen Idealize.ShloMosaic Idealize.ShloMosaic.TcCoe Idealize.SL.Sem
open Idealize.ShloMosaic.Pipeline (Dat)

theorem zz : (![0, 0] : Fin 2 → Nat) = fun _ => 0 := funext fun a => by fin_cases a <;> rfl

theorem pay_apply (x y : Vec Ideal S1024x1024 .f32) (r j : Fin 1024) : k0_pay1 x y (ix2 r j) = x (ix2 r j) + y (ix2 r j) := by
  pointwise [k0_pay1]

variable (m : (ℓ : Loc nD τ sig) → Buf (Elt Ideal) ℓ) (c : Dev nD) (t : Fin cfg0.N)

theorem idx0 : ∀ t : Fin cfg0.N, win0_0.index t = ![min t.val 7, 0] :=
  (by decide +kernel : ∀ t : Fin grid0.N, win0_0.index t = ![min t.val 7, 0])
theorem idx1 : ∀ t : Fin cfg0.N, win0_1.index t = ![t.val - 8, 0] :=
  (by decide +kernel : ∀ t : Fin grid0.N, win0_1.index t = ![t.val - 8, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])

/-- A token's number from its grid point and its row in the block. -/
abbrev tok (r : Fin 1024) : Fin 10240 := ⟨1024 * t.val + r.val, by have : t.val < 10 := t.isLt; omega⟩

theorem iblk0 (r : Fin 1024) (k : Fin 1024) : iblk m c 0 t (ix2 r k) = m ((c : Thread nD τ).loc main_arg0) (ix2 (⟨min t.val 7 * 1024 + r.val, by omega⟩ : Fin 8192) (k)) := by
  unfold iblk
  rw [View.read_apply, cast_eq]
  refine congrArg (m ((c : Thread nD τ).loc main_arg0)) (funext fun a => Fin.ext ?_)
  match a with
  | ⟨0, _⟩ =>
    show win0_0.index t 0 * 1024 + 1 * r.val = min t.val 7 * 1024 + r.val
    rw [idx0 t]
    show min t.val 7 * 1024 + 1 * r.val = _
    omega
  | ⟨1, _⟩ =>
    show win0_0.index t 1 * 1024 + 1 * k.val = k.val
    rw [idx0 t]
    show 0 * 1024 + 1 * k.val = _
    omega

theorem iblk1 (r : Fin 1024) (k : Fin 1024) : iblk m c 1 t (ix2 r k) = m ((c : Thread nD τ).loc main_arg1) (ix2 (⟨(t.val - 8) * 1024 + r.val, by have : t.val < 10 := t.isLt; omega⟩ : Fin 2048) (k)) := by
  unfold iblk
  rw [View.read_apply, cast_eq]
  refine congrArg (m ((c : Thread nD τ).loc main_arg1)) (funext fun a => Fin.ext ?_)
  match a with
  | ⟨0, _⟩ =>
    show win0_1.index t 0 * 1024 + 1 * r.val = (t.val - 8) * 1024 + r.val
    rw [idx1 t]
    show (t.val - 8) * 1024 + 1 * r.val = _
    omega
  | ⟨1, _⟩ =>
    show win0_1.index t 1 * 1024 + 1 * k.val = k.val
    rw [idx1 t]
    show 0 * 1024 + 1 * k.val = _
    omega

theorem iblk2 (r : Fin 1024) (k : Fin 1024) : iblk m c 2 t (ix2 r k) = m ((c : Thread nD τ).loc main_arg2) (ix2 (r) (k)) := by
  unfold iblk
  rw [View.read_apply, cast_eq]
  refine congrArg (m ((c : Thread nD τ).loc main_arg2)) (funext fun a => Fin.ext ?_)
  match a with
  | ⟨0, _⟩ =>
    show win0_2.index t 0 * 1024 + 1 * r.val = r.val
    rw [idx2 t]
    show 0 * 1024 + 1 * r.val = _
    omega
  | ⟨1, _⟩ =>
    show win0_2.index t 1 * 1024 + 1 * k.val = k.val
    rw [idx2 t]
    show 0 * 1024 + 1 * k.val = _
    omega

/-- A prompt point stores the prompt's block. -/
theorem block_A (h0 : t.val < 8) (h1 : ¬8 ≤ t.val) : outsAt0 m c t.val t.isLt = iblk m c 0 t := by
  rw [outsAt0_A m c t h0 h1]
  unfold out0_A_3
  rw [View.read_writes_eq_canon _ _ _ (cover0_A_3 c _ _ _ _ _ _ _ _ _ _ _ _ _ _)]
  unfold kernelRun0_A
  dsimp only
  sl_unfold_words
  rw [View.canon_unit_zero zz]
  simp only [View.readAt_eq_ld, Memref.IsWhole.read_unread, View.ld_unit_zero (S := S1024x1024) zz, shapeCast_self]

/-- A sample point stores its block with the positions. -/
theorem block_B (h0 : ¬t.val < 8) (h1 : 8 ≤ t.val) : outsAt0 m c t.val t.isLt = k0_pay1 (iblk m c 1 t) (iblk m c 2 t) := by
  rw [outsAt0_B m c t h0 h1]
  unfold out0_B_3
  rw [View.read_writes_eq_canon _ _ _ (cover0_B_3 c _ _ _ _ _ _ _ _ _ _ _ _ _ _)]
  unfold kernelRun0_B
  dsimp only
  sl_unfold_words
  rw [View.canon_unit_zero zz]
  simp only [View.readAt_eq_ld, Memref.IsWhole.read_unread, View.ld_unit_zero (S := S1024x1024) zz, shapeCast_self]

theorem outs_apply (r j : Fin 1024) : outsAt0 m c t.val t.isLt (ix2 r j)
    = EmbedRefIdeal.Read.val_main_v5 (F := Ideal) (m ((c : Thread nD τ).loc main_arg0)) (m ((c : Thread nD τ).loc main_arg1)) (m ((c : Thread nD τ).loc main_arg2)) (ix2 (tok t r) j) := by
  have hr := r.isLt
  refine Eq.trans ?_ (EmbedRefIdeal.At.join2 _ _ (tok t r) j).symm
  by_cases h : t.val < 8
  · rw [block_A m c t h (by omega), iblk0, dif_pos (show 1024 * t.val + r.val < 8192 by omega)]
    exact congrArg (fun R => m ((c : Thread nD τ).loc main_arg0) (ix2 R j)) (Fin.ext (show min t.val 7 * 1024 + r.val = 1024 * t.val + r.val by omega))
  · rw [block_B m c t h (by omega), pay_apply, iblk1, iblk2, dif_neg (show ¬1024 * t.val + r.val < 8192 by omega), EmbedRefIdeal.At.v4_at]
    refine congrArg₂ _ (congrArg (fun R => m ((c : Thread nD τ).loc main_arg1) (ix2 R j)) (Fin.ext ?_)) (congrArg (fun R => m ((c : Thread nD τ).loc main_arg2) (ix2 R j)) (Fin.ext ?_))
    · show (t.val - 8) * 1024 + r.val = 1024 * t.val + r.val - 8192
      omega
    · show r.val = (1024 * t.val + r.val - 8192) % 1024
      omega

theorem out_at (r j : Fin 1024) : (dats m 0 c).arrAt 3 cfg0.N (ix2 (tok t r) j)
    = EmbedRefIdeal.Read.val_main_v5 (F := Ideal) (m ((c : Thread nD τ).loc main_arg0)) (m ((c : Thread nD τ).loc main_arg1)) (m ((c : Thread nD τ).loc main_arg2)) (ix2 (tok t r) j) := by
  have hb := congrFun (Value.blocks3 m c t (flush0_3 t)) (ix2 r j)
  rw [View.read_apply, cast_eq] at hb
  have he : ((cfg0.win 3).blk t).view.emb (ix2 r j) = ix2 (tok t r) j := by
    refine funext fun a => Fin.ext ?_
    match a with
    | ⟨0, _⟩ =>
      show win0_3.index t 0 * 1024 + 1 * r.val = 1024 * t.val + r.val
      rw [idx3 t]
      show t.val * 1024 + 1 * r.val = _
      omega
    | ⟨1, _⟩ =>
      show win0_3.index t 1 * 1024 + 1 * j.val = j.val
      rw [idx3 t]
      show 0 * 1024 + 1 * j.val = _
      omega
  rw [he, Value.flushed3 m c t] at hb
  exact hb.trans (outs_apply m c t r j)

/-- The embedding's array is the reference's. -/
theorem out_eq : (dats m 0 c).arrAt 3 cfg0.N = EmbedRefIdeal.Read.val_main_v5 (F := Ideal) (m ((c : Thread nD τ).loc main_arg0)) (m ((c : Thread nD τ).loc main_arg1)) (m ((c : Thread nD τ).loc main_arg2)) := by
  funext i
  obtain ⟨T, j, rfl⟩ : ∃ (T : Fin 10240) (j : Fin 1024), i = ix2 T j :=
    ⟨i 0, i 1, funext fun a => match a with | ⟨0, _⟩ => rfl | ⟨1, _⟩ => rfl⟩
  have hT := T.isLt
  have h := out_at m c ⟨T.val / 1024, show T.val / 1024 < 10 by omega⟩ ⟨T.val % 1024, by omega⟩ j
  rw [show tok ⟨T.val / 1024, show T.val / 1024 < 10 by omega⟩ ⟨T.val % 1024, by omega⟩ = T from
    Fin.ext (show 1024 * (T.val / 1024) + T.val % 1024 = T.val by omega)] at h
  exact h

end Cert.EmbedIdeal.Whole

end
-- ==== Proof.EmbedAlgebraic.lean ====
/-
  The claim about the tokens' embedding: kernel and reference, run from memories that agree on the arguments, end with the same array.
-/
module

public import proofs.«01_k».proof.Defs
public import proofs.«01_k».proof.Proof.EmbedValue
public import proofs.«01_k».proof.Proof.Gen.EmbedIdeal
public import proofs.«01_k».proof.Proof.Gen.EmbedRefIdeal
public import proofs.«01_k».proof.Proof.Gen.EmbedRefIdeal.Run

@[expose] public section

noncomputable section

namespace Cert.Proof

open Idealize.ShloMosaic Idealize.ShloMosaic.TcCoe Idealize.SL.Sem

theorem embed_algebraic :
    Cert.algebraic_EmbedIdeal_EmbedRefIdeal (hEmbedIdeal := Cert.EmbedIdeal.Gen.facts) (hEmbedRefIdeal := Cert.EmbedRefIdeal.Gen.facts) := by
  intro m g m' g' _ hargs
  refine ⟨fun c => (Cert.EmbedIdeal.Gen.dats m 0 c).arrAt 3 Cert.EmbedIdeal.cfg0.N, Cert.EmbedIdeal.Value.run_blocks m g, ?_⟩
  refine (θ_run Cert.EmbedRefIdeal.defs _ _).mono (fun r h c => ?_) (Cert.EmbedRefIdeal.Value.run m' g')
  obtain ⟨a0, a1, a2⟩ := hargs c
  obtain ⟨h1, h2⟩ := h c
  refine ⟨h1.trans ?_, h2⟩
  rw [Cert.EmbedRefIdeal.Read.val_main_v5_eq, a0, a1, a2]
  exact (Cert.EmbedIdeal.Whole.out_eq m c).symm

end Cert.Proof

end
-- ==== Proof.ConfModel.lean ====
/-
  A sum of 31 products taken one after the other, as both programs take it, is the sum over the taps. The row's normalization with its gate
  as one function of the row.
-/
module

public import Idealize.ShloMosaic.Lib.Pointwise
public import Idealize.ShloMosaic.PureOps.Ideal

@[expose] public section

noncomputable section

namespace Cert.ConfModel

open Idealize.ShloMosaic

/-- `b` with the first `n` terms added one after the other. -/
def chain (b : EReal) (f : ℕ → EReal) : ℕ → EReal
  | 0 => b
  | n + 1 => chain b f n + f n

theorem chain_shift (b : EReal) (f : ℕ → EReal) : ∀ n, chain b f n = chain 0 f n + b
  | 0 => (zero_add b).symm
  | n + 1 => by
    show chain b f n + f n = chain 0 f n + f n + b
    rw [chain_shift b f n, add_right_comm]

theorem chain_congr (b : EReal) (f g : ℕ → EReal) : ∀ n, (∀ k, k < n → f k = g k) → chain b f n = chain b g n
  | 0, _ => rfl
  | n + 1, h => by
    show chain b f n + f n = chain b g n + g n
    rw [chain_congr b f g n (fun k hk => h k (by omega)), h n (by omega)]

/-- A row's mean. -/
def mean (a : Fin 512 → EReal) : EReal := Ideal.div (∑ x, a x) (Ideal.ofBits .f32 0x44000000#32)

/-- A row's normalized entry with the scale `g` and the shift `b`. -/
def norm (a : Fin 512 → EReal) (g b : EReal) (c : Fin 512) : EReal :=
  (a c - mean a) * Ideal.rsqrt (mean (fun x => (a x - mean a) * (a x - mean a)) + Ideal.ofBits .f32 0x3727C5AC#32) * g + b

/-- `x` times its logistic gate. -/
def silu (x : EReal) : EReal := x * Ideal.div 1 (1 + Ideal.exp (-x))

/-- The gated input of token `n` and column `c`: the first columns times the logistic gate of the second. -/
def uOf (x : Fin 10240 → Fin 4608 → EReal) (n : ℕ) (c : Fin 512) : EReal :=
  if h : n < 10240 then
    x ⟨n, h⟩ ⟨3584 + c.val, by omega⟩ * Ideal.div 1 (1 + Ideal.exp (-(x ⟨n, h⟩ ⟨4096 + c.val, by omega⟩)))
  else 0

/-- Tap `k` of token `T` lies in the token's own sequence: 256 tokens for a prompt, 1024 for a sample. -/
def Keep (T k : ℕ) : Prop :=
  if T < 8192 then 15 ≤ T % 256 + k ∧ T % 256 + k < 271 else 15 ≤ T % 1024 + k ∧ T % 1024 + k < 1039

instance (T k : ℕ) : Decidable (Keep T k) := by unfold Keep; infer_instance

theorem keep_prompt {T k : ℕ} (h : T < 8192) : Keep T k ↔ 15 ≤ T % 256 + k ∧ T % 256 + k < 271 := by
  unfold Keep
  rw [if_pos h]

theorem keep_sample {T k : ℕ} (h : ¬T < 8192) : Keep T k ↔ 15 ≤ T % 1024 + k ∧ T % 1024 + k < 1039 := by
  unfold Keep
  rw [if_neg h]

/-- What tap `k` of token `T` multiplies. -/
def tap (u : ℕ → Fin 512 → EReal) (T k : ℕ) (c : Fin 512) : EReal := if Keep T k then u (T + k - 15) c else 0

/-- The mixer's entry: the taps' sum with the bias, normalized over the columns, through its gate. -/
def entry (u : ℕ → Fin 512 → EReal) (w : ℕ → Fin 512 → EReal) (b g lb : Fin 512 → EReal) (T : ℕ) (c : Fin 512) : EReal :=
  silu (norm (fun x => chain (b x) (fun k => w k x * tap u T k x) 31) (g c) (lb c) c)

/-- Row `k` of the weights. -/
def wOf (w : Fin 32 → Fin 512 → EReal) (k : ℕ) (c : Fin 512) : EReal := if h : k < 32 then w ⟨k, h⟩ c else 0

end Cert.ConfModel

end
-- ==== Proof.ConfBlock.lean ====
/-
  What a grid point of the convolution mixer stores: the scratch rows (the halo before, the block, the halo after) as one function of the
  row, each of the four chunks of 64 rows as the same function of its window of the scratch.
-/
module

public import proofs.«01_k».proof.Proof.Gen.ConfIdeal.Value
public import proofs.«01_k».proof.Proof.ConfModel
public import Idealize.ShloMosaic.Lib.Tactic
public import Idealize.ShloMosaic.Lib.Pointwise
public import Idealize.ShloMosaic.PureOps.Ideal

@[expose] public section

noncomputable section

namespace Cert.ConfIdeal.Whole

open Cert.ConfIdeal Cert.ConfIdeal.Gen Idealize.ShloMosaic Idealize.ShloMosaic.TcCoe Idealize.SL.Sem
open Cert.ConfModel (chain norm mean silu)

theorem zz : (![0, 0] : Fin 2 → Nat) = fun _ => 0 := funext fun a => by fin_cases a <;> rfl

/-- The scratch row `q`: the halo before, the block, the halo after. -/
def padOf (p : Vec Ideal S16x512 .f32) (b : Vec Ideal S256x512 .f32) (n : Vec Ideal S16x512 .f32) (q : ℕ) (c : Fin 512) : EReal :=
  if h : q < 16 then p (ix2 ⟨q, h⟩ c)
  else if h : q < 272 then b (ix2 ⟨q - 16, by omega⟩ c)
  else if h : q < 288 then n (ix2 ⟨q - 272, by omega⟩ c) else 0

/-- Sixty-four scratch rows from the row `o`. -/
def win (P : ℕ → Fin 512 → EReal) (o : ℕ) : Vec Ideal S64x512 .f32 := fun y => P (o + (y 0).val) (y 1)

/-- A row of the weights. -/
def row (X : Vec Ideal S32x512 .f32) (k : ℕ) : Vec Ideal S1x512 .f32 := fun y => if h : k < 32 then X (ix2 ⟨k, h⟩ (y 1)) else 0

/-- A load of 64 scratch rows after the three stores. -/
theorem pad_ld {κ : Kind} {sp : Space} (v : View sig κ sp S288x512 .f32) (p : Vec Ideal S16x512 .f32) (b : Vec Ideal S256x512 .f32) (n : Vec Ideal S16x512 .f32) (o : ℕ) (inb) (h1 h2 h3) :
    v.readCov (Val := Elt Ideal)
      [⟨Rect.unit ![272, 0] ![16, 512] h1, n⟩, ⟨Rect.unit ![16, 0] ![256, 512] h2, b⟩, ⟨Rect.unit ![0, 0] ![16, 512] h3, p⟩]
      (Rect.unit (s := S288x512) ![o, 0] ![64, 512] inb).toLoadRect = win (padOf p b n) o := by
  have cov : ∀ y : S288x512.Idx, ∃ q ∈ ([⟨Rect.unit ![272, 0] ![16, 512] h1, n⟩, ⟨Rect.unit ![16, 0] ![256, 512] h2, b⟩,
      ⟨Rect.unit ![0, 0] ![16, 512] h3, p⟩] : List (View.Piece (Elt Ideal) S288x512 .f32)), y ∈ q.1.set := by
    intro y
    have h0 : (y 0).val < 288 := (y 0).isLt
    have hc : (y 1).val < 512 := (y 1).isLt
    by_cases ha : 272 ≤ (y 0).val
    · refine ⟨_, List.mem_cons_self, ?_⟩
      rw [Rect.mem_set_unit, Fin.forall_fin_two]
      exact ⟨⟨ha, show (y 0).val < 272 + 16 by omega⟩, Nat.zero_le _, show (y 1).val < 0 + 512 by omega⟩
    · by_cases hb : 16 ≤ (y 0).val
      · refine ⟨_, List.mem_cons_of_mem _ List.mem_cons_self, ?_⟩
        rw [Rect.mem_set_unit, Fin.forall_fin_two]
        exact ⟨⟨hb, show (y 0).val < 16 + 256 by omega⟩, Nat.zero_le _, show (y 1).val < 0 + 512 by omega⟩
      · refine ⟨_, List.mem_cons_of_mem _ (List.mem_cons_of_mem _ List.mem_cons_self), ?_⟩
        rw [Rect.mem_set_unit, Fin.forall_fin_two]
        exact ⟨⟨Nat.zero_le _, show (y 0).val < 0 + 16 by omega⟩, Nat.zero_le _, show (y 1).val < 0 + 512 by omega⟩
  rw [View.readCov_eq_canon_ld _ _ _ cov]
  funext x
  rw [show View.ld (View.canon (Val := Elt Ideal) _) (Rect.unit (s := S288x512) ![o, 0] ![64, 512] inb) x = View.canon (Val := Elt Ideal) _ ((Rect.unit (s := S288x512) ![o, 0] ![64, 512] inb).idx x) from rfl,
    View.canon_apply_of_pieces (fun i : S288x512.Idx => padOf p b n (i 0).val (i 1)) _ ?_ _ (cov _)]
  · unfold win
    refine congrArg₂ (padOf p b n) ?_ (Fin.ext ?_)
    · show o + 1 * (x 0).val = o + (x 0).val
      omega
    · show 0 + 1 * (x 1).val = (x 1).val
      omega
  · intro q hq
    simp only [List.mem_cons, List.not_mem_nil, or_false] at hq
    rcases hq with rfl | rfl | rfl
    · intro z
      have hz : (z 0).val < 16 := (z 0).isLt
      have e0 : (((Rect.unit (s := S288x512) ![272, 0] ![16, 512] h1).emb z) 0).val = 272 + (z 0).val := by
        show 272 + 1 * (z 0).val = _
        omega
      show n z = padOf p b n _ _
      unfold padOf
      rw [e0, dif_neg (by omega), dif_neg (by omega), dif_pos (by omega)]
      refine congrArg n (funext fun a => Fin.ext ?_)
      match a with
      | ⟨0, _⟩ => show (z 0).val = 272 + (z 0).val - 272; omega
      | ⟨1, _⟩ => show (z 1).val = 0 + 1 * (z 1).val; omega
    · intro z
      have hz : (z 0).val < 256 := (z 0).isLt
      have e0 : (((Rect.unit (s := S288x512) ![16, 0] ![256, 512] h2).emb z) 0).val = 16 + (z 0).val := by
        show 16 + 1 * (z 0).val = _
        omega
      show b z = padOf p b n _ _
      unfold padOf
      rw [e0, dif_neg (by omega), dif_pos (by omega)]
      refine congrArg b (funext fun a => Fin.ext ?_)
      match a with
      | ⟨0, _⟩ => show (z 0).val = 16 + (z 0).val - 16; omega
      | ⟨1, _⟩ => show (z 1).val = 0 + 1 * (z 1).val; omega
    · intro z
      have hz : (z 0).val < 16 := (z 0).isLt
      have e0 : (((Rect.unit (s := S288x512) ![0, 0] ![16, 512] h3).emb z) 0).val = (z 0).val := by
        show 0 + 1 * (z 0).val = _
        omega
      show p z = padOf p b n _ _
      unfold padOf
      rw [e0, dif_pos hz]
      refine congrArg p (funext fun a => Fin.ext ?_)
      match a with
      | ⟨0, _⟩ => rfl
      | ⟨1, _⟩ => show (z 1).val = 0 + 1 * (z 1).val; omega

/-- A load of one row of the weights. -/
theorem row_ld (X : Vec Ideal S32x512 .f32) (k : ℕ) (inb) :
    View.ld X (Rect.unit (s := S32x512) ![k, 0] ![1, 512] inb) = row X k := by
  have hk : k < 32 := by have h : k + 1 ≤ 32 := inb 0; omega
  funext y
  have hy : (y 0).val < 1 := (y 0).isLt
  unfold row
  rw [dif_pos hk]
  refine congrArg X (funext fun a => Fin.ext ?_)
  match a with
  | ⟨0, _⟩ => show k + 1 * (y 0).val = k; omega
  | ⟨1, _⟩ => show 0 + 1 * (y 1).val = (y 1).val; omega

/-- The chunk's sum after `n` taps, as the kernel takes it. -/
def accV (b : Vec Ideal S1x512 .f32) (W : ℕ → Vec Ideal S1x512 .f32) (P : ℕ → Vec Ideal S64x512 .f32) : ℕ → FVec Ideal S64x512 .f32
  | 0 => broadcastTo S64x512 (shapeCast S1x512 b shapeCasts_S1x512_S1x512) broadcasts_S1x512_S64x512
  | n + 1 => addf (accV b W P n) (mulf (broadcastTo S64x512 (W n) broadcasts_S1x512_S64x512) (P n))

/-- A chunk's stored rows. -/
def outV (b lg lb : Vec Ideal S1x512 .f32) (W : ℕ → Vec Ideal S1x512 .f32) (P : ℕ → Vec Ideal S64x512 .f32) : FVec Ideal S64x512 .bf16 :=
  k0_pay21 (accV b W P 30) (k0_pay20 (W 30) (P 30)) lg lb

/-! The printed values in parts: each is the sum after so many taps. -/

theorem pay31_eq (b : Vec Ideal S1x512 .f32) (W : ℕ → Vec Ideal S1x512 .f32) (P : ℕ → Vec Ideal S64x512 .f32) :
    k0_pay31 b (W 0) (P 0) (W 1) (P 1) (W 2) (P 2) (W 3) (P 3) = accV b W P 4 := rfl
theorem pay32_eq (b : Vec Ideal S1x512 .f32) (W : ℕ → Vec Ideal S1x512 .f32) (P : ℕ → Vec Ideal S64x512 .f32) :
    k0_pay32 (accV b W P 4) (W 4) (P 4) (W 5) (P 5) (W 6) (P 6) (W 7) (P 7) (W 8) (P 8) (W 9) (P 9) = accV b W P 10 := rfl
theorem pay33_eq (b : Vec Ideal S1x512 .f32) (W : ℕ → Vec Ideal S1x512 .f32) (P : ℕ → Vec Ideal S64x512 .f32) :
    k0_pay33 (accV b W P 10) (W 10) (P 10) (W 11) (P 11) (W 12) (P 12) (W 13) (P 13) (W 14) (P 14) (W 15) (P 15) (W 16) (P 16) = accV b W P 17 := rfl
theorem pay34_eq (b : Vec Ideal S1x512 .f32) (W : ℕ → Vec Ideal S1x512 .f32) (P : ℕ → Vec Ideal S64x512 .f32) :
    k0_pay34 (accV b W P 17) (W 17) (P 17) (W 18) (P 18) (W 19) (P 19) (W 20) (P 20) (W 21) (P 21) (W 22) (P 22) (W 23) (P 23) = accV b W P 24 := rfl
theorem pay35_eq (b : Vec Ideal S1x512 .f32) (W : ℕ → Vec Ideal S1x512 .f32) (P : ℕ → Vec Ideal S64x512 .f32) :
    k0_pay35 (accV b W P 24) (W 24) (P 24) (W 25) (P 25) (W 26) (P 26) (W 27) (P 27) (W 28) (P 28) (W 29) (P 29) = accV b W P 30 := rfl
theorem pay24_eq (b : Vec Ideal S1x512 .f32) (W : ℕ → Vec Ideal S1x512 .f32) (P : ℕ → Vec Ideal S64x512 .f32) :
    k0_pay24 (k0_pay22 b) (P 0) (k0_pay23 (W 0)) (W 1) (P 1) (W 2) (P 2) (W 3) (P 3) (W 4) (P 4) (W 5) (P 5) (W 6) (P 6) = accV b W P 7 := rfl
theorem pay25_eq (b : Vec Ideal S1x512 .f32) (W : ℕ → Vec Ideal S1x512 .f32) (P : ℕ → Vec Ideal S64x512 .f32) :
    k0_pay25 (accV b W P 7) (W 7) (P 7) (W 8) (P 8) (W 9) (P 9) (W 10) (P 10) (W 11) (P 11) (W 12) (P 12) (W 13) (P 13) = accV b W P 14 := rfl
theorem pay26_eq (b : Vec Ideal S1x512 .f32) (W : ℕ → Vec Ideal S1x512 .f32) (P : ℕ → Vec Ideal S64x512 .f32) :
    k0_pay26 (accV b W P 14) (W 14) (P 14) (W 15) (P 15) (W 16) (P 16) (W 17) (P 17) (W 18) (P 18) (W 19) (P 19) = accV b W P 20 := rfl
theorem pay28_eq (b : Vec Ideal S1x512 .f32) (W : ℕ → Vec Ideal S1x512 .f32) (P : ℕ → Vec Ideal S64x512 .f32) :
    k0_pay28 (accV b W P 20) (P 20) (k0_pay27 (W 20)) (W 21) (P 21) (W 22) (P 22) (W 23) (P 23) (W 24) (P 24) (W 25) (P 25) (W 26) (P 26) = accV b W P
      27 := rfl
theorem pay14_eq (b : Vec Ideal S1x512 .f32) (W : ℕ → Vec Ideal S1x512 .f32) (P : ℕ → Vec Ideal S64x512 .f32) :
    k0_pay14 b (W 0) (P 0) (W 1) (P 1) (W 2) (P 2) (W 3) (P 3) = accV b W P 4 := rfl
theorem pay15_eq (b : Vec Ideal S1x512 .f32) (W : ℕ → Vec Ideal S1x512 .f32) (P : ℕ → Vec Ideal S64x512 .f32) :
    k0_pay15 (accV b W P 4) (W 4) (P 4) (W 5) (P 5) (W 6) (P 6) (W 7) (P 7) (W 8) (P 8) (W 9) (P 9) = accV b W P 10 := rfl
theorem pay17_eq (b : Vec Ideal S1x512 .f32) (W : ℕ → Vec Ideal S1x512 .f32) (P : ℕ → Vec Ideal S64x512 .f32) :
    k0_pay17 (accV b W P 10) (k0_pay16 (W 10) (P 10)) (W 11) (P 11) (W 12) (P 12) (W 13) (P 13) (W 14) (P 14) (W 15) (P 15) (W 16) (P 16) = accV b W P
      17 := rfl
theorem pay18_eq (b : Vec Ideal S1x512 .f32) (W : ℕ → Vec Ideal S1x512 .f32) (P : ℕ → Vec Ideal S64x512 .f32) :
    k0_pay18 (accV b W P 17) (W 17) (P 17) (W 18) (P 18) (W 19) (P 19) (W 20) (P 20) (W 21) (P 21) (W 22) (P 22) (W 23) (P 23) = accV b W P 24 := rfl
theorem pay19_eq (b : Vec Ideal S1x512 .f32) (W : ℕ → Vec Ideal S1x512 .f32) (P : ℕ → Vec Ideal S64x512 .f32) :
    k0_pay19 (accV b W P 24) (W 24) (P 24) (W 25) (P 25) (W 26) (P 26) (W 27) (P 27) (W 28) (P 28) (W 29) (P 29) = accV b W P 30 := rfl
theorem pay6_eq (b : Vec Ideal S1x512 .f32) (W : ℕ → Vec Ideal S1x512 .f32) (P : ℕ → Vec Ideal S64x512 .f32) :
    k0_pay6 b (W 0) (P 0) = accV b W P 1 := rfl
theorem pay7_eq (b : Vec Ideal S1x512 .f32) (W : ℕ → Vec Ideal S1x512 .f32) (P : ℕ → Vec Ideal S64x512 .f32) :
    k0_pay7 (accV b W P 1) (W 1) (P 1) (W 2) (P 2) (W 3) (P 3) (W 4) (P 4) (W 5) (P 5) (W 6) (P 6) = accV b W P 7 := rfl
theorem pay8_eq (b : Vec Ideal S1x512 .f32) (W : ℕ → Vec Ideal S1x512 .f32) (P : ℕ → Vec Ideal S64x512 .f32) :
    k0_pay8 (accV b W P 7) (W 7) (P 7) (W 8) (P 8) (W 9) (P 9) (W 10) (P 10) (W 11) (P 11) (W 12) (P 12) (W 13) (P 13) = accV b W P 14 := rfl
theorem pay9_eq (b : Vec Ideal S1x512 .f32) (W : ℕ → Vec Ideal S1x512 .f32) (P : ℕ → Vec Ideal S64x512 .f32) :
    k0_pay9 (accV b W P 14) (W 14) (P 14) (W 15) (P 15) (W 16) (P 16) (W 17) (P 17) (W 18) (P 18) (W 19) (P 19) (W 20) (P 20) = accV b W P 21 := rfl
theorem pay10_eq (b : Vec Ideal S1x512 .f32) (W : ℕ → Vec Ideal S1x512 .f32) (P : ℕ → Vec Ideal S64x512 .f32) :
    k0_pay10 (accV b W P 21) (W 21) (P 21) (W 22) (P 22) (W 23) (P 23) (W 24) (P 24) (W 25) (P 25) (W 26) (P 26) = accV b W P 27 := rfl

theorem tail3_eq (a : FVec Ideal S64x512 .f32) (w lg lb : Vec Ideal S1x512 .f32) (p : Vec Ideal S64x512 .f32) :
    k0_pay1 (k0_pay36 a w p lg lb) (k0_pay37 a w p lg lb) = k0_pay21 a (k0_pay20 w p) lg lb := rfl
theorem tail0_eq (a : FVec Ideal S64x512 .f32) (w0 w1 w2 w3 lg lb : Vec Ideal S1x512 .f32) (p0 p1 p2 p3 : Vec Ideal S64x512 .f32) :
    k0_pay13 (k0_pay11 a w0 p0 w1 p1 w2 p2 w3 p3 lg) (k0_pay12 lb)
      = k0_pay21 (addf (addf (addf a (k0_pay20 w0 p0)) (k0_pay20 w1 p1)) (k0_pay20 w2 p2)) (k0_pay20 w3 p3) lg lb := rfl
theorem tail2_eq (a : FVec Ideal S64x512 .f32) (w0 w1 w2 w3 lg lb : Vec Ideal S1x512 .f32) (p0 p1 p2 p3 : Vec Ideal S64x512 .f32) :
    k0_pay30 (k0_pay29 a w0 p0 w1 p1 w2 p2 w3 p3 lg) lb
      = k0_pay21 (addf (addf (addf a (k0_pay20 w0 p0)) (k0_pay20 w1 p1)) (k0_pay20 w2 p2)) (k0_pay20 w3 p3) lg lb := rfl
theorem acc30_eq (b : Vec Ideal S1x512 .f32) (W : ℕ → Vec Ideal S1x512 .f32) (P : ℕ → Vec Ideal S64x512 .f32) :
    addf (addf (addf (accV b W P 27) (k0_pay20 (W 27) (P 27))) (k0_pay20 (W 28) (P 28))) (k0_pay20 (W 29) (P 29)) = accV b W P 30 := rfl

/-- Chunk 3's stored value. -/
theorem chunk3_eq (b lg lb : Vec Ideal S1x512 .f32) (W : ℕ → Vec Ideal S1x512 .f32) (P : ℕ → Vec Ideal S64x512 .f32) :
    k0_pay1 (k0_pay36 (k0_pay35 (k0_pay34 (k0_pay33 (k0_pay32 (k0_pay31 b (W 0) (P 0) (W 1) (P 1) (W 2) (P 2) (W 3) (P 3)) (W 4) (P 4) (W 5) (P 5) (W
      6) (P 6) (W 7) (P 7) (W 8) (P 8) (W 9) (P 9)) (W 10) (P 10) (W 11) (P 11) (W 12) (P 12) (W 13) (P 13) (W 14) (P 14) (W 15) (P 15) (W 16) (P 16))
      (W 17) (P 17) (W 18) (P 18) (W 19) (P 19) (W 20) (P 20) (W 21) (P 21) (W 22) (P 22) (W 23) (P 23)) (W 24) (P 24) (W 25) (P 25) (W 26) (P 26) (W
      27) (P 27) (W 28) (P 28) (W 29) (P 29)) (W 30) (P 30) lg lb) (k0_pay37 (k0_pay35 (k0_pay34 (k0_pay33 (k0_pay32 (k0_pay31 b (W 0) (P 0) (W 1) (P
      1) (W 2) (P 2) (W 3) (P 3)) (W 4) (P 4) (W 5) (P 5) (W 6) (P 6) (W 7) (P 7) (W 8) (P 8) (W 9) (P 9)) (W 10) (P 10) (W 11) (P 11) (W 12) (P 12)
      (W 13) (P 13) (W 14) (P 14) (W 15) (P 15) (W 16) (P 16)) (W 17) (P 17) (W 18) (P 18) (W 19) (P 19) (W 20) (P 20) (W 21) (P 21) (W 22) (P 22) (W
      23) (P 23)) (W 24) (P 24) (W 25) (P 25) (W 26) (P 26) (W 27) (P 27) (W 28) (P 28) (W 29) (P 29)) (W 30) (P 30) lg lb)
      = outV b lg lb W P := by
  rw [pay31_eq, pay32_eq, pay33_eq, pay34_eq, pay35_eq, tail3_eq]; rfl

/-- Chunk 2's stored value. -/
theorem chunk2_eq (b lg lb : Vec Ideal S1x512 .f32) (W : ℕ → Vec Ideal S1x512 .f32) (P : ℕ → Vec Ideal S64x512 .f32) :
    k0_pay30 (k0_pay29 (k0_pay28 (k0_pay26 (k0_pay25 (k0_pay24 (k0_pay22 b) (P 0) (k0_pay23 (W 0)) (W 1) (P 1) (W 2) (P 2) (W 3) (P 3) (W 4) (P 4) (W
      5) (P 5) (W 6) (P 6)) (W 7) (P 7) (W 8) (P 8) (W 9) (P 9) (W 10) (P 10) (W 11) (P 11) (W 12) (P 12) (W 13) (P 13)) (W 14) (P 14) (W 15) (P 15)
      (W 16) (P 16) (W 17) (P 17) (W 18) (P 18) (W 19) (P 19)) (P 20) (k0_pay27 (W 20)) (W 21) (P 21) (W 22) (P 22) (W 23) (P 23) (W 24) (P 24) (W 25)
      (P 25) (W 26) (P 26)) (W 27) (P 27) (W 28) (P 28) (W 29) (P 29) (W 30) (P 30) lg) lb
      = outV b lg lb W P := by
  rw [pay24_eq, pay25_eq, pay26_eq, pay28_eq, tail2_eq, acc30_eq]; rfl

/-- Chunk 1's stored value. -/
theorem chunk1_eq (b lg lb : Vec Ideal S1x512 .f32) (W : ℕ → Vec Ideal S1x512 .f32) (P : ℕ → Vec Ideal S64x512 .f32) :
    k0_pay21 (k0_pay19 (k0_pay18 (k0_pay17 (k0_pay15 (k0_pay14 b (W 0) (P 0) (W 1) (P 1) (W 2) (P 2) (W 3) (P 3)) (W 4) (P 4) (W 5) (P 5) (W 6) (P 6)
      (W 7) (P 7) (W 8) (P 8) (W 9) (P 9)) (k0_pay16 (W 10) (P 10)) (W 11) (P 11) (W 12) (P 12) (W 13) (P 13) (W 14) (P 14) (W 15) (P 15) (W 16) (P
      16)) (W 17) (P 17) (W 18) (P 18) (W 19) (P 19) (W 20) (P 20) (W 21) (P 21) (W 22) (P 22) (W 23) (P 23)) (W 24) (P 24) (W 25) (P 25) (W 26) (P
      26) (W 27) (P 27) (W 28) (P 28) (W 29) (P 29)) (k0_pay20 (W 30) (P 30)) lg lb
      = outV b lg lb W P := by
  rw [pay14_eq, pay15_eq, pay17_eq, pay18_eq, pay19_eq]; rfl

/-- Chunk 0's stored value. -/
theorem chunk0_eq (b lg lb : Vec Ideal S1x512 .f32) (W : ℕ → Vec Ideal S1x512 .f32) (P : ℕ → Vec Ideal S64x512 .f32) :
    k0_pay13 (k0_pay11 (k0_pay10 (k0_pay9 (k0_pay8 (k0_pay7 (k0_pay6 b (W 0) (P 0)) (W 1) (P 1) (W 2) (P 2) (W 3) (P 3) (W 4) (P 4) (W 5) (P 5) (W 6)
      (P 6)) (W 7) (P 7) (W 8) (P 8) (W 9) (P 9) (W 10) (P 10) (W 11) (P 11) (W 12) (P 12) (W 13) (P 13)) (W 14) (P 14) (W 15) (P 15) (W 16) (P 16) (W
      17) (P 17) (W 18) (P 18) (W 19) (P 19) (W 20) (P 20)) (W 21) (P 21) (W 22) (P 22) (W 23) (P 23) (W 24) (P 24) (W 25) (P 25) (W 26) (P 26)) (W
      27) (P 27) (W 28) (P 28) (W 29) (P 29) (W 30) (P 30) lg) (k0_pay12 lb)
      = outV b lg lb W P := by
  rw [pay6_eq, pay7_eq, pay8_eq, pay9_eq, pay10_eq, tail0_eq, acc30_eq]; rfl

theorem accV_at (b : Vec Ideal S1x512 .f32) (W : ℕ → Vec Ideal S1x512 .f32) (P : ℕ → Vec Ideal S64x512 .f32) (r : Fin 64) (c : Fin 512) :
    ∀ n, accV b W P n (ix2 r c) = chain (b (ix2 0 c)) (fun k => W k (ix2 0 c) * P k (ix2 r c)) n
  | 0 => by unfold accV; pointwise; rfl
  | n + 1 => by
    unfold accV
    have h := accV_at b W P r c n
    generalize accV b W P n = a at h ⊢
    pointwise
    rw [h]; rfl

theorem tail_at (a b : FVec Ideal S64x512 .f32) (lg lb : Vec Ideal S1x512 .f32) (r : Fin 64) (c : Fin 512) :
    k0_pay21 a b lg lb (ix2 r c) = silu (norm (fun x => a (ix2 r x) + b (ix2 r x)) (lg (ix2 0 c)) (lb (ix2 0 c)) c) := by
  pointwise [k0_pay21]
  simp only [zero_sub]
  rfl

theorem outV_at (b lg lb : Vec Ideal S1x512 .f32) (W : ℕ → Vec Ideal S1x512 .f32) (P : ℕ → Vec Ideal S64x512 .f32) (r : Fin 64) (c : Fin 512) :
    outV b lg lb W P (ix2 r c)
      = silu (norm (fun x => chain (b (ix2 0 x)) (fun k => W k (ix2 0 x) * P k (ix2 r x)) 31) (lg (ix2 0 c)) (lb (ix2 0 c)) c) := by
  have h20 (w : Vec Ideal S1x512 .f32) (p : Vec Ideal S64x512 .f32) (x : Fin 512) : k0_pay20 w p (ix2 r x) = w (ix2 0 x) * p (ix2 r x) := by
    pointwise [k0_pay20]
  unfold outV
  rw [tail_at]
  simp only [accV_at, h20]
  rfl

variable (m : (ℓ : Loc nD τ sig) → Buf (Elt Ideal) ℓ) (c : Dev nD) (t : Fin cfg0.N)

/-- The scratch at the grid point `t`. -/
abbrev scr : ℕ → Fin 512 → EReal :=
  padOf (k0_pay3 (grid0.coords t) (iblk m c 1 t) (iblk m c 4 t)) (k0_pay4 (iblk m c 0 t) (iblk m c 3 t))
    (k0_pay5 (k0_pay2 (grid0.coords t)) (iblk m c 2 t) (iblk m c 5 t))

/-- The chunk `ch` of the grid point `t`. -/
abbrev chunk (ch : ℕ) : FVec Ideal S64x512 .bf16 :=
  outV (iblk m c 7 t) (iblk m c 8 t) (iblk m c 9 t) (row (iblk m c 6 t)) (fun k => win (scr m c t) (64 * ch + 1 + k))

set_option maxRecDepth 16384 in
theorem block_eq : outsAt0 m c t = View.canon (Val := Elt Ideal)
    [⟨Rect.unit ![192, 0] ![64, 512] inb_S256x512_S64x512_192_0, chunk m c t 3⟩, ⟨Rect.unit ![128, 0] ![64, 512] inb_S256x512_S64x512_128_0, chunk m c t 2⟩,
      ⟨Rect.unit ![64, 0] ![64, 512] inb_S256x512_S64x512_64_0, chunk m c t 1⟩, ⟨Rect.unit ![0, 0] ![64, 512] inb_S256x512_S64x512_0_0, chunk m c t 0⟩] := by
  unfold outsAt0
  unfold out0_A_10
  rw [View.read_writes_eq_canon _ _ _ (cover0_A_10 c _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S16x512) zz, View.ld_unit_zero (S := S256x512) zz,
    View.ld_unit_zero (S := S1x512) zz, pad_ld, row_ld]
  unfold chunk
  refine congrArg View.canon ?_
  refine congrArg₂ List.cons (congrArg (Sigma.mk _) (chunk3_eq _ _ _ _ (fun k => win (scr m c t) (64 * 3 + 1 + k)))) ?_
  refine congrArg₂ List.cons (congrArg (Sigma.mk _) (chunk2_eq _ _ _ _ (fun k => win (scr m c t) (64 * 2 + 1 + k)))) ?_
  refine congrArg₂ List.cons (congrArg (Sigma.mk _) (chunk1_eq _ _ _ _ (fun k => win (scr m c t) (64 * 1 + 1 + k)))) ?_
  exact congrArg₂ List.cons (congrArg (Sigma.mk _) (chunk0_eq _ _ _ _ (fun k => win (scr m c t) (64 * 0 + 1 + k)))) rfl

end Cert.ConfIdeal.Whole

end
-- ==== Proof.ConfTapsA.lean ====
/-
  The reference's convolution of the prompts: the sum after each tap, from the sum before it and the tap's product.
-/
module

public import proofs.«01_k».proof.Proof.Gen.ConfRefIdeal.Read
public import proofs.«01_k».proof.Proof.ConfModel
public import Idealize.ShloMosaic.Lib.Pointwise
public import Idealize.ShloMosaic.PureOps.Ideal

@[expose] public section

noncomputable section

namespace Cert.ConfRefIdeal.At

open Cert.ConfRefIdeal Cert.ConfRefIdeal.Gen Cert.ConfRefIdeal.Read Idealize.ShloMosaic Idealize.ShloMosaic.StableHlo
open Cert.ConfModel (chain chain_congr)

variable (x0 : Vec Ideal S10240x4608 .f32) (x1 : Vec Ideal S32x512 .f32) (b : Fin 32) (s : Fin 256) (c : Fin 512)

theorem prompt_tap0 : val_main_v19 (F := Ideal) x0 x1 (ix3 b s c)
    = (0 : EReal) + val_main_v11 (F := Ideal) x0 (ix3 b ⟨0 + s.val, by omega⟩ c) * x1 (ix2 0 c) := by
  have h : val_main_v17 (F := Ideal) x0 x1 (ix3 b s c) = val_main_v11 (F := Ideal) x0 (ix3 b ⟨0 + s.val, by omega⟩ c) * x1 (ix2 0 c) := by
    unfold val_main_v17 val_main_v12
    generalize val_main_v11 (F := Ideal) x0 = y
    pointwise [val_main_v13, val_main_v14, val_main_v15, val_main_v16]
  rw [val_main_v19_apply, h]
  refine congrArg (· + _) ?_
  pointwise [val_main_v18, val_main_cst_1]

theorem prompt_tap1 : val_main_v26 (F := Ideal) x0 x1 (ix3 b s c)
    = val_main_v19 (F := Ideal) x0 x1 (ix3 b s c) + val_main_v11 (F := Ideal) x0 (ix3 b ⟨1 + s.val, by omega⟩ c) * x1 (ix2 1 c) := by
  have h : val_main_v25 (F := Ideal) x0 x1 (ix3 b s c) = val_main_v11 (F := Ideal) x0 (ix3 b ⟨1 + s.val, by omega⟩ c) * x1 (ix2 1 c) := by
    unfold val_main_v25 val_main_v20
    generalize val_main_v11 (F := Ideal) x0 = y
    pointwise [val_main_v21, val_main_v22, val_main_v23, val_main_v24]
  rw [val_main_v26_apply, h]
  rfl

theorem prompt_tap2 : val_main_v33 (F := Ideal) x0 x1 (ix3 b s c)
    = val_main_v26 (F := Ideal) x0 x1 (ix3 b s c) + val_main_v11 (F := Ideal) x0 (ix3 b ⟨2 + s.val, by omega⟩ c) * x1 (ix2 2 c) := by
  have h : val_main_v32 (F := Ideal) x0 x1 (ix3 b s c) = val_main_v11 (F := Ideal) x0 (ix3 b ⟨2 + s.val, by omega⟩ c) * x1 (ix2 2 c) := by
    unfold val_main_v32 val_main_v27
    generalize val_main_v11 (F := Ideal) x0 = y
    pointwise [val_main_v28, val_main_v29, val_main_v30, val_main_v31]
  rw [val_main_v33_apply, h]
  rfl

theorem prompt_tap3 : val_main_v40 (F := Ideal) x0 x1 (ix3 b s c)
    = val_main_v33 (F := Ideal) x0 x1 (ix3 b s c) + val_main_v11 (F := Ideal) x0 (ix3 b ⟨3 + s.val, by omega⟩ c) * x1 (ix2 3 c) := by
  have h : val_main_v39 (F := Ideal) x0 x1 (ix3 b s c) = val_main_v11 (F := Ideal) x0 (ix3 b ⟨3 + s.val, by omega⟩ c) * x1 (ix2 3 c) := by
    unfold val_main_v39 val_main_v34
    generalize val_main_v11 (F := Ideal) x0 = y
    pointwise [val_main_v35, val_main_v36, val_main_v37, val_main_v38]
  rw [val_main_v40_apply, h]
  rfl

theorem prompt_tap4 : val_main_v47 (F := Ideal) x0 x1 (ix3 b s c)
    = val_main_v40 (F := Ideal) x0 x1 (ix3 b s c) + val_main_v11 (F := Ideal) x0 (ix3 b ⟨4 + s.val, by omega⟩ c) * x1 (ix2 4 c) := by
  have h : val_main_v46 (F := Ideal) x0 x1 (ix3 b s c) = val_main_v11 (F := Ideal) x0 (ix3 b ⟨4 + s.val, by omega⟩ c) * x1 (ix2 4 c) := by
    unfold val_main_v46 val_main_v41
    generalize val_main_v11 (F := Ideal) x0 = y
    pointwise [val_main_v42, val_main_v43, val_main_v44, val_main_v45]
  rw [val_main_v47_apply, h]
  rfl

theorem prompt_tap5 : val_main_v54 (F := Ideal) x0 x1 (ix3 b s c)
    = val_main_v47 (F := Ideal) x0 x1 (ix3 b s c) + val_main_v11 (F := Ideal) x0 (ix3 b ⟨5 + s.val, by omega⟩ c) * x1 (ix2 5 c) := by
  have h : val_main_v53 (F := Ideal) x0 x1 (ix3 b s c) = val_main_v11 (F := Ideal) x0 (ix3 b ⟨5 + s.val, by omega⟩ c) * x1 (ix2 5 c) := by
    unfold val_main_v53 val_main_v48
    generalize val_main_v11 (F := Ideal) x0 = y
    pointwise [val_main_v49, val_main_v50, val_main_v51, val_main_v52]
  rw [val_main_v54_apply, h]
  rfl

theorem prompt_tap6 : val_main_v61 (F := Ideal) x0 x1 (ix3 b s c)
    = val_main_v54 (F := Ideal) x0 x1 (ix3 b s c) + val_main_v11 (F := Ideal) x0 (ix3 b ⟨6 + s.val, by omega⟩ c) * x1 (ix2 6 c) := by
  have h : val_main_v60 (F := Ideal) x0 x1 (ix3 b s c) = val_main_v11 (F := Ideal) x0 (ix3 b ⟨6 + s.val, by omega⟩ c) * x1 (ix2 6 c) := by
    unfold val_main_v60 val_main_v55
    generalize val_main_v11 (F := Ideal) x0 = y
    pointwise [val_main_v56, val_main_v57, val_main_v58, val_main_v59]
  rw [val_main_v61_apply, h]
  rfl

theorem prompt_tap7 : val_main_v68 (F := Ideal) x0 x1 (ix3 b s c)
    = val_main_v61 (F := Ideal) x0 x1 (ix3 b s c) + val_main_v11 (F := Ideal) x0 (ix3 b ⟨7 + s.val, by omega⟩ c) * x1 (ix2 7 c) := by
  have h : val_main_v67 (F := Ideal) x0 x1 (ix3 b s c) = val_main_v11 (F := Ideal) x0 (ix3 b ⟨7 + s.val, by omega⟩ c) * x1 (ix2 7 c) := by
    unfold val_main_v67 val_main_v62
    generalize val_main_v11 (F := Ideal) x0 = y
    pointwise [val_main_v63, val_main_v64, val_main_v65, val_main_v66]
  rw [val_main_v68_apply, h]
  rfl

theorem prompt_tap8 : val_main_v75 (F := Ideal) x0 x1 (ix3 b s c)
    = val_main_v68 (F := Ideal) x0 x1 (ix3 b s c) + val_main_v11 (F := Ideal) x0 (ix3 b ⟨8 + s.val, by omega⟩ c) * x1 (ix2 8 c) := by
  have h : val_main_v74 (F := Ideal) x0 x1 (ix3 b s c) = val_main_v11 (F := Ideal) x0 (ix3 b ⟨8 + s.val, by omega⟩ c) * x1 (ix2 8 c) := by
    unfold val_main_v74 val_main_v69
    generalize val_main_v11 (F := Ideal) x0 = y
    pointwise [val_main_v70, val_main_v71, val_main_v72, val_main_v73]
  rw [val_main_v75_apply, h]
  rfl

theorem prompt_tap9 : val_main_v82 (F := Ideal) x0 x1 (ix3 b s c)
    = val_main_v75 (F := Ideal) x0 x1 (ix3 b s c) + val_main_v11 (F := Ideal) x0 (ix3 b ⟨9 + s.val, by omega⟩ c) * x1 (ix2 9 c) := by
  have h : val_main_v81 (F := Ideal) x0 x1 (ix3 b s c) = val_main_v11 (F := Ideal) x0 (ix3 b ⟨9 + s.val, by omega⟩ c) * x1 (ix2 9 c) := by
    unfold val_main_v81 val_main_v76
    generalize val_main_v11 (F := Ideal) x0 = y
    pointwise [val_main_v77, val_main_v78, val_main_v79, val_main_v80]
  rw [val_main_v82_apply, h]
  rfl

theorem prompt_tap10 : val_main_v89 (F := Ideal) x0 x1 (ix3 b s c)
    = val_main_v82 (F := Ideal) x0 x1 (ix3 b s c) + val_main_v11 (F := Ideal) x0 (ix3 b ⟨10 + s.val, by omega⟩ c) * x1 (ix2 10 c) := by
  have h : val_main_v88 (F := Ideal) x0 x1 (ix3 b s c) = val_main_v11 (F := Ideal) x0 (ix3 b ⟨10 + s.val, by omega⟩ c) * x1 (ix2 10 c) := by
    unfold val_main_v88 val_main_v83
    generalize val_main_v11 (F := Ideal) x0 = y
    pointwise [val_main_v84, val_main_v85, val_main_v86, val_main_v87]
  rw [val_main_v89_apply, h]
  rfl

theorem prompt_tap11 : val_main_v96 (F := Ideal) x0 x1 (ix3 b s c)
    = val_main_v89 (F := Ideal) x0 x1 (ix3 b s c) + val_main_v11 (F := Ideal) x0 (ix3 b ⟨11 + s.val, by omega⟩ c) * x1 (ix2 11 c) := by
  have h : val_main_v95 (F := Ideal) x0 x1 (ix3 b s c) = val_main_v11 (F := Ideal) x0 (ix3 b ⟨11 + s.val, by omega⟩ c) * x1 (ix2 11 c) := by
    unfold val_main_v95 val_main_v90
    generalize val_main_v11 (F := Ideal) x0 = y
    pointwise [val_main_v91, val_main_v92, val_main_v93, val_main_v94]
  rw [val_main_v96_apply, h]
  rfl

theorem prompt_tap12 : val_main_v103 (F := Ideal) x0 x1 (ix3 b s c)
    = val_main_v96 (F := Ideal) x0 x1 (ix3 b s c) + val_main_v11 (F := Ideal) x0 (ix3 b ⟨12 + s.val, by omega⟩ c) * x1 (ix2 12 c) := by
  have h : val_main_v102 (F := Ideal) x0 x1 (ix3 b s c) = val_main_v11 (F := Ideal) x0 (ix3 b ⟨12 + s.val, by omega⟩ c) * x1 (ix2 12 c) := by
    unfold val_main_v102 val_main_v97
    generalize val_main_v11 (F := Ideal) x0 = y
    pointwise [val_main_v98, val_main_v99, val_main_v100, val_main_v101]
  rw [val_main_v103_apply, h]
  rfl

theorem prompt_tap13 : val_main_v110 (F := Ideal) x0 x1 (ix3 b s c)
    = val_main_v103 (F := Ideal) x0 x1 (ix3 b s c) + val_main_v11 (F := Ideal) x0 (ix3 b ⟨13 + s.val, by omega⟩ c) * x1 (ix2 13 c) := by
  have h : val_main_v109 (F := Ideal) x0 x1 (ix3 b s c) = val_main_v11 (F := Ideal) x0 (ix3 b ⟨13 + s.val, by omega⟩ c) * x1 (ix2 13 c) := by
    unfold val_main_v109 val_main_v104
    generalize val_main_v11 (F := Ideal) x0 = y
    pointwise [val_main_v105, val_main_v106, val_main_v107, val_main_v108]
  rw [val_main_v110_apply, h]
  rfl

theorem prompt_tap14 : val_main_v117 (F := Ideal) x0 x1 (ix3 b s c)
    = val_main_v110 (F := Ideal) x0 x1 (ix3 b s c) + val_main_v11 (F := Ideal) x0 (ix3 b ⟨14 + s.val, by omega⟩ c) * x1 (ix2 14 c) := by
  have h : val_main_v116 (F := Ideal) x0 x1 (ix3 b s c) = val_main_v11 (F := Ideal) x0 (ix3 b ⟨14 + s.val, by omega⟩ c) * x1 (ix2 14 c) := by
    unfold val_main_v116 val_main_v111
    generalize val_main_v11 (F := Ideal) x0 = y
    pointwise [val_main_v112, val_main_v113, val_main_v114, val_main_v115]
  rw [val_main_v117_apply, h]
  rfl

theorem prompt_tap15 : val_main_v124 (F := Ideal) x0 x1 (ix3 b s c)
    = val_main_v117 (F := Ideal) x0 x1 (ix3 b s c) + val_main_v11 (F := Ideal) x0 (ix3 b ⟨15 + s.val, by omega⟩ c) * x1 (ix2 15 c) := by
  have h : val_main_v123 (F := Ideal) x0 x1 (ix3 b s c) = val_main_v11 (F := Ideal) x0 (ix3 b ⟨15 + s.val, by omega⟩ c) * x1 (ix2 15 c) := by
    unfold val_main_v123 val_main_v118
    generalize val_main_v11 (F := Ideal) x0 = y
    pointwise [val_main_v119, val_main_v120, val_main_v121, val_main_v122]
  rw [val_main_v124_apply, h]
  rfl

theorem prompt_tap16 : val_main_v131 (F := Ideal) x0 x1 (ix3 b s c)
    = val_main_v124 (F := Ideal) x0 x1 (ix3 b s c) + val_main_v11 (F := Ideal) x0 (ix3 b ⟨16 + s.val, by omega⟩ c) * x1 (ix2 16 c) := by
  have h : val_main_v130 (F := Ideal) x0 x1 (ix3 b s c) = val_main_v11 (F := Ideal) x0 (ix3 b ⟨16 + s.val, by omega⟩ c) * x1 (ix2 16 c) := by
    unfold val_main_v130 val_main_v125
    generalize val_main_v11 (F := Ideal) x0 = y
    pointwise [val_main_v126, val_main_v127, val_main_v128, val_main_v129]
  rw [val_main_v131_apply, h]
  rfl

theorem prompt_tap17 : val_main_v138 (F := Ideal) x0 x1 (ix3 b s c)
    = val_main_v131 (F := Ideal) x0 x1 (ix3 b s c) + val_main_v11 (F := Ideal) x0 (ix3 b ⟨17 + s.val, by omega⟩ c) * x1 (ix2 17 c) := by
  have h : val_main_v137 (F := Ideal) x0 x1 (ix3 b s c) = val_main_v11 (F := Ideal) x0 (ix3 b ⟨17 + s.val, by omega⟩ c) * x1 (ix2 17 c) := by
    unfold val_main_v137 val_main_v132
    generalize val_main_v11 (F := Ideal) x0 = y
    pointwise [val_main_v133, val_main_v134, val_main_v135, val_main_v136]
  rw [val_main_v138_apply, h]
  rfl

theorem prompt_tap18 : val_main_v145 (F := Ideal) x0 x1 (ix3 b s c)
    = val_main_v138 (F := Ideal) x0 x1 (ix3 b s c) + val_main_v11 (F := Ideal) x0 (ix3 b ⟨18 + s.val, by omega⟩ c) * x1 (ix2 18 c) := by
  have h : val_main_v144 (F := Ideal) x0 x1 (ix3 b s c) = val_main_v11 (F := Ideal) x0 (ix3 b ⟨18 + s.val, by omega⟩ c) * x1 (ix2 18 c) := by
    unfold val_main_v144 val_main_v139
    generalize val_main_v11 (F := Ideal) x0 = y
    pointwise [val_main_v140, val_main_v141, val_main_v142, val_main_v143]
  rw [val_main_v145_apply, h]
  rfl

theorem prompt_tap19 : val_main_v152 (F := Ideal) x0 x1 (ix3 b s c)
    = val_main_v145 (F := Ideal) x0 x1 (ix3 b s c) + val_main_v11 (F := Ideal) x0 (ix3 b ⟨19 + s.val, by omega⟩ c) * x1 (ix2 19 c) := by
  have h : val_main_v151 (F := Ideal) x0 x1 (ix3 b s c) = val_main_v11 (F := Ideal) x0 (ix3 b ⟨19 + s.val, by omega⟩ c) * x1 (ix2 19 c) := by
    unfold val_main_v151 val_main_v146
    generalize val_main_v11 (F := Ideal) x0 = y
    pointwise [val_main_v147, val_main_v148, val_main_v149, val_main_v150]
  rw [val_main_v152_apply, h]
  rfl

theorem prompt_tap20 : val_main_v159 (F := Ideal) x0 x1 (ix3 b s c)
    = val_main_v152 (F := Ideal) x0 x1 (ix3 b s c) + val_main_v11 (F := Ideal) x0 (ix3 b ⟨20 + s.val, by omega⟩ c) * x1 (ix2 20 c) := by
  have h : val_main_v158 (F := Ideal) x0 x1 (ix3 b s c) = val_main_v11 (F := Ideal) x0 (ix3 b ⟨20 + s.val, by omega⟩ c) * x1 (ix2 20 c) := by
    unfold val_main_v158 val_main_v153
    generalize val_main_v11 (F := Ideal) x0 = y
    pointwise [val_main_v154, val_main_v155, val_main_v156, val_main_v157]
  rw [val_main_v159_apply, h]
  rfl

theorem prompt_tap21 : val_main_v166 (F := Ideal) x0 x1 (ix3 b s c)
    = val_main_v159 (F := Ideal) x0 x1 (ix3 b s c) + val_main_v11 (F := Ideal) x0 (ix3 b ⟨21 + s.val, by omega⟩ c) * x1 (ix2 21 c) := by
  have h : val_main_v165 (F := Ideal) x0 x1 (ix3 b s c) = val_main_v11 (F := Ideal) x0 (ix3 b ⟨21 + s.val, by omega⟩ c) * x1 (ix2 21 c) := by
    unfold val_main_v165 val_main_v160
    generalize val_main_v11 (F := Ideal) x0 = y
    pointwise [val_main_v161, val_main_v162, val_main_v163, val_main_v164]
  rw [val_main_v166_apply, h]
  rfl

theorem prompt_tap22 : val_main_v173 (F := Ideal) x0 x1 (ix3 b s c)
    = val_main_v166 (F := Ideal) x0 x1 (ix3 b s c) + val_main_v11 (F := Ideal) x0 (ix3 b ⟨22 + s.val, by omega⟩ c) * x1 (ix2 22 c) := by
  have h : val_main_v172 (F := Ideal) x0 x1 (ix3 b s c) = val_main_v11 (F := Ideal) x0 (ix3 b ⟨22 + s.val, by omega⟩ c) * x1 (ix2 22 c) := by
    unfold val_main_v172 val_main_v167
    generalize val_main_v11 (F := Ideal) x0 = y
    pointwise [val_main_v168, val_main_v169, val_main_v170, val_main_v171]
  rw [val_main_v173_apply, h]
  rfl

theorem prompt_tap23 : val_main_v180 (F := Ideal) x0 x1 (ix3 b s c)
    = val_main_v173 (F := Ideal) x0 x1 (ix3 b s c) + val_main_v11 (F := Ideal) x0 (ix3 b ⟨23 + s.val, by omega⟩ c) * x1 (ix2 23 c) := by
  have h : val_main_v179 (F := Ideal) x0 x1 (ix3 b s c) = val_main_v11 (F := Ideal) x0 (ix3 b ⟨23 + s.val, by omega⟩ c) * x1 (ix2 23 c) := by
    unfold val_main_v179 val_main_v174
    generalize val_main_v11 (F := Ideal) x0 = y
    pointwise [val_main_v175, val_main_v176, val_main_v177, val_main_v178]
  rw [val_main_v180_apply, h]
  rfl

theorem prompt_tap24 : val_main_v187 (F := Ideal) x0 x1 (ix3 b s c)
    = val_main_v180 (F := Ideal) x0 x1 (ix3 b s c) + val_main_v11 (F := Ideal) x0 (ix3 b ⟨24 + s.val, by omega⟩ c) * x1 (ix2 24 c) := by
  have h : val_main_v186 (F := Ideal) x0 x1 (ix3 b s c) = val_main_v11 (F := Ideal) x0 (ix3 b ⟨24 + s.val, by omega⟩ c) * x1 (ix2 24 c) := by
    unfold val_main_v186 val_main_v181
    generalize val_main_v11 (F := Ideal) x0 = y
    pointwise [val_main_v182, val_main_v183, val_main_v184, val_main_v185]
  rw [val_main_v187_apply, h]
  rfl

theorem prompt_tap25 : val_main_v194 (F := Ideal) x0 x1 (ix3 b s c)
    = val_main_v187 (F := Ideal) x0 x1 (ix3 b s c) + val_main_v11 (F := Ideal) x0 (ix3 b ⟨25 + s.val, by omega⟩ c) * x1 (ix2 25 c) := by
  have h : val_main_v193 (F := Ideal) x0 x1 (ix3 b s c) = val_main_v11 (F := Ideal) x0 (ix3 b ⟨25 + s.val, by omega⟩ c) * x1 (ix2 25 c) := by
    unfold val_main_v193 val_main_v188
    generalize val_main_v11 (F := Ideal) x0 = y
    pointwise [val_main_v189, val_main_v190, val_main_v191, val_main_v192]
  rw [val_main_v194_apply, h]
  rfl

theorem prompt_tap26 : val_main_v201 (F := Ideal) x0 x1 (ix3 b s c)
    = val_main_v194 (F := Ideal) x0 x1 (ix3 b s c) + val_main_v11 (F := Ideal) x0 (ix3 b ⟨26 + s.val, by omega⟩ c) * x1 (ix2 26 c) := by
  have h : val_main_v200 (F := Ideal) x0 x1 (ix3 b s c) = val_main_v11 (F := Ideal) x0 (ix3 b ⟨26 + s.val, by omega⟩ c) * x1 (ix2 26 c) := by
    unfold val_main_v200 val_main_v195
    generalize val_main_v11 (F := Ideal) x0 = y
    pointwise [val_main_v196, val_main_v197, val_main_v198, val_main_v199]
  rw [val_main_v201_apply, h]
  rfl

theorem prompt_tap27 : val_main_v208 (F := Ideal) x0 x1 (ix3 b s c)
    = val_main_v201 (F := Ideal) x0 x1 (ix3 b s c) + val_main_v11 (F := Ideal) x0 (ix3 b ⟨27 + s.val, by omega⟩ c) * x1 (ix2 27 c) := by
  have h : val_main_v207 (F := Ideal) x0 x1 (ix3 b s c) = val_main_v11 (F := Ideal) x0 (ix3 b ⟨27 + s.val, by omega⟩ c) * x1 (ix2 27 c) := by
    unfold val_main_v207 val_main_v202
    generalize val_main_v11 (F := Ideal) x0 = y
    pointwise [val_main_v203, val_main_v204, val_main_v205, val_main_v206]
  rw [val_main_v208_apply, h]
  rfl

theorem prompt_tap28 : val_main_v215 (F := Ideal) x0 x1 (ix3 b s c)
    = val_main_v208 (F := Ideal) x0 x1 (ix3 b s c) + val_main_v11 (F := Ideal) x0 (ix3 b ⟨28 + s.val, by omega⟩ c) * x1 (ix2 28 c) := by
  have h : val_main_v214 (F := Ideal) x0 x1 (ix3 b s c) = val_main_v11 (F := Ideal) x0 (ix3 b ⟨28 + s.val, by omega⟩ c) * x1 (ix2 28 c) := by
    unfold val_main_v214 val_main_v209
    generalize val_main_v11 (F := Ideal) x0 = y
    pointwise [val_main_v210, val_main_v211, val_main_v212, val_main_v213]
  rw [val_main_v215_apply, h]
  rfl

theorem prompt_tap29 : val_main_v222 (F := Ideal) x0 x1 (ix3 b s c)
    = val_main_v215 (F := Ideal) x0 x1 (ix3 b s c) + val_main_v11 (F := Ideal) x0 (ix3 b ⟨29 + s.val, by omega⟩ c) * x1 (ix2 29 c) := by
  have h : val_main_v221 (F := Ideal) x0 x1 (ix3 b s c) = val_main_v11 (F := Ideal) x0 (ix3 b ⟨29 + s.val, by omega⟩ c) * x1 (ix2 29 c) := by
    unfold val_main_v221 val_main_v216
    generalize val_main_v11 (F := Ideal) x0 = y
    pointwise [val_main_v217, val_main_v218, val_main_v219, val_main_v220]
  rw [val_main_v222_apply, h]
  rfl

theorem prompt_tap30 : val_main_v229 (F := Ideal) x0 x1 (ix3 b s c)
    = val_main_v222 (F := Ideal) x0 x1 (ix3 b s c) + val_main_v11 (F := Ideal) x0 (ix3 b ⟨30 + s.val, by omega⟩ c) * x1 (ix2 30 c) := by
  have h : val_main_v228 (F := Ideal) x0 x1 (ix3 b s c) = val_main_v11 (F := Ideal) x0 (ix3 b ⟨30 + s.val, by omega⟩ c) * x1 (ix2 30 c) := by
    unfold val_main_v228 val_main_v223
    generalize val_main_v11 (F := Ideal) x0 = y
    pointwise [val_main_v224, val_main_v225, val_main_v226, val_main_v227]
  rw [val_main_v229_apply, h]
  rfl

/-- Tap `k`'s product. -/
def prompt_term (k : ℕ) : EReal :=
  if h : k < 31 then val_main_v11 (F := Ideal) x0 (ix3 b ⟨k + s.val, by omega⟩ c) * x1 (ix2 ⟨k, by omega⟩ c) else 0

theorem prompt_sum : val_main_v229 (F := Ideal) x0 x1 (ix3 b s c) = chain 0 (prompt_term x0 x1 b s c) 31 := by
  rw [prompt_tap30, prompt_tap29, prompt_tap28, prompt_tap27, prompt_tap26, prompt_tap25, prompt_tap24, prompt_tap23, prompt_tap22, prompt_tap21, prompt_tap20, prompt_tap19, prompt_tap18, prompt_tap17, prompt_tap16, prompt_tap15, prompt_tap14, prompt_tap13, prompt_tap12, prompt_tap11, prompt_tap10, prompt_tap9, prompt_tap8, prompt_tap7, prompt_tap6, prompt_tap5, prompt_tap4, prompt_tap3, prompt_tap2, prompt_tap1, prompt_tap0]
  rfl

end Cert.ConfRefIdeal.At

end
-- ==== Proof.ConfTapsB.lean ====
/-
  The reference's convolution of the samples: the sum after each tap, from the sum before it and the tap's product.
-/
module

public import proofs.«01_k».proof.Proof.Gen.ConfRefIdeal.Read
public import proofs.«01_k».proof.Proof.ConfModel
public import Idealize.ShloMosaic.Lib.Pointwise
public import Idealize.ShloMosaic.PureOps.Ideal

@[expose] public section

noncomputable section

namespace Cert.ConfRefIdeal.At

open Cert.ConfRefIdeal Cert.ConfRefIdeal.Gen Cert.ConfRefIdeal.Read Idealize.ShloMosaic Idealize.ShloMosaic.StableHlo
open Cert.ConfModel (chain chain_congr)

variable (x0 : Vec Ideal S10240x4608 .f32) (x1 : Vec Ideal S32x512 .f32) (b : Fin 2) (s : Fin 1024) (c : Fin 512)

theorem sample_tap0 : val_main_v241 (F := Ideal) x0 x1 (ix3 b s c)
    = (0 : EReal) + val_main_v233 (F := Ideal) x0 (ix3 b ⟨0 + s.val, by omega⟩ c) * x1 (ix2 0 c) := by
  have h : val_main_v239 (F := Ideal) x0 x1 (ix3 b s c) = val_main_v233 (F := Ideal) x0 (ix3 b ⟨0 + s.val, by omega⟩ c) * x1 (ix2 0 c) := by
    unfold val_main_v239 val_main_v234
    generalize val_main_v233 (F := Ideal) x0 = y
    pointwise [val_main_v235, val_main_v236, val_main_v237, val_main_v238]
  rw [val_main_v241_apply, h]
  refine congrArg (· + _) ?_
  pointwise [val_main_v240, val_main_cst_3]

theorem sample_tap1 : val_main_v248 (F := Ideal) x0 x1 (ix3 b s c)
    = val_main_v241 (F := Ideal) x0 x1 (ix3 b s c) + val_main_v233 (F := Ideal) x0 (ix3 b ⟨1 + s.val, by omega⟩ c) * x1 (ix2 1 c) := by
  have h : val_main_v247 (F := Ideal) x0 x1 (ix3 b s c) = val_main_v233 (F := Ideal) x0 (ix3 b ⟨1 + s.val, by omega⟩ c) * x1 (ix2 1 c) := by
    unfold val_main_v247 val_main_v242
    generalize val_main_v233 (F := Ideal) x0 = y
    pointwise [val_main_v243, val_main_v244, val_main_v245, val_main_v246]
  rw [val_main_v248_apply, h]
  rfl

theorem sample_tap2 : val_main_v255 (F := Ideal) x0 x1 (ix3 b s c)
    = val_main_v248 (F := Ideal) x0 x1 (ix3 b s c) + val_main_v233 (F := Ideal) x0 (ix3 b ⟨2 + s.val, by omega⟩ c) * x1 (ix2 2 c) := by
  have h : val_main_v254 (F := Ideal) x0 x1 (ix3 b s c) = val_main_v233 (F := Ideal) x0 (ix3 b ⟨2 + s.val, by omega⟩ c) * x1 (ix2 2 c) := by
    unfold val_main_v254 val_main_v249
    generalize val_main_v233 (F := Ideal) x0 = y
    pointwise [val_main_v250, val_main_v251, val_main_v252, val_main_v253]
  rw [val_main_v255_apply, h]
  rfl

theorem sample_tap3 : val_main_v262 (F := Ideal) x0 x1 (ix3 b s c)
    = val_main_v255 (F := Ideal) x0 x1 (ix3 b s c) + val_main_v233 (F := Ideal) x0 (ix3 b ⟨3 + s.val, by omega⟩ c) * x1 (ix2 3 c) := by
  have h : val_main_v261 (F := Ideal) x0 x1 (ix3 b s c) = val_main_v233 (F := Ideal) x0 (ix3 b ⟨3 + s.val, by omega⟩ c) * x1 (ix2 3 c) := by
    unfold val_main_v261 val_main_v256
    generalize val_main_v233 (F := Ideal) x0 = y
    pointwise [val_main_v257, val_main_v258, val_main_v259, val_main_v260]
  rw [val_main_v262_apply, h]
  rfl

theorem sample_tap4 : val_main_v269 (F := Ideal) x0 x1 (ix3 b s c)
    = val_main_v262 (F := Ideal) x0 x1 (ix3 b s c) + val_main_v233 (F := Ideal) x0 (ix3 b ⟨4 + s.val, by omega⟩ c) * x1 (ix2 4 c) := by
  have h : val_main_v268 (F := Ideal) x0 x1 (ix3 b s c) = val_main_v233 (F := Ideal) x0 (ix3 b ⟨4 + s.val, by omega⟩ c) * x1 (ix2 4 c) := by
    unfold val_main_v268 val_main_v263
    generalize val_main_v233 (F := Ideal) x0 = y
    pointwise [val_main_v264, val_main_v265, val_main_v266, val_main_v267]
  rw [val_main_v269_apply, h]
  rfl

theorem sample_tap5 : val_main_v276 (F := Ideal) x0 x1 (ix3 b s c)
    = val_main_v269 (F := Ideal) x0 x1 (ix3 b s c) + val_main_v233 (F := Ideal) x0 (ix3 b ⟨5 + s.val, by omega⟩ c) * x1 (ix2 5 c) := by
  have h : val_main_v275 (F := Ideal) x0 x1 (ix3 b s c) = val_main_v233 (F := Ideal) x0 (ix3 b ⟨5 + s.val, by omega⟩ c) * x1 (ix2 5 c) := by
    unfold val_main_v275 val_main_v270
    generalize val_main_v233 (F := Ideal) x0 = y
    pointwise [val_main_v271, val_main_v272, val_main_v273, val_main_v274]
  rw [val_main_v276_apply, h]
  rfl

theorem sample_tap6 : val_main_v283 (F := Ideal) x0 x1 (ix3 b s c)
    = val_main_v276 (F := Ideal) x0 x1 (ix3 b s c) + val_main_v233 (F := Ideal) x0 (ix3 b ⟨6 + s.val, by omega⟩ c) * x1 (ix2 6 c) := by
  have h : val_main_v282 (F := Ideal) x0 x1 (ix3 b s c) = val_main_v233 (F := Ideal) x0 (ix3 b ⟨6 + s.val, by omega⟩ c) * x1 (ix2 6 c) := by
    unfold val_main_v282 val_main_v277
    generalize val_main_v233 (F := Ideal) x0 = y
    pointwise [val_main_v278, val_main_v279, val_main_v280, val_main_v281]
  rw [val_main_v283_apply, h]
  rfl

theorem sample_tap7 : val_main_v290 (F := Ideal) x0 x1 (ix3 b s c)
    = val_main_v283 (F := Ideal) x0 x1 (ix3 b s c) + val_main_v233 (F := Ideal) x0 (ix3 b ⟨7 + s.val, by omega⟩ c) * x1 (ix2 7 c) := by
  have h : val_main_v289 (F := Ideal) x0 x1 (ix3 b s c) = val_main_v233 (F := Ideal) x0 (ix3 b ⟨7 + s.val, by omega⟩ c) * x1 (ix2 7 c) := by
    unfold val_main_v289 val_main_v284
    generalize val_main_v233 (F := Ideal) x0 = y
    pointwise [val_main_v285, val_main_v286, val_main_v287, val_main_v288]
  rw [val_main_v290_apply, h]
  rfl

theorem sample_tap8 : val_main_v297 (F := Ideal) x0 x1 (ix3 b s c)
    = val_main_v290 (F := Ideal) x0 x1 (ix3 b s c) + val_main_v233 (F := Ideal) x0 (ix3 b ⟨8 + s.val, by omega⟩ c) * x1 (ix2 8 c) := by
  have h : val_main_v296 (F := Ideal) x0 x1 (ix3 b s c) = val_main_v233 (F := Ideal) x0 (ix3 b ⟨8 + s.val, by omega⟩ c) * x1 (ix2 8 c) := by
    unfold val_main_v296 val_main_v291
    generalize val_main_v233 (F := Ideal) x0 = y
    pointwise [val_main_v292, val_main_v293, val_main_v294, val_main_v295]
  rw [val_main_v297_apply, h]
  rfl

theorem sample_tap9 : val_main_v304 (F := Ideal) x0 x1 (ix3 b s c)
    = val_main_v297 (F := Ideal) x0 x1 (ix3 b s c) + val_main_v233 (F := Ideal) x0 (ix3 b ⟨9 + s.val, by omega⟩ c) * x1 (ix2 9 c) := by
  have h : val_main_v303 (F := Ideal) x0 x1 (ix3 b s c) = val_main_v233 (F := Ideal) x0 (ix3 b ⟨9 + s.val, by omega⟩ c) * x1 (ix2 9 c) := by
    unfold val_main_v303 val_main_v298
    generalize val_main_v233 (F := Ideal) x0 = y
    pointwise [val_main_v299, val_main_v300, val_main_v301, val_main_v302]
  rw [val_main_v304_apply, h]
  rfl

theorem sample_tap10 : val_main_v311 (F := Ideal) x0 x1 (ix3 b s c)
    = val_main_v304 (F := Ideal) x0 x1 (ix3 b s c) + val_main_v233 (F := Ideal) x0 (ix3 b ⟨10 + s.val, by omega⟩ c) * x1 (ix2 10 c) := by
  have h : val_main_v310 (F := Ideal) x0 x1 (ix3 b s c) = val_main_v233 (F := Ideal) x0 (ix3 b ⟨10 + s.val, by omega⟩ c) * x1 (ix2 10 c) := by
    unfold val_main_v310 val_main_v305
    generalize val_main_v233 (F := Ideal) x0 = y
    pointwise [val_main_v306, val_main_v307, val_main_v308, val_main_v309]
  rw [val_main_v311_apply, h]
  rfl

theorem sample_tap11 : val_main_v318 (F := Ideal) x0 x1 (ix3 b s c)
    = val_main_v311 (F := Ideal) x0 x1 (ix3 b s c) + val_main_v233 (F := Ideal) x0 (ix3 b ⟨11 + s.val, by omega⟩ c) * x1 (ix2 11 c) := by
  have h : val_main_v317 (F := Ideal) x0 x1 (ix3 b s c) = val_main_v233 (F := Ideal) x0 (ix3 b ⟨11 + s.val, by omega⟩ c) * x1 (ix2 11 c) := by
    unfold val_main_v317 val_main_v312
    generalize val_main_v233 (F := Ideal) x0 = y
    pointwise [val_main_v313, val_main_v314, val_main_v315, val_main_v316]
  rw [val_main_v318_apply, h]
  rfl

theorem sample_tap12 : val_main_v325 (F := Ideal) x0 x1 (ix3 b s c)
    = val_main_v318 (F := Ideal) x0 x1 (ix3 b s c) + val_main_v233 (F := Ideal) x0 (ix3 b ⟨12 + s.val, by omega⟩ c) * x1 (ix2 12 c) := by
  have h : val_main_v324 (F := Ideal) x0 x1 (ix3 b s c) = val_main_v233 (F := Ideal) x0 (ix3 b ⟨12 + s.val, by omega⟩ c) * x1 (ix2 12 c) := by
    unfold val_main_v324 val_main_v319
    generalize val_main_v233 (F := Ideal) x0 = y
    pointwise [val_main_v320, val_main_v321, val_main_v322, val_main_v323]
  rw [val_main_v325_apply, h]
  rfl

theorem sample_tap13 : val_main_v332 (F := Ideal) x0 x1 (ix3 b s c)
    = val_main_v325 (F := Ideal) x0 x1 (ix3 b s c) + val_main_v233 (F := Ideal) x0 (ix3 b ⟨13 + s.val, by omega⟩ c) * x1 (ix2 13 c) := by
  have h : val_main_v331 (F := Ideal) x0 x1 (ix3 b s c) = val_main_v233 (F := Ideal) x0 (ix3 b ⟨13 + s.val, by omega⟩ c) * x1 (ix2 13 c) := by
    unfold val_main_v331 val_main_v326
    generalize val_main_v233 (F := Ideal) x0 = y
    pointwise [val_main_v327, val_main_v328, val_main_v329, val_main_v330]
  rw [val_main_v332_apply, h]
  rfl

theorem sample_tap14 : val_main_v339 (F := Ideal) x0 x1 (ix3 b s c)
    = val_main_v332 (F := Ideal) x0 x1 (ix3 b s c) + val_main_v233 (F := Ideal) x0 (ix3 b ⟨14 + s.val, by omega⟩ c) * x1 (ix2 14 c) := by
  have h : val_main_v338 (F := Ideal) x0 x1 (ix3 b s c) = val_main_v233 (F := Ideal) x0 (ix3 b ⟨14 + s.val, by omega⟩ c) * x1 (ix2 14 c) := by
    unfold val_main_v338 val_main_v333
    generalize val_main_v233 (F := Ideal) x0 = y
    pointwise [val_main_v334, val_main_v335, val_main_v336, val_main_v337]
  rw [val_main_v339_apply, h]
  rfl

theorem sample_tap15 : val_main_v346 (F := Ideal) x0 x1 (ix3 b s c)
    = val_main_v339 (F := Ideal) x0 x1 (ix3 b s c) + val_main_v233 (F := Ideal) x0 (ix3 b ⟨15 + s.val, by omega⟩ c) * x1 (ix2 15 c) := by
  have h : val_main_v345 (F := Ideal) x0 x1 (ix3 b s c) = val_main_v233 (F := Ideal) x0 (ix3 b ⟨15 + s.val, by omega⟩ c) * x1 (ix2 15 c) := by
    unfold val_main_v345 val_main_v340
    generalize val_main_v233 (F := Ideal) x0 = y
    pointwise [val_main_v341, val_main_v342, val_main_v343, val_main_v344]
  rw [val_main_v346_apply, h]
  rfl

theorem sample_tap16 : val_main_v353 (F := Ideal) x0 x1 (ix3 b s c)
    = val_main_v346 (F := Ideal) x0 x1 (ix3 b s c) + val_main_v233 (F := Ideal) x0 (ix3 b ⟨16 + s.val, by omega⟩ c) * x1 (ix2 16 c) := by
  have h : val_main_v352 (F := Ideal) x0 x1 (ix3 b s c) = val_main_v233 (F := Ideal) x0 (ix3 b ⟨16 + s.val, by omega⟩ c) * x1 (ix2 16 c) := by
    unfold val_main_v352 val_main_v347
    generalize val_main_v233 (F := Ideal) x0 = y
    pointwise [val_main_v348, val_main_v349, val_main_v350, val_main_v351]
  rw [val_main_v353_apply, h]
  rfl

theorem sample_tap17 : val_main_v360 (F := Ideal) x0 x1 (ix3 b s c)
    = val_main_v353 (F := Ideal) x0 x1 (ix3 b s c) + val_main_v233 (F := Ideal) x0 (ix3 b ⟨17 + s.val, by omega⟩ c) * x1 (ix2 17 c) := by
  have h : val_main_v359 (F := Ideal) x0 x1 (ix3 b s c) = val_main_v233 (F := Ideal) x0 (ix3 b ⟨17 + s.val, by omega⟩ c) * x1 (ix2 17 c) := by
    unfold val_main_v359 val_main_v354
    generalize val_main_v233 (F := Ideal) x0 = y
    pointwise [val_main_v355, val_main_v356, val_main_v357, val_main_v358]
  rw [val_main_v360_apply, h]
  rfl

theorem sample_tap18 : val_main_v367 (F := Ideal) x0 x1 (ix3 b s c)
    = val_main_v360 (F := Ideal) x0 x1 (ix3 b s c) + val_main_v233 (F := Ideal) x0 (ix3 b ⟨18 + s.val, by omega⟩ c) * x1 (ix2 18 c) := by
  have h : val_main_v366 (F := Ideal) x0 x1 (ix3 b s c) = val_main_v233 (F := Ideal) x0 (ix3 b ⟨18 + s.val, by omega⟩ c) * x1 (ix2 18 c) := by
    unfold val_main_v366 val_main_v361
    generalize val_main_v233 (F := Ideal) x0 = y
    pointwise [val_main_v362, val_main_v363, val_main_v364, val_main_v365]
  rw [val_main_v367_apply, h]
  rfl

theorem sample_tap19 : val_main_v374 (F := Ideal) x0 x1 (ix3 b s c)
    = val_main_v367 (F := Ideal) x0 x1 (ix3 b s c) + val_main_v233 (F := Ideal) x0 (ix3 b ⟨19 + s.val, by omega⟩ c) * x1 (ix2 19 c) := by
  have h : val_main_v373 (F := Ideal) x0 x1 (ix3 b s c) = val_main_v233 (F := Ideal) x0 (ix3 b ⟨19 + s.val, by omega⟩ c) * x1 (ix2 19 c) := by
    unfold val_main_v373 val_main_v368
    generalize val_main_v233 (F := Ideal) x0 = y
    pointwise [val_main_v369, val_main_v370, val_main_v371, val_main_v372]
  rw [val_main_v374_apply, h]
  rfl

theorem sample_tap20 : val_main_v381 (F := Ideal) x0 x1 (ix3 b s c)
    = val_main_v374 (F := Ideal) x0 x1 (ix3 b s c) + val_main_v233 (F := Ideal) x0 (ix3 b ⟨20 + s.val, by omega⟩ c) * x1 (ix2 20 c) := by
  have h : val_main_v380 (F := Ideal) x0 x1 (ix3 b s c) = val_main_v233 (F := Ideal) x0 (ix3 b ⟨20 + s.val, by omega⟩ c) * x1 (ix2 20 c) := by
    unfold val_main_v380 val_main_v375
    generalize val_main_v233 (F := Ideal) x0 = y
    pointwise [val_main_v376, val_main_v377, val_main_v378, val_main_v379]
  rw [val_main_v381_apply, h]
  rfl

theorem sample_tap21 : val_main_v388 (F := Ideal) x0 x1 (ix3 b s c)
    = val_main_v381 (F := Ideal) x0 x1 (ix3 b s c) + val_main_v233 (F := Ideal) x0 (ix3 b ⟨21 + s.val, by omega⟩ c) * x1 (ix2 21 c) := by
  have h : val_main_v387 (F := Ideal) x0 x1 (ix3 b s c) = val_main_v233 (F := Ideal) x0 (ix3 b ⟨21 + s.val, by omega⟩ c) * x1 (ix2 21 c) := by
    unfold val_main_v387 val_main_v382
    generalize val_main_v233 (F := Ideal) x0 = y
    pointwise [val_main_v383, val_main_v384, val_main_v385, val_main_v386]
  rw [val_main_v388_apply, h]
  rfl

theorem sample_tap22 : val_main_v395 (F := Ideal) x0 x1 (ix3 b s c)
    = val_main_v388 (F := Ideal) x0 x1 (ix3 b s c) + val_main_v233 (F := Ideal) x0 (ix3 b ⟨22 + s.val, by omega⟩ c) * x1 (ix2 22 c) := by
  have h : val_main_v394 (F := Ideal) x0 x1 (ix3 b s c) = val_main_v233 (F := Ideal) x0 (ix3 b ⟨22 + s.val, by omega⟩ c) * x1 (ix2 22 c) := by
    unfold val_main_v394 val_main_v389
    generalize val_main_v233 (F := Ideal) x0 = y
    pointwise [val_main_v390, val_main_v391, val_main_v392, val_main_v393]
  rw [val_main_v395_apply, h]
  rfl

theorem sample_tap23 : val_main_v402 (F := Ideal) x0 x1 (ix3 b s c)
    = val_main_v395 (F := Ideal) x0 x1 (ix3 b s c) + val_main_v233 (F := Ideal) x0 (ix3 b ⟨23 + s.val, by omega⟩ c) * x1 (ix2 23 c) := by
  have h : val_main_v401 (F := Ideal) x0 x1 (ix3 b s c) = val_main_v233 (F := Ideal) x0 (ix3 b ⟨23 + s.val, by omega⟩ c) * x1 (ix2 23 c) := by
    unfold val_main_v401 val_main_v396
    generalize val_main_v233 (F := Ideal) x0 = y
    pointwise [val_main_v397, val_main_v398, val_main_v399, val_main_v400]
  rw [val_main_v402_apply, h]
  rfl

theorem sample_tap24 : val_main_v409 (F := Ideal) x0 x1 (ix3 b s c)
    = val_main_v402 (F := Ideal) x0 x1 (ix3 b s c) + val_main_v233 (F := Ideal) x0 (ix3 b ⟨24 + s.val, by omega⟩ c) * x1 (ix2 24 c) := by
  have h : val_main_v408 (F := Ideal) x0 x1 (ix3 b s c) = val_main_v233 (F := Ideal) x0 (ix3 b ⟨24 + s.val, by omega⟩ c) * x1 (ix2 24 c) := by
    unfold val_main_v408 val_main_v403
    generalize val_main_v233 (F := Ideal) x0 = y
    pointwise [val_main_v404, val_main_v405, val_main_v406, val_main_v407]
  rw [val_main_v409_apply, h]
  rfl

theorem sample_tap25 : val_main_v416 (F := Ideal) x0 x1 (ix3 b s c)
    = val_main_v409 (F := Ideal) x0 x1 (ix3 b s c) + val_main_v233 (F := Ideal) x0 (ix3 b ⟨25 + s.val, by omega⟩ c) * x1 (ix2 25 c) := by
  have h : val_main_v415 (F := Ideal) x0 x1 (ix3 b s c) = val_main_v233 (F := Ideal) x0 (ix3 b ⟨25 + s.val, by omega⟩ c) * x1 (ix2 25 c) := by
    unfold val_main_v415 val_main_v410
    generalize val_main_v233 (F := Ideal) x0 = y
    pointwise [val_main_v411, val_main_v412, val_main_v413, val_main_v414]
  rw [val_main_v416_apply, h]
  rfl

theorem sample_tap26 : val_main_v423 (F := Ideal) x0 x1 (ix3 b s c)
    = val_main_v416 (F := Ideal) x0 x1 (ix3 b s c) + val_main_v233 (F := Ideal) x0 (ix3 b ⟨26 + s.val, by omega⟩ c) * x1 (ix2 26 c) := by
  have h : val_main_v422 (F := Ideal) x0 x1 (ix3 b s c) = val_main_v233 (F := Ideal) x0 (ix3 b ⟨26 + s.val, by omega⟩ c) * x1 (ix2 26 c) := by
    unfold val_main_v422 val_main_v417
    generalize val_main_v233 (F := Ideal) x0 = y
    pointwise [val_main_v418, val_main_v419, val_main_v420, val_main_v421]
  rw [val_main_v423_apply, h]
  rfl

theorem sample_tap27 : val_main_v430 (F := Ideal) x0 x1 (ix3 b s c)
    = val_main_v423 (F := Ideal) x0 x1 (ix3 b s c) + val_main_v233 (F := Ideal) x0 (ix3 b ⟨27 + s.val, by omega⟩ c) * x1 (ix2 27 c) := by
  have h : val_main_v429 (F := Ideal) x0 x1 (ix3 b s c) = val_main_v233 (F := Ideal) x0 (ix3 b ⟨27 + s.val, by omega⟩ c) * x1 (ix2 27 c) := by
    unfold val_main_v429 val_main_v424
    generalize val_main_v233 (F := Ideal) x0 = y
    pointwise [val_main_v425, val_main_v426, val_main_v427, val_main_v428]
  rw [val_main_v430_apply, h]
  rfl

theorem sample_tap28 : val_main_v437 (F := Ideal) x0 x1 (ix3 b s c)
    = val_main_v430 (F := Ideal) x0 x1 (ix3 b s c) + val_main_v233 (F := Ideal) x0 (ix3 b ⟨28 + s.val, by omega⟩ c) * x1 (ix2 28 c) := by
  have h : val_main_v436 (F := Ideal) x0 x1 (ix3 b s c) = val_main_v233 (F := Ideal) x0 (ix3 b ⟨28 + s.val, by omega⟩ c) * x1 (ix2 28 c) := by
    unfold val_main_v436 val_main_v431
    generalize val_main_v233 (F := Ideal) x0 = y
    pointwise [val_main_v432, val_main_v433, val_main_v434, val_main_v435]
  rw [val_main_v437_apply, h]
  rfl

theorem sample_tap29 : val_main_v444 (F := Ideal) x0 x1 (ix3 b s c)
    = val_main_v437 (F := Ideal) x0 x1 (ix3 b s c) + val_main_v233 (F := Ideal) x0 (ix3 b ⟨29 + s.val, by omega⟩ c) * x1 (ix2 29 c) := by
  have h : val_main_v443 (F := Ideal) x0 x1 (ix3 b s c) = val_main_v233 (F := Ideal) x0 (ix3 b ⟨29 + s.val, by omega⟩ c) * x1 (ix2 29 c) := by
    unfold val_main_v443 val_main_v438
    generalize val_main_v233 (F := Ideal) x0 = y
    pointwise [val_main_v439, val_main_v440, val_main_v441, val_main_v442]
  rw [val_main_v444_apply, h]
  rfl

theorem sample_tap30 : val_main_v451 (F := Ideal) x0 x1 (ix3 b s c)
    = val_main_v444 (F := Ideal) x0 x1 (ix3 b s c) + val_main_v233 (F := Ideal) x0 (ix3 b ⟨30 + s.val, by omega⟩ c) * x1 (ix2 30 c) := by
  have h : val_main_v450 (F := Ideal) x0 x1 (ix3 b s c) = val_main_v233 (F := Ideal) x0 (ix3 b ⟨30 + s.val, by omega⟩ c) * x1 (ix2 30 c) := by
    unfold val_main_v450 val_main_v445
    generalize val_main_v233 (F := Ideal) x0 = y
    pointwise [val_main_v446, val_main_v447, val_main_v448, val_main_v449]
  rw [val_main_v451_apply, h]
  rfl

/-- Tap `k`'s product. -/
def sample_term (k : ℕ) : EReal :=
  if h : k < 31 then val_main_v233 (F := Ideal) x0 (ix3 b ⟨k + s.val, by omega⟩ c) * x1 (ix2 ⟨k, by omega⟩ c) else 0

theorem sample_sum : val_main_v451 (F := Ideal) x0 x1 (ix3 b s c) = chain 0 (sample_term x0 x1 b s c) 31 := by
  rw [sample_tap30, sample_tap29, sample_tap28, sample_tap27, sample_tap26, sample_tap25, sample_tap24, sample_tap23, sample_tap22, sample_tap21, sample_tap20, sample_tap19, sample_tap18, sample_tap17, sample_tap16, sample_tap15, sample_tap14, sample_tap13, sample_tap12, sample_tap11, sample_tap10, sample_tap9, sample_tap8, sample_tap7, sample_tap6, sample_tap5, sample_tap4, sample_tap3, sample_tap2, sample_tap1, sample_tap0]
  rfl

end Cert.ConfRefIdeal.At

end
-- ==== Proof.ConfRef.lean ====
/-
  The plain reference of the convolution mixer, entry by entry: the gated input, padded by 15 rows on each side of a sequence, its 31 taps,
  the bias, and the normalization with its gate.
-/
module

public import proofs.«01_k».proof.Proof.ConfTapsA
public import proofs.«01_k».proof.Proof.ConfTapsB
public import Idealize.ShloMosaic.Lib.KernelVsHost

@[expose] public section

noncomputable section

namespace Cert.ConfRefIdeal.At

open Cert.ConfRefIdeal Cert.ConfRefIdeal.Gen Cert.ConfRefIdeal.Read Idealize.ShloMosaic Idealize.ShloMosaic.StableHlo
open Cert.ConfModel

variable (x0 : Vec Ideal S10240x4608 .f32) (x1 : Vec Ideal S32x512 .f32) (x2 x3 x4 : Vec Ideal S1x512 .f32)

/-- The gated input of all the tokens, and the weights' rows. -/
abbrev uu : ℕ → Fin 512 → EReal := uOf fun n j => x0 (ix2 n j)
abbrev ww : ℕ → Fin 512 → EReal := wOf fun k c => x1 (ix2 k c)

theorem v8_at (T : Fin 10240) (c : Fin 512) : val_main_v8 (F := Ideal) x0 (ix2 T c) = uu x0 T.val c := by
  unfold uu uOf
  rw [dif_pos T.isLt]
  pointwise [val_main_v8, val_main_v7, val_main_v6, val_main_v5, val_main_v4, val_main_v3, val_main_v2, val_main_v1, val_main_v0, val_main_cst,
    val_main_cst_0]

theorem v8_nat (T : ℕ) (c : Fin 512) (y : S10240x512.Idx) (h0 : (y 0).val = T) (h1 : (y 1).val = c.val) :
    val_main_v8 (F := Ideal) x0 y = uu x0 T c := by
  have hT : T < 10240 := by rw [← h0]; exact (y 0).isLt
  rw [← v8_at x0 ⟨T, hT⟩ c]
  refine congrArg _ (funext fun a => Fin.ext ?_)
  match a with
  | ⟨0, _⟩ => exact h0
  | ⟨1, _⟩ => exact h1

/-- The padding's value is zero. -/
theorem padz : (FloatOps.sitofp (F := Ideal) .f32 (0#32 : BitVec 32) : EReal) = 0 := by
  show (((0#32 : BitVec 32).toInt : ℝ) : EReal) = 0
  simp

theorem v11_at (b : Fin 32) (q : Fin 286) (c : Fin 512) :
    val_main_v11 (F := Ideal) x0 (ix3 b q c) = if 15 ≤ q.val ∧ q.val < 271 then uu x0 (256 * b.val + q.val - 15) c else 0 := by
  have hb := b.isLt
  have hc := c.isLt
  unfold val_main_v11
  by_cases h : 15 ≤ q.val ∧ q.val < 271
  · rw [if_pos h, pad_apply_of_inside _ _ _ _ _ _ _ _ (ix3 b ⟨q.val - 15, by omega⟩ c : S32x256x512.Idx) (fun a => ?_)]
    · rw [val_main_v10_apply, val_main_v9_apply]
      refine v8_nat x0 _ c _ ?_ ?_
      · show ((b.val * 256 + (q.val - 15)) * 512 + c.val) / 512 = _
        omega
      · show ((b.val * 256 + (q.val - 15)) * 512 + c.val) % 512 = _
        omega
    · match a with
      | ⟨0, _⟩ => show b.val = 0 + b.val * (0 + 1); omega
      | ⟨1, _⟩ => show q.val = 15 + (q.val - 15) * (0 + 1); omega
      | ⟨2, _⟩ => show c.val = 0 + c.val * (0 + 1); omega
  · rw [if_neg h, pad_apply_of_not_inside _ _ _ _ _ _ _ _ (1 : Fin 3)]
    · exact padz
    · intro hh
      have h1 : 15 ≤ q.val := hh.1
      have h2 : (q.val - 15) / 1 < 256 := hh.2.2
      omega

theorem v233_at (b : Fin 2) (q : Fin 1054) (c : Fin 512) :
    val_main_v233 (F := Ideal) x0 (ix3 b q c) = if 15 ≤ q.val ∧ q.val < 1039 then uu x0 (8192 + 1024 * b.val + q.val - 15) c else 0 := by
  have hb := b.isLt
  have hc := c.isLt
  unfold val_main_v233
  by_cases h : 15 ≤ q.val ∧ q.val < 1039
  · rw [if_pos h, pad_apply_of_inside _ _ _ _ _ _ _ _ (ix3 b ⟨q.val - 15, by omega⟩ c : S2x1024x512.Idx) (fun a => ?_)]
    · rw [val_main_v232_apply, val_main_v231_apply]
      refine v8_nat x0 _ c _ ?_ ?_
      · show 8192 + ((b.val * 1024 + (q.val - 15)) * 512 + c.val) / 512 = _
        omega
      · show ((b.val * 1024 + (q.val - 15)) * 512 + c.val) % 512 = _
        omega
    · match a with
      | ⟨0, _⟩ => show b.val = 0 + b.val * (0 + 1); omega
      | ⟨1, _⟩ => show q.val = 15 + (q.val - 15) * (0 + 1); omega
      | ⟨2, _⟩ => show c.val = 0 + c.val * (0 + 1); omega
  · rw [if_neg h, pad_apply_of_not_inside _ _ _ _ _ _ _ _ (1 : Fin 3)]
    · exact padz
    · intro hh
      have h1 : 15 ≤ q.val := hh.1
      have h2 : (q.val - 15) / 1 < 1024 := hh.2.2
      omega

/-- A token's sum over the taps. -/
abbrev taps (T : ℕ) (c : Fin 512) : EReal := chain 0 (fun k => ww x1 k c * tap (uu x0) T k c) 31

theorem prompt_at (T : ℕ) (hT : T < 8192) (c : Fin 512) (b : Fin 32) (s : Fin 256) (hb : b.val = T / 256) (hs : s.val = T % 256) :
    val_main_v229 (F := Ideal) x0 x1 (ix3 b s c) = taps x0 x1 T c := by
  rw [prompt_sum]
  refine chain_congr _ _ _ _ fun k hk => ?_
  unfold prompt_term ww wOf tap
  rw [dif_pos hk, dif_pos (show k < 32 by omega), mul_comm]
  refine congrArg _ ?_
  by_cases hq : Keep T k
  · have hq' := (keep_prompt hT).1 hq
    rw [v11_at, if_pos hq, if_pos ⟨show 15 ≤ k + s.val by omega, show k + s.val < 271 by omega⟩]
    refine congrArg (fun n => uu x0 n c) ?_
    show 256 * b.val + (k + s.val) - 15 = _
    omega
  · rw [v11_at, if_neg hq, if_neg]
    intro h
    have h1 : 15 ≤ k + s.val := h.1
    have h2 : k + s.val < 271 := h.2
    exact hq ((keep_prompt hT).2 ⟨by omega, by omega⟩)

theorem sample_at (T : ℕ) (hT : 8192 ≤ T) (c : Fin 512) (b : Fin 2) (s : Fin 1024) (hb : b.val = (T - 8192) / 1024) (hs : s.val = T % 1024) :
    val_main_v451 (F := Ideal) x0 x1 (ix3 b s c) = taps x0 x1 T c := by
  rw [sample_sum]
  refine chain_congr _ _ _ _ fun k hk => ?_
  unfold sample_term ww wOf tap
  rw [dif_pos hk, dif_pos (show k < 32 by omega), mul_comm]
  refine congrArg _ ?_
  by_cases hq : Keep T k
  · have hq' := (keep_sample (show ¬T < 8192 by omega)).1 hq
    rw [v233_at, if_pos hq, if_pos ⟨show 15 ≤ k + s.val by omega, show k + s.val < 1039 by omega⟩]
    refine congrArg (fun n => uu x0 n c) ?_
    show 8192 + 1024 * b.val + (k + s.val) - 15 = _
    omega
  · rw [v233_at, if_neg hq, if_neg]
    intro h
    have h1 : 15 ≤ k + s.val := h.1
    have h2 : k + s.val < 1039 := h.2
    exact hq ((keep_sample (show ¬T < 8192 by omega)).2 ⟨by omega, by omega⟩)

/-- Two arrays joined by rows, at a row. -/
theorem join2 (u : Vec Ideal S8192x512 .f32) (v : Vec Ideal S2048x512 .f32) (T : Fin 10240) (j : Fin 512) :
    concatenate S10240x512 0 [⟨S8192x512, u⟩, ⟨S2048x512, v⟩] concatenates_S8192x512_S2048x512_S10240x512_d0 (ix2 T j)
      = if h : T.val < 8192 then u (ix2 ⟨T.val, h⟩ j) else v (ix2 ⟨T.val - 8192, by have := T.isLt; omega⟩ j) := by
  pointwise

theorem v453_at (T : Fin 10240) (c : Fin 512) : val_main_v453 (F := Ideal) x0 x1 (ix2 T c) = taps x0 x1 T.val c := by
  have hT := T.isLt
  have hc := c.isLt
  unfold val_main_v453
  rw [join2]
  by_cases h : T.val < 8192
  · rw [dif_pos h, val_main_v230_apply, ← prompt_at x0 x1 T.val h c ⟨T.val / 256, by omega⟩ ⟨T.val % 256, by omega⟩ rfl rfl]
    refine congrArg _ (funext fun a => Fin.ext ?_)
    match a with
    | ⟨0, _⟩ => show (T.val * 512 + c.val) / 131072 = T.val / 256; omega
    | ⟨1, _⟩ => show (T.val * 512 + c.val) / 512 % 256 = T.val % 256; omega
    | ⟨2, _⟩ => show (T.val * 512 + c.val) % 512 = c.val; omega
  · rw [dif_neg h, val_main_v452_apply,
      ← sample_at x0 x1 T.val (by omega) c ⟨(T.val - 8192) / 1024, by omega⟩ ⟨T.val % 1024, by omega⟩ rfl rfl]
    refine congrArg _ (funext fun a => Fin.ext ?_)
    match a with
    | ⟨0, _⟩ => show ((T.val - 8192) * 512 + c.val) / 524288 = (T.val - 8192) / 1024; omega
    | ⟨1, _⟩ => show ((T.val - 8192) * 512 + c.val) / 512 % 1024 = T.val % 1024; omega
    | ⟨2, _⟩ => show ((T.val - 8192) * 512 + c.val) % 512 = c.val; omega

theorem v457_at (T : Fin 10240) (c : Fin 512) :
    val_main_v457 (F := Ideal) x0 x1 x2 (ix2 T c)
      = chain (x2 (ix2 0 c)) (fun k => ww x1 k c * tap (uu x0) T.val k c) 31 := by
  have h : val_main_v456 (F := Ideal) x2 (ix2 T c) = x2 (ix2 0 c) := by
    pointwise [val_main_v456, val_main_v455, val_main_v454]
  rw [val_main_v457_apply, v453_at, h, chain_shift]
  rfl

/-- The normalization with its gate, from the row of the sums. -/
theorem v483_of (T : Fin 10240) (c : Fin 512) :
    val_main_v483 (F := Ideal) x0 x1 x2 x3 x4 (ix2 T c)
      = silu (norm (fun x => val_main_v457 (F := Ideal) x0 x1 x2 (ix2 T x)) (x3 (ix2 0 c)) (x4 (ix2 0 c)) c) := by
  unfold val_main_v483 val_main_v482 val_main_call2_v5 val_main_call2_v3 val_main_call2_v1 val_main_call2_v0 val_main_v481 val_main_v477 val_main_v473
    val_main_v472 val_main_v471 val_main_v470 val_main_v468 val_main_v466 val_main_v465 val_main_v464 val_main_v463 val_main_v462 val_main_v461
    val_main_v459 val_main_v458
  generalize val_main_v457 (F := Ideal) x0 x1 x2 = y
  pointwise [val_main_call2_v4, val_main_call2_v2, val_main_call2_cst, val_main_call2_cst_0, val_main_v480, val_main_v479,
    val_main_v478, val_main_v476, val_main_v475, val_main_v474, val_main_v469, val_main_v467, val_main_v460, val_main_cst_4, val_main_cst_5,
    val_main_cst_6, val_main_cst_7, val_main_cst_8]
  rfl

theorem v483_at (T : Fin 10240) (c : Fin 512) :
    val_main_v483 (F := Ideal) x0 x1 x2 x3 x4 (ix2 T c)
      = entry (uu x0) (ww x1) (fun x => x2 (ix2 0 x)) (fun x => x3 (ix2 0 x)) (fun x => x4 (ix2 0 x)) T.val c := by
  rw [v483_of]
  unfold entry
  simp only [v457_at]

end Cert.ConfRefIdeal.At

end
-- ==== Proof.ConfValue.lean ====
/-
  The convolution mixer's array, entry by entry: a scratch row is the gated input of its token, or zero outside the token's sequence; each
  chunk of a block is the mixer's entry; and the blocks make up the plain reference's array.
-/
module

public import proofs.«01_k».proof.Proof.ConfBlock
public import proofs.«01_k».proof.Proof.ConfRef

@[expose] public section

noncomputable section

namespace Cert.ConfIdeal.Whole

open Cert.ConfIdeal Cert.ConfIdeal.Gen Idealize.ShloMosaic Idealize.ShloMosaic.TcCoe Idealize.SL.Sem
open Idealize.ShloMosaic.Pipeline (Dat)
open Cert.ConfModel (chain chain_congr uOf wOf tap Keep keep_prompt keep_sample entry)

/-! ## The halos' factors -/

/-- Whether the block `T` is a prompt's, or its place among a sample's four blocks is `e`. -/
def edge (T : ℕ) (e : BitVec 32) : BitVec 1 :=
  let a : BitVec 32 := BitVec.ofNat 32 T
  let q : BitVec 32 := Scalar.select (Scalar.cmpi .eq 4#32 0#32) 1#32 4#32
  let r : BitVec 32 := Scalar.remsi (Scalar.subi a 32#32) q
  Scalar.ori (Scalar.cmpi .slt a 32#32)
    (Scalar.cmpi .eq (Scalar.select (Scalar.andi (Scalar.xori (Scalar.cmpi .slt r 0#32) (Scalar.cmpi .slt q 0#32)) (Scalar.cmpi .ne r 0#32)) (Scalar.addi r q) r) e)

/-- The halo's factor from that bit. -/
def factor (b : BitVec 1) : EReal := Scalar.select b (Scalar.ofBits (F := Ideal) .f32 0x00000000#32) (Scalar.ofBits (F := Ideal) .f32 0x3F800000#32)

theorem factor_one : factor 1#1 = 0 := Ideal.ofBits_zero_f32
theorem factor_zero : factor 0#1 = 1 := Ideal.ofBits_one_f32

theorem edge_prev : ∀ t : Fin cfg0.N, edge ((grid0.coords t) 0).val 0#32 = if t.val < 32 ∨ t.val % 4 = 0 then 1#1 else 0#1 :=
  (by decide +kernel : ∀ t : Fin grid0.N, edge ((grid0.coords t) 0).val 0#32 = if t.val < 32 ∨ t.val % 4 = 0 then 1#1 else 0#1)
theorem edge_next : ∀ t : Fin cfg0.N, edge ((grid0.coords t) 0).val 3#32 = if t.val < 32 ∨ t.val % 4 = 3 then 1#1 else 0#1 :=
  (by decide +kernel : ∀ t : Fin grid0.N, edge ((grid0.coords t) 0).val 3#32 = if t.val < 32 ∨ t.val % 4 = 3 then 1#1 else 0#1)

theorem pay3_eq (i : grid0.Coords) (x y : Vec Ideal S16x512 .f32) : k0_pay3 i x y = k0_pay5 (F := Ideal) (factor (edge (i 0).val 0#32)) x y := rfl
theorem pay2_eq (i : grid0.Coords) : k0_pay2 (F := Ideal) i = factor (edge (i 0).val 3#32) := rfl

theorem pay5_at (f : EReal) (x y : Vec Ideal S16x512 .f32) (r : Fin 16) (c : Fin 512) :
    k0_pay5 (F := Ideal) f x y (ix2 r c) = x (ix2 r c) * Ideal.div 1 (1 + Ideal.exp (-(y (ix2 r c)))) * f := by
  pointwise [k0_pay5]
  simp only [zero_sub]

theorem pay4_at (x y : Vec Ideal S256x512 .f32) (r : Fin 256) (c : Fin 512) :
    k0_pay4 (F := Ideal) x y (ix2 r c) = x (ix2 r c) * Ideal.div 1 (1 + Ideal.exp (-(y (ix2 r c)))) := by
  pointwise [k0_pay4]
  simp only [zero_sub]

/-! ## The windows -/

theorem idx0 : ∀ t : Fin cfg0.N, win0_0.index t = ![t.val, 7] :=
  (by decide +kernel : ∀ t : Fin grid0.N, win0_0.index t = ![t.val, 7])
theorem idx1 : ∀ t : Fin cfg0.N, win0_1.index t = ![16 * t.val - 1, 7] :=
  (by decide +kernel : ∀ t : Fin grid0.N, win0_1.index t = ![16 * t.val - 1, 7])
theorem idx2 : ∀ t : Fin cfg0.N, win0_2.index t = ![min (16 * (t.val + 1)) 639, 7] :=
  (by decide +kernel : ∀ t : Fin grid0.N, win0_2.index t = ![min (16 * (t.val + 1)) 639, 7])
theorem idx3 : ∀ t : Fin cfg0.N, win0_3.index t = ![t.val, 8] :=
  (by decide +kernel : ∀ t : Fin grid0.N, win0_3.index t = ![t.val, 8])
theorem idx4 : ∀ t : Fin cfg0.N, win0_4.index t = ![16 * t.val - 1, 8] :=
  (by decide +kernel : ∀ t : Fin grid0.N, win0_4.index t = ![16 * t.val - 1, 8])
theorem idx5 : ∀ t : Fin cfg0.N, win0_5.index t = ![min (16 * (t.val + 1)) 639, 8] :=
  (by decide +kernel : ∀ t : Fin grid0.N, win0_5.index t = ![min (16 * (t.val + 1)) 639, 8])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![t.val, 0] :=
  (by decide +kernel : ∀ t : Fin grid0.N, win0_10.index t = ![t.val, 0])

variable (m : (ℓ : Loc nD τ sig) → Buf (Elt Ideal) ℓ) (c : Dev nD) (t : Fin cfg0.N)

theorem iblk0 (r : Fin 256) (k : Fin 512) : iblk m c 0 t (ix2 r k) = m ((c : Thread nD τ).loc main_arg0) (ix2 (⟨(t.val) * 256 + r.val, by have : t.val < 40 := t.isLt; omega⟩ : Fin 10240) ⟨3584 + k.val, by omega⟩) := by
  have ht : t.val < 40 := t.isLt
  unfold iblk
  rw [View.read_apply, cast_eq]
  refine congrArg (m ((c : Thread nD τ).loc main_arg0)) (funext fun a => Fin.ext ?_)
  match a with
  | ⟨0, _⟩ =>
    show win0_0.index t 0 * 256 + 1 * r.val = (t.val) * 256 + r.val
    rw [idx0 t]
    show (t.val) * 256 + 1 * r.val = _
    omega
  | ⟨1, _⟩ =>
    show win0_0.index t 1 * 512 + 1 * k.val = 3584 + k.val
    rw [idx0 t]
    show 7 * 512 + 1 * k.val = _
    omega

theorem iblk1 (r : Fin 16) (k : Fin 512) : iblk m c 1 t (ix2 r k) = m ((c : Thread nD τ).loc main_arg0) (ix2 (⟨(16 * t.val - 1) * 16 + r.val, by have : t.val < 40 := t.isLt; omega⟩ : Fin 10240) ⟨3584 + k.val, by omega⟩) := by
  have ht : t.val < 40 := t.isLt
  unfold iblk
  rw [View.read_apply, cast_eq]
  refine congrArg (m ((c : Thread nD τ).loc main_arg0)) (funext fun a => Fin.ext ?_)
  match a with
  | ⟨0, _⟩ =>
    show win0_1.index t 0 * 16 + 1 * r.val = (16 * t.val - 1) * 16 + r.val
    rw [idx1 t]
    show (16 * t.val - 1) * 16 + 1 * r.val = _
    omega
  | ⟨1, _⟩ =>
    show win0_1.index t 1 * 512 + 1 * k.val = 3584 + k.val
    rw [idx1 t]
    show 7 * 512 + 1 * k.val = _
    omega

theorem iblk2 (r : Fin 16) (k : Fin 512) : iblk m c 2 t (ix2 r k) = m ((c : Thread nD τ).loc main_arg0) (ix2 (⟨(min (16 * (t.val + 1)) 639) * 16 + r.val, by have : t.val < 40 := t.isLt; omega⟩ : Fin 10240) ⟨3584 + k.val, by omega⟩) := by
  have ht : t.val < 40 := t.isLt
  unfold iblk
  rw [View.read_apply, cast_eq]
  refine congrArg (m ((c : Thread nD τ).loc main_arg0)) (funext fun a => Fin.ext ?_)
  match a with
  | ⟨0, _⟩ =>
    show win0_2.index t 0 * 16 + 1 * r.val = (min (16 * (t.val + 1)) 639) * 16 + r.val
    rw [idx2 t]
    show (min (16 * (t.val + 1)) 639) * 16 + 1 * r.val = _
    omega
  | ⟨1, _⟩ =>
    show win0_2.index t 1 * 512 + 1 * k.val = 3584 + k.val
    rw [idx2 t]
    show 7 * 512 + 1 * k.val = _
    omega

theorem iblk3 (r : Fin 256) (k : Fin 512) : iblk m c 3 t (ix2 r k) = m ((c : Thread nD τ).loc main_arg0) (ix2 (⟨(t.val) * 256 + r.val, by have : t.val < 40 := t.isLt; omega⟩ : Fin 10240) ⟨4096 + k.val, by omega⟩) := by
  have ht : t.val < 40 := t.isLt
  unfold iblk
  rw [View.read_apply, cast_eq]
  refine congrArg (m ((c : Thread nD τ).loc main_arg0)) (funext fun a => Fin.ext ?_)
  match a with
  | ⟨0, _⟩ =>
    show win0_3.index t 0 * 256 + 1 * r.val = (t.val) * 256 + r.val
    rw [idx3 t]
    show (t.val) * 256 + 1 * r.val = _
    omega
  | ⟨1, _⟩ =>
    show win0_3.index t 1 * 512 + 1 * k.val = 4096 + k.val
    rw [idx3 t]
    show 8 * 512 + 1 * k.val = _
    omega

theorem iblk4 (r : Fin 16) (k : Fin 512) : iblk m c 4 t (ix2 r k) = m ((c : Thread nD τ).loc main_arg0) (ix2 (⟨(16 * t.val - 1) * 16 + r.val, by have : t.val < 40 := t.isLt; omega⟩ : Fin 10240) ⟨4096 + k.val, by omega⟩) := by
  have ht : t.val < 40 := t.isLt
  unfold iblk
  rw [View.read_apply, cast_eq]
  refine congrArg (m ((c : Thread nD τ).loc main_arg0)) (funext fun a => Fin.ext ?_)
  match a with
  | ⟨0, _⟩ =>
    show win0_4.index t 0 * 16 + 1 * r.val = (16 * t.val - 1) * 16 + r.val
    rw [idx4 t]
    show (16 * t.val - 1) * 16 + 1 * r.val = _
    omega
  | ⟨1, _⟩ =>
    show win0_4.index t 1 * 512 + 1 * k.val = 4096 + k.val
    rw [idx4 t]
    show 8 * 512 + 1 * k.val = _
    omega

theorem iblk5 (r : Fin 16) (k : Fin 512) : iblk m c 5 t (ix2 r k) = m ((c : Thread nD τ).loc main_arg0) (ix2 (⟨(min (16 * (t.val + 1)) 639) * 16 + r.val, by have : t.val < 40 := t.isLt; omega⟩ : Fin 10240) ⟨4096 + k.val, by omega⟩) := by
  have ht : t.val < 40 := t.isLt
  unfold iblk
  rw [View.read_apply, cast_eq]
  refine congrArg (m ((c : Thread nD τ).loc main_arg0)) (funext fun a => Fin.ext ?_)
  match a with
  | ⟨0, _⟩ =>
    show win0_5.index t 0 * 16 + 1 * r.val = (min (16 * (t.val + 1)) 639) * 16 + r.val
    rw [idx5 t]
    show (min (16 * (t.val + 1)) 639) * 16 + 1 * r.val = _
    omega
  | ⟨1, _⟩ =>
    show win0_5.index t 1 * 512 + 1 * k.val = 4096 + k.val
    rw [idx5 t]
    show 8 * 512 + 1 * k.val = _
    omega

theorem iblk6 (r : Fin 32) (k : Fin 512) : iblk m c 6 t (ix2 r k) = m ((c : Thread nD τ).loc main_arg1) (ix2 r k) := by
  have ht : t.val < 40 := t.isLt
  unfold iblk
  rw [View.read_apply, cast_eq]
  refine congrArg (m ((c : Thread nD τ).loc main_arg1)) (funext fun a => Fin.ext ?_)
  match a with
  | ⟨0, _⟩ =>
    show win0_6.index t 0 * 32 + 1 * r.val = r.val
    rw [idx6 t]
    show (0) * 32 + 1 * r.val = _
    omega
  | ⟨1, _⟩ =>
    show win0_6.index t 1 * 512 + 1 * k.val = k.val
    rw [idx6 t]
    show 0 * 512 + 1 * k.val = _
    omega

theorem iblk7 (r : Fin 1) (k : Fin 512) : iblk m c 7 t (ix2 r k) = m ((c : Thread nD τ).loc main_arg2) (ix2 r k) := by
  have ht : t.val < 40 := t.isLt
  unfold iblk
  rw [View.read_apply, cast_eq]
  refine congrArg (m ((c : Thread nD τ).loc main_arg2)) (funext fun a => Fin.ext ?_)
  match a with
  | ⟨0, _⟩ =>
    show win0_7.index t 0 * 1 + 1 * r.val = r.val
    rw [idx7 t]
    show (0) * 1 + 1 * r.val = _
    omega
  | ⟨1, _⟩ =>
    show win0_7.index t 1 * 512 + 1 * k.val = k.val
    rw [idx7 t]
    show 0 * 512 + 1 * k.val = _
    omega

theorem iblk8 (r : Fin 1) (k : Fin 512) : iblk m c 8 t (ix2 r k) = m ((c : Thread nD τ).loc main_arg3) (ix2 r k) := by
  have ht : t.val < 40 := t.isLt
  unfold iblk
  rw [View.read_apply, cast_eq]
  refine congrArg (m ((c : Thread nD τ).loc main_arg3)) (funext fun a => Fin.ext ?_)
  match a with
  | ⟨0, _⟩ =>
    show win0_8.index t 0 * 1 + 1 * r.val = r.val
    rw [idx8 t]
    show (0) * 1 + 1 * r.val = _
    omega
  | ⟨1, _⟩ =>
    show win0_8.index t 1 * 512 + 1 * k.val = k.val
    rw [idx8 t]
    show 0 * 512 + 1 * k.val = _
    omega

theorem iblk9 (r : Fin 1) (k : Fin 512) : iblk m c 9 t (ix2 r k) = m ((c : Thread nD τ).loc main_arg4) (ix2 r k) := by
  have ht : t.val < 40 := t.isLt
  unfold iblk
  rw [View.read_apply, cast_eq]
  refine congrArg (m ((c : Thread nD τ).loc main_arg4)) (funext fun a => Fin.ext ?_)
  match a with
  | ⟨0, _⟩ =>
    show win0_9.index t 0 * 1 + 1 * r.val = r.val
    rw [idx9 t]
    show (0) * 1 + 1 * r.val = _
    omega
  | ⟨1, _⟩ =>
    show win0_9.index t 1 * 512 + 1 * k.val = k.val
    rw [idx9 t]
    show 0 * 512 + 1 * k.val = _
    omega

/-! ## The scratch -/

/-- The gated input, the weights and the three rows, of the arguments. -/
abbrev uM : ℕ → Fin 512 → EReal := ConfRefIdeal.At.uu (m ((c : Thread nD τ).loc main_arg0))
abbrev wM : ℕ → Fin 512 → EReal := ConfRefIdeal.At.ww (m ((c : Thread nD τ).loc main_arg1))

/-- The gated input from a row's two entries. -/
theorem u_of (X : Vec Ideal S10240x4608 .f32) (n : Fin 10240) (x : Fin 512) (T : ℕ) (h : n.val = T) :
    X (ix2 n ⟨3584 + x.val, by omega⟩) * Ideal.div 1 (1 + Ideal.exp (-(X (ix2 n ⟨4096 + x.val, by omega⟩)))) = ConfRefIdeal.At.uu X T x := by
  unfold ConfRefIdeal.At.uu uOf
  subst h
  rw [dif_pos n.isLt]

theorem block_at (r : Fin 256) (x : Fin 512) : k0_pay4 (F := Ideal) (iblk m c 0 t) (iblk m c 3 t) (ix2 r x) = uM m c (256 * t.val + r.val) x := by
  rw [pay4_at, iblk0, iblk3]
  exact u_of (m ((c : Thread nD τ).loc main_arg0)) _ x _ (show t.val * 256 + r.val = 256 * t.val + r.val by omega)

theorem prev_at (r : Fin 16) (x : Fin 512) : k0_pay3 (F := Ideal) (grid0.coords t) (iblk m c 1 t) (iblk m c 4 t) (ix2 r x)
    = if t.val < 32 ∨ t.val % 4 = 0 then 0 else uM m c (256 * t.val + r.val - 16) x := by
  rw [pay3_eq, pay5_at, edge_prev, iblk1, iblk4]
  by_cases h : t.val < 32 ∨ t.val % 4 = 0
  · rw [if_pos h, if_pos h, factor_one, mul_zero]
  · rw [if_neg h, if_neg h, factor_zero, mul_one]
    exact u_of (m ((c : Thread nD τ).loc main_arg0)) _ x _ (show (16 * t.val - 1) * 16 + r.val = 256 * t.val + r.val - 16 by omega)

theorem next_at (r : Fin 16) (x : Fin 512) : k0_pay5 (F := Ideal) (k0_pay2 (grid0.coords t)) (iblk m c 2 t) (iblk m c 5 t) (ix2 r x)
    = if t.val < 32 ∨ t.val % 4 = 3 then 0 else uM m c (256 * t.val + r.val + 256) x := by
  have ht : t.val < 40 := t.isLt
  rw [pay2_eq, pay5_at, edge_next, iblk2, iblk5]
  by_cases h : t.val < 32 ∨ t.val % 4 = 3
  · rw [if_pos h, if_pos h, factor_one, mul_zero]
  · rw [if_neg h, if_neg h, factor_zero, mul_one]
    exact u_of (m ((c : Thread nD τ).loc main_arg0)) _ x _ (show (min (16 * (t.val + 1)) 639) * 16 + r.val = 256 * t.val + r.val + 256 by omega)

/-- The scratch row that tap `k` of the block's row `R` reads. -/
theorem scr_at (R k : ℕ) (hR : R < 256) (hk : k < 31) (x : Fin 512) : scr m c t (R + 1 + k) x = tap (uM m c) (256 * t.val + R) k x := by
  have ht : t.val < 40 := t.isLt
  have hK : Keep (256 * t.val + R) k ↔ ¬(R + 1 + k < 16 ∧ (t.val < 32 ∨ t.val % 4 = 0)) ∧ ¬(272 ≤ R + 1 + k ∧ (t.val < 32 ∨ t.val % 4 = 3)) := by
    by_cases h : 256 * t.val + R < 8192
    · rw [keep_prompt h]
      omega
    · rw [keep_sample h]
      omega
  unfold scr padOf tap
  by_cases h1 : R + 1 + k < 16
  · rw [dif_pos h1, prev_at]
    by_cases h : t.val < 32 ∨ t.val % 4 = 0
    · rw [if_pos h, if_neg (fun hh => (hK.1 hh).1 ⟨h1, h⟩)]
    · rw [if_neg h, if_pos (hK.2 ⟨fun hh => h hh.2, fun hh => by omega⟩)]
      exact congrArg (fun n => uM m c n x) (show 256 * t.val + (R + 1 + k) - 16 = _ by omega)
  · rw [dif_neg h1]
    by_cases h2 : R + 1 + k < 272
    · rw [dif_pos h2, block_at, if_pos (hK.2 ⟨fun hh => h1 hh.1, fun hh => by omega⟩)]
      exact congrArg (fun n => uM m c n x) (show 256 * t.val + (R + 1 + k - 16) = _ by omega)
    · rw [dif_neg h2, dif_pos (by omega), next_at]
      by_cases h : t.val < 32 ∨ t.val % 4 = 3
      · rw [if_pos h, if_neg (fun hh => (hK.1 hh).2 ⟨by omega, h⟩)]
      · rw [if_neg h, if_pos (hK.2 ⟨fun hh => h1 hh.1, fun hh => h hh.2⟩)]
        exact congrArg (fun n => uM m c n x) (show 256 * t.val + (R + 1 + k - 272) + 256 = _ by omega)

/-! ## The block and the array -/

/-- The mixer's entry of the arguments. -/
abbrev ent (T : ℕ) (x : Fin 512) : EReal :=
  entry (uM m c) (wM m c) (fun x => m ((c : Thread nD τ).loc main_arg2) (ix2 0 x)) (fun x => m ((c : Thread nD τ).loc main_arg3) (ix2 0 x))
    (fun x => m ((c : Thread nD τ).loc main_arg4) (ix2 0 x)) T x

theorem row_at (k : ℕ) (x : Fin 512) : row (iblk m c 6 t) k (ix2 0 x) = wM m c k x := by
  unfold row wM ConfRefIdeal.At.ww wOf
  by_cases h : k < 32
  · rw [dif_pos h, dif_pos h]
    exact iblk6 m c t ⟨k, h⟩ x
  · rw [dif_neg h, dif_neg h]

theorem chunk_at (ch : ℕ) (hch : ch < 4) (r : Fin 64) (x : Fin 512) : chunk m c t ch (ix2 r x) = ent m c (256 * t.val + 64 * ch + r.val) x := by
  unfold chunk ent entry
  rw [outV_at]
  simp only [iblk7, iblk8, iblk9, row_at]
  refine congrArg ConfModel.silu (congrArg (fun a => ConfModel.norm a _ _ x) (funext fun y => chain_congr _ _ _ _ fun k hk => congrArg _ ?_))
  have h := scr_at m c t (64 * ch + r.val) k (by omega) hk y
  rw [← Nat.add_assoc] at h
  refine Eq.trans ?_ h
  exact congrArg (fun n => scr m c t n y) (show 64 * ch + 1 + k + r.val = _ by omega)

theorem chunk_at' (ch : ℕ) (hch : ch < 4) (z : S64x512.Idx) : chunk m c t ch z = ent m c (256 * t.val + 64 * ch + (z 0).val) (z 1) := by
  rw [show z = ix2 (z 0) (z 1) from funext fun a => match a with | ⟨0, _⟩ => rfl | ⟨1, _⟩ => rfl]
  exact chunk_at m c t ch hch (z 0) (z 1)

theorem ent_congr (T T' : ℕ) (x x' : Fin 512) (h : T = T') (hx : x.val = x'.val) : ent m c T x = ent m c T' x' := by
  rw [h, Fin.ext hx]

theorem outs_apply (r : Fin 256) (x : Fin 512) : outsAt0 m c t (ix2 r x) = ent m c (256 * t.val + r.val) x := by
  rw [block_eq]
  refine View.canon_apply_of_pieces (Val := Elt Ideal) (show S256x512.Idx → Elt Ideal .bf16 from fun y => ent m c (256 * t.val + (y 0).val) (y 1)) _ ?_ (ix2 r x) ?_
  · intro q hq
    simp only [List.mem_cons, List.not_mem_nil, or_false] at hq
    rcases hq with rfl | rfl | rfl | rfl
    · intro z
      refine (chunk_at' m c t 3 (by omega) z).trans (ent_congr m c _ _ _ _ ?_ ?_)
      · show 256 * t.val + 64 * 3 + (z 0).val = 256 * t.val + (192 + 1 * (z 0).val)
        omega
      · show (z 1).val = 0 + 1 * (z 1).val
        omega
    · intro z
      refine (chunk_at' m c t 2 (by omega) z).trans (ent_congr m c _ _ _ _ ?_ ?_)
      · show 256 * t.val + 64 * 2 + (z 0).val = 256 * t.val + (128 + 1 * (z 0).val)
        omega
      · show (z 1).val = 0 + 1 * (z 1).val
        omega
    · intro z
      refine (chunk_at' m c t 1 (by omega) z).trans (ent_congr m c _ _ _ _ ?_ ?_)
      · show 256 * t.val + 64 * 1 + (z 0).val = 256 * t.val + (64 + 1 * (z 0).val)
        omega
      · show (z 1).val = 0 + 1 * (z 1).val
        omega
    · intro z
      refine (chunk_at' m c t 0 (by omega) z).trans (ent_congr m c _ _ _ _ ?_ ?_)
      · show 256 * t.val + 64 * 0 + (z 0).val = 256 * t.val + (0 + 1 * (z 0).val)
        omega
      · show (z 1).val = 0 + 1 * (z 1).val
        omega
  · have hr := r.isLt
    have hx := x.isLt
    by_cases h3 : 192 ≤ r.val
    · refine ⟨_, List.mem_cons_self, ?_⟩
      rw [Rect.mem_set_unit, Fin.forall_fin_two]
      exact ⟨⟨h3, show r.val < 192 + 64 by omega⟩, Nat.zero_le _, show x.val < 0 + 512 by omega⟩
    · by_cases h2 : 128 ≤ r.val
      · refine ⟨_, List.mem_cons_of_mem _ List.mem_cons_self, ?_⟩
        rw [Rect.mem_set_unit, Fin.forall_fin_two]
        exact ⟨⟨h2, show r.val < 128 + 64 by omega⟩, Nat.zero_le _, show x.val < 0 + 512 by omega⟩
      · by_cases h1 : 64 ≤ r.val
        · refine ⟨_, List.mem_cons_of_mem _ (List.mem_cons_of_mem _ List.mem_cons_self), ?_⟩
          rw [Rect.mem_set_unit, Fin.forall_fin_two]
          exact ⟨⟨h1, show r.val < 64 + 64 by omega⟩, Nat.zero_le _, show x.val < 0 + 512 by omega⟩
        · refine ⟨_, List.mem_cons_of_mem _ (List.mem_cons_of_mem _ (List.mem_cons_of_mem _ List.mem_cons_self)), ?_⟩
          rw [Rect.mem_set_unit, Fin.forall_fin_two]
          exact ⟨⟨Nat.zero_le _, show r.val < 0 + 64 by omega⟩, Nat.zero_le _, show x.val < 0 + 512 by omega⟩

/-- A token's number from its grid point and its row in the block. -/
abbrev tok (r : Fin 256) : Fin 10240 := ⟨256 * t.val + r.val, by have : t.val < 40 := t.isLt; omega⟩

theorem out_at (r : Fin 256) (x : Fin 512) : (dats m 0 c).arrAt 10 cfg0.N (ix2 (tok t r) x) = ent m c (256 * t.val + r.val) x := by
  have hb := congrFun (Value.blocks10 m c t (flush0_10 t)) (ix2 r x)
  rw [View.read_apply, cast_eq] at hb
  have he : ((cfg0.win 10).blk t).view.emb (ix2 r x) = ix2 (tok t r) x := by
    refine funext fun a => Fin.ext ?_
    match a with
    | ⟨0, _⟩ =>
      show win0_10.index t 0 * 256 + 1 * r.val = 256 * t.val + r.val
      rw [idx10 t]
      show t.val * 256 + 1 * r.val = _
      omega
    | ⟨1, _⟩ =>
      show win0_10.index t 1 * 512 + 1 * x.val = x.val
      rw [idx10 t]
      show 0 * 512 + 1 * x.val = _
      omega
  rw [he, Value.flushed10 m c t] at hb
  exact hb.trans (outs_apply m c t r x)

/-- The mixer's array is the reference's. -/
theorem out_eq : (dats m 0 c).arrAt 10 cfg0.N
    = ConfRefIdeal.Read.val_main_v483 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨T, x, rfl⟩ : ∃ (T : Fin 10240) (x : Fin 512), i = ix2 T x :=
    ⟨i 0, i 1, funext fun a => match a with | ⟨0, _⟩ => rfl | ⟨1, _⟩ => rfl⟩
  have hT := T.isLt
  have h := out_at m c ⟨T.val / 256, show T.val / 256 < 40 by omega⟩ ⟨T.val % 256, by omega⟩ x
  rw [show tok ⟨T.val / 256, show T.val / 256 < 40 by omega⟩ ⟨T.val % 256, by omega⟩ = T from
    Fin.ext (show 256 * (T.val / 256) + T.val % 256 = T.val by omega)] at h
  refine h.trans (Eq.trans ?_ (ConfRefIdeal.At.v483_at _ _ _ _ _ T x).symm)
  exact ent_congr m c _ _ _ _ (show 256 * (T.val / 256) + T.val % 256 = T.val by omega) rfl

end Cert.ConfIdeal.Whole

end
-- ==== Proof.ConfAlgebraic.lean ====
/-
  The claim about the convolution mixer: kernel and reference, run from memories that agree on the arguments, end with the same array.
-/
module

public import proofs.«01_k».proof.Defs
public import proofs.«01_k».proof.Proof.ConfValue
public import Idealize.ShloMosaic.Lib.Claim
public import proofs.«01_k».proof.Proof.Gen.ConfIdeal
public import proofs.«01_k».proof.Proof.Gen.ConfRefIdeal
public import proofs.«01_k».proof.Proof.Gen.ConfRefIdeal.Run

@[expose] public section

noncomputable section

namespace Cert.Proof

open Idealize.ShloMosaic Idealize.ShloMosaic.TcCoe Idealize.SL.Sem

theorem conf_algebraic :
    Cert.algebraic_ConfIdeal_ConfRefIdeal (hConfIdeal := Cert.ConfIdeal.Gen.facts) (hConfRefIdeal := Cert.ConfRefIdeal.Gen.facts) := by
  intro m g m' g' _ hargs
  refine ⟨fun c => (Cert.ConfIdeal.Gen.dats m 0 c).arrAt 10 Cert.ConfIdeal.cfg0.N, Cert.ConfIdeal.Value.run_blocks m g, ?_⟩
  refine (θ_run Cert.ConfRefIdeal.defs _ _).mono (fun r h c => ?_) (Cert.ConfRefIdeal.Value.run m' g')
  obtain ⟨a0, a1, a2, a3, a4⟩ := hargs c
  obtain ⟨h1, h2⟩ := h c
  refine ⟨h1.trans ?_, h2⟩
  rw [Cert.ConfRefIdeal.Read.val_main_v483_eq]
  have e0 := (StableHlo.launchContents_devRef m' c Cert.ConfRefIdeal.main_arg0).trans a0
  have e1 := (StableHlo.launchContents_devRef m' c Cert.ConfRefIdeal.main_arg1).trans a1
  have e2 := (StableHlo.launchContents_devRef m' c Cert.ConfRefIdeal.main_arg2).trans a2
  have e3 := (StableHlo.launchContents_devRef m' c Cert.ConfRefIdeal.main_arg3).trans a3
  have e4 := (StableHlo.launchContents_devRef m' c Cert.ConfRefIdeal.main_arg4).trans a4
  rw [e0, e1, e2, e3, e4]
  exact (Cert.ConfIdeal.Whole.out_eq m c).symm

end Cert.Proof

end
-- ==== Proof.lean ====
module

public import proofs.«01_k».proof.Defs
public import proofs.«01_k».proof.Proof.Gen.Outproj
public import proofs.«01_k».proof.Proof.Gen.Outproj.Frame
public import proofs.«01_k».proof.Proof.Gen.OutprojIdeal
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.Final
public import proofs.«01_k».proof.Proof.Gen.Final.Frame
public import proofs.«01_k».proof.Proof.Gen.FinalIdeal
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Moe
public import proofs.«01_k».proof.Proof.Gen.Moe.Skeleton
public import proofs.«01_k».proof.Proof.Gen.Moe.Loops
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Loops
public import proofs.«01_k».proof.Proof.Gen.MoeIdeal.Launch
public import proofs.«01_k».proof.Proof.Gen.MoeIdeal.Flash
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_tables_route
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Ada
public import proofs.«01_k».proof.Proof.Gen.Ada.Frame
public import proofs.«01_k».proof.Proof.Gen.AdaIdeal.Value
public import proofs.«01_k».proof.Proof.Gen.Embed
public import proofs.«01_k».proof.Proof.Gen.Embed.Frame
public import proofs.«01_k».proof.Proof.Gen.EmbedIdeal.Value
public import proofs.«01_k».proof.Proof.Gen.AdaIdeal
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.EmbedIdeal
public import proofs.«01_k».proof.Proof.Gen.EmbedRefIdeal
public import proofs.«01_k».proof.Proof.Gen.EmbedRefIdeal.Run
public import proofs.«01_k».proof.Proof.Gen.EmbedRefIdeal.Read
public import proofs.«01_k».proof.Proof.Gen.Conf
public import proofs.«01_k».proof.Proof.Gen.Conf.Frame
public import proofs.«01_k».proof.Proof.Gen.ConfIdeal.Value
public import proofs.«01_k».proof.Proof.Gen.ConfIdeal
public import proofs.«01_k».proof.Proof.Gen.ConfRefIdeal
public import proofs.«01_k».proof.Proof.Gen.ConfRefIdeal.Run
public import proofs.«01_k».proof.Proof.Gen.ConfRefIdeal.Read
public import proofs.«01_k».proof.Proof.OutAlgebraic
public import proofs.«01_k».proof.Proof.FinAlgebraic
public import proofs.«01_k».proof.Proof.MoeTables
public import proofs.«01_k».proof.Proof.MoeAlgebraic
public import proofs.«01_k».proof.Proof.InFrame
public import proofs.«01_k».proof.Proof.InAlgebraic
public import proofs.«01_k».proof.Proof.AdaAlgebraic
public import proofs.«01_k».proof.Proof.EmbedAlgebraic
public import proofs.«01_k».proof.Proof.ConfAlgebraic

@[expose] public section

noncomputable section

namespace Cert.Proof

open Idealize.ShloMosaic Idealize.SL.Sem

theorem claim : Cert.Claim := ⟨Cert.Outproj.Gen.facts, Cert.OutprojIdeal.Gen.facts, Cert.OutprojRefIdeal.Gen.facts,
  Cert.Final.Gen.facts, Cert.FinalIdeal.Gen.facts, Cert.FinalRefIdeal.Gen.facts,
  Cert.Moe.Gen.facts, Cert.MoeIdeal.Gen.facts, Cert.MoeRefIdeal.Gen.facts,
  Cert.Inproj.Gen.facts, Cert.InprojIdeal.Gen.facts, Cert.InprojRefIdeal.Gen.facts,
  Cert.Ada.Gen.facts, Cert.AdaIdeal.Gen.facts, Cert.AdaRefIdeal.Gen.facts,
  Cert.Embed.Gen.facts, Cert.EmbedIdeal.Gen.facts, Cert.EmbedRefIdeal.Gen.facts,
  Cert.Conf.Gen.facts, Cert.ConfIdeal.Gen.facts, Cert.ConfRefIdeal.Gen.facts, Cert.Pre_tables_route.Gen.facts,
  fun m ρ _ => Cert.Outproj.Gen.frame m ρ,
  fun m ρ _ => Cert.OutprojIdeal.Gen.frame m ρ,
  fun m ρ _ => (θ_run Cert.OutprojRefIdeal.defs _ _).mono (fun r h => ⟨fun c => (h c).2.2,
    Idealize.ShloMosaic.sem_eq_zero_of_no_sems (by decide) r.2⟩) (Cert.OutprojRefIdeal.Value.run m ρ),
  fun m ρ _ => Cert.Final.Gen.frame m ρ,
  fun m ρ _ => Cert.FinalIdeal.Gen.frame m ρ,
  fun m ρ _ => (θ_run Cert.FinalRefIdeal.defs _ _).mono (fun r h => ⟨fun c => (h c).2,
    Idealize.ShloMosaic.sem_eq_zero_of_no_sems (by decide) r.2⟩) (Cert.FinalRefIdeal.Value.run m ρ),
  fun m ρ h => Cert.Moe.frame_moe m ρ (Cert.Moe.tablesOk_of m (Cert.Pre_tables_route.routed_of _ _ _ _ _ _ _ _ _ _ (h 0))),
  fun m ρ h => Cert.MoeIdeal.frame_moe m ρ (Cert.MoeIdeal.tablesOk_of m (Cert.Pre_tables_route.routed_of _ _ _ _ _ _ _ _ _ _ (h 0))),
  fun m ρ _ => (θ_run Cert.MoeRefIdeal.defs _ _).mono (fun r h => ⟨fun c => (h c).2,
    Idealize.ShloMosaic.sem_eq_zero_of_no_sems (by decide) r.2⟩) (Cert.MoeRefIdeal.Value.run m ρ),
  fun m ρ _ => (θ_run Cert.MoeRefIdeal.defs _ _).mono (fun r h => ⟨fun c => (h c).2,
    Idealize.ShloMosaic.sem_eq_zero_of_no_sems (by decide) r.2⟩) (Cert.MoeRefIdeal.Value.run m ρ),
  fun m ρ _ => Cert.Inproj.frame_inproj m ρ,
  fun m ρ _ => Cert.InprojIdeal.frame_inproj m ρ,
  fun m ρ _ => (θ_run Cert.InprojRefIdeal.defs _ _).mono (fun r h => ⟨fun c => (h c).2.2,
    Idealize.ShloMosaic.sem_eq_zero_of_no_sems (by decide) r.2⟩) (Cert.InprojRefIdeal.Value.run m ρ),
  fun m ρ _ => Cert.Ada.Gen.frame m ρ,
  fun m ρ _ => Cert.AdaIdeal.Gen.frame m ρ,
  fun m ρ _ => (θ_run Cert.AdaRefIdeal.defs _ _).mono (fun r h => ⟨fun c => (h c).2,
    Idealize.ShloMosaic.sem_eq_zero_of_no_sems (by decide) r.2⟩) (Cert.AdaRefIdeal.Value.run m ρ),
  fun m ρ _ => Cert.Embed.Gen.frame m ρ,
  fun m ρ _ => Cert.EmbedIdeal.Gen.frame m ρ,
  fun m ρ _ => (θ_run Cert.EmbedRefIdeal.defs _ _).mono (fun r h => ⟨fun c => (h c).2,
    Idealize.ShloMosaic.sem_eq_zero_of_no_sems (by decide) r.2⟩) (Cert.EmbedRefIdeal.Value.run m ρ),
  fun m ρ _ => Cert.Conf.Gen.frame m ρ,
  fun m ρ _ => Cert.ConfIdeal.Gen.frame m ρ,
  fun m ρ _ => (θ_run Cert.ConfRefIdeal.defs _ _).mono (fun r h => ⟨fun c => (h c).2,
    Idealize.ShloMosaic.sem_eq_zero_of_no_sems (by decide) r.2⟩) (Cert.ConfRefIdeal.Value.run m ρ),
  trivial, outproj_algebraic, trivial, final_algebraic, trivial, moe_algebraic, trivial, inproj_algebraic,
  trivial, ada_algebraic, trivial, embed_algebraic, trivial, conf_algebraic⟩

end Cert.Proof

end
